-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v541) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8 : Shape := ⟨1, ![8]⟩
abbrev S1024x1024 : Shape := ⟨2, ![1024, 1024]⟩
abbrev S32x1024x1024 : Shape := ⟨3, ![32, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn_part1 {F : FTy → Type} [FloatOps F] (main_arg5 : FVec F S32x1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S32x1024x1024 .f32 := Host.absf main_arg5
  let main_cst_6 : FVec F S_ .f32 := constant S_ .f32 0x7F800000#32
  let main_v20 : FVec F S32x1024x1024 .f32 := broadcastInDim S32x1024x1024 ![] bcast_S_S32x1024x1024 main_cst_6
  let main_v21 : IVec S32x1024x1024 1 := cmpf .olt main_v19 main_v20
  let main_c_7 : IVec S_ 1 := constantI S_ 1 1#1
  let main_v22 : IVec S_ 1 := (fun x v => Host.reduce IntOp.andi x v reducesTo_S32x1024x1024_S_d0_1_2 h_S_) main_v21 main_c_7
  let main_v23 : IVec S_ 1 := andi main_v18 main_v22
  main_v23

def fn {F : FTy → Type} [FloatOps F] (main_arg0 : FVec F S8x1024x1024 .f32) (main_arg1 : IVec S8 32) (main_arg2 : FVec F S1024x1024 .f32) (main_arg3 : FVec F S1024x1024 .f32) (main_arg4 : FVec F S1024x1024 .f32) (main_arg5 : FVec F S32x1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S8x1024x1024 : Shape := ⟨3, ![8, 1024, 1024]⟩
abbrev S8 : Shape := ⟨1, ![8]⟩
abbrev S1024x1024 : Shape := ⟨2, ![1024, 1024]⟩
abbrev S32x1024x1024 : Shape := ⟨3, ![32, 1024, 1024]⟩
abbrev S2x1024x1024 : Shape := ⟨3, ![2, 1024, 1024]⟩
abbrev S1024 : Shape := ⟨1, ![1024]⟩
abbrev S1x1024x1024 : Shape := ⟨3, ![1, 1024, 1024]⟩
abbrev S1x1024 : Shape := ⟨2, ![1, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8x1024x1024, .f32⟩
  | .hbm, ⟨1, _⟩ => ⟨S8, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32x1024x1024, .f32⟩
  | .hbm, ⟨6, _⟩ => ⟨S8x1024x1024, .f32⟩
  | .local _ .vmem, ⟨0, _⟩ => ⟨S2x1024x1024, .f32⟩
  | .local _ .vmem, ⟨1, _⟩ => ⟨S2x1024x1024, .f32⟩
  | .local _ .vmem, ⟨2, _⟩ => ⟨S1024x1024, .f32⟩
  | .local _ .vmem, ⟨3, _⟩ => ⟨S2x1024x1024, .f32⟩
  | .local _ .vmem, ⟨4, _⟩ => ⟨S2x1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1024x1024 : Shape := ⟨3, ![8, 1024, 1024]⟩
abbrev S8 : Shape := ⟨1, ![8]⟩
abbrev S1024x1024 : Shape := ⟨2, ![1024, 1024]⟩
abbrev S32x1024x1024 : Shape := ⟨3, ![32, 1024, 1024]⟩
abbrev S_ : Shape := ⟨0, ![]⟩
abbrev S1 : Shape := ⟨1, ![1]⟩
abbrev S2 : Shape := ⟨1, ![2]⟩
abbrev S1024 : Shape := ⟨1, ![1024]⟩
abbrev S2x1 : Shape := ⟨2, ![2, 1]⟩
abbrev S2x2 : Shape := ⟨2, ![2, 2]⟩
abbrev S1x2 : Shape := ⟨2, ![1, 2]⟩
abbrev S1x1024x1024 : Shape := ⟨3, ![1, 1024, 1024]⟩
abbrev S1x1 : Shape := ⟨2, ![1, 1]⟩
abbrev S1024x1 : Shape := ⟨2, ![1024, 1]⟩
abbrev S1024x3 : Shape := ⟨2, ![1024, 3]⟩
abbrev S8x1024 : Shape := ⟨2, ![8, 1024]⟩
abbrev S8x1024x1 : Shape := ⟨3, ![8, 1024, 1]⟩
abbrev S8x1x1024 : Shape := ⟨3, ![8, 1, 1024]⟩

abbrev nBuf : Space → Nat
  | .hbm => 4868
  | .vmem => 0
  | .smem => 0
  | _ => 0

abbrev hbmTy0_0 (i : Nat) : BufTy := match i % 128 with
  | 0 => ⟨S8x1024x1024, .f32⟩
  | 1 => ⟨S8, .i32⟩
  | 2 => ⟨S1024x1024, .f32⟩
  | 3 => ⟨S1024x1024, .f32⟩
  | 4 => ⟨S1024x1024, .f32⟩
  | 5 => ⟨S32x1024x1024, .f32⟩
  | 6 => ⟨S8x1024x1024, .f32⟩
  | 7 => ⟨S8x1024x1024, .f32⟩
  | 8 => ⟨S8x1024x1024, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S1024, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S2, .i64⟩
  | 27 => ⟨S_, .i64⟩
  | 28 => ⟨S2, .i64⟩
  | 29 => ⟨S2, .i64⟩
  | 30 => ⟨S_, .i64⟩
  | 31 => ⟨S2, .i64⟩
  | 32 => ⟨S2, .i64⟩
  | 33 => ⟨S2, .i32⟩
  | 34 => ⟨S2, .i32⟩
  | 35 => ⟨S_, .i32⟩
  | 36 => ⟨S_, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x1024x1024, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S8x1024x1024, .f32⟩

abbrev hbmTy0_2 (i : Nat) : BufTy := match i % 128 with
  | 0 => ⟨S2, .i32⟩
  | 1 => ⟨S2x1, .i32⟩
  | 2 => ⟨S2x1, .i32⟩
  | 3 => ⟨S2x2, .i32⟩
  | 4 => ⟨S1x2, .i32⟩
  | 5 => ⟨S2, .i32⟩
  | 6 => ⟨S1x2, .i32⟩
  | 7 => ⟨S2, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x1024x1024, .f32⟩
  | 30 => ⟨S1024x1024, .f32⟩
  | 31 => ⟨S_, .f32⟩
  | 32 => ⟨S_, .f32⟩
  | 33 => ⟨S_, .f32⟩
  | 34 => ⟨S1x1, .f32⟩
  | 35 => ⟨S1x1, .f32⟩
  | 36 => ⟨S1, .i32⟩
  | 37 => ⟨S_, .i32⟩
  | 38 => ⟨S1, .i32⟩
  | 39 => ⟨S_, .i32⟩
  | 40 => ⟨S1024x1024, .i64⟩
  | 41 => ⟨S1024x1024, .i64⟩
  | 42 => ⟨S_, .i64⟩
  | 43 => ⟨S1024x1024, .i64⟩
  | 44 => ⟨S1024x1024, .i64⟩
  | 45 => ⟨S_, .i64⟩
  | 46 => ⟨S1024x1024, .i64⟩
  | 47 => ⟨S1024x1024, .i64⟩
  | 48 => ⟨S1024x1024, .i64⟩
  | 49 => ⟨S_, .i64⟩
  | 50 => ⟨S1024x1024, .i64⟩
  | 51 => ⟨S1024x1024, .i64⟩
  | 52 => ⟨S1024x1024, .i32⟩
  | 53 => ⟨S1024x1024, .i32⟩
  | 54 => ⟨S_, .i32⟩
  | 55 => ⟨S_, .i32⟩
  | 56 => ⟨S_, .i32⟩
  | 57 => ⟨S1024x1024, .i32⟩
  | 58 => ⟨S1024x1024, .i32⟩
  | 59 => ⟨S1024x1024, .i32⟩
  | 60 => ⟨S1024x1024, .i32⟩
  | 61 => ⟨S1024x1024, .i32⟩
  | 62 => ⟨S_, .i32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S1024x1024, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S1024x1024, .i32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S1024x1024, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S_, .i32⟩
  | 93 => ⟨S1024x1024, .i32⟩
  | 94 => ⟨S1024x1024, .i32⟩
  | 95 => ⟨S1024x1024, .i32⟩
  | 96 => ⟨S1024x1024, .i32⟩
  | 97 => ⟨S1024x1024, .i32⟩
  | 98 => ⟨S1024x1024, .i32⟩
  | 99 => ⟨S1024x1024, .i32⟩
  | 100 => ⟨S1024x1024, .i32⟩
  | 101 => ⟨S_, .i32⟩
  | 102 => ⟨S1024x1024, .i32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S1024x1024, .i32⟩
  | 112 => ⟨S1024x1024, .i32⟩
  | 113 => ⟨S1024x1024, .i32⟩
  | 114 => ⟨S_, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S8x1024x1024, .f32⟩

abbrev hbmTy0_3 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S1024x1024, .i32⟩
  | 11 => ⟨S1024x1024, .i32⟩
  | 12 => ⟨S1024x1024, .i32⟩
  | 13 => ⟨S1024x1024, .i32⟩
  | 14 => ⟨S1024x1024, .i32⟩
  | 15 => ⟨S1024x1024, .i32⟩
  | 16 => ⟨S_, .i32⟩
  | 17 => ⟨S1024x1024, .i32⟩
  | 18 => ⟨S1024x1024, .i32⟩
  | 19 => ⟨S1024x1024, .i32⟩
  | 20 => ⟨S_, .i32⟩
  | 21 => ⟨S1024x1024, .i32⟩
  | 22 => ⟨S1024x1024, .i32⟩
  | 23 => ⟨S_, .i32⟩
  | 24 => ⟨S1024x1024, .i32⟩
  | 25 => ⟨S1024x1024, .i32⟩
  | 26 => ⟨S1024x1024, .i32⟩
  | 27 => ⟨S1024x1024, .i32⟩
  | 28 => ⟨S1024x1024, .i32⟩
  | 29 => ⟨S_, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S1024x1024, .i32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S1024x1024, .i32⟩
  | 45 => ⟨S1024x1024, .i32⟩
  | 46 => ⟨S1024x1024, .i32⟩
  | 47 => ⟨S_, .i32⟩
  | 48 => ⟨S1024x1024, .i32⟩
  | 49 => ⟨S1024x1024, .i32⟩
  | 50 => ⟨S_, .i32⟩
  | 51 => ⟨S1024x1024, .i32⟩
  | 52 => ⟨S1024x1024, .i32⟩
  | 53 => ⟨S1024x1024, .i32⟩
  | 54 => ⟨S1024x1024, .i32⟩
  | 55 => ⟨S1024x1024, .i32⟩
  | 56 => ⟨S1024x1024, .i32⟩
  | 57 => ⟨S1024x1024, .i32⟩
  | 58 => ⟨S1024x1024, .i32⟩
  | 59 => ⟨S_, .i32⟩
  | 60 => ⟨S1024x1024, .i32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S1024x1024, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S_, .i32⟩
  | 85 => ⟨S1024x1024, .i32⟩
  | 86 => ⟨S1024x1024, .i32⟩
  | 87 => ⟨S1024x1024, .i32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S_, .i32⟩
  | 94 => ⟨S1024x1024, .i32⟩
  | 95 => ⟨S1024x1024, .i32⟩
  | 96 => ⟨S1024x1024, .i32⟩
  | 97 => ⟨S1024x1024, .i32⟩
  | 98 => ⟨S1024x1024, .i32⟩
  | 99 => ⟨S1024x1024, .i32⟩
  | 100 => ⟨S1024x1024, .i32⟩
  | 101 => ⟨S1024x1024, .i32⟩
  | 102 => ⟨S_, .i32⟩
  | 103 => ⟨S1024x1024, .i32⟩
  | 104 => ⟨S1024x1024, .i32⟩
  | 105 => ⟨S1024x1024, .i32⟩
  | 106 => ⟨S_, .i32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S1024x1024, .i32⟩
  | 113 => ⟨S1024x1024, .i32⟩
  | 114 => ⟨S1024x1024, .i32⟩
  | 115 => ⟨S_, .i32⟩
  | 116 => ⟨S1024x1024, .i32⟩
  | 117 => ⟨S1024x1024, .i32⟩
  | 118 => ⟨S_, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S_, .i32⟩
  | 125 => ⟨S1024x1024, .i32⟩
  | 126 => ⟨S1024x1024, .i32⟩
  | 127 => ⟨S_, .i32⟩
  | _ => ⟨S8x1024x1024, .f32⟩

abbrev hbmTy0_4 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S_, .i32⟩
  | 9 => ⟨S1024x1024, .i32⟩
  | 10 => ⟨S1024x1024, .i32⟩
  | 11 => ⟨S1024x1024, .i32⟩
  | 12 => ⟨S1024x1024, .i32⟩
  | 13 => ⟨S1024x1024, .i32⟩
  | 14 => ⟨S1024x1024, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S1024x1024, .i32⟩
  | 21 => ⟨S_, .i32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .f32⟩
  | 28 => ⟨S_, .f32⟩
  | 29 => ⟨S1024x1024, .f32⟩
  | 30 => ⟨S1024x1024, .f32⟩
  | 31 => ⟨S1x1, .f32⟩
  | 32 => ⟨S1024x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .i32⟩
  | 44 => ⟨S_, .f32⟩
  | 45 => ⟨S_, .i32⟩
  | 46 => ⟨S1024, .f32⟩
  | 47 => ⟨S1024, .i32⟩
  | 48 => ⟨S1x1024x1024, .f32⟩
  | 49 => ⟨S1024x1024, .f32⟩
  | 50 => ⟨S1x1024x1024, .f32⟩
  | 51 => ⟨S1024x1024, .f32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S1024x1, .i32⟩
  | 60 => ⟨S1024x1024, .f32⟩
  | 61 => ⟨S1024, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i32⟩
  | 80 => ⟨S1024, .i32⟩
  | 81 => ⟨S1024, .i32⟩
  | 82 => ⟨S1024x1, .i32⟩
  | 83 => ⟨S1024x1, .i32⟩
  | 84 => ⟨S1024x1, .i32⟩
  | 85 => ⟨S1024x3, .i32⟩
  | 86 => ⟨S32x1024x1024, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x1024x1024, .f32⟩
  | 109 => ⟨S1024x1024, .f32⟩
  | 110 => ⟨S1x1024x1024, .f32⟩
  | 111 => ⟨S1, .i32⟩
  | 112 => ⟨S_, .i32⟩
  | 113 => ⟨S1, .i32⟩
  | 114 => ⟨S_, .i32⟩
  | 115 => ⟨S1, .i32⟩
  | 116 => ⟨S_, .i32⟩
  | 117 => ⟨S2, .i64⟩
  | 118 => ⟨S_, .i64⟩
  | 119 => ⟨S2, .i64⟩
  | 120 => ⟨S2, .i64⟩
  | 121 => ⟨S_, .i64⟩
  | 122 => ⟨S2, .i64⟩
  | 123 => ⟨S2, .i64⟩
  | 124 => ⟨S2, .i32⟩
  | 125 => ⟨S2, .i32⟩
  | 126 => ⟨S_, .i32⟩
  | 127 => ⟨S_, .i32⟩
  | _ => ⟨S8x1024x1024, .f32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S8x1024x1024, .f32⟩

abbrev hbmTy0_6 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S2x1, .i32⟩
  | 93 => ⟨S2x1, .i32⟩
  | 94 => ⟨S2x2, .i32⟩
  | 95 => ⟨S1x2, .i32⟩
  | 96 => ⟨S2, .i32⟩
  | 97 => ⟨S1x2, .i32⟩
  | 98 => ⟨S2, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S1x1024x1024, .f32⟩
  | 121 => ⟨S1024x1024, .f32⟩
  | 122 => ⟨S_, .f32⟩
  | 123 => ⟨S_, .f32⟩
  | 124 => ⟨S_, .f32⟩
  | 125 => ⟨S1x1, .f32⟩
  | 126 => ⟨S1x1, .f32⟩
  | 127 => ⟨S1, .i32⟩
  | _ => ⟨S8x1024x1024, .f32⟩

abbrev hbmTy0_7 (i : Nat) : BufTy := match i % 128 with
  | 0 => ⟨S_, .i32⟩
  | 1 => ⟨S1, .i32⟩
  | 2 => ⟨S_, .i32⟩
  | 3 => ⟨S1024x1024, .i64⟩
  | 4 => ⟨S1024x1024, .i64⟩
  | 5 => ⟨S_, .i64⟩
  | 6 => ⟨S1024x1024, .i64⟩
  | 7 => ⟨S1024x1024, .i64⟩
  | 8 => ⟨S_, .i64⟩
  | 9 => ⟨S1024x1024, .i64⟩
  | 10 => ⟨S1024x1024, .i64⟩
  | 11 => ⟨S1024x1024, .i64⟩
  | 12 => ⟨S_, .i64⟩
  | 13 => ⟨S1024x1024, .i64⟩
  | 14 => ⟨S1024x1024, .i64⟩
  | 15 => ⟨S1024x1024, .i32⟩
  | 16 => ⟨S1024x1024, .i32⟩
  | 17 => ⟨S_, .i32⟩
  | 18 => ⟨S_, .i32⟩
  | 19 => ⟨S_, .i32⟩
  | 20 => ⟨S1024x1024, .i32⟩
  | 21 => ⟨S1024x1024, .i32⟩
  | 22 => ⟨S1024x1024, .i32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S_, .i32⟩
  | 29 => ⟨S1024x1024, .i32⟩
  | 30 => ⟨S1024x1024, .i32⟩
  | 31 => ⟨S1024x1024, .i32⟩
  | 32 => ⟨S1024x1024, .i32⟩
  | 33 => ⟨S1024x1024, .i32⟩
  | 34 => ⟨S_, .i32⟩
  | 35 => ⟨S1024x1024, .i32⟩
  | 36 => ⟨S1024x1024, .i32⟩
  | 37 => ⟨S_, .i32⟩
  | 38 => ⟨S1024x1024, .i32⟩
  | 39 => ⟨S1024x1024, .i32⟩
  | 40 => ⟨S1024x1024, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S_, .i32⟩
  | 47 => ⟨S1024x1024, .i32⟩
  | 48 => ⟨S1024x1024, .i32⟩
  | 49 => ⟨S1024x1024, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S_, .i32⟩
  | 56 => ⟨S1024x1024, .i32⟩
  | 57 => ⟨S1024x1024, .i32⟩
  | 58 => ⟨S1024x1024, .i32⟩
  | 59 => ⟨S1024x1024, .i32⟩
  | 60 => ⟨S1024x1024, .i32⟩
  | 61 => ⟨S1024x1024, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S1024x1024, .i32⟩
  | 68 => ⟨S_, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S1024x1024, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S1024x1024, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S1024x1024, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S1024x1024, .i32⟩
  | 102 => ⟨S1024x1024, .i32⟩
  | 103 => ⟨S1024x1024, .i32⟩
  | 104 => ⟨S1024x1024, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S1024x1024, .i32⟩
  | 111 => ⟨S_, .i32⟩
  | 112 => ⟨S1024x1024, .i32⟩
  | 113 => ⟨S1024x1024, .i32⟩
  | 114 => ⟨S_, .i32⟩
  | 115 => ⟨S1024x1024, .i32⟩
  | 116 => ⟨S1024x1024, .i32⟩
  | 117 => ⟨S1024x1024, .i32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S_, .i32⟩
  | 124 => ⟨S1024x1024, .i32⟩
  | 125 => ⟨S1024x1024, .i32⟩
  | 126 => ⟨S1024x1024, .i32⟩
  | 127 => ⟨S1024x1024, .i32⟩
  | _ => ⟨S8x1024x1024, .f32⟩

abbrev hbmTy0_8 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i32⟩
  | 17 => ⟨S1024x1024, .i32⟩
  | 18 => ⟨S1024x1024, .i32⟩
  | 19 => ⟨S1024x1024, .i32⟩
  | 20 => ⟨S1024x1024, .i32⟩
  | 21 => ⟨S1024x1024, .i32⟩
  | 22 => ⟨S_, .i32⟩
  | 23 => ⟨S1024x1024, .i32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S_, .i32⟩
  | 30 => ⟨S1024x1024, .i32⟩
  | 31 => ⟨S1024x1024, .i32⟩
  | 32 => ⟨S1024x1024, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S1024x1024, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S_, .i32⟩
  | 48 => ⟨S1024x1024, .i32⟩
  | 49 => ⟨S1024x1024, .i32⟩
  | 50 => ⟨S1024x1024, .i32⟩
  | 51 => ⟨S1024x1024, .i32⟩
  | 52 => ⟨S1024x1024, .i32⟩
  | 53 => ⟨S_, .i32⟩
  | 54 => ⟨S1024x1024, .i32⟩
  | 55 => ⟨S1024x1024, .i32⟩
  | 56 => ⟨S_, .i32⟩
  | 57 => ⟨S1024x1024, .i32⟩
  | 58 => ⟨S1024x1024, .i32⟩
  | 59 => ⟨S1024x1024, .i32⟩
  | 60 => ⟨S1024x1024, .i32⟩
  | 61 => ⟨S1024x1024, .i32⟩
  | 62 => ⟨S1024x1024, .i32⟩
  | 63 => ⟨S1024x1024, .i32⟩
  | 64 => ⟨S1024x1024, .i32⟩
  | 65 => ⟨S_, .i32⟩
  | 66 => ⟨S1024x1024, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S1024x1024, .i32⟩
  | 76 => ⟨S1024x1024, .i32⟩
  | 77 => ⟨S1024x1024, .i32⟩
  | 78 => ⟨S_, .i32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S1024x1024, .i32⟩
  | 85 => ⟨S1024x1024, .i32⟩
  | 86 => ⟨S1024x1024, .i32⟩
  | 87 => ⟨S_, .i32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S1024x1024, .i32⟩
  | 94 => ⟨S1024x1024, .i32⟩
  | 95 => ⟨S1024x1024, .i32⟩
  | 96 => ⟨S_, .i32⟩
  | 97 => ⟨S1024x1024, .i32⟩
  | 98 => ⟨S1024x1024, .i32⟩
  | 99 => ⟨S_, .i32⟩
  | 100 => ⟨S1024x1024, .i32⟩
  | 101 => ⟨S1024x1024, .i32⟩
  | 102 => ⟨S1024x1024, .i32⟩
  | 103 => ⟨S1024x1024, .i32⟩
  | 104 => ⟨S1024x1024, .i32⟩
  | 105 => ⟨S1024x1024, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S1024x1024, .i32⟩
  | 112 => ⟨S_, .i32⟩
  | 113 => ⟨S1024x1024, .i32⟩
  | 114 => ⟨S1024x1024, .i32⟩
  | 115 => ⟨S_, .i32⟩
  | 116 => ⟨S1024x1024, .i32⟩
  | 117 => ⟨S1024x1024, .i32⟩
  | 118 => ⟨S1024x1024, .f32⟩
  | 119 => ⟨S_, .f32⟩
  | 120 => ⟨S1024x1024, .f32⟩
  | 121 => ⟨S1024x1024, .f32⟩
  | 122 => ⟨S1x1, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S8x1024x1024, .f32⟩

abbrev hbmTy0_9 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .i32⟩
  | 7 => ⟨S_, .f32⟩
  | 8 => ⟨S_, .i32⟩
  | 9 => ⟨S1024, .f32⟩
  | 10 => ⟨S1024, .i32⟩
  | 11 => ⟨S1x1024x1024, .f32⟩
  | 12 => ⟨S1024x1024, .f32⟩
  | 13 => ⟨S1x1024x1024, .f32⟩
  | 14 => ⟨S1024x1024, .f32⟩
  | 15 => ⟨S_, .i32⟩
  | 16 => ⟨S1024, .i32⟩
  | 17 => ⟨S1024, .i1⟩
  | 18 => ⟨S_, .i32⟩
  | 19 => ⟨S1024, .i32⟩
  | 20 => ⟨S1024, .i32⟩
  | 21 => ⟨S1024, .i32⟩
  | 22 => ⟨S1024x1, .i32⟩
  | 23 => ⟨S1024x1024, .f32⟩
  | 24 => ⟨S1024, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1024, .i32⟩
  | 32 => ⟨S1024, .i1⟩
  | 33 => ⟨S_, .i32⟩
  | 34 => ⟨S1024, .i32⟩
  | 35 => ⟨S1024, .i32⟩
  | 36 => ⟨S1024, .i32⟩
  | 37 => ⟨S_, .i32⟩
  | 38 => ⟨S1024, .i32⟩
  | 39 => ⟨S1024, .i1⟩
  | 40 => ⟨S_, .i32⟩
  | 41 => ⟨S1024, .i32⟩
  | 42 => ⟨S1024, .i32⟩
  | 43 => ⟨S1024, .i32⟩
  | 44 => ⟨S1024, .i32⟩
  | 45 => ⟨S1024x1, .i32⟩
  | 46 => ⟨S1024x1, .i32⟩
  | 47 => ⟨S1024x1, .i32⟩
  | 48 => ⟨S1024x3, .i32⟩
  | 49 => ⟨S32x1024x1024, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1x1024x1024, .f32⟩
  | 72 => ⟨S1024x1024, .f32⟩
  | 73 => ⟨S1x1024x1024, .f32⟩
  | 74 => ⟨S1, .i32⟩
  | 75 => ⟨S_, .i32⟩
  | 76 => ⟨S1, .i32⟩
  | 77 => ⟨S_, .i32⟩
  | 78 => ⟨S1, .i32⟩
  | 79 => ⟨S_, .i32⟩
  | 80 => ⟨S2, .i64⟩
  | 81 => ⟨S_, .i64⟩
  | 82 => ⟨S2, .i64⟩
  | 83 => ⟨S2, .i64⟩
  | 84 => ⟨S_, .i64⟩
  | 85 => ⟨S2, .i64⟩
  | 86 => ⟨S2, .i64⟩
  | 87 => ⟨S2, .i32⟩
  | 88 => ⟨S2, .i32⟩
  | 89 => ⟨S_, .i32⟩
  | 90 => ⟨S_, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S8x1024x1024, .f32⟩

abbrev hbmTy0_10 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S8x1024x1024, .f32⟩

abbrev hbmTy0_11 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2x1, .i32⟩
  | 56 => ⟨S2x1, .i32⟩
  | 57 => ⟨S2x2, .i32⟩
  | 58 => ⟨S1x2, .i32⟩
  | 59 => ⟨S2, .i32⟩
  | 60 => ⟨S1x2, .i32⟩
  | 61 => ⟨S2, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x1024x1024, .f32⟩
  | 84 => ⟨S1024x1024, .f32⟩
  | 85 => ⟨S_, .f32⟩
  | 86 => ⟨S_, .f32⟩
  | 87 => ⟨S_, .f32⟩
  | 88 => ⟨S1x1, .f32⟩
  | 89 => ⟨S1x1, .f32⟩
  | 90 => ⟨S1, .i32⟩
  | 91 => ⟨S_, .i32⟩
  | 92 => ⟨S1, .i32⟩
  | 93 => ⟨S_, .i32⟩
  | 94 => ⟨S1024x1024, .i64⟩
  | 95 => ⟨S1024x1024, .i64⟩
  | 96 => ⟨S_, .i64⟩
  | 97 => ⟨S1024x1024, .i64⟩
  | 98 => ⟨S1024x1024, .i64⟩
  | 99 => ⟨S_, .i64⟩
  | 100 => ⟨S1024x1024, .i64⟩
  | 101 => ⟨S1024x1024, .i64⟩
  | 102 => ⟨S1024x1024, .i64⟩
  | 103 => ⟨S_, .i64⟩
  | 104 => ⟨S1024x1024, .i64⟩
  | 105 => ⟨S1024x1024, .i64⟩
  | 106 => ⟨S1024x1024, .i32⟩
  | 107 => ⟨S1024x1024, .i32⟩
  | 108 => ⟨S_, .i32⟩
  | 109 => ⟨S_, .i32⟩
  | 110 => ⟨S_, .i32⟩
  | 111 => ⟨S1024x1024, .i32⟩
  | 112 => ⟨S1024x1024, .i32⟩
  | 113 => ⟨S1024x1024, .i32⟩
  | 114 => ⟨S1024x1024, .i32⟩
  | 115 => ⟨S1024x1024, .i32⟩
  | 116 => ⟨S_, .i32⟩
  | 117 => ⟨S1024x1024, .i32⟩
  | 118 => ⟨S1024x1024, .i32⟩
  | 119 => ⟨S_, .i32⟩
  | 120 => ⟨S1024x1024, .i32⟩
  | 121 => ⟨S1024x1024, .i32⟩
  | 122 => ⟨S1024x1024, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S8x1024x1024, .f32⟩

abbrev hbmTy0_12 (i : Nat) : BufTy := match i % 128 with
  | 0 => ⟨S_, .i32⟩
  | 1 => ⟨S1024x1024, .i32⟩
  | 2 => ⟨S1024x1024, .i32⟩
  | 3 => ⟨S1024x1024, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S_, .i32⟩
  | 10 => ⟨S1024x1024, .i32⟩
  | 11 => ⟨S1024x1024, .i32⟩
  | 12 => ⟨S1024x1024, .i32⟩
  | 13 => ⟨S1024x1024, .i32⟩
  | 14 => ⟨S1024x1024, .i32⟩
  | 15 => ⟨S_, .i32⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S1024x1024, .i32⟩
  | 22 => ⟨S1024x1024, .i32⟩
  | 23 => ⟨S1024x1024, .i32⟩
  | 24 => ⟨S1024x1024, .i32⟩
  | 25 => ⟨S1024x1024, .i32⟩
  | 26 => ⟨S1024x1024, .i32⟩
  | 27 => ⟨S_, .i32⟩
  | 28 => ⟨S1024x1024, .i32⟩
  | 29 => ⟨S1024x1024, .i32⟩
  | 30 => ⟨S1024x1024, .i32⟩
  | 31 => ⟨S_, .i32⟩
  | 32 => ⟨S1024x1024, .i32⟩
  | 33 => ⟨S1024x1024, .i32⟩
  | 34 => ⟨S_, .i32⟩
  | 35 => ⟨S1024x1024, .i32⟩
  | 36 => ⟨S1024x1024, .i32⟩
  | 37 => ⟨S1024x1024, .i32⟩
  | 38 => ⟨S1024x1024, .i32⟩
  | 39 => ⟨S1024x1024, .i32⟩
  | 40 => ⟨S_, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S1024x1024, .i32⟩
  | 47 => ⟨S1024x1024, .i32⟩
  | 48 => ⟨S1024x1024, .i32⟩
  | 49 => ⟨S_, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S1024x1024, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S1024x1024, .i32⟩
  | 65 => ⟨S1024x1024, .i32⟩
  | 66 => ⟨S1024x1024, .i32⟩
  | 67 => ⟨S1024x1024, .i32⟩
  | 68 => ⟨S1024x1024, .i32⟩
  | 69 => ⟨S1024x1024, .i32⟩
  | 70 => ⟨S_, .i32⟩
  | 71 => ⟨S1024x1024, .i32⟩
  | 72 => ⟨S1024x1024, .i32⟩
  | 73 => ⟨S1024x1024, .i32⟩
  | 74 => ⟨S_, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S1024x1024, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S1024x1024, .i32⟩
  | 90 => ⟨S1024x1024, .i32⟩
  | 91 => ⟨S1024x1024, .i32⟩
  | 92 => ⟨S_, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S1024x1024, .i32⟩
  | 99 => ⟨S1024x1024, .i32⟩
  | 100 => ⟨S1024x1024, .i32⟩
  | 101 => ⟨S_, .i32⟩
  | 102 => ⟨S1024x1024, .i32⟩
  | 103 => ⟨S1024x1024, .i32⟩
  | 104 => ⟨S_, .i32⟩
  | 105 => ⟨S1024x1024, .i32⟩
  | 106 => ⟨S1024x1024, .i32⟩
  | 107 => ⟨S1024x1024, .i32⟩
  | 108 => ⟨S1024x1024, .i32⟩
  | 109 => ⟨S1024x1024, .i32⟩
  | 110 => ⟨S1024x1024, .i32⟩
  | 111 => ⟨S1024x1024, .i32⟩
  | 112 => ⟨S1024x1024, .i32⟩
  | 113 => ⟨S_, .i32⟩
  | 114 => ⟨S1024x1024, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S1024x1024, .i32⟩
  | 124 => ⟨S1024x1024, .i32⟩
  | 125 => ⟨S1024x1024, .i32⟩
  | 126 => ⟨S_, .i32⟩
  | 127 => ⟨S1024x1024, .i32⟩
  | _ => ⟨S8x1024x1024, .f32⟩

abbrev hbmTy0_13 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S1024x1024, .i32⟩
  | 14 => ⟨S1024x1024, .i32⟩
  | 15 => ⟨S1024x1024, .i32⟩
  | 16 => ⟨S_, .i32⟩
  | 17 => ⟨S1024x1024, .i32⟩
  | 18 => ⟨S1024x1024, .i32⟩
  | 19 => ⟨S_, .i32⟩
  | 20 => ⟨S1024x1024, .i32⟩
  | 21 => ⟨S1024x1024, .i32⟩
  | 22 => ⟨S1024x1024, .i32⟩
  | 23 => ⟨S1024x1024, .i32⟩
  | 24 => ⟨S1024x1024, .i32⟩
  | 25 => ⟨S1024x1024, .i32⟩
  | 26 => ⟨S1024x1024, .i32⟩
  | 27 => ⟨S1024x1024, .i32⟩
  | 28 => ⟨S_, .i32⟩
  | 29 => ⟨S1024x1024, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S1024x1024, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S_, .i32⟩
  | 51 => ⟨S1024x1024, .i32⟩
  | 52 => ⟨S1024x1024, .i32⟩
  | 53 => ⟨S_, .i32⟩
  | 54 => ⟨S1024x1024, .i32⟩
  | 55 => ⟨S1024x1024, .i32⟩
  | 56 => ⟨S1024x1024, .i32⟩
  | 57 => ⟨S1024x1024, .i32⟩
  | 58 => ⟨S1024x1024, .i32⟩
  | 59 => ⟨S_, .i32⟩
  | 60 => ⟨S1024x1024, .i32⟩
  | 61 => ⟨S1024x1024, .i32⟩
  | 62 => ⟨S_, .i32⟩
  | 63 => ⟨S1024x1024, .i32⟩
  | 64 => ⟨S1024x1024, .i32⟩
  | 65 => ⟨S1024x1024, .i32⟩
  | 66 => ⟨S1024x1024, .i32⟩
  | 67 => ⟨S1024x1024, .i32⟩
  | 68 => ⟨S1024x1024, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S_, .i32⟩
  | 79 => ⟨S1024x1024, .i32⟩
  | 80 => ⟨S1024x1024, .i32⟩
  | 81 => ⟨S1024x1024, .f32⟩
  | 82 => ⟨S_, .f32⟩
  | 83 => ⟨S1024x1024, .f32⟩
  | 84 => ⟨S1024x1024, .f32⟩
  | 85 => ⟨S1x1, .f32⟩
  | 86 => ⟨S1024x1024, .f32⟩
  | 87 => ⟨S1024x1024, .f32⟩
  | 88 => ⟨S1024x1024, .f32⟩
  | 89 => ⟨S1024x1024, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .i32⟩
  | 98 => ⟨S_, .f32⟩
  | 99 => ⟨S_, .i32⟩
  | 100 => ⟨S1024, .f32⟩
  | 101 => ⟨S1024, .i32⟩
  | 102 => ⟨S1x1024x1024, .f32⟩
  | 103 => ⟨S1024x1024, .f32⟩
  | 104 => ⟨S1x1024x1024, .f32⟩
  | 105 => ⟨S1024x1024, .f32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S1024x1, .i32⟩
  | 114 => ⟨S1024x1024, .f32⟩
  | 115 => ⟨S1024, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1024, .i32⟩
  | 123 => ⟨S1024, .i1⟩
  | 124 => ⟨S_, .i32⟩
  | 125 => ⟨S1024, .i32⟩
  | 126 => ⟨S1024, .i32⟩
  | 127 => ⟨S1024, .i32⟩
  | _ => ⟨S8x1024x1024, .f32⟩

abbrev hbmTy0_14 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024, .i32⟩
  | 8 => ⟨S1024x1, .i32⟩
  | 9 => ⟨S1024x1, .i32⟩
  | 10 => ⟨S1024x1, .i32⟩
  | 11 => ⟨S1024x3, .i32⟩
  | 12 => ⟨S32x1024x1024, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1x1024x1024, .f32⟩
  | 35 => ⟨S1024x1024, .f32⟩
  | 36 => ⟨S1x1024x1024, .f32⟩
  | 37 => ⟨S1, .i32⟩
  | 38 => ⟨S_, .i32⟩
  | 39 => ⟨S1, .i32⟩
  | 40 => ⟨S_, .i32⟩
  | 41 => ⟨S1, .i32⟩
  | 42 => ⟨S_, .i32⟩
  | 43 => ⟨S2, .i64⟩
  | 44 => ⟨S_, .i64⟩
  | 45 => ⟨S2, .i64⟩
  | 46 => ⟨S2, .i64⟩
  | 47 => ⟨S_, .i64⟩
  | 48 => ⟨S2, .i64⟩
  | 49 => ⟨S2, .i64⟩
  | 50 => ⟨S2, .i32⟩
  | 51 => ⟨S2, .i32⟩
  | 52 => ⟨S_, .i32⟩
  | 53 => ⟨S_, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S8x1024x1024, .f32⟩

abbrev hbmTy0_15 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S8x1024x1024, .f32⟩

abbrev hbmTy0_16 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S2x1, .i32⟩
  | 19 => ⟨S2x1, .i32⟩
  | 20 => ⟨S2x2, .i32⟩
  | 21 => ⟨S1x2, .i32⟩
  | 22 => ⟨S2, .i32⟩
  | 23 => ⟨S1x2, .i32⟩
  | 24 => ⟨S2, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x1024x1024, .f32⟩
  | 47 => ⟨S1024x1024, .f32⟩
  | 48 => ⟨S_, .f32⟩
  | 49 => ⟨S_, .f32⟩
  | 50 => ⟨S_, .f32⟩
  | 51 => ⟨S1x1, .f32⟩
  | 52 => ⟨S1x1, .f32⟩
  | 53 => ⟨S1, .i32⟩
  | 54 => ⟨S_, .i32⟩
  | 55 => ⟨S1, .i32⟩
  | 56 => ⟨S_, .i32⟩
  | 57 => ⟨S1024x1024, .i64⟩
  | 58 => ⟨S1024x1024, .i64⟩
  | 59 => ⟨S_, .i64⟩
  | 60 => ⟨S1024x1024, .i64⟩
  | 61 => ⟨S1024x1024, .i64⟩
  | 62 => ⟨S_, .i64⟩
  | 63 => ⟨S1024x1024, .i64⟩
  | 64 => ⟨S1024x1024, .i64⟩
  | 65 => ⟨S1024x1024, .i64⟩
  | 66 => ⟨S_, .i64⟩
  | 67 => ⟨S1024x1024, .i64⟩
  | 68 => ⟨S1024x1024, .i64⟩
  | 69 => ⟨S1024x1024, .i32⟩
  | 70 => ⟨S1024x1024, .i32⟩
  | 71 => ⟨S_, .i32⟩
  | 72 => ⟨S_, .i32⟩
  | 73 => ⟨S_, .i32⟩
  | 74 => ⟨S1024x1024, .i32⟩
  | 75 => ⟨S1024x1024, .i32⟩
  | 76 => ⟨S1024x1024, .i32⟩
  | 77 => ⟨S1024x1024, .i32⟩
  | 78 => ⟨S1024x1024, .i32⟩
  | 79 => ⟨S_, .i32⟩
  | 80 => ⟨S1024x1024, .i32⟩
  | 81 => ⟨S1024x1024, .i32⟩
  | 82 => ⟨S_, .i32⟩
  | 83 => ⟨S1024x1024, .i32⟩
  | 84 => ⟨S1024x1024, .i32⟩
  | 85 => ⟨S1024x1024, .i32⟩
  | 86 => ⟨S1024x1024, .i32⟩
  | 87 => ⟨S1024x1024, .i32⟩
  | 88 => ⟨S_, .i32⟩
  | 89 => ⟨S1024x1024, .i32⟩
  | 90 => ⟨S1024x1024, .i32⟩
  | 91 => ⟨S_, .i32⟩
  | 92 => ⟨S1024x1024, .i32⟩
  | 93 => ⟨S1024x1024, .i32⟩
  | 94 => ⟨S1024x1024, .i32⟩
  | 95 => ⟨S1024x1024, .i32⟩
  | 96 => ⟨S1024x1024, .i32⟩
  | 97 => ⟨S_, .i32⟩
  | 98 => ⟨S1024x1024, .i32⟩
  | 99 => ⟨S1024x1024, .i32⟩
  | 100 => ⟨S_, .i32⟩
  | 101 => ⟨S1024x1024, .i32⟩
  | 102 => ⟨S1024x1024, .i32⟩
  | 103 => ⟨S1024x1024, .i32⟩
  | 104 => ⟨S1024x1024, .i32⟩
  | 105 => ⟨S1024x1024, .i32⟩
  | 106 => ⟨S_, .i32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S1024x1024, .i32⟩
  | 113 => ⟨S1024x1024, .i32⟩
  | 114 => ⟨S1024x1024, .i32⟩
  | 115 => ⟨S1024x1024, .i32⟩
  | 116 => ⟨S1024x1024, .i32⟩
  | 117 => ⟨S1024x1024, .i32⟩
  | 118 => ⟨S_, .i32⟩
  | 119 => ⟨S1024x1024, .i32⟩
  | 120 => ⟨S1024x1024, .i32⟩
  | 121 => ⟨S1024x1024, .i32⟩
  | 122 => ⟨S_, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S8x1024x1024, .f32⟩

abbrev hbmTy0_17 (i : Nat) : BufTy := match i % 128 with
  | 0 => ⟨S1024x1024, .i32⟩
  | 1 => ⟨S1024x1024, .i32⟩
  | 2 => ⟨S1024x1024, .i32⟩
  | 3 => ⟨S_, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S1024x1024, .i32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S_, .i32⟩
  | 16 => ⟨S1024x1024, .i32⟩
  | 17 => ⟨S1024x1024, .i32⟩
  | 18 => ⟨S1024x1024, .i32⟩
  | 19 => ⟨S1024x1024, .i32⟩
  | 20 => ⟨S1024x1024, .i32⟩
  | 21 => ⟨S_, .i32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i32⟩
  | 28 => ⟨S1024x1024, .i32⟩
  | 29 => ⟨S1024x1024, .i32⟩
  | 30 => ⟨S1024x1024, .i32⟩
  | 31 => ⟨S1024x1024, .i32⟩
  | 32 => ⟨S1024x1024, .i32⟩
  | 33 => ⟨S_, .i32⟩
  | 34 => ⟨S1024x1024, .i32⟩
  | 35 => ⟨S1024x1024, .i32⟩
  | 36 => ⟨S1024x1024, .i32⟩
  | 37 => ⟨S_, .i32⟩
  | 38 => ⟨S1024x1024, .i32⟩
  | 39 => ⟨S1024x1024, .i32⟩
  | 40 => ⟨S_, .i32⟩
  | 41 => ⟨S1024x1024, .i32⟩
  | 42 => ⟨S1024x1024, .i32⟩
  | 43 => ⟨S1024x1024, .i32⟩
  | 44 => ⟨S1024x1024, .i32⟩
  | 45 => ⟨S1024x1024, .i32⟩
  | 46 => ⟨S_, .i32⟩
  | 47 => ⟨S1024x1024, .i32⟩
  | 48 => ⟨S1024x1024, .i32⟩
  | 49 => ⟨S_, .i32⟩
  | 50 => ⟨S1024x1024, .i32⟩
  | 51 => ⟨S1024x1024, .i32⟩
  | 52 => ⟨S1024x1024, .i32⟩
  | 53 => ⟨S1024x1024, .i32⟩
  | 54 => ⟨S1024x1024, .i32⟩
  | 55 => ⟨S_, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S1024x1024, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S_, .i32⟩
  | 68 => ⟨S1024x1024, .i32⟩
  | 69 => ⟨S1024x1024, .i32⟩
  | 70 => ⟨S1024x1024, .i32⟩
  | 71 => ⟨S1024x1024, .i32⟩
  | 72 => ⟨S1024x1024, .i32⟩
  | 73 => ⟨S1024x1024, .i32⟩
  | 74 => ⟨S1024x1024, .i32⟩
  | 75 => ⟨S1024x1024, .i32⟩
  | 76 => ⟨S_, .i32⟩
  | 77 => ⟨S1024x1024, .i32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S_, .i32⟩
  | 84 => ⟨S1024x1024, .i32⟩
  | 85 => ⟨S1024x1024, .i32⟩
  | 86 => ⟨S1024x1024, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S_, .i32⟩
  | 93 => ⟨S1024x1024, .i32⟩
  | 94 => ⟨S1024x1024, .i32⟩
  | 95 => ⟨S1024x1024, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S_, .i32⟩
  | 102 => ⟨S1024x1024, .i32⟩
  | 103 => ⟨S1024x1024, .i32⟩
  | 104 => ⟨S1024x1024, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i32⟩
  | 113 => ⟨S1024x1024, .i32⟩
  | 114 => ⟨S1024x1024, .i32⟩
  | 115 => ⟨S1024x1024, .i32⟩
  | 116 => ⟨S1024x1024, .i32⟩
  | 117 => ⟨S1024x1024, .i32⟩
  | 118 => ⟨S1024x1024, .i32⟩
  | 119 => ⟨S_, .i32⟩
  | 120 => ⟨S1024x1024, .i32⟩
  | 121 => ⟨S1024x1024, .i32⟩
  | 122 => ⟨S1024x1024, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S8x1024x1024, .f32⟩

abbrev hbmTy0_18 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S1024x1024, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i32⟩
  | 19 => ⟨S1024x1024, .i32⟩
  | 20 => ⟨S1024x1024, .i32⟩
  | 21 => ⟨S1024x1024, .i32⟩
  | 22 => ⟨S_, .i32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .i32⟩
  | 29 => ⟨S1024x1024, .i32⟩
  | 30 => ⟨S1024x1024, .i32⟩
  | 31 => ⟨S1024x1024, .i32⟩
  | 32 => ⟨S1024x1024, .i32⟩
  | 33 => ⟨S1024x1024, .i32⟩
  | 34 => ⟨S_, .i32⟩
  | 35 => ⟨S1024x1024, .i32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S1024x1024, .f32⟩
  | 45 => ⟨S_, .f32⟩
  | 46 => ⟨S1024x1024, .f32⟩
  | 47 => ⟨S1024x1024, .f32⟩
  | 48 => ⟨S1x1, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S1024x1024, .f32⟩
  | 60 => ⟨S1024x1024, .i32⟩
  | 61 => ⟨S_, .f32⟩
  | 62 => ⟨S_, .i32⟩
  | 63 => ⟨S1024, .f32⟩
  | 64 => ⟨S1024, .i32⟩
  | 65 => ⟨S1x1024x1024, .f32⟩
  | 66 => ⟨S1024x1024, .f32⟩
  | 67 => ⟨S1x1024x1024, .f32⟩
  | 68 => ⟨S1024x1024, .f32⟩
  | 69 => ⟨S_, .i32⟩
  | 70 => ⟨S1024, .i32⟩
  | 71 => ⟨S1024, .i1⟩
  | 72 => ⟨S_, .i32⟩
  | 73 => ⟨S1024, .i32⟩
  | 74 => ⟨S1024, .i32⟩
  | 75 => ⟨S1024, .i32⟩
  | 76 => ⟨S1024x1, .i32⟩
  | 77 => ⟨S1024x1024, .f32⟩
  | 78 => ⟨S1024, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S1024, .i32⟩
  | 99 => ⟨S1024x1, .i32⟩
  | 100 => ⟨S1024x1, .i32⟩
  | 101 => ⟨S1024x1, .i32⟩
  | 102 => ⟨S1024x3, .i32⟩
  | 103 => ⟨S32x1024x1024, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x1024x1024, .f32⟩
  | 126 => ⟨S1024x1024, .f32⟩
  | 127 => ⟨S1x1024x1024, .f32⟩
  | _ => ⟨S8x1024x1024, .f32⟩

abbrev hbmTy0_19 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S2, .i64⟩
  | 7 => ⟨S_, .i64⟩
  | 8 => ⟨S2, .i64⟩
  | 9 => ⟨S2, .i64⟩
  | 10 => ⟨S_, .i64⟩
  | 11 => ⟨S2, .i64⟩
  | 12 => ⟨S2, .i64⟩
  | 13 => ⟨S2, .i32⟩
  | 14 => ⟨S2, .i32⟩
  | 15 => ⟨S_, .i32⟩
  | 16 => ⟨S_, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S8x1024x1024, .f32⟩

abbrev hbmTy0_20 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S2x1, .i32⟩
  | 110 => ⟨S2x1, .i32⟩
  | 111 => ⟨S2x2, .i32⟩
  | 112 => ⟨S1x2, .i32⟩
  | 113 => ⟨S2, .i32⟩
  | 114 => ⟨S1x2, .i32⟩
  | 115 => ⟨S2, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S8x1024x1024, .f32⟩

abbrev hbmTy0_21 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x1024x1024, .f32⟩
  | 10 => ⟨S1024x1024, .f32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S1024x1024, .i64⟩
  | 21 => ⟨S1024x1024, .i64⟩
  | 22 => ⟨S_, .i64⟩
  | 23 => ⟨S1024x1024, .i64⟩
  | 24 => ⟨S1024x1024, .i64⟩
  | 25 => ⟨S_, .i64⟩
  | 26 => ⟨S1024x1024, .i64⟩
  | 27 => ⟨S1024x1024, .i64⟩
  | 28 => ⟨S1024x1024, .i64⟩
  | 29 => ⟨S_, .i64⟩
  | 30 => ⟨S1024x1024, .i64⟩
  | 31 => ⟨S1024x1024, .i64⟩
  | 32 => ⟨S1024x1024, .i32⟩
  | 33 => ⟨S1024x1024, .i32⟩
  | 34 => ⟨S_, .i32⟩
  | 35 => ⟨S_, .i32⟩
  | 36 => ⟨S_, .i32⟩
  | 37 => ⟨S1024x1024, .i32⟩
  | 38 => ⟨S1024x1024, .i32⟩
  | 39 => ⟨S1024x1024, .i32⟩
  | 40 => ⟨S1024x1024, .i32⟩
  | 41 => ⟨S1024x1024, .i32⟩
  | 42 => ⟨S_, .i32⟩
  | 43 => ⟨S1024x1024, .i32⟩
  | 44 => ⟨S1024x1024, .i32⟩
  | 45 => ⟨S_, .i32⟩
  | 46 => ⟨S1024x1024, .i32⟩
  | 47 => ⟨S1024x1024, .i32⟩
  | 48 => ⟨S1024x1024, .i32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S_, .i32⟩
  | 55 => ⟨S1024x1024, .i32⟩
  | 56 => ⟨S1024x1024, .i32⟩
  | 57 => ⟨S1024x1024, .i32⟩
  | 58 => ⟨S1024x1024, .i32⟩
  | 59 => ⟨S1024x1024, .i32⟩
  | 60 => ⟨S_, .i32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S1024x1024, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S1024x1024, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S1024x1024, .i32⟩
  | 85 => ⟨S_, .i32⟩
  | 86 => ⟨S1024x1024, .i32⟩
  | 87 => ⟨S1024x1024, .i32⟩
  | 88 => ⟨S_, .i32⟩
  | 89 => ⟨S1024x1024, .i32⟩
  | 90 => ⟨S1024x1024, .i32⟩
  | 91 => ⟨S1024x1024, .i32⟩
  | 92 => ⟨S1024x1024, .i32⟩
  | 93 => ⟨S1024x1024, .i32⟩
  | 94 => ⟨S_, .i32⟩
  | 95 => ⟨S1024x1024, .i32⟩
  | 96 => ⟨S1024x1024, .i32⟩
  | 97 => ⟨S_, .i32⟩
  | 98 => ⟨S1024x1024, .i32⟩
  | 99 => ⟨S1024x1024, .i32⟩
  | 100 => ⟨S1024x1024, .i32⟩
  | 101 => ⟨S1024x1024, .i32⟩
  | 102 => ⟨S1024x1024, .i32⟩
  | 103 => ⟨S_, .i32⟩
  | 104 => ⟨S1024x1024, .i32⟩
  | 105 => ⟨S1024x1024, .i32⟩
  | 106 => ⟨S_, .i32⟩
  | 107 => ⟨S1024x1024, .i32⟩
  | 108 => ⟨S1024x1024, .i32⟩
  | 109 => ⟨S1024x1024, .i32⟩
  | 110 => ⟨S1024x1024, .i32⟩
  | 111 => ⟨S1024x1024, .i32⟩
  | 112 => ⟨S_, .i32⟩
  | 113 => ⟨S1024x1024, .i32⟩
  | 114 => ⟨S1024x1024, .i32⟩
  | 115 => ⟨S_, .i32⟩
  | 116 => ⟨S1024x1024, .i32⟩
  | 117 => ⟨S1024x1024, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S_, .i32⟩
  | 125 => ⟨S1024x1024, .i32⟩
  | 126 => ⟨S1024x1024, .i32⟩
  | 127 => ⟨S1024x1024, .i32⟩
  | _ => ⟨S8x1024x1024, .f32⟩

abbrev hbmTy0_22 (i : Nat) : BufTy := match i % 128 with
  | 0 => ⟨S_, .i32⟩
  | 1 => ⟨S1024x1024, .i32⟩
  | 2 => ⟨S1024x1024, .i32⟩
  | 3 => ⟨S_, .i32⟩
  | 4 => ⟨S1024x1024, .i32⟩
  | 5 => ⟨S1024x1024, .i32⟩
  | 6 => ⟨S1024x1024, .i32⟩
  | 7 => ⟨S1024x1024, .i32⟩
  | 8 => ⟨S1024x1024, .i32⟩
  | 9 => ⟨S_, .i32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S1024x1024, .i32⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S_, .i32⟩
  | 22 => ⟨S1024x1024, .i32⟩
  | 23 => ⟨S1024x1024, .i32⟩
  | 24 => ⟨S1024x1024, .i32⟩
  | 25 => ⟨S1024x1024, .i32⟩
  | 26 => ⟨S1024x1024, .i32⟩
  | 27 => ⟨S_, .i32⟩
  | 28 => ⟨S1024x1024, .i32⟩
  | 29 => ⟨S1024x1024, .i32⟩
  | 30 => ⟨S_, .i32⟩
  | 31 => ⟨S1024x1024, .i32⟩
  | 32 => ⟨S1024x1024, .i32⟩
  | 33 => ⟨S1024x1024, .i32⟩
  | 34 => ⟨S1024x1024, .i32⟩
  | 35 => ⟨S1024x1024, .i32⟩
  | 36 => ⟨S1024x1024, .i32⟩
  | 37 => ⟨S1024x1024, .i32⟩
  | 38 => ⟨S1024x1024, .i32⟩
  | 39 => ⟨S_, .i32⟩
  | 40 => ⟨S1024x1024, .i32⟩
  | 41 => ⟨S1024x1024, .i32⟩
  | 42 => ⟨S1024x1024, .i32⟩
  | 43 => ⟨S_, .i32⟩
  | 44 => ⟨S1024x1024, .i32⟩
  | 45 => ⟨S1024x1024, .i32⟩
  | 46 => ⟨S_, .i32⟩
  | 47 => ⟨S1024x1024, .i32⟩
  | 48 => ⟨S1024x1024, .i32⟩
  | 49 => ⟨S1024x1024, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S_, .i32⟩
  | 56 => ⟨S1024x1024, .i32⟩
  | 57 => ⟨S1024x1024, .i32⟩
  | 58 => ⟨S1024x1024, .i32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S1024x1024, .i32⟩
  | 68 => ⟨S1024x1024, .i32⟩
  | 69 => ⟨S1024x1024, .i32⟩
  | 70 => ⟨S_, .i32⟩
  | 71 => ⟨S1024x1024, .i32⟩
  | 72 => ⟨S1024x1024, .i32⟩
  | 73 => ⟨S_, .i32⟩
  | 74 => ⟨S1024x1024, .i32⟩
  | 75 => ⟨S1024x1024, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S1024x1024, .i32⟩
  | 82 => ⟨S_, .i32⟩
  | 83 => ⟨S1024x1024, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S1024x1024, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S1024x1024, .i32⟩
  | 102 => ⟨S1024x1024, .i32⟩
  | 103 => ⟨S1024x1024, .i32⟩
  | 104 => ⟨S_, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S1024x1024, .i32⟩
  | 111 => ⟨S1024x1024, .i32⟩
  | 112 => ⟨S1024x1024, .i32⟩
  | 113 => ⟨S_, .i32⟩
  | 114 => ⟨S1024x1024, .i32⟩
  | 115 => ⟨S1024x1024, .i32⟩
  | 116 => ⟨S_, .i32⟩
  | 117 => ⟨S1024x1024, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S8x1024x1024, .f32⟩

abbrev hbmTy0_23 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .f32⟩
  | 8 => ⟨S_, .f32⟩
  | 9 => ⟨S1024x1024, .f32⟩
  | 10 => ⟨S1024x1024, .f32⟩
  | 11 => ⟨S1x1, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S1024x1024, .f32⟩
  | 21 => ⟨S1024x1024, .f32⟩
  | 22 => ⟨S1024x1024, .f32⟩
  | 23 => ⟨S1024x1024, .i32⟩
  | 24 => ⟨S_, .f32⟩
  | 25 => ⟨S_, .i32⟩
  | 26 => ⟨S1024, .f32⟩
  | 27 => ⟨S1024, .i32⟩
  | 28 => ⟨S1x1024x1024, .f32⟩
  | 29 => ⟨S1024x1024, .f32⟩
  | 30 => ⟨S1x1024x1024, .f32⟩
  | 31 => ⟨S1024x1024, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1024x1024, .f32⟩
  | 41 => ⟨S1024, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i32⟩
  | 60 => ⟨S1024, .i32⟩
  | 61 => ⟨S1024, .i32⟩
  | 62 => ⟨S1024x1, .i32⟩
  | 63 => ⟨S1024x1, .i32⟩
  | 64 => ⟨S1024x1, .i32⟩
  | 65 => ⟨S1024x3, .i32⟩
  | 66 => ⟨S32x1024x1024, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x1024x1024, .f32⟩
  | 89 => ⟨S1024x1024, .f32⟩
  | 90 => ⟨S1x1024x1024, .f32⟩
  | 91 => ⟨S1, .i32⟩
  | 92 => ⟨S_, .i32⟩
  | 93 => ⟨S1, .i32⟩
  | 94 => ⟨S_, .i32⟩
  | 95 => ⟨S1, .i32⟩
  | 96 => ⟨S_, .i32⟩
  | 97 => ⟨S2, .i64⟩
  | 98 => ⟨S_, .i64⟩
  | 99 => ⟨S2, .i64⟩
  | 100 => ⟨S2, .i64⟩
  | 101 => ⟨S_, .i64⟩
  | 102 => ⟨S2, .i64⟩
  | 103 => ⟨S2, .i64⟩
  | 104 => ⟨S2, .i32⟩
  | 105 => ⟨S2, .i32⟩
  | 106 => ⟨S_, .i32⟩
  | 107 => ⟨S_, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S8x1024x1024, .f32⟩

abbrev hbmTy0_24 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S8x1024x1024, .f32⟩

abbrev hbmTy0_25 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2x1, .i32⟩
  | 73 => ⟨S2x1, .i32⟩
  | 74 => ⟨S2x2, .i32⟩
  | 75 => ⟨S1x2, .i32⟩
  | 76 => ⟨S2, .i32⟩
  | 77 => ⟨S1x2, .i32⟩
  | 78 => ⟨S2, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x1024x1024, .f32⟩
  | 101 => ⟨S1024x1024, .f32⟩
  | 102 => ⟨S_, .f32⟩
  | 103 => ⟨S_, .f32⟩
  | 104 => ⟨S_, .f32⟩
  | 105 => ⟨S1x1, .f32⟩
  | 106 => ⟨S1x1, .f32⟩
  | 107 => ⟨S1, .i32⟩
  | 108 => ⟨S_, .i32⟩
  | 109 => ⟨S1, .i32⟩
  | 110 => ⟨S_, .i32⟩
  | 111 => ⟨S1024x1024, .i64⟩
  | 112 => ⟨S1024x1024, .i64⟩
  | 113 => ⟨S_, .i64⟩
  | 114 => ⟨S1024x1024, .i64⟩
  | 115 => ⟨S1024x1024, .i64⟩
  | 116 => ⟨S_, .i64⟩
  | 117 => ⟨S1024x1024, .i64⟩
  | 118 => ⟨S1024x1024, .i64⟩
  | 119 => ⟨S1024x1024, .i64⟩
  | 120 => ⟨S_, .i64⟩
  | 121 => ⟨S1024x1024, .i64⟩
  | 122 => ⟨S1024x1024, .i64⟩
  | 123 => ⟨S1024x1024, .i32⟩
  | 124 => ⟨S1024x1024, .i32⟩
  | 125 => ⟨S_, .i32⟩
  | 126 => ⟨S_, .i32⟩
  | 127 => ⟨S_, .i32⟩
  | _ => ⟨S8x1024x1024, .f32⟩

abbrev hbmTy0_26 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S_, .i32⟩
  | 9 => ⟨S1024x1024, .i32⟩
  | 10 => ⟨S1024x1024, .i32⟩
  | 11 => ⟨S1024x1024, .i32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S1024x1024, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S1024x1024, .i32⟩
  | 39 => ⟨S1024x1024, .i32⟩
  | 40 => ⟨S1024x1024, .i32⟩
  | 41 => ⟨S1024x1024, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S1024x1024, .i32⟩
  | 48 => ⟨S_, .i32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S1024x1024, .i32⟩
  | 55 => ⟨S1024x1024, .i32⟩
  | 56 => ⟨S1024x1024, .i32⟩
  | 57 => ⟨S_, .i32⟩
  | 58 => ⟨S1024x1024, .i32⟩
  | 59 => ⟨S1024x1024, .i32⟩
  | 60 => ⟨S_, .i32⟩
  | 61 => ⟨S1024x1024, .i32⟩
  | 62 => ⟨S1024x1024, .i32⟩
  | 63 => ⟨S1024x1024, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S1024x1024, .i32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S_, .i32⟩
  | 79 => ⟨S1024x1024, .i32⟩
  | 80 => ⟨S1024x1024, .i32⟩
  | 81 => ⟨S1024x1024, .i32⟩
  | 82 => ⟨S1024x1024, .i32⟩
  | 83 => ⟨S1024x1024, .i32⟩
  | 84 => ⟨S1024x1024, .i32⟩
  | 85 => ⟨S1024x1024, .i32⟩
  | 86 => ⟨S1024x1024, .i32⟩
  | 87 => ⟨S_, .i32⟩
  | 88 => ⟨S1024x1024, .i32⟩
  | 89 => ⟨S1024x1024, .i32⟩
  | 90 => ⟨S1024x1024, .i32⟩
  | 91 => ⟨S_, .i32⟩
  | 92 => ⟨S1024x1024, .i32⟩
  | 93 => ⟨S1024x1024, .i32⟩
  | 94 => ⟨S_, .i32⟩
  | 95 => ⟨S1024x1024, .i32⟩
  | 96 => ⟨S1024x1024, .i32⟩
  | 97 => ⟨S1024x1024, .i32⟩
  | 98 => ⟨S1024x1024, .i32⟩
  | 99 => ⟨S1024x1024, .i32⟩
  | 100 => ⟨S_, .i32⟩
  | 101 => ⟨S1024x1024, .i32⟩
  | 102 => ⟨S1024x1024, .i32⟩
  | 103 => ⟨S_, .i32⟩
  | 104 => ⟨S1024x1024, .i32⟩
  | 105 => ⟨S1024x1024, .i32⟩
  | 106 => ⟨S1024x1024, .i32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S_, .i32⟩
  | 113 => ⟨S1024x1024, .i32⟩
  | 114 => ⟨S1024x1024, .i32⟩
  | 115 => ⟨S1024x1024, .i32⟩
  | 116 => ⟨S1024x1024, .i32⟩
  | 117 => ⟨S1024x1024, .i32⟩
  | 118 => ⟨S_, .i32⟩
  | 119 => ⟨S1024x1024, .i32⟩
  | 120 => ⟨S1024x1024, .i32⟩
  | 121 => ⟨S_, .i32⟩
  | 122 => ⟨S1024x1024, .i32⟩
  | 123 => ⟨S1024x1024, .i32⟩
  | 124 => ⟨S1024x1024, .i32⟩
  | 125 => ⟨S1024x1024, .i32⟩
  | 126 => ⟨S1024x1024, .i32⟩
  | 127 => ⟨S1024x1024, .i32⟩
  | _ => ⟨S8x1024x1024, .f32⟩

abbrev hbmTy0_27 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S_, .i32⟩
  | 10 => ⟨S1024x1024, .i32⟩
  | 11 => ⟨S1024x1024, .i32⟩
  | 12 => ⟨S1024x1024, .i32⟩
  | 13 => ⟨S1024x1024, .i32⟩
  | 14 => ⟨S1024x1024, .i32⟩
  | 15 => ⟨S_, .i32⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S1024x1024, .i32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S_, .i32⟩
  | 28 => ⟨S1024x1024, .i32⟩
  | 29 => ⟨S1024x1024, .i32⟩
  | 30 => ⟨S1024x1024, .i32⟩
  | 31 => ⟨S1024x1024, .i32⟩
  | 32 => ⟨S1024x1024, .i32⟩
  | 33 => ⟨S_, .i32⟩
  | 34 => ⟨S1024x1024, .i32⟩
  | 35 => ⟨S1024x1024, .i32⟩
  | 36 => ⟨S_, .i32⟩
  | 37 => ⟨S1024x1024, .i32⟩
  | 38 => ⟨S1024x1024, .i32⟩
  | 39 => ⟨S1024x1024, .i32⟩
  | 40 => ⟨S1024x1024, .i32⟩
  | 41 => ⟨S1024x1024, .i32⟩
  | 42 => ⟨S1024x1024, .i32⟩
  | 43 => ⟨S1024x1024, .i32⟩
  | 44 => ⟨S1024x1024, .i32⟩
  | 45 => ⟨S_, .i32⟩
  | 46 => ⟨S1024x1024, .i32⟩
  | 47 => ⟨S1024x1024, .i32⟩
  | 48 => ⟨S1024x1024, .i32⟩
  | 49 => ⟨S_, .i32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S1024x1024, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S1024x1024, .i32⟩
  | 65 => ⟨S1024x1024, .i32⟩
  | 66 => ⟨S1024x1024, .i32⟩
  | 67 => ⟨S_, .i32⟩
  | 68 => ⟨S1024x1024, .i32⟩
  | 69 => ⟨S1024x1024, .i32⟩
  | 70 => ⟨S_, .i32⟩
  | 71 => ⟨S1024x1024, .i32⟩
  | 72 => ⟨S1024x1024, .i32⟩
  | 73 => ⟨S1024x1024, .i32⟩
  | 74 => ⟨S1024x1024, .i32⟩
  | 75 => ⟨S1024x1024, .i32⟩
  | 76 => ⟨S_, .i32⟩
  | 77 => ⟨S1024x1024, .i32⟩
  | 78 => ⟨S1024x1024, .i32⟩
  | 79 => ⟨S_, .i32⟩
  | 80 => ⟨S1024x1024, .i32⟩
  | 81 => ⟨S1024x1024, .i32⟩
  | 82 => ⟨S1024x1024, .i32⟩
  | 83 => ⟨S1024x1024, .i32⟩
  | 84 => ⟨S1024x1024, .i32⟩
  | 85 => ⟨S1024x1024, .i32⟩
  | 86 => ⟨S1024x1024, .i32⟩
  | 87 => ⟨S1024x1024, .i32⟩
  | 88 => ⟨S_, .i32⟩
  | 89 => ⟨S1024x1024, .i32⟩
  | 90 => ⟨S1024x1024, .i32⟩
  | 91 => ⟨S1024x1024, .i32⟩
  | 92 => ⟨S_, .i32⟩
  | 93 => ⟨S1024x1024, .i32⟩
  | 94 => ⟨S1024x1024, .i32⟩
  | 95 => ⟨S_, .i32⟩
  | 96 => ⟨S1024x1024, .i32⟩
  | 97 => ⟨S1024x1024, .i32⟩
  | 98 => ⟨S1024x1024, .f32⟩
  | 99 => ⟨S_, .f32⟩
  | 100 => ⟨S1024x1024, .f32⟩
  | 101 => ⟨S1024x1024, .f32⟩
  | 102 => ⟨S1x1, .f32⟩
  | 103 => ⟨S1024x1024, .f32⟩
  | 104 => ⟨S1024x1024, .f32⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S1024x1024, .f32⟩
  | 114 => ⟨S1024x1024, .i32⟩
  | 115 => ⟨S_, .f32⟩
  | 116 => ⟨S_, .i32⟩
  | 117 => ⟨S1024, .f32⟩
  | 118 => ⟨S1024, .i32⟩
  | 119 => ⟨S1x1024x1024, .f32⟩
  | 120 => ⟨S1024x1024, .f32⟩
  | 121 => ⟨S1x1024x1024, .f32⟩
  | 122 => ⟨S1024x1024, .f32⟩
  | 123 => ⟨S_, .i32⟩
  | 124 => ⟨S1024, .i32⟩
  | 125 => ⟨S1024, .i1⟩
  | 126 => ⟨S_, .i32⟩
  | 127 => ⟨S1024, .i32⟩
  | _ => ⟨S8x1024x1024, .f32⟩

abbrev hbmTy0_28 (i : Nat) : BufTy := match i % 128 with
  | 0 => ⟨S1024, .i32⟩
  | 1 => ⟨S1024, .i32⟩
  | 2 => ⟨S1024x1, .i32⟩
  | 3 => ⟨S1024x1024, .f32⟩
  | 4 => ⟨S1024, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024, .i32⟩
  | 25 => ⟨S1024x1, .i32⟩
  | 26 => ⟨S1024x1, .i32⟩
  | 27 => ⟨S1024x1, .i32⟩
  | 28 => ⟨S1024x3, .i32⟩
  | 29 => ⟨S32x1024x1024, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1024x1024, .f32⟩
  | 52 => ⟨S1024x1024, .f32⟩
  | 53 => ⟨S1x1024x1024, .f32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S2, .i64⟩
  | 61 => ⟨S_, .i64⟩
  | 62 => ⟨S2, .i64⟩
  | 63 => ⟨S2, .i64⟩
  | 64 => ⟨S_, .i64⟩
  | 65 => ⟨S2, .i64⟩
  | 66 => ⟨S2, .i64⟩
  | 67 => ⟨S2, .i32⟩
  | 68 => ⟨S2, .i32⟩
  | 69 => ⟨S_, .i32⟩
  | 70 => ⟨S_, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S8x1024x1024, .f32⟩

abbrev hbmTy0_29 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S8x1024x1024, .f32⟩

abbrev hbmTy0_30 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2x1, .i32⟩
  | 36 => ⟨S2x1, .i32⟩
  | 37 => ⟨S2x2, .i32⟩
  | 38 => ⟨S1x2, .i32⟩
  | 39 => ⟨S2, .i32⟩
  | 40 => ⟨S1x2, .i32⟩
  | 41 => ⟨S2, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S1x1024x1024, .f32⟩
  | 64 => ⟨S1024x1024, .f32⟩
  | 65 => ⟨S_, .f32⟩
  | 66 => ⟨S_, .f32⟩
  | 67 => ⟨S_, .f32⟩
  | 68 => ⟨S1x1, .f32⟩
  | 69 => ⟨S1x1, .f32⟩
  | 70 => ⟨S1, .i32⟩
  | 71 => ⟨S_, .i32⟩
  | 72 => ⟨S1, .i32⟩
  | 73 => ⟨S_, .i32⟩
  | 74 => ⟨S1024x1024, .i64⟩
  | 75 => ⟨S1024x1024, .i64⟩
  | 76 => ⟨S_, .i64⟩
  | 77 => ⟨S1024x1024, .i64⟩
  | 78 => ⟨S1024x1024, .i64⟩
  | 79 => ⟨S_, .i64⟩
  | 80 => ⟨S1024x1024, .i64⟩
  | 81 => ⟨S1024x1024, .i64⟩
  | 82 => ⟨S1024x1024, .i64⟩
  | 83 => ⟨S_, .i64⟩
  | 84 => ⟨S1024x1024, .i64⟩
  | 85 => ⟨S1024x1024, .i64⟩
  | 86 => ⟨S1024x1024, .i32⟩
  | 87 => ⟨S1024x1024, .i32⟩
  | 88 => ⟨S_, .i32⟩
  | 89 => ⟨S_, .i32⟩
  | 90 => ⟨S_, .i32⟩
  | 91 => ⟨S1024x1024, .i32⟩
  | 92 => ⟨S1024x1024, .i32⟩
  | 93 => ⟨S1024x1024, .i32⟩
  | 94 => ⟨S1024x1024, .i32⟩
  | 95 => ⟨S1024x1024, .i32⟩
  | 96 => ⟨S_, .i32⟩
  | 97 => ⟨S1024x1024, .i32⟩
  | 98 => ⟨S1024x1024, .i32⟩
  | 99 => ⟨S_, .i32⟩
  | 100 => ⟨S1024x1024, .i32⟩
  | 101 => ⟨S1024x1024, .i32⟩
  | 102 => ⟨S1024x1024, .i32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S_, .i32⟩
  | 109 => ⟨S1024x1024, .i32⟩
  | 110 => ⟨S1024x1024, .i32⟩
  | 111 => ⟨S1024x1024, .i32⟩
  | 112 => ⟨S1024x1024, .i32⟩
  | 113 => ⟨S1024x1024, .i32⟩
  | 114 => ⟨S_, .i32⟩
  | 115 => ⟨S1024x1024, .i32⟩
  | 116 => ⟨S1024x1024, .i32⟩
  | 117 => ⟨S_, .i32⟩
  | 118 => ⟨S1024x1024, .i32⟩
  | 119 => ⟨S1024x1024, .i32⟩
  | 120 => ⟨S1024x1024, .i32⟩
  | 121 => ⟨S1024x1024, .i32⟩
  | 122 => ⟨S1024x1024, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S8x1024x1024, .f32⟩

abbrev hbmTy0_31 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S1024x1024, .i32⟩
  | 11 => ⟨S_, .i32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S1024x1024, .i32⟩
  | 18 => ⟨S1024x1024, .i32⟩
  | 19 => ⟨S1024x1024, .i32⟩
  | 20 => ⟨S_, .i32⟩
  | 21 => ⟨S1024x1024, .i32⟩
  | 22 => ⟨S1024x1024, .i32⟩
  | 23 => ⟨S_, .i32⟩
  | 24 => ⟨S1024x1024, .i32⟩
  | 25 => ⟨S1024x1024, .i32⟩
  | 26 => ⟨S1024x1024, .i32⟩
  | 27 => ⟨S1024x1024, .i32⟩
  | 28 => ⟨S1024x1024, .i32⟩
  | 29 => ⟨S_, .i32⟩
  | 30 => ⟨S1024x1024, .i32⟩
  | 31 => ⟨S1024x1024, .i32⟩
  | 32 => ⟨S_, .i32⟩
  | 33 => ⟨S1024x1024, .i32⟩
  | 34 => ⟨S1024x1024, .i32⟩
  | 35 => ⟨S1024x1024, .i32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S1024x1024, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S_, .i32⟩
  | 51 => ⟨S1024x1024, .i32⟩
  | 52 => ⟨S1024x1024, .i32⟩
  | 53 => ⟨S1024x1024, .i32⟩
  | 54 => ⟨S_, .i32⟩
  | 55 => ⟨S1024x1024, .i32⟩
  | 56 => ⟨S1024x1024, .i32⟩
  | 57 => ⟨S_, .i32⟩
  | 58 => ⟨S1024x1024, .i32⟩
  | 59 => ⟨S1024x1024, .i32⟩
  | 60 => ⟨S1024x1024, .i32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S1024x1024, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S_, .i32⟩
  | 76 => ⟨S1024x1024, .i32⟩
  | 77 => ⟨S1024x1024, .i32⟩
  | 78 => ⟨S1024x1024, .i32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S_, .i32⟩
  | 85 => ⟨S1024x1024, .i32⟩
  | 86 => ⟨S1024x1024, .i32⟩
  | 87 => ⟨S1024x1024, .i32⟩
  | 88 => ⟨S1024x1024, .i32⟩
  | 89 => ⟨S1024x1024, .i32⟩
  | 90 => ⟨S1024x1024, .i32⟩
  | 91 => ⟨S1024x1024, .i32⟩
  | 92 => ⟨S1024x1024, .i32⟩
  | 93 => ⟨S_, .i32⟩
  | 94 => ⟨S1024x1024, .i32⟩
  | 95 => ⟨S1024x1024, .i32⟩
  | 96 => ⟨S1024x1024, .i32⟩
  | 97 => ⟨S_, .i32⟩
  | 98 => ⟨S1024x1024, .i32⟩
  | 99 => ⟨S1024x1024, .i32⟩
  | 100 => ⟨S_, .i32⟩
  | 101 => ⟨S1024x1024, .i32⟩
  | 102 => ⟨S1024x1024, .i32⟩
  | 103 => ⟨S1024x1024, .i32⟩
  | 104 => ⟨S1024x1024, .i32⟩
  | 105 => ⟨S1024x1024, .i32⟩
  | 106 => ⟨S_, .i32⟩
  | 107 => ⟨S1024x1024, .i32⟩
  | 108 => ⟨S1024x1024, .i32⟩
  | 109 => ⟨S_, .i32⟩
  | 110 => ⟨S1024x1024, .i32⟩
  | 111 => ⟨S1024x1024, .i32⟩
  | 112 => ⟨S1024x1024, .i32⟩
  | 113 => ⟨S1024x1024, .i32⟩
  | 114 => ⟨S1024x1024, .i32⟩
  | 115 => ⟨S_, .i32⟩
  | 116 => ⟨S1024x1024, .i32⟩
  | 117 => ⟨S1024x1024, .i32⟩
  | 118 => ⟨S_, .i32⟩
  | 119 => ⟨S1024x1024, .i32⟩
  | 120 => ⟨S1024x1024, .i32⟩
  | 121 => ⟨S1024x1024, .i32⟩
  | 122 => ⟨S1024x1024, .i32⟩
  | 123 => ⟨S1024x1024, .i32⟩
  | 124 => ⟨S_, .i32⟩
  | 125 => ⟨S1024x1024, .i32⟩
  | 126 => ⟨S1024x1024, .i32⟩
  | 127 => ⟨S_, .i32⟩
  | _ => ⟨S8x1024x1024, .f32⟩

abbrev hbmTy0_32 (i : Nat) : BufTy := match i % 128 with
  | 0 => ⟨S1024x1024, .i32⟩
  | 1 => ⟨S1024x1024, .i32⟩
  | 2 => ⟨S1024x1024, .i32⟩
  | 3 => ⟨S1024x1024, .i32⟩
  | 4 => ⟨S1024x1024, .i32⟩
  | 5 => ⟨S1024x1024, .i32⟩
  | 6 => ⟨S1024x1024, .i32⟩
  | 7 => ⟨S1024x1024, .i32⟩
  | 8 => ⟨S_, .i32⟩
  | 9 => ⟨S1024x1024, .i32⟩
  | 10 => ⟨S1024x1024, .i32⟩
  | 11 => ⟨S1024x1024, .i32⟩
  | 12 => ⟨S_, .i32⟩
  | 13 => ⟨S1024x1024, .i32⟩
  | 14 => ⟨S1024x1024, .i32⟩
  | 15 => ⟨S_, .i32⟩
  | 16 => ⟨S1024x1024, .i32⟩
  | 17 => ⟨S1024x1024, .i32⟩
  | 18 => ⟨S1024x1024, .i32⟩
  | 19 => ⟨S1024x1024, .i32⟩
  | 20 => ⟨S1024x1024, .i32⟩
  | 21 => ⟨S_, .i32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i32⟩
  | 28 => ⟨S1024x1024, .i32⟩
  | 29 => ⟨S1024x1024, .i32⟩
  | 30 => ⟨S_, .i32⟩
  | 31 => ⟨S1024x1024, .i32⟩
  | 32 => ⟨S1024x1024, .i32⟩
  | 33 => ⟨S_, .i32⟩
  | 34 => ⟨S1024x1024, .i32⟩
  | 35 => ⟨S1024x1024, .i32⟩
  | 36 => ⟨S1024x1024, .i32⟩
  | 37 => ⟨S1024x1024, .i32⟩
  | 38 => ⟨S1024x1024, .i32⟩
  | 39 => ⟨S_, .i32⟩
  | 40 => ⟨S1024x1024, .i32⟩
  | 41 => ⟨S1024x1024, .i32⟩
  | 42 => ⟨S_, .i32⟩
  | 43 => ⟨S1024x1024, .i32⟩
  | 44 => ⟨S1024x1024, .i32⟩
  | 45 => ⟨S1024x1024, .i32⟩
  | 46 => ⟨S1024x1024, .i32⟩
  | 47 => ⟨S1024x1024, .i32⟩
  | 48 => ⟨S1024x1024, .i32⟩
  | 49 => ⟨S1024x1024, .i32⟩
  | 50 => ⟨S1024x1024, .i32⟩
  | 51 => ⟨S_, .i32⟩
  | 52 => ⟨S1024x1024, .i32⟩
  | 53 => ⟨S1024x1024, .i32⟩
  | 54 => ⟨S1024x1024, .i32⟩
  | 55 => ⟨S_, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S1024x1024, .f32⟩
  | 62 => ⟨S_, .f32⟩
  | 63 => ⟨S1024x1024, .f32⟩
  | 64 => ⟨S1024x1024, .f32⟩
  | 65 => ⟨S1x1, .f32⟩
  | 66 => ⟨S1024x1024, .f32⟩
  | 67 => ⟨S1024x1024, .f32⟩
  | 68 => ⟨S1024x1024, .f32⟩
  | 69 => ⟨S1024x1024, .f32⟩
  | 70 => ⟨S1024x1024, .f32⟩
  | 71 => ⟨S1024x1024, .f32⟩
  | 72 => ⟨S1024x1024, .f32⟩
  | 73 => ⟨S1024x1024, .f32⟩
  | 74 => ⟨S1024x1024, .f32⟩
  | 75 => ⟨S1024x1024, .f32⟩
  | 76 => ⟨S1024x1024, .f32⟩
  | 77 => ⟨S1024x1024, .i32⟩
  | 78 => ⟨S_, .f32⟩
  | 79 => ⟨S_, .i32⟩
  | 80 => ⟨S1024, .f32⟩
  | 81 => ⟨S1024, .i32⟩
  | 82 => ⟨S1x1024x1024, .f32⟩
  | 83 => ⟨S1024x1024, .f32⟩
  | 84 => ⟨S1x1024x1024, .f32⟩
  | 85 => ⟨S1024x1024, .f32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S1024x1024, .f32⟩
  | 95 => ⟨S1024, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S1024, .i32⟩
  | 116 => ⟨S1024x1, .i32⟩
  | 117 => ⟨S1024x1, .i32⟩
  | 118 => ⟨S1024x1, .i32⟩
  | 119 => ⟨S1024x3, .i32⟩
  | 120 => ⟨S32x1024x1024, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8x1024x1024, .f32⟩

abbrev hbmTy0_33 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S1x1024x1024, .f32⟩
  | 15 => ⟨S1024x1024, .f32⟩
  | 16 => ⟨S1x1024x1024, .f32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S2, .i64⟩
  | 24 => ⟨S_, .i64⟩
  | 25 => ⟨S2, .i64⟩
  | 26 => ⟨S2, .i64⟩
  | 27 => ⟨S_, .i64⟩
  | 28 => ⟨S2, .i64⟩
  | 29 => ⟨S2, .i64⟩
  | 30 => ⟨S2, .i32⟩
  | 31 => ⟨S2, .i32⟩
  | 32 => ⟨S_, .i32⟩
  | 33 => ⟨S_, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S_, .i32⟩
  | 127 => ⟨S2, .i32⟩
  | _ => ⟨S8x1024x1024, .f32⟩

abbrev hbmTy0_34 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2x1, .i32⟩
  | 127 => ⟨S2x1, .i32⟩
  | _ => ⟨S8x1024x1024, .f32⟩

abbrev hbmTy0_35 (i : Nat) : BufTy := match i % 128 with
  | 0 => ⟨S2x2, .i32⟩
  | 1 => ⟨S1x2, .i32⟩
  | 2 => ⟨S2, .i32⟩
  | 3 => ⟨S1x2, .i32⟩
  | 4 => ⟨S2, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x1024x1024, .f32⟩
  | 27 => ⟨S1024x1024, .f32⟩
  | 28 => ⟨S_, .f32⟩
  | 29 => ⟨S_, .f32⟩
  | 30 => ⟨S_, .f32⟩
  | 31 => ⟨S1x1, .f32⟩
  | 32 => ⟨S1x1, .f32⟩
  | 33 => ⟨S1, .i32⟩
  | 34 => ⟨S_, .i32⟩
  | 35 => ⟨S1, .i32⟩
  | 36 => ⟨S_, .i32⟩
  | 37 => ⟨S1024x1024, .i64⟩
  | 38 => ⟨S1024x1024, .i64⟩
  | 39 => ⟨S_, .i64⟩
  | 40 => ⟨S1024x1024, .i64⟩
  | 41 => ⟨S1024x1024, .i64⟩
  | 42 => ⟨S_, .i64⟩
  | 43 => ⟨S1024x1024, .i64⟩
  | 44 => ⟨S1024x1024, .i64⟩
  | 45 => ⟨S1024x1024, .i64⟩
  | 46 => ⟨S_, .i64⟩
  | 47 => ⟨S1024x1024, .i64⟩
  | 48 => ⟨S1024x1024, .i64⟩
  | 49 => ⟨S1024x1024, .i32⟩
  | 50 => ⟨S1024x1024, .i32⟩
  | 51 => ⟨S_, .i32⟩
  | 52 => ⟨S_, .i32⟩
  | 53 => ⟨S_, .i32⟩
  | 54 => ⟨S1024x1024, .i32⟩
  | 55 => ⟨S1024x1024, .i32⟩
  | 56 => ⟨S1024x1024, .i32⟩
  | 57 => ⟨S1024x1024, .i32⟩
  | 58 => ⟨S1024x1024, .i32⟩
  | 59 => ⟨S_, .i32⟩
  | 60 => ⟨S1024x1024, .i32⟩
  | 61 => ⟨S1024x1024, .i32⟩
  | 62 => ⟨S_, .i32⟩
  | 63 => ⟨S1024x1024, .i32⟩
  | 64 => ⟨S1024x1024, .i32⟩
  | 65 => ⟨S1024x1024, .i32⟩
  | 66 => ⟨S1024x1024, .i32⟩
  | 67 => ⟨S1024x1024, .i32⟩
  | 68 => ⟨S_, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S1024x1024, .i32⟩
  | 75 => ⟨S1024x1024, .i32⟩
  | 76 => ⟨S1024x1024, .i32⟩
  | 77 => ⟨S_, .i32⟩
  | 78 => ⟨S1024x1024, .i32⟩
  | 79 => ⟨S1024x1024, .i32⟩
  | 80 => ⟨S_, .i32⟩
  | 81 => ⟨S1024x1024, .i32⟩
  | 82 => ⟨S1024x1024, .i32⟩
  | 83 => ⟨S1024x1024, .i32⟩
  | 84 => ⟨S1024x1024, .i32⟩
  | 85 => ⟨S1024x1024, .i32⟩
  | 86 => ⟨S_, .i32⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S1024x1024, .i32⟩
  | 93 => ⟨S1024x1024, .i32⟩
  | 94 => ⟨S1024x1024, .i32⟩
  | 95 => ⟨S1024x1024, .i32⟩
  | 96 => ⟨S1024x1024, .i32⟩
  | 97 => ⟨S1024x1024, .i32⟩
  | 98 => ⟨S_, .i32⟩
  | 99 => ⟨S1024x1024, .i32⟩
  | 100 => ⟨S1024x1024, .i32⟩
  | 101 => ⟨S1024x1024, .i32⟩
  | 102 => ⟨S_, .i32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S1024x1024, .i32⟩
  | 109 => ⟨S1024x1024, .i32⟩
  | 110 => ⟨S1024x1024, .i32⟩
  | 111 => ⟨S_, .i32⟩
  | 112 => ⟨S1024x1024, .i32⟩
  | 113 => ⟨S1024x1024, .i32⟩
  | 114 => ⟨S_, .i32⟩
  | 115 => ⟨S1024x1024, .i32⟩
  | 116 => ⟨S1024x1024, .i32⟩
  | 117 => ⟨S1024x1024, .i32⟩
  | 118 => ⟨S1024x1024, .i32⟩
  | 119 => ⟨S1024x1024, .i32⟩
  | 120 => ⟨S_, .i32⟩
  | 121 => ⟨S1024x1024, .i32⟩
  | 122 => ⟨S1024x1024, .i32⟩
  | 123 => ⟨S_, .i32⟩
  | 124 => ⟨S1024x1024, .i32⟩
  | 125 => ⟨S1024x1024, .i32⟩
  | 126 => ⟨S1024x1024, .i32⟩
  | 127 => ⟨S1024x1024, .i32⟩
  | _ => ⟨S8x1024x1024, .f32⟩

abbrev hbmTy0_36 (i : Nat) : BufTy := match i % 128 with
  | 0 => ⟨S1024x1024, .i32⟩
  | 1 => ⟨S_, .i32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i32⟩
  | 8 => ⟨S1024x1024, .i32⟩
  | 9 => ⟨S1024x1024, .i32⟩
  | 10 => ⟨S1024x1024, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i32⟩
  | 17 => ⟨S_, .i32⟩
  | 18 => ⟨S1024x1024, .i32⟩
  | 19 => ⟨S1024x1024, .i32⟩
  | 20 => ⟨S_, .i32⟩
  | 21 => ⟨S1024x1024, .i32⟩
  | 22 => ⟨S1024x1024, .i32⟩
  | 23 => ⟨S1024x1024, .i32⟩
  | 24 => ⟨S1024x1024, .i32⟩
  | 25 => ⟨S1024x1024, .i32⟩
  | 26 => ⟨S_, .i32⟩
  | 27 => ⟨S1024x1024, .i32⟩
  | 28 => ⟨S1024x1024, .i32⟩
  | 29 => ⟨S_, .i32⟩
  | 30 => ⟨S1024x1024, .i32⟩
  | 31 => ⟨S1024x1024, .i32⟩
  | 32 => ⟨S1024x1024, .i32⟩
  | 33 => ⟨S1024x1024, .i32⟩
  | 34 => ⟨S1024x1024, .i32⟩
  | 35 => ⟨S_, .i32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S1024x1024, .i32⟩
  | 42 => ⟨S1024x1024, .i32⟩
  | 43 => ⟨S1024x1024, .i32⟩
  | 44 => ⟨S_, .i32⟩
  | 45 => ⟨S1024x1024, .i32⟩
  | 46 => ⟨S1024x1024, .i32⟩
  | 47 => ⟨S_, .i32⟩
  | 48 => ⟨S1024x1024, .i32⟩
  | 49 => ⟨S1024x1024, .i32⟩
  | 50 => ⟨S1024x1024, .i32⟩
  | 51 => ⟨S1024x1024, .i32⟩
  | 52 => ⟨S1024x1024, .i32⟩
  | 53 => ⟨S1024x1024, .i32⟩
  | 54 => ⟨S1024x1024, .i32⟩
  | 55 => ⟨S1024x1024, .i32⟩
  | 56 => ⟨S_, .i32⟩
  | 57 => ⟨S1024x1024, .i32⟩
  | 58 => ⟨S1024x1024, .i32⟩
  | 59 => ⟨S1024x1024, .i32⟩
  | 60 => ⟨S_, .i32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S1024x1024, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S1024x1024, .i32⟩
  | 76 => ⟨S1024x1024, .i32⟩
  | 77 => ⟨S1024x1024, .i32⟩
  | 78 => ⟨S_, .i32⟩
  | 79 => ⟨S1024x1024, .i32⟩
  | 80 => ⟨S1024x1024, .i32⟩
  | 81 => ⟨S_, .i32⟩
  | 82 => ⟨S1024x1024, .i32⟩
  | 83 => ⟨S1024x1024, .i32⟩
  | 84 => ⟨S1024x1024, .i32⟩
  | 85 => ⟨S1024x1024, .i32⟩
  | 86 => ⟨S1024x1024, .i32⟩
  | 87 => ⟨S_, .i32⟩
  | 88 => ⟨S1024x1024, .i32⟩
  | 89 => ⟨S1024x1024, .i32⟩
  | 90 => ⟨S_, .i32⟩
  | 91 => ⟨S1024x1024, .i32⟩
  | 92 => ⟨S1024x1024, .i32⟩
  | 93 => ⟨S1024x1024, .i32⟩
  | 94 => ⟨S1024x1024, .i32⟩
  | 95 => ⟨S1024x1024, .i32⟩
  | 96 => ⟨S1024x1024, .i32⟩
  | 97 => ⟨S1024x1024, .i32⟩
  | 98 => ⟨S1024x1024, .i32⟩
  | 99 => ⟨S_, .i32⟩
  | 100 => ⟨S1024x1024, .i32⟩
  | 101 => ⟨S1024x1024, .i32⟩
  | 102 => ⟨S1024x1024, .i32⟩
  | 103 => ⟨S_, .i32⟩
  | 104 => ⟨S1024x1024, .i32⟩
  | 105 => ⟨S1024x1024, .i32⟩
  | 106 => ⟨S_, .i32⟩
  | 107 => ⟨S1024x1024, .i32⟩
  | 108 => ⟨S1024x1024, .i32⟩
  | 109 => ⟨S1024x1024, .i32⟩
  | 110 => ⟨S1024x1024, .i32⟩
  | 111 => ⟨S1024x1024, .i32⟩
  | 112 => ⟨S_, .i32⟩
  | 113 => ⟨S1024x1024, .i32⟩
  | 114 => ⟨S1024x1024, .i32⟩
  | 115 => ⟨S_, .i32⟩
  | 116 => ⟨S1024x1024, .i32⟩
  | 117 => ⟨S1024x1024, .i32⟩
  | 118 => ⟨S1024x1024, .i32⟩
  | 119 => ⟨S1024x1024, .i32⟩
  | 120 => ⟨S1024x1024, .i32⟩
  | 121 => ⟨S_, .i32⟩
  | 122 => ⟨S1024x1024, .i32⟩
  | 123 => ⟨S1024x1024, .i32⟩
  | 124 => ⟨S_, .i32⟩
  | 125 => ⟨S1024x1024, .i32⟩
  | 126 => ⟨S1024x1024, .i32⟩
  | 127 => ⟨S1024x1024, .i32⟩
  | _ => ⟨S8x1024x1024, .f32⟩

abbrev hbmTy0_37 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S1024x1024, .i32⟩
  | 9 => ⟨S1024x1024, .i32⟩
  | 10 => ⟨S1024x1024, .i32⟩
  | 11 => ⟨S1024x1024, .i32⟩
  | 12 => ⟨S1024x1024, .i32⟩
  | 13 => ⟨S1024x1024, .i32⟩
  | 14 => ⟨S_, .i32⟩
  | 15 => ⟨S1024x1024, .i32⟩
  | 16 => ⟨S1024x1024, .i32⟩
  | 17 => ⟨S1024x1024, .i32⟩
  | 18 => ⟨S_, .i32⟩
  | 19 => ⟨S1024x1024, .i32⟩
  | 20 => ⟨S1024x1024, .i32⟩
  | 21 => ⟨S_, .i32⟩
  | 22 => ⟨S1024x1024, .i32⟩
  | 23 => ⟨S1024x1024, .i32⟩
  | 24 => ⟨S1024x1024, .f32⟩
  | 25 => ⟨S_, .f32⟩
  | 26 => ⟨S1024x1024, .f32⟩
  | 27 => ⟨S1024x1024, .f32⟩
  | 28 => ⟨S1x1, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .i32⟩
  | 41 => ⟨S_, .f32⟩
  | 42 => ⟨S_, .i32⟩
  | 43 => ⟨S1024, .f32⟩
  | 44 => ⟨S1024, .i32⟩
  | 45 => ⟨S1x1024x1024, .f32⟩
  | 46 => ⟨S1024x1024, .f32⟩
  | 47 => ⟨S1x1024x1024, .f32⟩
  | 48 => ⟨S1024x1024, .f32⟩
  | 49 => ⟨S_, .i32⟩
  | 50 => ⟨S1024, .i32⟩
  | 51 => ⟨S1024, .i1⟩
  | 52 => ⟨S_, .i32⟩
  | 53 => ⟨S1024, .i32⟩
  | 54 => ⟨S1024, .i32⟩
  | 55 => ⟨S1024, .i32⟩
  | 56 => ⟨S1024x1, .i32⟩
  | 57 => ⟨S1024x1024, .f32⟩
  | 58 => ⟨S1024, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024, .i32⟩
  | 79 => ⟨S1024x1, .i32⟩
  | 80 => ⟨S1024x1, .i32⟩
  | 81 => ⟨S1024x1, .i32⟩
  | 82 => ⟨S1024x3, .i32⟩
  | 83 => ⟨S32x1024x1024, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x1024x1024, .f32⟩
  | 106 => ⟨S1024x1024, .f32⟩
  | 107 => ⟨S1x1024x1024, .f32⟩
  | 108 => ⟨S8x1024x1024, .f32⟩
  | 109 => ⟨S_, .f32⟩
  | 110 => ⟨S8x1024, .f32⟩
  | 111 => ⟨S_, .f32⟩
  | 112 => ⟨S8x1024, .f32⟩
  | 113 => ⟨S8x1024, .f32⟩
  | 114 => ⟨S8x1024x1, .f32⟩
  | 115 => ⟨S8x1024x1024, .f32⟩
  | 116 => ⟨S8x1024x1024, .f32⟩
  | 117 => ⟨S8x1024x1024, .f32⟩
  | 118 => ⟨S_, .f32⟩
  | 119 => ⟨S8x1024, .f32⟩
  | 120 => ⟨S8x1024x1, .f32⟩
  | 121 => ⟨S8x1024x1024, .f32⟩
  | 122 => ⟨S8x1024x1024, .f32⟩
  | 123 => ⟨S_, .f32⟩
  | 124 => ⟨S8x1024, .f32⟩
  | 125 => ⟨S8x1024x1, .f32⟩
  | 126 => ⟨S_, .f32⟩
  | 127 => ⟨S8x1024, .f32⟩
  | _ => ⟨S8x1024x1024, .f32⟩

abbrev hbmTy0_38 (i : Nat) : BufTy := match i % 128 with
  | 0 => ⟨S8x1x1024, .f32⟩
  | 1 => ⟨S8x1024x1024, .f32⟩
  | 2 => ⟨S8x1024x1024, .f32⟩
  | 3 => ⟨S8x1024x1024, .f32⟩
  | _ => ⟨S8x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c : Ref sig .tc := ⟨.hbm, 27, rfl⟩
abbrev main_call0_v5 : Ref sig .tc := ⟨.hbm, 28, rfl⟩
abbrev main_call0_v6 : Ref sig .tc := ⟨.hbm, 29, rfl⟩
abbrev main_call0_c_0 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v11_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v11_1 : Ref sig .tc := ⟨.hbm, 256, rfl⟩
abbrev main_call0_v12 : Ref sig .tc := ⟨.hbm, 257, rfl⟩
abbrev main_call0_v13 : Ref sig .tc := ⟨.hbm, 258, rfl⟩
abbrev main_v13 : Ref sig .tc := ⟨.hbm, 259, rfl⟩
abbrev main_v14 : Ref sig .tc := ⟨.hbm, 260, rfl⟩
abbrev main_v15 : Ref sig .tc := ⟨.hbm, 261, rfl⟩
abbrev main_v16 : Ref sig .tc := ⟨.hbm, 262, rfl⟩
abbrev main_v17 : Ref sig .tc := ⟨.hbm, 263, rfl⟩
abbrev main_c_2 : Ref sig .tc := ⟨.hbm, 264, rfl⟩
abbrev main_v18 : Ref sig .tc := ⟨.hbm, 265, rfl⟩
abbrev main_c_3 : Ref sig .tc := ⟨.hbm, 266, rfl⟩
abbrev main_v19 : Ref sig .tc := ⟨.hbm, 267, rfl⟩
abbrev main_v20 : Ref sig .tc := ⟨.hbm, 268, rfl⟩
abbrev main_c_4 : Ref sig .tc := ⟨.hbm, 269, rfl⟩
abbrev main_c_5 : Ref sig .tc := ⟨.hbm, 270, rfl⟩
abbrev main_v21 : Ref sig .tc := ⟨.hbm, 271, rfl⟩
abbrev main_c_6 : Ref sig .tc := ⟨.hbm, 272, rfl⟩
abbrev main_c_7 : Ref sig .tc := ⟨.hbm, 273, rfl⟩
abbrev main_v22 : Ref sig .tc := ⟨.hbm, 274, rfl⟩
abbrev main_c_8 : Ref sig .tc := ⟨.hbm, 275, rfl⟩
abbrev main_v23 : Ref sig .tc := ⟨.hbm, 276, rfl⟩
abbrev main_c_9 : Ref sig .tc := ⟨.hbm, 277, rfl⟩
abbrev main_c_10 : Ref sig .tc := ⟨.hbm, 278, rfl⟩
abbrev main_v24 : Ref sig .tc := ⟨.hbm, 279, rfl⟩
abbrev main_c_11 : Ref sig .tc := ⟨.hbm, 280, rfl⟩
abbrev main_c_12 : Ref sig .tc := ⟨.hbm, 281, rfl⟩
abbrev main_v25 : Ref sig .tc := ⟨.hbm, 282, rfl⟩
abbrev main_c_13 : Ref sig .tc := ⟨.hbm, 283, rfl⟩
abbrev main_v26 : Ref sig .tc := ⟨.hbm, 284, rfl⟩
abbrev main_v27 : Ref sig .tc := ⟨.hbm, 285, rfl⟩
abbrev main_v28 : Ref sig .tc := ⟨.hbm, 286, rfl⟩
abbrev main_call1_cst : Ref sig .tc := ⟨.hbm, 287, rfl⟩
abbrev main_call1_cst_0 : Ref sig .tc := ⟨.hbm, 288, rfl⟩
abbrev main_call1_call0_v0 : Ref sig .tc := ⟨.hbm, 289, rfl⟩
abbrev main_call1_call0_v1 : Ref sig .tc := ⟨.hbm, 290, rfl⟩
abbrev main_call1_call0_v2 : Ref sig .tc := ⟨.hbm, 291, rfl⟩
abbrev main_call1_call0_v3 : Ref sig .tc := ⟨.hbm, 292, rfl⟩
abbrev main_call1_call0_v4 : Ref sig .tc := ⟨.hbm, 293, rfl⟩
abbrev main_call1_call0_v5 : Ref sig .tc := ⟨.hbm, 294, rfl⟩
abbrev main_call1_call0_v6 : Ref sig .tc := ⟨.hbm, 295, rfl⟩
abbrev main_call1_call0_v7 : Ref sig .tc := ⟨.hbm, 296, rfl⟩
abbrev main_call1_call0_v8 : Ref sig .tc := ⟨.hbm, 297, rfl⟩
abbrev main_call1_call0_c : Ref sig .tc := ⟨.hbm, 298, rfl⟩
abbrev main_call1_call0_v9 : Ref sig .tc := ⟨.hbm, 299, rfl⟩
abbrev main_call1_call0_v10 : Ref sig .tc := ⟨.hbm, 300, rfl⟩
abbrev main_call1_call0_c_0 : Ref sig .tc := ⟨.hbm, 301, rfl⟩
abbrev main_call1_call0_v11 : Ref sig .tc := ⟨.hbm, 302, rfl⟩
abbrev main_call1_call0_v12 : Ref sig .tc := ⟨.hbm, 303, rfl⟩
abbrev main_call1_call0_v13 : Ref sig .tc := ⟨.hbm, 304, rfl⟩
abbrev main_call1_call0_c_1 : Ref sig .tc := ⟨.hbm, 305, rfl⟩
abbrev main_call1_call0_v14 : Ref sig .tc := ⟨.hbm, 306, rfl⟩
abbrev main_call1_call0_v15 : Ref sig .tc := ⟨.hbm, 307, rfl⟩
abbrev main_call1_call0_v16 : Ref sig .tc := ⟨.hbm, 308, rfl⟩
abbrev main_call1_call0_v17 : Ref sig .tc := ⟨.hbm, 309, rfl⟩
abbrev main_call1_call0_call0_v0 : Ref sig .tc := ⟨.hbm, 310, rfl⟩
abbrev main_call1_call0_call0_c : Ref sig .tc := ⟨.hbm, 311, rfl⟩
abbrev main_call1_call0_call0_v1 : Ref sig .tc := ⟨.hbm, 312, rfl⟩
abbrev main_call1_call0_call0_v2 : Ref sig .tc := ⟨.hbm, 313, rfl⟩
abbrev main_call1_call0_call0_v3 : Ref sig .tc := ⟨.hbm, 314, rfl⟩
abbrev main_call1_call0_call0_v4 : Ref sig .tc := ⟨.hbm, 315, rfl⟩
abbrev main_call1_call0_call0_v5 : Ref sig .tc := ⟨.hbm, 316, rfl⟩
abbrev main_call1_call0_call0_v6 : Ref sig .tc := ⟨.hbm, 317, rfl⟩
abbrev main_call1_call0_call0_c_0 : Ref sig .tc := ⟨.hbm, 318, rfl⟩
abbrev main_call1_call0_call0_v7 : Ref sig .tc := ⟨.hbm, 319, rfl⟩
abbrev main_call1_call0_call0_v8 : Ref sig .tc := ⟨.hbm, 320, rfl⟩
abbrev main_call1_call0_call0_c_1 : Ref sig .tc := ⟨.hbm, 321, rfl⟩
abbrev main_call1_call0_call0_v9 : Ref sig .tc := ⟨.hbm, 322, rfl⟩
abbrev main_call1_call0_call0_v10 : Ref sig .tc := ⟨.hbm, 323, rfl⟩
abbrev main_call1_call0_call0_v11 : Ref sig .tc := ⟨.hbm, 324, rfl⟩
abbrev main_call1_call0_call0_v12 : Ref sig .tc := ⟨.hbm, 325, rfl⟩
abbrev main_call1_call0_call0_v13 : Ref sig .tc := ⟨.hbm, 326, rfl⟩
abbrev main_call1_call0_call0_c_2 : Ref sig .tc := ⟨.hbm, 327, rfl⟩
abbrev main_call1_call0_call0_v14 : Ref sig .tc := ⟨.hbm, 328, rfl⟩
abbrev main_call1_call0_call0_v15 : Ref sig .tc := ⟨.hbm, 329, rfl⟩
abbrev main_call1_call0_call0_c_3 : Ref sig .tc := ⟨.hbm, 330, rfl⟩
abbrev main_call1_call0_call0_v16 : Ref sig .tc := ⟨.hbm, 331, rfl⟩
abbrev main_call1_call0_call0_v17 : Ref sig .tc := ⟨.hbm, 332, rfl⟩
abbrev main_call1_call0_call0_v18 : Ref sig .tc := ⟨.hbm, 333, rfl⟩
abbrev main_call1_call0_call0_v19 : Ref sig .tc := ⟨.hbm, 334, rfl⟩
abbrev main_call1_call0_call0_v20 : Ref sig .tc := ⟨.hbm, 335, rfl⟩
abbrev main_call1_call0_call0_c_4 : Ref sig .tc := ⟨.hbm, 336, rfl⟩
abbrev main_call1_call0_call0_v21 : Ref sig .tc := ⟨.hbm, 337, rfl⟩
abbrev main_call1_call0_call0_v22 : Ref sig .tc := ⟨.hbm, 338, rfl⟩
abbrev main_call1_call0_call0_c_5 : Ref sig .tc := ⟨.hbm, 339, rfl⟩
abbrev main_call1_call0_call0_v23 : Ref sig .tc := ⟨.hbm, 340, rfl⟩
abbrev main_call1_call0_call0_v24 : Ref sig .tc := ⟨.hbm, 341, rfl⟩
abbrev main_call1_call0_call0_v25 : Ref sig .tc := ⟨.hbm, 342, rfl⟩
abbrev main_call1_call0_call0_v26 : Ref sig .tc := ⟨.hbm, 343, rfl⟩
abbrev main_call1_call0_call0_v27 : Ref sig .tc := ⟨.hbm, 344, rfl⟩
abbrev main_call1_call0_call0_c_6 : Ref sig .tc := ⟨.hbm, 345, rfl⟩
abbrev main_call1_call0_call0_v28 : Ref sig .tc := ⟨.hbm, 346, rfl⟩
abbrev main_call1_call0_call0_v29 : Ref sig .tc := ⟨.hbm, 347, rfl⟩
abbrev main_call1_call0_call0_c_7 : Ref sig .tc := ⟨.hbm, 348, rfl⟩
abbrev main_call1_call0_call0_v30 : Ref sig .tc := ⟨.hbm, 349, rfl⟩
abbrev main_call1_call0_call0_v31 : Ref sig .tc := ⟨.hbm, 350, rfl⟩
abbrev main_call1_call0_call0_v32 : Ref sig .tc := ⟨.hbm, 351, rfl⟩
abbrev main_call1_call0_call0_v33 : Ref sig .tc := ⟨.hbm, 352, rfl⟩
abbrev main_call1_call0_call0_v34 : Ref sig .tc := ⟨.hbm, 353, rfl⟩
abbrev main_call1_call0_call0_v35 : Ref sig .tc := ⟨.hbm, 354, rfl⟩
abbrev main_call1_call0_call0_v36 : Ref sig .tc := ⟨.hbm, 355, rfl⟩
abbrev main_call1_call0_call0_v37 : Ref sig .tc := ⟨.hbm, 356, rfl⟩
abbrev main_call1_call0_call0_c_8 : Ref sig .tc := ⟨.hbm, 357, rfl⟩
abbrev main_call1_call0_call0_v38 : Ref sig .tc := ⟨.hbm, 358, rfl⟩
abbrev main_call1_call0_call0_v39 : Ref sig .tc := ⟨.hbm, 359, rfl⟩
abbrev main_call1_call0_call0_v40 : Ref sig .tc := ⟨.hbm, 360, rfl⟩
abbrev main_call1_call0_call0_c_9 : Ref sig .tc := ⟨.hbm, 361, rfl⟩
abbrev main_call1_call0_call0_v41 : Ref sig .tc := ⟨.hbm, 362, rfl⟩
abbrev main_call1_call0_call0_v42 : Ref sig .tc := ⟨.hbm, 363, rfl⟩
abbrev main_call1_call0_call0_c_10 : Ref sig .tc := ⟨.hbm, 364, rfl⟩
abbrev main_call1_call0_call0_v43 : Ref sig .tc := ⟨.hbm, 365, rfl⟩
abbrev main_call1_call0_call0_v44 : Ref sig .tc := ⟨.hbm, 366, rfl⟩
abbrev main_call1_call0_call0_v45 : Ref sig .tc := ⟨.hbm, 367, rfl⟩
abbrev main_call1_call0_call0_v46 : Ref sig .tc := ⟨.hbm, 368, rfl⟩
abbrev main_call1_call0_call0_v47 : Ref sig .tc := ⟨.hbm, 369, rfl⟩
abbrev main_call1_call0_call0_c_11 : Ref sig .tc := ⟨.hbm, 370, rfl⟩
abbrev main_call1_call0_call0_v48 : Ref sig .tc := ⟨.hbm, 371, rfl⟩
abbrev main_call1_call0_call0_v49 : Ref sig .tc := ⟨.hbm, 372, rfl⟩
abbrev main_call1_call0_call0_c_12 : Ref sig .tc := ⟨.hbm, 373, rfl⟩
abbrev main_call1_call0_call0_v50 : Ref sig .tc := ⟨.hbm, 374, rfl⟩
abbrev main_call1_call0_call0_v51 : Ref sig .tc := ⟨.hbm, 375, rfl⟩
abbrev main_call1_call0_call0_v52 : Ref sig .tc := ⟨.hbm, 376, rfl⟩
abbrev main_call1_call0_call0_v53 : Ref sig .tc := ⟨.hbm, 377, rfl⟩
abbrev main_call1_call0_call0_v54 : Ref sig .tc := ⟨.hbm, 378, rfl⟩
abbrev main_call1_call0_call0_c_13 : Ref sig .tc := ⟨.hbm, 379, rfl⟩
abbrev main_call1_call0_call0_v55 : Ref sig .tc := ⟨.hbm, 380, rfl⟩
abbrev main_call1_call0_call0_v56 : Ref sig .tc := ⟨.hbm, 381, rfl⟩
abbrev main_call1_call0_call0_c_14 : Ref sig .tc := ⟨.hbm, 382, rfl⟩
abbrev main_call1_call0_call0_v57 : Ref sig .tc := ⟨.hbm, 383, rfl⟩
abbrev main_call1_call0_call0_v58 : Ref sig .tc := ⟨.hbm, 384, rfl⟩
abbrev main_call1_call0_call0_v59 : Ref sig .tc := ⟨.hbm, 385, rfl⟩
abbrev main_call1_call0_call0_v60 : Ref sig .tc := ⟨.hbm, 386, rfl⟩
abbrev main_call1_call0_call0_v61 : Ref sig .tc := ⟨.hbm, 387, rfl⟩
abbrev main_call1_call0_call0_c_15 : Ref sig .tc := ⟨.hbm, 388, rfl⟩
abbrev main_call1_call0_call0_v62 : Ref sig .tc := ⟨.hbm, 389, rfl⟩
abbrev main_call1_call0_call0_v63 : Ref sig .tc := ⟨.hbm, 390, rfl⟩
abbrev main_call1_call0_call0_c_16 : Ref sig .tc := ⟨.hbm, 391, rfl⟩
abbrev main_call1_call0_call0_v64 : Ref sig .tc := ⟨.hbm, 392, rfl⟩
abbrev main_call1_call0_call0_v65 : Ref sig .tc := ⟨.hbm, 393, rfl⟩
abbrev main_call1_call0_call0_v66 : Ref sig .tc := ⟨.hbm, 394, rfl⟩
abbrev main_call1_call0_call0_v67 : Ref sig .tc := ⟨.hbm, 395, rfl⟩
abbrev main_call1_call0_call0_v68 : Ref sig .tc := ⟨.hbm, 396, rfl⟩
abbrev main_call1_call0_call0_v69 : Ref sig .tc := ⟨.hbm, 397, rfl⟩
abbrev main_call1_call0_call0_v70 : Ref sig .tc := ⟨.hbm, 398, rfl⟩
abbrev main_call1_call0_call0_v71 : Ref sig .tc := ⟨.hbm, 399, rfl⟩
abbrev main_call1_call0_call0_c_17 : Ref sig .tc := ⟨.hbm, 400, rfl⟩
abbrev main_call1_call0_call0_v72 : Ref sig .tc := ⟨.hbm, 401, rfl⟩
abbrev main_call1_call0_call0_v73 : Ref sig .tc := ⟨.hbm, 402, rfl⟩
abbrev main_call1_call0_call0_v74 : Ref sig .tc := ⟨.hbm, 403, rfl⟩
abbrev main_call1_call0_call0_c_18 : Ref sig .tc := ⟨.hbm, 404, rfl⟩
abbrev main_call1_call0_call0_v75 : Ref sig .tc := ⟨.hbm, 405, rfl⟩
abbrev main_call1_call0_call0_v76 : Ref sig .tc := ⟨.hbm, 406, rfl⟩
abbrev main_call1_call0_call0_c_19 : Ref sig .tc := ⟨.hbm, 407, rfl⟩
abbrev main_call1_call0_call0_v77 : Ref sig .tc := ⟨.hbm, 408, rfl⟩
abbrev main_call1_call0_call0_v78 : Ref sig .tc := ⟨.hbm, 409, rfl⟩
abbrev main_call1_call0_call0_v79 : Ref sig .tc := ⟨.hbm, 410, rfl⟩
abbrev main_call1_call0_call0_v80 : Ref sig .tc := ⟨.hbm, 411, rfl⟩
abbrev main_call1_call0_call0_v81 : Ref sig .tc := ⟨.hbm, 412, rfl⟩
abbrev main_call1_call0_call0_c_20 : Ref sig .tc := ⟨.hbm, 413, rfl⟩
abbrev main_call1_call0_call0_v82 : Ref sig .tc := ⟨.hbm, 414, rfl⟩
abbrev main_call1_call0_call0_v83 : Ref sig .tc := ⟨.hbm, 415, rfl⟩
abbrev main_call1_call0_call0_c_21 : Ref sig .tc := ⟨.hbm, 416, rfl⟩
abbrev main_call1_call0_call0_v84 : Ref sig .tc := ⟨.hbm, 417, rfl⟩
abbrev main_call1_call0_call0_v85 : Ref sig .tc := ⟨.hbm, 418, rfl⟩
abbrev main_call1_call0_call0_v86 : Ref sig .tc := ⟨.hbm, 419, rfl⟩
abbrev main_call1_call0_call0_v87 : Ref sig .tc := ⟨.hbm, 420, rfl⟩
abbrev main_call1_call0_call0_v88 : Ref sig .tc := ⟨.hbm, 421, rfl⟩
abbrev main_call1_call0_call0_c_22 : Ref sig .tc := ⟨.hbm, 422, rfl⟩
abbrev main_call1_call0_call0_v89 : Ref sig .tc := ⟨.hbm, 423, rfl⟩
abbrev main_call1_call0_call0_v90 : Ref sig .tc := ⟨.hbm, 424, rfl⟩
abbrev main_call1_call0_call0_c_23 : Ref sig .tc := ⟨.hbm, 425, rfl⟩
abbrev main_call1_call0_call0_v91 : Ref sig .tc := ⟨.hbm, 426, rfl⟩
abbrev main_call1_call0_call0_v92 : Ref sig .tc := ⟨.hbm, 427, rfl⟩
abbrev main_call1_call0_call0_v93 : Ref sig .tc := ⟨.hbm, 428, rfl⟩
abbrev main_call1_call0_call0_v94 : Ref sig .tc := ⟨.hbm, 429, rfl⟩
abbrev main_call1_call0_call0_v95 : Ref sig .tc := ⟨.hbm, 430, rfl⟩
abbrev main_call1_call0_call0_c_24 : Ref sig .tc := ⟨.hbm, 431, rfl⟩
abbrev main_call1_call0_call0_v96 : Ref sig .tc := ⟨.hbm, 432, rfl⟩
abbrev main_call1_call0_call0_v97 : Ref sig .tc := ⟨.hbm, 433, rfl⟩
abbrev main_call1_call0_call0_c_25 : Ref sig .tc := ⟨.hbm, 434, rfl⟩
abbrev main_call1_call0_call0_v98 : Ref sig .tc := ⟨.hbm, 435, rfl⟩
abbrev main_call1_call0_call0_v99 : Ref sig .tc := ⟨.hbm, 436, rfl⟩
abbrev main_call1_call0_call0_v100 : Ref sig .tc := ⟨.hbm, 437, rfl⟩
abbrev main_call1_call0_call0_v101 : Ref sig .tc := ⟨.hbm, 438, rfl⟩
abbrev main_call1_call0_call0_v102 : Ref sig .tc := ⟨.hbm, 439, rfl⟩
abbrev main_call1_call0_call0_v103 : Ref sig .tc := ⟨.hbm, 440, rfl⟩
abbrev main_call1_call0_call0_v104 : Ref sig .tc := ⟨.hbm, 441, rfl⟩
abbrev main_call1_call0_call0_v105 : Ref sig .tc := ⟨.hbm, 442, rfl⟩
abbrev main_call1_call0_call0_c_26 : Ref sig .tc := ⟨.hbm, 443, rfl⟩
abbrev main_call1_call0_call0_v106 : Ref sig .tc := ⟨.hbm, 444, rfl⟩
abbrev main_call1_call0_call0_v107 : Ref sig .tc := ⟨.hbm, 445, rfl⟩
abbrev main_call1_call0_call0_v108 : Ref sig .tc := ⟨.hbm, 446, rfl⟩
abbrev main_call1_call0_call0_c_27 : Ref sig .tc := ⟨.hbm, 447, rfl⟩
abbrev main_call1_call0_call0_v109 : Ref sig .tc := ⟨.hbm, 448, rfl⟩
abbrev main_call1_call0_call0_v110 : Ref sig .tc := ⟨.hbm, 449, rfl⟩
abbrev main_call1_call0_call0_c_28 : Ref sig .tc := ⟨.hbm, 450, rfl⟩
abbrev main_call1_call0_call0_v111 : Ref sig .tc := ⟨.hbm, 451, rfl⟩
abbrev main_call1_call0_call0_v112 : Ref sig .tc := ⟨.hbm, 452, rfl⟩
abbrev main_call1_call0_call0_v113 : Ref sig .tc := ⟨.hbm, 453, rfl⟩
abbrev main_call1_call0_call0_v114 : Ref sig .tc := ⟨.hbm, 454, rfl⟩
abbrev main_call1_call0_call0_v115 : Ref sig .tc := ⟨.hbm, 455, rfl⟩
abbrev main_call1_call0_call0_c_29 : Ref sig .tc := ⟨.hbm, 456, rfl⟩
abbrev main_call1_call0_call0_v116 : Ref sig .tc := ⟨.hbm, 457, rfl⟩
abbrev main_call1_call0_call0_v117 : Ref sig .tc := ⟨.hbm, 458, rfl⟩
abbrev main_call1_call0_call0_c_30 : Ref sig .tc := ⟨.hbm, 459, rfl⟩
abbrev main_call1_call0_call0_v118 : Ref sig .tc := ⟨.hbm, 460, rfl⟩
abbrev main_call1_call0_call0_v119 : Ref sig .tc := ⟨.hbm, 461, rfl⟩
abbrev main_call1_call0_call0_v120 : Ref sig .tc := ⟨.hbm, 462, rfl⟩
abbrev main_call1_call0_call0_v121 : Ref sig .tc := ⟨.hbm, 463, rfl⟩
abbrev main_call1_call0_call0_v122 : Ref sig .tc := ⟨.hbm, 464, rfl⟩
abbrev main_call1_call0_call0_c_31 : Ref sig .tc := ⟨.hbm, 465, rfl⟩
abbrev main_call1_call0_call0_v123 : Ref sig .tc := ⟨.hbm, 466, rfl⟩
abbrev main_call1_call0_call0_v124 : Ref sig .tc := ⟨.hbm, 467, rfl⟩
abbrev main_call1_call0_call0_c_32 : Ref sig .tc := ⟨.hbm, 468, rfl⟩
abbrev main_call1_call0_call0_v125 : Ref sig .tc := ⟨.hbm, 469, rfl⟩
abbrev main_call1_call0_call0_v126 : Ref sig .tc := ⟨.hbm, 470, rfl⟩
abbrev main_call1_call0_call0_v127 : Ref sig .tc := ⟨.hbm, 471, rfl⟩
abbrev main_call1_call0_call0_v128 : Ref sig .tc := ⟨.hbm, 472, rfl⟩
abbrev main_call1_call0_call0_v129 : Ref sig .tc := ⟨.hbm, 473, rfl⟩
abbrev main_call1_call0_call0_c_33 : Ref sig .tc := ⟨.hbm, 474, rfl⟩
abbrev main_call1_call0_call0_v130 : Ref sig .tc := ⟨.hbm, 475, rfl⟩
abbrev main_call1_call0_call0_v131 : Ref sig .tc := ⟨.hbm, 476, rfl⟩
abbrev main_call1_call0_call0_c_34 : Ref sig .tc := ⟨.hbm, 477, rfl⟩
abbrev main_call1_call0_call0_v132 : Ref sig .tc := ⟨.hbm, 478, rfl⟩
abbrev main_call1_call0_call0_v133 : Ref sig .tc := ⟨.hbm, 479, rfl⟩
abbrev main_call1_call0_call0_v134 : Ref sig .tc := ⟨.hbm, 480, rfl⟩
abbrev main_call1_call0_call0_v135 : Ref sig .tc := ⟨.hbm, 481, rfl⟩
abbrev main_call1_call0_call0_v136 : Ref sig .tc := ⟨.hbm, 482, rfl⟩
abbrev main_call1_call0_call0_v137 : Ref sig .tc := ⟨.hbm, 483, rfl⟩
abbrev main_call1_call0_call0_v138 : Ref sig .tc := ⟨.hbm, 484, rfl⟩
abbrev main_call1_call0_call0_v139 : Ref sig .tc := ⟨.hbm, 485, rfl⟩
abbrev main_call1_call0_call0_c_35 : Ref sig .tc := ⟨.hbm, 486, rfl⟩
abbrev main_call1_call0_call0_v140 : Ref sig .tc := ⟨.hbm, 487, rfl⟩
abbrev main_call1_call0_call0_v141 : Ref sig .tc := ⟨.hbm, 488, rfl⟩
abbrev main_call1_call0_call0_v142 : Ref sig .tc := ⟨.hbm, 489, rfl⟩
abbrev main_call1_call0_call0_c_36 : Ref sig .tc := ⟨.hbm, 490, rfl⟩
abbrev main_call1_call0_call0_v143 : Ref sig .tc := ⟨.hbm, 491, rfl⟩
abbrev main_call1_call0_call0_v144 : Ref sig .tc := ⟨.hbm, 492, rfl⟩
abbrev main_call1_call0_call0_c_37 : Ref sig .tc := ⟨.hbm, 493, rfl⟩
abbrev main_call1_call0_call0_v145 : Ref sig .tc := ⟨.hbm, 494, rfl⟩
abbrev main_call1_call0_call0_v146 : Ref sig .tc := ⟨.hbm, 495, rfl⟩
abbrev main_call1_call0_call0_v147 : Ref sig .tc := ⟨.hbm, 496, rfl⟩
abbrev main_call1_call0_call0_v148 : Ref sig .tc := ⟨.hbm, 497, rfl⟩
abbrev main_call1_call0_call0_v149 : Ref sig .tc := ⟨.hbm, 498, rfl⟩
abbrev main_call1_call0_call0_c_38 : Ref sig .tc := ⟨.hbm, 499, rfl⟩
abbrev main_call1_call0_call0_v150 : Ref sig .tc := ⟨.hbm, 500, rfl⟩
abbrev main_call1_call0_call0_v151 : Ref sig .tc := ⟨.hbm, 501, rfl⟩
abbrev main_call1_call0_call0_c_39 : Ref sig .tc := ⟨.hbm, 502, rfl⟩
abbrev main_call1_call0_call0_v152 : Ref sig .tc := ⟨.hbm, 503, rfl⟩
abbrev main_call1_call0_call0_v153 : Ref sig .tc := ⟨.hbm, 504, rfl⟩
abbrev main_call1_call0_call0_v154 : Ref sig .tc := ⟨.hbm, 505, rfl⟩
abbrev main_call1_call0_call0_v155 : Ref sig .tc := ⟨.hbm, 506, rfl⟩
abbrev main_call1_call0_call0_v156 : Ref sig .tc := ⟨.hbm, 507, rfl⟩
abbrev main_call1_call0_call0_c_40 : Ref sig .tc := ⟨.hbm, 508, rfl⟩
abbrev main_call1_call0_call0_v157 : Ref sig .tc := ⟨.hbm, 509, rfl⟩
abbrev main_call1_call0_call0_v158 : Ref sig .tc := ⟨.hbm, 510, rfl⟩
abbrev main_call1_call0_call0_c_41 : Ref sig .tc := ⟨.hbm, 511, rfl⟩
abbrev main_call1_call0_call0_v159 : Ref sig .tc := ⟨.hbm, 512, rfl⟩
abbrev main_call1_call0_call0_v160 : Ref sig .tc := ⟨.hbm, 513, rfl⟩
abbrev main_call1_call0_call0_v161 : Ref sig .tc := ⟨.hbm, 514, rfl⟩
abbrev main_call1_call0_call0_v162 : Ref sig .tc := ⟨.hbm, 515, rfl⟩
abbrev main_call1_call0_call0_v163 : Ref sig .tc := ⟨.hbm, 516, rfl⟩
abbrev main_call1_call0_call0_c_42 : Ref sig .tc := ⟨.hbm, 517, rfl⟩
abbrev main_call1_call0_call0_v164 : Ref sig .tc := ⟨.hbm, 518, rfl⟩
abbrev main_call1_call0_call0_v165 : Ref sig .tc := ⟨.hbm, 519, rfl⟩
abbrev main_call1_call0_call0_c_43 : Ref sig .tc := ⟨.hbm, 520, rfl⟩
abbrev main_call1_call0_call0_v166 : Ref sig .tc := ⟨.hbm, 521, rfl⟩
abbrev main_call1_call0_call0_v167 : Ref sig .tc := ⟨.hbm, 522, rfl⟩
abbrev main_call1_call0_call0_v168 : Ref sig .tc := ⟨.hbm, 523, rfl⟩
abbrev main_call1_call0_call0_v169 : Ref sig .tc := ⟨.hbm, 524, rfl⟩
abbrev main_call1_call0_call0_v170 : Ref sig .tc := ⟨.hbm, 525, rfl⟩
abbrev main_call1_call0_v18_0 : Ref sig .tc := ⟨.hbm, 526, rfl⟩
abbrev main_call1_call0_call0_v172 : Ref sig .tc := ⟨.hbm, 527, rfl⟩
abbrev main_call1_call0_call0_v173 : Ref sig .tc := ⟨.hbm, 528, rfl⟩
abbrev main_call1_call0_call0_c_44 : Ref sig .tc := ⟨.hbm, 529, rfl⟩
abbrev main_call1_call0_call0_v174 : Ref sig .tc := ⟨.hbm, 530, rfl⟩
abbrev main_call1_call0_v18_1 : Ref sig .tc := ⟨.hbm, 531, rfl⟩
abbrev main_call1_call0_v19 : Ref sig .tc := ⟨.hbm, 532, rfl⟩
abbrev main_call1_call0_c_2 : Ref sig .tc := ⟨.hbm, 533, rfl⟩
abbrev main_call1_call0_v20 : Ref sig .tc := ⟨.hbm, 534, rfl⟩
abbrev main_call1_call0_v21 : Ref sig .tc := ⟨.hbm, 535, rfl⟩
abbrev main_call1_call0_c_3 : Ref sig .tc := ⟨.hbm, 536, rfl⟩
abbrev main_call1_call0_v22 : Ref sig .tc := ⟨.hbm, 537, rfl⟩
abbrev main_call1_call0_v23 : Ref sig .tc := ⟨.hbm, 538, rfl⟩
abbrev main_call1_call0_v24 : Ref sig .tc := ⟨.hbm, 539, rfl⟩
abbrev main_call1_call0_cst : Ref sig .tc := ⟨.hbm, 540, rfl⟩
abbrev main_call1_call0_v25 : Ref sig .tc := ⟨.hbm, 541, rfl⟩
abbrev main_call1_call0_v26 : Ref sig .tc := ⟨.hbm, 542, rfl⟩
abbrev main_call1_call0_v27 : Ref sig .tc := ⟨.hbm, 543, rfl⟩
abbrev main_call1_call0_v28 : Ref sig .tc := ⟨.hbm, 544, rfl⟩
abbrev main_call1_call0_v29 : Ref sig .tc := ⟨.hbm, 545, rfl⟩
abbrev main_call1_call0_v30 : Ref sig .tc := ⟨.hbm, 546, rfl⟩
abbrev main_call1_call0_v31 : Ref sig .tc := ⟨.hbm, 547, rfl⟩
abbrev main_call1_call0_v32 : Ref sig .tc := ⟨.hbm, 548, rfl⟩
abbrev main_call1_v0 : Ref sig .tc := ⟨.hbm, 549, rfl⟩
abbrev main_call1_v1 : Ref sig .tc := ⟨.hbm, 550, rfl⟩
abbrev main_call1_v2 : Ref sig .tc := ⟨.hbm, 551, rfl⟩
abbrev main_call1_v3 : Ref sig .tc := ⟨.hbm, 552, rfl⟩
abbrev main_v29 : Ref sig .tc := ⟨.hbm, 553, rfl⟩
abbrev main_v30 : Ref sig .tc := ⟨.hbm, 554, rfl⟩
abbrev main_call2_v0 : Ref sig .tc := ⟨.hbm, 555, rfl⟩
abbrev main_call2_cst : Ref sig .tc := ⟨.hbm, 556, rfl⟩
abbrev main_call2_c : Ref sig .tc := ⟨.hbm, 557, rfl⟩
abbrev main_call2_v1_0 : Ref sig .tc := ⟨.hbm, 558, rfl⟩
abbrev main_v31 : Ref sig .tc := ⟨.hbm, 559, rfl⟩
abbrev main_v32 : Ref sig .tc := ⟨.hbm, 560, rfl⟩
abbrev main_v33 : Ref sig .tc := ⟨.hbm, 561, rfl⟩
abbrev main_v34 : Ref sig .tc := ⟨.hbm, 562, rfl⟩
abbrev main_v35 : Ref sig .tc := ⟨.hbm, 563, rfl⟩
abbrev main_c_14 : Ref sig .tc := ⟨.hbm, 564, rfl⟩
abbrev main_v36 : Ref sig .tc := ⟨.hbm, 565, rfl⟩
abbrev main_v37 : Ref sig .tc := ⟨.hbm, 566, rfl⟩
abbrev main_c_15 : Ref sig .tc := ⟨.hbm, 567, rfl⟩
abbrev main_v38 : Ref sig .tc := ⟨.hbm, 568, rfl⟩
abbrev main_v39 : Ref sig .tc := ⟨.hbm, 569, rfl⟩
abbrev main_v40 : Ref sig .tc := ⟨.hbm, 570, rfl⟩
abbrev main_v41 : Ref sig .tc := ⟨.hbm, 571, rfl⟩
abbrev main_v42 : Ref sig .tc := ⟨.hbm, 572, rfl⟩
abbrev main_v43 : Ref sig .tc := ⟨.hbm, 573, rfl⟩
abbrev main_c_16 : Ref sig .tc := ⟨.hbm, 574, rfl⟩
abbrev main_v44 : Ref sig .tc := ⟨.hbm, 575, rfl⟩
abbrev main_c_17 : Ref sig .tc := ⟨.hbm, 576, rfl⟩
abbrev main_v45 : Ref sig .tc := ⟨.hbm, 577, rfl⟩
abbrev main_v46 : Ref sig .tc := ⟨.hbm, 578, rfl⟩
abbrev main_c_18 : Ref sig .tc := ⟨.hbm, 579, rfl⟩
abbrev main_v47 : Ref sig .tc := ⟨.hbm, 580, rfl⟩
abbrev main_v48 : Ref sig .tc := ⟨.hbm, 581, rfl⟩
abbrev main_c_19 : Ref sig .tc := ⟨.hbm, 582, rfl⟩
abbrev main_v49 : Ref sig .tc := ⟨.hbm, 583, rfl⟩
abbrev main_v50 : Ref sig .tc := ⟨.hbm, 584, rfl⟩
abbrev main_v51 : Ref sig .tc := ⟨.hbm, 585, rfl⟩
abbrev main_c_20 : Ref sig .tc := ⟨.hbm, 586, rfl⟩
abbrev main_v52 : Ref sig .tc := ⟨.hbm, 587, rfl⟩
abbrev main_v53 : Ref sig .tc := ⟨.hbm, 588, rfl⟩
abbrev main_c_21 : Ref sig .tc := ⟨.hbm, 589, rfl⟩
abbrev main_v54 : Ref sig .tc := ⟨.hbm, 590, rfl⟩
abbrev main_v55 : Ref sig .tc := ⟨.hbm, 591, rfl⟩
abbrev main_v56 : Ref sig .tc := ⟨.hbm, 592, rfl⟩
abbrev main_v57 : Ref sig .tc := ⟨.hbm, 593, rfl⟩
abbrev main_v58 : Ref sig .tc := ⟨.hbm, 594, rfl⟩
abbrev main_v59 : Ref sig .tc := ⟨.hbm, 595, rfl⟩
abbrev main_v60 : Ref sig .tc := ⟨.hbm, 596, rfl⟩
abbrev main_v61 : Ref sig .tc := ⟨.hbm, 597, rfl⟩
abbrev main_v62 : Ref sig .tc := ⟨.hbm, 598, rfl⟩
abbrev main_c_22 : Ref sig .tc := ⟨.hbm, 599, rfl⟩
abbrev main_v63 : Ref sig .tc := ⟨.hbm, 600, rfl⟩
abbrev main_c_23 : Ref sig .tc := ⟨.hbm, 601, rfl⟩
abbrev main_v64 : Ref sig .tc := ⟨.hbm, 602, rfl⟩
abbrev main_v65 : Ref sig .tc := ⟨.hbm, 603, rfl⟩
abbrev main_c_24 : Ref sig .tc := ⟨.hbm, 604, rfl⟩
abbrev main_c_25 : Ref sig .tc := ⟨.hbm, 605, rfl⟩
abbrev main_v66 : Ref sig .tc := ⟨.hbm, 606, rfl⟩
abbrev main_c_26 : Ref sig .tc := ⟨.hbm, 607, rfl⟩
abbrev main_c_27 : Ref sig .tc := ⟨.hbm, 608, rfl⟩
abbrev main_v67 : Ref sig .tc := ⟨.hbm, 609, rfl⟩
abbrev main_c_28 : Ref sig .tc := ⟨.hbm, 610, rfl⟩
abbrev main_v68 : Ref sig .tc := ⟨.hbm, 611, rfl⟩
abbrev main_c_29 : Ref sig .tc := ⟨.hbm, 612, rfl⟩
abbrev main_c_30 : Ref sig .tc := ⟨.hbm, 613, rfl⟩
abbrev main_v69 : Ref sig .tc := ⟨.hbm, 614, rfl⟩
abbrev main_c_31 : Ref sig .tc := ⟨.hbm, 615, rfl⟩
abbrev main_c_32 : Ref sig .tc := ⟨.hbm, 616, rfl⟩
abbrev main_v70 : Ref sig .tc := ⟨.hbm, 617, rfl⟩
abbrev main_c_33 : Ref sig .tc := ⟨.hbm, 618, rfl⟩
abbrev main_v71 : Ref sig .tc := ⟨.hbm, 619, rfl⟩
abbrev main_v72 : Ref sig .tc := ⟨.hbm, 620, rfl⟩
abbrev main_v73 : Ref sig .tc := ⟨.hbm, 621, rfl⟩
abbrev main_v74 : Ref sig .tc := ⟨.hbm, 622, rfl⟩
abbrev main_v75 : Ref sig .tc := ⟨.hbm, 623, rfl⟩
abbrev main_v76 : Ref sig .tc := ⟨.hbm, 624, rfl⟩
abbrev main_call3_v0 : Ref sig .tc := ⟨.hbm, 625, rfl⟩
abbrev main_call3_v1 : Ref sig .tc := ⟨.hbm, 626, rfl⟩
abbrev main_call3_v2 : Ref sig .tc := ⟨.hbm, 627, rfl⟩
abbrev main_call3_v3 : Ref sig .tc := ⟨.hbm, 628, rfl⟩
abbrev main_call3_v4 : Ref sig .tc := ⟨.hbm, 629, rfl⟩
abbrev main_call3_c : Ref sig .tc := ⟨.hbm, 630, rfl⟩
abbrev main_call3_v5 : Ref sig .tc := ⟨.hbm, 631, rfl⟩
abbrev main_call3_v6 : Ref sig .tc := ⟨.hbm, 632, rfl⟩
abbrev main_call3_c_0 : Ref sig .tc := ⟨.hbm, 633, rfl⟩
abbrev main_call3_v7 : Ref sig .tc := ⟨.hbm, 634, rfl⟩
abbrev main_call3_v8 : Ref sig .tc := ⟨.hbm, 635, rfl⟩
abbrev main_call3_v9 : Ref sig .tc := ⟨.hbm, 636, rfl⟩
abbrev main_call3_v10 : Ref sig .tc := ⟨.hbm, 637, rfl⟩
abbrev main_call3_call0_v0 : Ref sig .tc := ⟨.hbm, 638, rfl⟩
abbrev main_call3_call0_c : Ref sig .tc := ⟨.hbm, 639, rfl⟩
abbrev main_call3_call0_v1 : Ref sig .tc := ⟨.hbm, 640, rfl⟩
abbrev main_call3_call0_v2 : Ref sig .tc := ⟨.hbm, 641, rfl⟩
abbrev main_call3_call0_v3 : Ref sig .tc := ⟨.hbm, 642, rfl⟩
abbrev main_call3_call0_v4 : Ref sig .tc := ⟨.hbm, 643, rfl⟩
abbrev main_call3_call0_v5 : Ref sig .tc := ⟨.hbm, 644, rfl⟩
abbrev main_call3_call0_v6 : Ref sig .tc := ⟨.hbm, 645, rfl⟩
abbrev main_call3_call0_c_0 : Ref sig .tc := ⟨.hbm, 646, rfl⟩
abbrev main_call3_call0_v7 : Ref sig .tc := ⟨.hbm, 647, rfl⟩
abbrev main_call3_call0_v8 : Ref sig .tc := ⟨.hbm, 648, rfl⟩
abbrev main_call3_call0_c_1 : Ref sig .tc := ⟨.hbm, 649, rfl⟩
abbrev main_call3_call0_v9 : Ref sig .tc := ⟨.hbm, 650, rfl⟩
abbrev main_call3_call0_v10 : Ref sig .tc := ⟨.hbm, 651, rfl⟩
abbrev main_call3_call0_v11 : Ref sig .tc := ⟨.hbm, 652, rfl⟩
abbrev main_call3_call0_v12 : Ref sig .tc := ⟨.hbm, 653, rfl⟩
abbrev main_call3_call0_v13 : Ref sig .tc := ⟨.hbm, 654, rfl⟩
abbrev main_call3_call0_c_2 : Ref sig .tc := ⟨.hbm, 655, rfl⟩
abbrev main_call3_call0_v14 : Ref sig .tc := ⟨.hbm, 656, rfl⟩
abbrev main_call3_call0_v15 : Ref sig .tc := ⟨.hbm, 657, rfl⟩
abbrev main_call3_call0_c_3 : Ref sig .tc := ⟨.hbm, 658, rfl⟩
abbrev main_call3_call0_v16 : Ref sig .tc := ⟨.hbm, 659, rfl⟩
abbrev main_call3_call0_v17 : Ref sig .tc := ⟨.hbm, 660, rfl⟩
abbrev main_call3_call0_v18 : Ref sig .tc := ⟨.hbm, 661, rfl⟩
abbrev main_call3_call0_v19 : Ref sig .tc := ⟨.hbm, 662, rfl⟩
abbrev main_call3_call0_v20 : Ref sig .tc := ⟨.hbm, 663, rfl⟩
abbrev main_call3_call0_c_4 : Ref sig .tc := ⟨.hbm, 664, rfl⟩
abbrev main_call3_call0_v21 : Ref sig .tc := ⟨.hbm, 665, rfl⟩
abbrev main_call3_call0_v22 : Ref sig .tc := ⟨.hbm, 666, rfl⟩
abbrev main_call3_call0_c_5 : Ref sig .tc := ⟨.hbm, 667, rfl⟩
abbrev main_call3_call0_v23 : Ref sig .tc := ⟨.hbm, 668, rfl⟩
abbrev main_call3_call0_v24 : Ref sig .tc := ⟨.hbm, 669, rfl⟩
abbrev main_call3_call0_v25 : Ref sig .tc := ⟨.hbm, 670, rfl⟩
abbrev main_call3_call0_v26 : Ref sig .tc := ⟨.hbm, 671, rfl⟩
abbrev main_call3_call0_v27 : Ref sig .tc := ⟨.hbm, 672, rfl⟩
abbrev main_call3_call0_c_6 : Ref sig .tc := ⟨.hbm, 673, rfl⟩
abbrev main_call3_call0_v28 : Ref sig .tc := ⟨.hbm, 674, rfl⟩
abbrev main_call3_call0_v29 : Ref sig .tc := ⟨.hbm, 675, rfl⟩
abbrev main_call3_call0_c_7 : Ref sig .tc := ⟨.hbm, 676, rfl⟩
abbrev main_call3_call0_v30 : Ref sig .tc := ⟨.hbm, 677, rfl⟩
abbrev main_call3_call0_v31 : Ref sig .tc := ⟨.hbm, 678, rfl⟩
abbrev main_call3_call0_v32 : Ref sig .tc := ⟨.hbm, 679, rfl⟩
abbrev main_call3_call0_v33 : Ref sig .tc := ⟨.hbm, 680, rfl⟩
abbrev main_call3_call0_v34 : Ref sig .tc := ⟨.hbm, 681, rfl⟩
abbrev main_call3_call0_v35 : Ref sig .tc := ⟨.hbm, 682, rfl⟩
abbrev main_call3_call0_v36 : Ref sig .tc := ⟨.hbm, 683, rfl⟩
abbrev main_call3_call0_v37 : Ref sig .tc := ⟨.hbm, 684, rfl⟩
abbrev main_call3_call0_c_8 : Ref sig .tc := ⟨.hbm, 685, rfl⟩
abbrev main_call3_call0_v38 : Ref sig .tc := ⟨.hbm, 686, rfl⟩
abbrev main_call3_call0_v39 : Ref sig .tc := ⟨.hbm, 687, rfl⟩
abbrev main_call3_call0_v40 : Ref sig .tc := ⟨.hbm, 688, rfl⟩
abbrev main_call3_call0_c_9 : Ref sig .tc := ⟨.hbm, 689, rfl⟩
abbrev main_call3_call0_v41 : Ref sig .tc := ⟨.hbm, 690, rfl⟩
abbrev main_call3_call0_v42 : Ref sig .tc := ⟨.hbm, 691, rfl⟩
abbrev main_call3_call0_c_10 : Ref sig .tc := ⟨.hbm, 692, rfl⟩
abbrev main_call3_call0_v43 : Ref sig .tc := ⟨.hbm, 693, rfl⟩
abbrev main_call3_call0_v44 : Ref sig .tc := ⟨.hbm, 694, rfl⟩
abbrev main_call3_call0_v45 : Ref sig .tc := ⟨.hbm, 695, rfl⟩
abbrev main_call3_call0_v46 : Ref sig .tc := ⟨.hbm, 696, rfl⟩
abbrev main_call3_call0_v47 : Ref sig .tc := ⟨.hbm, 697, rfl⟩
abbrev main_call3_call0_c_11 : Ref sig .tc := ⟨.hbm, 698, rfl⟩
abbrev main_call3_call0_v48 : Ref sig .tc := ⟨.hbm, 699, rfl⟩
abbrev main_call3_call0_v49 : Ref sig .tc := ⟨.hbm, 700, rfl⟩
abbrev main_call3_call0_c_12 : Ref sig .tc := ⟨.hbm, 701, rfl⟩
abbrev main_call3_call0_v50 : Ref sig .tc := ⟨.hbm, 702, rfl⟩
abbrev main_call3_call0_v51 : Ref sig .tc := ⟨.hbm, 703, rfl⟩
abbrev main_call3_call0_v52 : Ref sig .tc := ⟨.hbm, 704, rfl⟩
abbrev main_call3_call0_v53 : Ref sig .tc := ⟨.hbm, 705, rfl⟩
abbrev main_call3_call0_v54 : Ref sig .tc := ⟨.hbm, 706, rfl⟩
abbrev main_call3_call0_c_13 : Ref sig .tc := ⟨.hbm, 707, rfl⟩
abbrev main_call3_call0_v55 : Ref sig .tc := ⟨.hbm, 708, rfl⟩
abbrev main_call3_call0_v56 : Ref sig .tc := ⟨.hbm, 709, rfl⟩
abbrev main_call3_call0_c_14 : Ref sig .tc := ⟨.hbm, 710, rfl⟩
abbrev main_call3_call0_v57 : Ref sig .tc := ⟨.hbm, 711, rfl⟩
abbrev main_call3_call0_v58 : Ref sig .tc := ⟨.hbm, 712, rfl⟩
abbrev main_call3_call0_v59 : Ref sig .tc := ⟨.hbm, 713, rfl⟩
abbrev main_call3_call0_v60 : Ref sig .tc := ⟨.hbm, 714, rfl⟩
abbrev main_call3_call0_v61 : Ref sig .tc := ⟨.hbm, 715, rfl⟩
abbrev main_call3_call0_c_15 : Ref sig .tc := ⟨.hbm, 716, rfl⟩
abbrev main_call3_call0_v62 : Ref sig .tc := ⟨.hbm, 717, rfl⟩
abbrev main_call3_call0_v63 : Ref sig .tc := ⟨.hbm, 718, rfl⟩
abbrev main_call3_call0_c_16 : Ref sig .tc := ⟨.hbm, 719, rfl⟩
abbrev main_call3_call0_v64 : Ref sig .tc := ⟨.hbm, 720, rfl⟩
abbrev main_call3_call0_v65 : Ref sig .tc := ⟨.hbm, 721, rfl⟩
abbrev main_call3_call0_v66 : Ref sig .tc := ⟨.hbm, 722, rfl⟩
abbrev main_call3_call0_v67 : Ref sig .tc := ⟨.hbm, 723, rfl⟩
abbrev main_call3_call0_v68 : Ref sig .tc := ⟨.hbm, 724, rfl⟩
abbrev main_call3_call0_v69 : Ref sig .tc := ⟨.hbm, 725, rfl⟩
abbrev main_call3_call0_v70 : Ref sig .tc := ⟨.hbm, 726, rfl⟩
abbrev main_call3_call0_v71 : Ref sig .tc := ⟨.hbm, 727, rfl⟩
abbrev main_call3_call0_c_17 : Ref sig .tc := ⟨.hbm, 728, rfl⟩
abbrev main_call3_call0_v72 : Ref sig .tc := ⟨.hbm, 729, rfl⟩
abbrev main_call3_call0_v73 : Ref sig .tc := ⟨.hbm, 730, rfl⟩
abbrev main_call3_call0_v74 : Ref sig .tc := ⟨.hbm, 731, rfl⟩
abbrev main_call3_call0_c_18 : Ref sig .tc := ⟨.hbm, 732, rfl⟩
abbrev main_call3_call0_v75 : Ref sig .tc := ⟨.hbm, 733, rfl⟩
abbrev main_call3_call0_v76 : Ref sig .tc := ⟨.hbm, 734, rfl⟩
abbrev main_call3_call0_c_19 : Ref sig .tc := ⟨.hbm, 735, rfl⟩
abbrev main_call3_call0_v77 : Ref sig .tc := ⟨.hbm, 736, rfl⟩
abbrev main_call3_call0_v78 : Ref sig .tc := ⟨.hbm, 737, rfl⟩
abbrev main_call3_call0_v79 : Ref sig .tc := ⟨.hbm, 738, rfl⟩
abbrev main_call3_call0_v80 : Ref sig .tc := ⟨.hbm, 739, rfl⟩
abbrev main_call3_call0_v81 : Ref sig .tc := ⟨.hbm, 740, rfl⟩
abbrev main_call3_call0_c_20 : Ref sig .tc := ⟨.hbm, 741, rfl⟩
abbrev main_call3_call0_v82 : Ref sig .tc := ⟨.hbm, 742, rfl⟩
abbrev main_call3_call0_v83 : Ref sig .tc := ⟨.hbm, 743, rfl⟩
abbrev main_call3_call0_c_21 : Ref sig .tc := ⟨.hbm, 744, rfl⟩
abbrev main_call3_call0_v84 : Ref sig .tc := ⟨.hbm, 745, rfl⟩
abbrev main_call3_call0_v85 : Ref sig .tc := ⟨.hbm, 746, rfl⟩
abbrev main_call3_call0_v86 : Ref sig .tc := ⟨.hbm, 747, rfl⟩
abbrev main_call3_call0_v87 : Ref sig .tc := ⟨.hbm, 748, rfl⟩
abbrev main_call3_call0_v88 : Ref sig .tc := ⟨.hbm, 749, rfl⟩
abbrev main_call3_call0_c_22 : Ref sig .tc := ⟨.hbm, 750, rfl⟩
abbrev main_call3_call0_v89 : Ref sig .tc := ⟨.hbm, 751, rfl⟩
abbrev main_call3_call0_v90 : Ref sig .tc := ⟨.hbm, 752, rfl⟩
abbrev main_call3_call0_c_23 : Ref sig .tc := ⟨.hbm, 753, rfl⟩
abbrev main_call3_call0_v91 : Ref sig .tc := ⟨.hbm, 754, rfl⟩
abbrev main_call3_call0_v92 : Ref sig .tc := ⟨.hbm, 755, rfl⟩
abbrev main_call3_call0_v93 : Ref sig .tc := ⟨.hbm, 756, rfl⟩
abbrev main_call3_call0_v94 : Ref sig .tc := ⟨.hbm, 757, rfl⟩
abbrev main_call3_call0_v95 : Ref sig .tc := ⟨.hbm, 758, rfl⟩
abbrev main_call3_call0_c_24 : Ref sig .tc := ⟨.hbm, 759, rfl⟩
abbrev main_call3_call0_v96 : Ref sig .tc := ⟨.hbm, 760, rfl⟩
abbrev main_call3_call0_v97 : Ref sig .tc := ⟨.hbm, 761, rfl⟩
abbrev main_call3_call0_c_25 : Ref sig .tc := ⟨.hbm, 762, rfl⟩
abbrev main_call3_call0_v98 : Ref sig .tc := ⟨.hbm, 763, rfl⟩
abbrev main_call3_call0_v99 : Ref sig .tc := ⟨.hbm, 764, rfl⟩
abbrev main_call3_call0_v100 : Ref sig .tc := ⟨.hbm, 765, rfl⟩
abbrev main_call3_call0_v101 : Ref sig .tc := ⟨.hbm, 766, rfl⟩
abbrev main_call3_call0_v102 : Ref sig .tc := ⟨.hbm, 767, rfl⟩
abbrev main_call3_call0_v103 : Ref sig .tc := ⟨.hbm, 768, rfl⟩
abbrev main_call3_call0_v104 : Ref sig .tc := ⟨.hbm, 769, rfl⟩
abbrev main_call3_call0_v105 : Ref sig .tc := ⟨.hbm, 770, rfl⟩
abbrev main_call3_call0_c_26 : Ref sig .tc := ⟨.hbm, 771, rfl⟩
abbrev main_call3_call0_v106 : Ref sig .tc := ⟨.hbm, 772, rfl⟩
abbrev main_call3_call0_v107 : Ref sig .tc := ⟨.hbm, 773, rfl⟩
abbrev main_call3_call0_v108 : Ref sig .tc := ⟨.hbm, 774, rfl⟩
abbrev main_call3_call0_c_27 : Ref sig .tc := ⟨.hbm, 775, rfl⟩
abbrev main_call3_call0_v109 : Ref sig .tc := ⟨.hbm, 776, rfl⟩
abbrev main_call3_call0_v110 : Ref sig .tc := ⟨.hbm, 777, rfl⟩
abbrev main_call3_call0_c_28 : Ref sig .tc := ⟨.hbm, 778, rfl⟩
abbrev main_call3_call0_v111 : Ref sig .tc := ⟨.hbm, 779, rfl⟩
abbrev main_call3_call0_v112 : Ref sig .tc := ⟨.hbm, 780, rfl⟩
abbrev main_call3_call0_v113 : Ref sig .tc := ⟨.hbm, 781, rfl⟩
abbrev main_call3_call0_v114 : Ref sig .tc := ⟨.hbm, 782, rfl⟩
abbrev main_call3_call0_v115 : Ref sig .tc := ⟨.hbm, 783, rfl⟩
abbrev main_call3_call0_c_29 : Ref sig .tc := ⟨.hbm, 784, rfl⟩
abbrev main_call3_call0_v116 : Ref sig .tc := ⟨.hbm, 785, rfl⟩
abbrev main_call3_call0_v117 : Ref sig .tc := ⟨.hbm, 786, rfl⟩
abbrev main_call3_call0_c_30 : Ref sig .tc := ⟨.hbm, 787, rfl⟩
abbrev main_call3_call0_v118 : Ref sig .tc := ⟨.hbm, 788, rfl⟩
abbrev main_call3_call0_v119 : Ref sig .tc := ⟨.hbm, 789, rfl⟩
abbrev main_call3_call0_v120 : Ref sig .tc := ⟨.hbm, 790, rfl⟩
abbrev main_call3_call0_v121 : Ref sig .tc := ⟨.hbm, 791, rfl⟩
abbrev main_call3_call0_v122 : Ref sig .tc := ⟨.hbm, 792, rfl⟩
abbrev main_call3_call0_c_31 : Ref sig .tc := ⟨.hbm, 793, rfl⟩
abbrev main_call3_call0_v123 : Ref sig .tc := ⟨.hbm, 794, rfl⟩
abbrev main_call3_call0_v124 : Ref sig .tc := ⟨.hbm, 795, rfl⟩
abbrev main_call3_call0_c_32 : Ref sig .tc := ⟨.hbm, 796, rfl⟩
abbrev main_call3_call0_v125 : Ref sig .tc := ⟨.hbm, 797, rfl⟩
abbrev main_call3_call0_v126 : Ref sig .tc := ⟨.hbm, 798, rfl⟩
abbrev main_call3_call0_v127 : Ref sig .tc := ⟨.hbm, 799, rfl⟩
abbrev main_call3_call0_v128 : Ref sig .tc := ⟨.hbm, 800, rfl⟩
abbrev main_call3_call0_v129 : Ref sig .tc := ⟨.hbm, 801, rfl⟩
abbrev main_call3_call0_c_33 : Ref sig .tc := ⟨.hbm, 802, rfl⟩
abbrev main_call3_call0_v130 : Ref sig .tc := ⟨.hbm, 803, rfl⟩
abbrev main_call3_call0_v131 : Ref sig .tc := ⟨.hbm, 804, rfl⟩
abbrev main_call3_call0_c_34 : Ref sig .tc := ⟨.hbm, 805, rfl⟩
abbrev main_call3_call0_v132 : Ref sig .tc := ⟨.hbm, 806, rfl⟩
abbrev main_call3_call0_v133 : Ref sig .tc := ⟨.hbm, 807, rfl⟩
abbrev main_call3_call0_v134 : Ref sig .tc := ⟨.hbm, 808, rfl⟩
abbrev main_call3_call0_v135 : Ref sig .tc := ⟨.hbm, 809, rfl⟩
abbrev main_call3_call0_v136 : Ref sig .tc := ⟨.hbm, 810, rfl⟩
abbrev main_call3_call0_v137 : Ref sig .tc := ⟨.hbm, 811, rfl⟩
abbrev main_call3_call0_v138 : Ref sig .tc := ⟨.hbm, 812, rfl⟩
abbrev main_call3_call0_v139 : Ref sig .tc := ⟨.hbm, 813, rfl⟩
abbrev main_call3_call0_c_35 : Ref sig .tc := ⟨.hbm, 814, rfl⟩
abbrev main_call3_call0_v140 : Ref sig .tc := ⟨.hbm, 815, rfl⟩
abbrev main_call3_call0_v141 : Ref sig .tc := ⟨.hbm, 816, rfl⟩
abbrev main_call3_call0_v142 : Ref sig .tc := ⟨.hbm, 817, rfl⟩
abbrev main_call3_call0_c_36 : Ref sig .tc := ⟨.hbm, 818, rfl⟩
abbrev main_call3_call0_v143 : Ref sig .tc := ⟨.hbm, 819, rfl⟩
abbrev main_call3_call0_v144 : Ref sig .tc := ⟨.hbm, 820, rfl⟩
abbrev main_call3_call0_c_37 : Ref sig .tc := ⟨.hbm, 821, rfl⟩
abbrev main_call3_call0_v145 : Ref sig .tc := ⟨.hbm, 822, rfl⟩
abbrev main_call3_call0_v146 : Ref sig .tc := ⟨.hbm, 823, rfl⟩
abbrev main_call3_call0_v147 : Ref sig .tc := ⟨.hbm, 824, rfl⟩
abbrev main_call3_call0_v148 : Ref sig .tc := ⟨.hbm, 825, rfl⟩
abbrev main_call3_call0_v149 : Ref sig .tc := ⟨.hbm, 826, rfl⟩
abbrev main_call3_call0_c_38 : Ref sig .tc := ⟨.hbm, 827, rfl⟩
abbrev main_call3_call0_v150 : Ref sig .tc := ⟨.hbm, 828, rfl⟩
abbrev main_call3_call0_v151 : Ref sig .tc := ⟨.hbm, 829, rfl⟩
abbrev main_call3_call0_c_39 : Ref sig .tc := ⟨.hbm, 830, rfl⟩
abbrev main_call3_call0_v152 : Ref sig .tc := ⟨.hbm, 831, rfl⟩
abbrev main_call3_call0_v153 : Ref sig .tc := ⟨.hbm, 832, rfl⟩
abbrev main_call3_call0_v154 : Ref sig .tc := ⟨.hbm, 833, rfl⟩
abbrev main_call3_call0_v155 : Ref sig .tc := ⟨.hbm, 834, rfl⟩
abbrev main_call3_call0_v156 : Ref sig .tc := ⟨.hbm, 835, rfl⟩
abbrev main_call3_call0_c_40 : Ref sig .tc := ⟨.hbm, 836, rfl⟩
abbrev main_call3_call0_v157 : Ref sig .tc := ⟨.hbm, 837, rfl⟩
abbrev main_call3_call0_v158 : Ref sig .tc := ⟨.hbm, 838, rfl⟩
abbrev main_call3_call0_c_41 : Ref sig .tc := ⟨.hbm, 839, rfl⟩
abbrev main_call3_call0_v159 : Ref sig .tc := ⟨.hbm, 840, rfl⟩
abbrev main_call3_call0_v160 : Ref sig .tc := ⟨.hbm, 841, rfl⟩
abbrev main_call3_call0_v161 : Ref sig .tc := ⟨.hbm, 842, rfl⟩
abbrev main_call3_call0_v162 : Ref sig .tc := ⟨.hbm, 843, rfl⟩
abbrev main_call3_call0_v163 : Ref sig .tc := ⟨.hbm, 844, rfl⟩
abbrev main_call3_call0_c_42 : Ref sig .tc := ⟨.hbm, 845, rfl⟩
abbrev main_call3_call0_v164 : Ref sig .tc := ⟨.hbm, 846, rfl⟩
abbrev main_call3_call0_v165 : Ref sig .tc := ⟨.hbm, 847, rfl⟩
abbrev main_call3_call0_c_43 : Ref sig .tc := ⟨.hbm, 848, rfl⟩
abbrev main_call3_call0_v166 : Ref sig .tc := ⟨.hbm, 849, rfl⟩
abbrev main_call3_call0_v167 : Ref sig .tc := ⟨.hbm, 850, rfl⟩
abbrev main_call3_call0_v168 : Ref sig .tc := ⟨.hbm, 851, rfl⟩
abbrev main_call3_call0_v169 : Ref sig .tc := ⟨.hbm, 852, rfl⟩
abbrev main_call3_call0_v170 : Ref sig .tc := ⟨.hbm, 853, rfl⟩
abbrev main_call3_v11_0 : Ref sig .tc := ⟨.hbm, 854, rfl⟩
abbrev main_call3_call0_v172 : Ref sig .tc := ⟨.hbm, 855, rfl⟩
abbrev main_call3_call0_v173 : Ref sig .tc := ⟨.hbm, 856, rfl⟩
abbrev main_call3_call0_c_44 : Ref sig .tc := ⟨.hbm, 857, rfl⟩
abbrev main_call3_call0_v174 : Ref sig .tc := ⟨.hbm, 858, rfl⟩
abbrev main_call3_v11_1 : Ref sig .tc := ⟨.hbm, 859, rfl⟩
abbrev main_call3_v12 : Ref sig .tc := ⟨.hbm, 860, rfl⟩
abbrev main_call3_v13 : Ref sig .tc := ⟨.hbm, 861, rfl⟩
abbrev main_v77 : Ref sig .tc := ⟨.hbm, 862, rfl⟩
abbrev main_v78 : Ref sig .tc := ⟨.hbm, 863, rfl⟩
abbrev main_v79 : Ref sig .tc := ⟨.hbm, 864, rfl⟩
abbrev main_v80 : Ref sig .tc := ⟨.hbm, 865, rfl⟩
abbrev main_v81 : Ref sig .tc := ⟨.hbm, 866, rfl⟩
abbrev main_c_34 : Ref sig .tc := ⟨.hbm, 867, rfl⟩
abbrev main_v82 : Ref sig .tc := ⟨.hbm, 868, rfl⟩
abbrev main_c_35 : Ref sig .tc := ⟨.hbm, 869, rfl⟩
abbrev main_v83 : Ref sig .tc := ⟨.hbm, 870, rfl⟩
abbrev main_v84 : Ref sig .tc := ⟨.hbm, 871, rfl⟩
abbrev main_c_36 : Ref sig .tc := ⟨.hbm, 872, rfl⟩
abbrev main_c_37 : Ref sig .tc := ⟨.hbm, 873, rfl⟩
abbrev main_v85 : Ref sig .tc := ⟨.hbm, 874, rfl⟩
abbrev main_c_38 : Ref sig .tc := ⟨.hbm, 875, rfl⟩
abbrev main_c_39 : Ref sig .tc := ⟨.hbm, 876, rfl⟩
abbrev main_v86 : Ref sig .tc := ⟨.hbm, 877, rfl⟩
abbrev main_c_40 : Ref sig .tc := ⟨.hbm, 878, rfl⟩
abbrev main_v87 : Ref sig .tc := ⟨.hbm, 879, rfl⟩
abbrev main_c_41 : Ref sig .tc := ⟨.hbm, 880, rfl⟩
abbrev main_c_42 : Ref sig .tc := ⟨.hbm, 881, rfl⟩
abbrev main_v88 : Ref sig .tc := ⟨.hbm, 882, rfl⟩
abbrev main_c_43 : Ref sig .tc := ⟨.hbm, 883, rfl⟩
abbrev main_c_44 : Ref sig .tc := ⟨.hbm, 884, rfl⟩
abbrev main_v89 : Ref sig .tc := ⟨.hbm, 885, rfl⟩
abbrev main_c_45 : Ref sig .tc := ⟨.hbm, 886, rfl⟩
abbrev main_v90 : Ref sig .tc := ⟨.hbm, 887, rfl⟩
abbrev main_v91 : Ref sig .tc := ⟨.hbm, 888, rfl⟩
abbrev main_v92 : Ref sig .tc := ⟨.hbm, 889, rfl⟩
abbrev main_call4_cst : Ref sig .tc := ⟨.hbm, 890, rfl⟩
abbrev main_call4_cst_0 : Ref sig .tc := ⟨.hbm, 891, rfl⟩
abbrev main_call4_call0_v0 : Ref sig .tc := ⟨.hbm, 892, rfl⟩
abbrev main_call4_call0_v1 : Ref sig .tc := ⟨.hbm, 893, rfl⟩
abbrev main_call4_call0_v2 : Ref sig .tc := ⟨.hbm, 894, rfl⟩
abbrev main_call4_call0_v3 : Ref sig .tc := ⟨.hbm, 895, rfl⟩
abbrev main_call4_call0_v4 : Ref sig .tc := ⟨.hbm, 896, rfl⟩
abbrev main_call4_call0_v5 : Ref sig .tc := ⟨.hbm, 897, rfl⟩
abbrev main_call4_call0_v6 : Ref sig .tc := ⟨.hbm, 898, rfl⟩
abbrev main_call4_call0_v7 : Ref sig .tc := ⟨.hbm, 899, rfl⟩
abbrev main_call4_call0_v8 : Ref sig .tc := ⟨.hbm, 900, rfl⟩
abbrev main_call4_call0_c : Ref sig .tc := ⟨.hbm, 901, rfl⟩
abbrev main_call4_call0_v9 : Ref sig .tc := ⟨.hbm, 902, rfl⟩
abbrev main_call4_call0_v10 : Ref sig .tc := ⟨.hbm, 903, rfl⟩
abbrev main_call4_call0_c_0 : Ref sig .tc := ⟨.hbm, 904, rfl⟩
abbrev main_call4_call0_v11 : Ref sig .tc := ⟨.hbm, 905, rfl⟩
abbrev main_call4_call0_v12 : Ref sig .tc := ⟨.hbm, 906, rfl⟩
abbrev main_call4_call0_v13 : Ref sig .tc := ⟨.hbm, 907, rfl⟩
abbrev main_call4_call0_c_1 : Ref sig .tc := ⟨.hbm, 908, rfl⟩
abbrev main_call4_call0_v14 : Ref sig .tc := ⟨.hbm, 909, rfl⟩
abbrev main_call4_call0_v15 : Ref sig .tc := ⟨.hbm, 910, rfl⟩
abbrev main_call4_call0_v16 : Ref sig .tc := ⟨.hbm, 911, rfl⟩
abbrev main_call4_call0_v17 : Ref sig .tc := ⟨.hbm, 912, rfl⟩
abbrev main_call4_call0_call0_v0 : Ref sig .tc := ⟨.hbm, 913, rfl⟩
abbrev main_call4_call0_call0_c : Ref sig .tc := ⟨.hbm, 914, rfl⟩
abbrev main_call4_call0_call0_v1 : Ref sig .tc := ⟨.hbm, 915, rfl⟩
abbrev main_call4_call0_call0_v2 : Ref sig .tc := ⟨.hbm, 916, rfl⟩
abbrev main_call4_call0_call0_v3 : Ref sig .tc := ⟨.hbm, 917, rfl⟩
abbrev main_call4_call0_call0_v4 : Ref sig .tc := ⟨.hbm, 918, rfl⟩
abbrev main_call4_call0_call0_v5 : Ref sig .tc := ⟨.hbm, 919, rfl⟩
abbrev main_call4_call0_call0_v6 : Ref sig .tc := ⟨.hbm, 920, rfl⟩
abbrev main_call4_call0_call0_c_0 : Ref sig .tc := ⟨.hbm, 921, rfl⟩
abbrev main_call4_call0_call0_v7 : Ref sig .tc := ⟨.hbm, 922, rfl⟩
abbrev main_call4_call0_call0_v8 : Ref sig .tc := ⟨.hbm, 923, rfl⟩
abbrev main_call4_call0_call0_c_1 : Ref sig .tc := ⟨.hbm, 924, rfl⟩
abbrev main_call4_call0_call0_v9 : Ref sig .tc := ⟨.hbm, 925, rfl⟩
abbrev main_call4_call0_call0_v10 : Ref sig .tc := ⟨.hbm, 926, rfl⟩
abbrev main_call4_call0_call0_v11 : Ref sig .tc := ⟨.hbm, 927, rfl⟩
abbrev main_call4_call0_call0_v12 : Ref sig .tc := ⟨.hbm, 928, rfl⟩
abbrev main_call4_call0_call0_v13 : Ref sig .tc := ⟨.hbm, 929, rfl⟩
abbrev main_call4_call0_call0_c_2 : Ref sig .tc := ⟨.hbm, 930, rfl⟩
abbrev main_call4_call0_call0_v14 : Ref sig .tc := ⟨.hbm, 931, rfl⟩
abbrev main_call4_call0_call0_v15 : Ref sig .tc := ⟨.hbm, 932, rfl⟩
abbrev main_call4_call0_call0_c_3 : Ref sig .tc := ⟨.hbm, 933, rfl⟩
abbrev main_call4_call0_call0_v16 : Ref sig .tc := ⟨.hbm, 934, rfl⟩
abbrev main_call4_call0_call0_v17 : Ref sig .tc := ⟨.hbm, 935, rfl⟩
abbrev main_call4_call0_call0_v18 : Ref sig .tc := ⟨.hbm, 936, rfl⟩
abbrev main_call4_call0_call0_v19 : Ref sig .tc := ⟨.hbm, 937, rfl⟩
abbrev main_call4_call0_call0_v20 : Ref sig .tc := ⟨.hbm, 938, rfl⟩
abbrev main_call4_call0_call0_c_4 : Ref sig .tc := ⟨.hbm, 939, rfl⟩
abbrev main_call4_call0_call0_v21 : Ref sig .tc := ⟨.hbm, 940, rfl⟩
abbrev main_call4_call0_call0_v22 : Ref sig .tc := ⟨.hbm, 941, rfl⟩
abbrev main_call4_call0_call0_c_5 : Ref sig .tc := ⟨.hbm, 942, rfl⟩
abbrev main_call4_call0_call0_v23 : Ref sig .tc := ⟨.hbm, 943, rfl⟩
abbrev main_call4_call0_call0_v24 : Ref sig .tc := ⟨.hbm, 944, rfl⟩
abbrev main_call4_call0_call0_v25 : Ref sig .tc := ⟨.hbm, 945, rfl⟩
abbrev main_call4_call0_call0_v26 : Ref sig .tc := ⟨.hbm, 946, rfl⟩
abbrev main_call4_call0_call0_v27 : Ref sig .tc := ⟨.hbm, 947, rfl⟩
abbrev main_call4_call0_call0_c_6 : Ref sig .tc := ⟨.hbm, 948, rfl⟩
abbrev main_call4_call0_call0_v28 : Ref sig .tc := ⟨.hbm, 949, rfl⟩
abbrev main_call4_call0_call0_v29 : Ref sig .tc := ⟨.hbm, 950, rfl⟩
abbrev main_call4_call0_call0_c_7 : Ref sig .tc := ⟨.hbm, 951, rfl⟩
abbrev main_call4_call0_call0_v30 : Ref sig .tc := ⟨.hbm, 952, rfl⟩
abbrev main_call4_call0_call0_v31 : Ref sig .tc := ⟨.hbm, 953, rfl⟩
abbrev main_call4_call0_call0_v32 : Ref sig .tc := ⟨.hbm, 954, rfl⟩
abbrev main_call4_call0_call0_v33 : Ref sig .tc := ⟨.hbm, 955, rfl⟩
abbrev main_call4_call0_call0_v34 : Ref sig .tc := ⟨.hbm, 956, rfl⟩
abbrev main_call4_call0_call0_v35 : Ref sig .tc := ⟨.hbm, 957, rfl⟩
abbrev main_call4_call0_call0_v36 : Ref sig .tc := ⟨.hbm, 958, rfl⟩
abbrev main_call4_call0_call0_v37 : Ref sig .tc := ⟨.hbm, 959, rfl⟩
abbrev main_call4_call0_call0_c_8 : Ref sig .tc := ⟨.hbm, 960, rfl⟩
abbrev main_call4_call0_call0_v38 : Ref sig .tc := ⟨.hbm, 961, rfl⟩
abbrev main_call4_call0_call0_v39 : Ref sig .tc := ⟨.hbm, 962, rfl⟩
abbrev main_call4_call0_call0_v40 : Ref sig .tc := ⟨.hbm, 963, rfl⟩
abbrev main_call4_call0_call0_c_9 : Ref sig .tc := ⟨.hbm, 964, rfl⟩
abbrev main_call4_call0_call0_v41 : Ref sig .tc := ⟨.hbm, 965, rfl⟩
abbrev main_call4_call0_call0_v42 : Ref sig .tc := ⟨.hbm, 966, rfl⟩
abbrev main_call4_call0_call0_c_10 : Ref sig .tc := ⟨.hbm, 967, rfl⟩
abbrev main_call4_call0_call0_v43 : Ref sig .tc := ⟨.hbm, 968, rfl⟩
abbrev main_call4_call0_call0_v44 : Ref sig .tc := ⟨.hbm, 969, rfl⟩
abbrev main_call4_call0_call0_v45 : Ref sig .tc := ⟨.hbm, 970, rfl⟩
abbrev main_call4_call0_call0_v46 : Ref sig .tc := ⟨.hbm, 971, rfl⟩
abbrev main_call4_call0_call0_v47 : Ref sig .tc := ⟨.hbm, 972, rfl⟩
abbrev main_call4_call0_call0_c_11 : Ref sig .tc := ⟨.hbm, 973, rfl⟩
abbrev main_call4_call0_call0_v48 : Ref sig .tc := ⟨.hbm, 974, rfl⟩
abbrev main_call4_call0_call0_v49 : Ref sig .tc := ⟨.hbm, 975, rfl⟩
abbrev main_call4_call0_call0_c_12 : Ref sig .tc := ⟨.hbm, 976, rfl⟩
abbrev main_call4_call0_call0_v50 : Ref sig .tc := ⟨.hbm, 977, rfl⟩
abbrev main_call4_call0_call0_v51 : Ref sig .tc := ⟨.hbm, 978, rfl⟩
abbrev main_call4_call0_call0_v52 : Ref sig .tc := ⟨.hbm, 979, rfl⟩
abbrev main_call4_call0_call0_v53 : Ref sig .tc := ⟨.hbm, 980, rfl⟩
abbrev main_call4_call0_call0_v54 : Ref sig .tc := ⟨.hbm, 981, rfl⟩
abbrev main_call4_call0_call0_c_13 : Ref sig .tc := ⟨.hbm, 982, rfl⟩
abbrev main_call4_call0_call0_v55 : Ref sig .tc := ⟨.hbm, 983, rfl⟩
abbrev main_call4_call0_call0_v56 : Ref sig .tc := ⟨.hbm, 984, rfl⟩
abbrev main_call4_call0_call0_c_14 : Ref sig .tc := ⟨.hbm, 985, rfl⟩
abbrev main_call4_call0_call0_v57 : Ref sig .tc := ⟨.hbm, 986, rfl⟩
abbrev main_call4_call0_call0_v58 : Ref sig .tc := ⟨.hbm, 987, rfl⟩
abbrev main_call4_call0_call0_v59 : Ref sig .tc := ⟨.hbm, 988, rfl⟩
abbrev main_call4_call0_call0_v60 : Ref sig .tc := ⟨.hbm, 989, rfl⟩
abbrev main_call4_call0_call0_v61 : Ref sig .tc := ⟨.hbm, 990, rfl⟩
abbrev main_call4_call0_call0_c_15 : Ref sig .tc := ⟨.hbm, 991, rfl⟩
abbrev main_call4_call0_call0_v62 : Ref sig .tc := ⟨.hbm, 992, rfl⟩
abbrev main_call4_call0_call0_v63 : Ref sig .tc := ⟨.hbm, 993, rfl⟩
abbrev main_call4_call0_call0_c_16 : Ref sig .tc := ⟨.hbm, 994, rfl⟩
abbrev main_call4_call0_call0_v64 : Ref sig .tc := ⟨.hbm, 995, rfl⟩
abbrev main_call4_call0_call0_v65 : Ref sig .tc := ⟨.hbm, 996, rfl⟩
abbrev main_call4_call0_call0_v66 : Ref sig .tc := ⟨.hbm, 997, rfl⟩
abbrev main_call4_call0_call0_v67 : Ref sig .tc := ⟨.hbm, 998, rfl⟩
abbrev main_call4_call0_call0_v68 : Ref sig .tc := ⟨.hbm, 999, rfl⟩
abbrev main_call4_call0_call0_v69 : Ref sig .tc := ⟨.hbm, 1000, rfl⟩
abbrev main_call4_call0_call0_v70 : Ref sig .tc := ⟨.hbm, 1001, rfl⟩
abbrev main_call4_call0_call0_v71 : Ref sig .tc := ⟨.hbm, 1002, rfl⟩
abbrev main_call4_call0_call0_c_17 : Ref sig .tc := ⟨.hbm, 1003, rfl⟩
abbrev main_call4_call0_call0_v72 : Ref sig .tc := ⟨.hbm, 1004, rfl⟩
abbrev main_call4_call0_call0_v73 : Ref sig .tc := ⟨.hbm, 1005, rfl⟩
abbrev main_call4_call0_call0_v74 : Ref sig .tc := ⟨.hbm, 1006, rfl⟩
abbrev main_call4_call0_call0_c_18 : Ref sig .tc := ⟨.hbm, 1007, rfl⟩
abbrev main_call4_call0_call0_v75 : Ref sig .tc := ⟨.hbm, 1008, rfl⟩
abbrev main_call4_call0_call0_v76 : Ref sig .tc := ⟨.hbm, 1009, rfl⟩
abbrev main_call4_call0_call0_c_19 : Ref sig .tc := ⟨.hbm, 1010, rfl⟩
abbrev main_call4_call0_call0_v77 : Ref sig .tc := ⟨.hbm, 1011, rfl⟩
abbrev main_call4_call0_call0_v78 : Ref sig .tc := ⟨.hbm, 1012, rfl⟩
abbrev main_call4_call0_call0_v79 : Ref sig .tc := ⟨.hbm, 1013, rfl⟩
abbrev main_call4_call0_call0_v80 : Ref sig .tc := ⟨.hbm, 1014, rfl⟩
abbrev main_call4_call0_call0_v81 : Ref sig .tc := ⟨.hbm, 1015, rfl⟩
abbrev main_call4_call0_call0_c_20 : Ref sig .tc := ⟨.hbm, 1016, rfl⟩
abbrev main_call4_call0_call0_v82 : Ref sig .tc := ⟨.hbm, 1017, rfl⟩
abbrev main_call4_call0_call0_v83 : Ref sig .tc := ⟨.hbm, 1018, rfl⟩
abbrev main_call4_call0_call0_c_21 : Ref sig .tc := ⟨.hbm, 1019, rfl⟩
abbrev main_call4_call0_call0_v84 : Ref sig .tc := ⟨.hbm, 1020, rfl⟩
abbrev main_call4_call0_call0_v85 : Ref sig .tc := ⟨.hbm, 1021, rfl⟩
abbrev main_call4_call0_call0_v86 : Ref sig .tc := ⟨.hbm, 1022, rfl⟩
abbrev main_call4_call0_call0_v87 : Ref sig .tc := ⟨.hbm, 1023, rfl⟩
abbrev main_call4_call0_call0_v88 : Ref sig .tc := ⟨.hbm, 1024, rfl⟩
abbrev main_call4_call0_call0_c_22 : Ref sig .tc := ⟨.hbm, 1025, rfl⟩
abbrev main_call4_call0_call0_v89 : Ref sig .tc := ⟨.hbm, 1026, rfl⟩
abbrev main_call4_call0_call0_v90 : Ref sig .tc := ⟨.hbm, 1027, rfl⟩
abbrev main_call4_call0_call0_c_23 : Ref sig .tc := ⟨.hbm, 1028, rfl⟩
abbrev main_call4_call0_call0_v91 : Ref sig .tc := ⟨.hbm, 1029, rfl⟩
abbrev main_call4_call0_call0_v92 : Ref sig .tc := ⟨.hbm, 1030, rfl⟩
abbrev main_call4_call0_call0_v93 : Ref sig .tc := ⟨.hbm, 1031, rfl⟩
abbrev main_call4_call0_call0_v94 : Ref sig .tc := ⟨.hbm, 1032, rfl⟩
abbrev main_call4_call0_call0_v95 : Ref sig .tc := ⟨.hbm, 1033, rfl⟩
abbrev main_call4_call0_call0_c_24 : Ref sig .tc := ⟨.hbm, 1034, rfl⟩
abbrev main_call4_call0_call0_v96 : Ref sig .tc := ⟨.hbm, 1035, rfl⟩
abbrev main_call4_call0_call0_v97 : Ref sig .tc := ⟨.hbm, 1036, rfl⟩
abbrev main_call4_call0_call0_c_25 : Ref sig .tc := ⟨.hbm, 1037, rfl⟩
abbrev main_call4_call0_call0_v98 : Ref sig .tc := ⟨.hbm, 1038, rfl⟩
abbrev main_call4_call0_call0_v99 : Ref sig .tc := ⟨.hbm, 1039, rfl⟩
abbrev main_call4_call0_call0_v100 : Ref sig .tc := ⟨.hbm, 1040, rfl⟩
abbrev main_call4_call0_call0_v101 : Ref sig .tc := ⟨.hbm, 1041, rfl⟩
abbrev main_call4_call0_call0_v102 : Ref sig .tc := ⟨.hbm, 1042, rfl⟩
abbrev main_call4_call0_call0_v103 : Ref sig .tc := ⟨.hbm, 1043, rfl⟩
abbrev main_call4_call0_call0_v104 : Ref sig .tc := ⟨.hbm, 1044, rfl⟩
abbrev main_call4_call0_call0_v105 : Ref sig .tc := ⟨.hbm, 1045, rfl⟩
abbrev main_call4_call0_call0_c_26 : Ref sig .tc := ⟨.hbm, 1046, rfl⟩
abbrev main_call4_call0_call0_v106 : Ref sig .tc := ⟨.hbm, 1047, rfl⟩
abbrev main_call4_call0_call0_v107 : Ref sig .tc := ⟨.hbm, 1048, rfl⟩
abbrev main_call4_call0_call0_v108 : Ref sig .tc := ⟨.hbm, 1049, rfl⟩
abbrev main_call4_call0_call0_c_27 : Ref sig .tc := ⟨.hbm, 1050, rfl⟩
abbrev main_call4_call0_call0_v109 : Ref sig .tc := ⟨.hbm, 1051, rfl⟩
abbrev main_call4_call0_call0_v110 : Ref sig .tc := ⟨.hbm, 1052, rfl⟩
abbrev main_call4_call0_call0_c_28 : Ref sig .tc := ⟨.hbm, 1053, rfl⟩
abbrev main_call4_call0_call0_v111 : Ref sig .tc := ⟨.hbm, 1054, rfl⟩
abbrev main_call4_call0_call0_v112 : Ref sig .tc := ⟨.hbm, 1055, rfl⟩
abbrev main_call4_call0_call0_v113 : Ref sig .tc := ⟨.hbm, 1056, rfl⟩
abbrev main_call4_call0_call0_v114 : Ref sig .tc := ⟨.hbm, 1057, rfl⟩
abbrev main_call4_call0_call0_v115 : Ref sig .tc := ⟨.hbm, 1058, rfl⟩
abbrev main_call4_call0_call0_c_29 : Ref sig .tc := ⟨.hbm, 1059, rfl⟩
abbrev main_call4_call0_call0_v116 : Ref sig .tc := ⟨.hbm, 1060, rfl⟩
abbrev main_call4_call0_call0_v117 : Ref sig .tc := ⟨.hbm, 1061, rfl⟩
abbrev main_call4_call0_call0_c_30 : Ref sig .tc := ⟨.hbm, 1062, rfl⟩
abbrev main_call4_call0_call0_v118 : Ref sig .tc := ⟨.hbm, 1063, rfl⟩
abbrev main_call4_call0_call0_v119 : Ref sig .tc := ⟨.hbm, 1064, rfl⟩
abbrev main_call4_call0_call0_v120 : Ref sig .tc := ⟨.hbm, 1065, rfl⟩
abbrev main_call4_call0_call0_v121 : Ref sig .tc := ⟨.hbm, 1066, rfl⟩
abbrev main_call4_call0_call0_v122 : Ref sig .tc := ⟨.hbm, 1067, rfl⟩
abbrev main_call4_call0_call0_c_31 : Ref sig .tc := ⟨.hbm, 1068, rfl⟩
abbrev main_call4_call0_call0_v123 : Ref sig .tc := ⟨.hbm, 1069, rfl⟩
abbrev main_call4_call0_call0_v124 : Ref sig .tc := ⟨.hbm, 1070, rfl⟩
abbrev main_call4_call0_call0_c_32 : Ref sig .tc := ⟨.hbm, 1071, rfl⟩
abbrev main_call4_call0_call0_v125 : Ref sig .tc := ⟨.hbm, 1072, rfl⟩
abbrev main_call4_call0_call0_v126 : Ref sig .tc := ⟨.hbm, 1073, rfl⟩
abbrev main_call4_call0_call0_v127 : Ref sig .tc := ⟨.hbm, 1074, rfl⟩
abbrev main_call4_call0_call0_v128 : Ref sig .tc := ⟨.hbm, 1075, rfl⟩
abbrev main_call4_call0_call0_v129 : Ref sig .tc := ⟨.hbm, 1076, rfl⟩
abbrev main_call4_call0_call0_c_33 : Ref sig .tc := ⟨.hbm, 1077, rfl⟩
abbrev main_call4_call0_call0_v130 : Ref sig .tc := ⟨.hbm, 1078, rfl⟩
abbrev main_call4_call0_call0_v131 : Ref sig .tc := ⟨.hbm, 1079, rfl⟩
abbrev main_call4_call0_call0_c_34 : Ref sig .tc := ⟨.hbm, 1080, rfl⟩
abbrev main_call4_call0_call0_v132 : Ref sig .tc := ⟨.hbm, 1081, rfl⟩
abbrev main_call4_call0_call0_v133 : Ref sig .tc := ⟨.hbm, 1082, rfl⟩
abbrev main_call4_call0_call0_v134 : Ref sig .tc := ⟨.hbm, 1083, rfl⟩
abbrev main_call4_call0_call0_v135 : Ref sig .tc := ⟨.hbm, 1084, rfl⟩
abbrev main_call4_call0_call0_v136 : Ref sig .tc := ⟨.hbm, 1085, rfl⟩
abbrev main_call4_call0_call0_v137 : Ref sig .tc := ⟨.hbm, 1086, rfl⟩
abbrev main_call4_call0_call0_v138 : Ref sig .tc := ⟨.hbm, 1087, rfl⟩
abbrev main_call4_call0_call0_v139 : Ref sig .tc := ⟨.hbm, 1088, rfl⟩
abbrev main_call4_call0_call0_c_35 : Ref sig .tc := ⟨.hbm, 1089, rfl⟩
abbrev main_call4_call0_call0_v140 : Ref sig .tc := ⟨.hbm, 1090, rfl⟩
abbrev main_call4_call0_call0_v141 : Ref sig .tc := ⟨.hbm, 1091, rfl⟩
abbrev main_call4_call0_call0_v142 : Ref sig .tc := ⟨.hbm, 1092, rfl⟩
abbrev main_call4_call0_call0_c_36 : Ref sig .tc := ⟨.hbm, 1093, rfl⟩
abbrev main_call4_call0_call0_v143 : Ref sig .tc := ⟨.hbm, 1094, rfl⟩
abbrev main_call4_call0_call0_v144 : Ref sig .tc := ⟨.hbm, 1095, rfl⟩
abbrev main_call4_call0_call0_c_37 : Ref sig .tc := ⟨.hbm, 1096, rfl⟩
abbrev main_call4_call0_call0_v145 : Ref sig .tc := ⟨.hbm, 1097, rfl⟩
abbrev main_call4_call0_call0_v146 : Ref sig .tc := ⟨.hbm, 1098, rfl⟩
abbrev main_call4_call0_call0_v147 : Ref sig .tc := ⟨.hbm, 1099, rfl⟩
abbrev main_call4_call0_call0_v148 : Ref sig .tc := ⟨.hbm, 1100, rfl⟩
abbrev main_call4_call0_call0_v149 : Ref sig .tc := ⟨.hbm, 1101, rfl⟩
abbrev main_call4_call0_call0_c_38 : Ref sig .tc := ⟨.hbm, 1102, rfl⟩
abbrev main_call4_call0_call0_v150 : Ref sig .tc := ⟨.hbm, 1103, rfl⟩
abbrev main_call4_call0_call0_v151 : Ref sig .tc := ⟨.hbm, 1104, rfl⟩
abbrev main_call4_call0_call0_c_39 : Ref sig .tc := ⟨.hbm, 1105, rfl⟩
abbrev main_call4_call0_call0_v152 : Ref sig .tc := ⟨.hbm, 1106, rfl⟩
abbrev main_call4_call0_call0_v153 : Ref sig .tc := ⟨.hbm, 1107, rfl⟩
abbrev main_call4_call0_call0_v154 : Ref sig .tc := ⟨.hbm, 1108, rfl⟩
abbrev main_call4_call0_call0_v155 : Ref sig .tc := ⟨.hbm, 1109, rfl⟩
abbrev main_call4_call0_call0_v156 : Ref sig .tc := ⟨.hbm, 1110, rfl⟩
abbrev main_call4_call0_call0_c_40 : Ref sig .tc := ⟨.hbm, 1111, rfl⟩
abbrev main_call4_call0_call0_v157 : Ref sig .tc := ⟨.hbm, 1112, rfl⟩
abbrev main_call4_call0_call0_v158 : Ref sig .tc := ⟨.hbm, 1113, rfl⟩
abbrev main_call4_call0_call0_c_41 : Ref sig .tc := ⟨.hbm, 1114, rfl⟩
abbrev main_call4_call0_call0_v159 : Ref sig .tc := ⟨.hbm, 1115, rfl⟩
abbrev main_call4_call0_call0_v160 : Ref sig .tc := ⟨.hbm, 1116, rfl⟩
abbrev main_call4_call0_call0_v161 : Ref sig .tc := ⟨.hbm, 1117, rfl⟩
abbrev main_call4_call0_call0_v162 : Ref sig .tc := ⟨.hbm, 1118, rfl⟩
abbrev main_call4_call0_call0_v163 : Ref sig .tc := ⟨.hbm, 1119, rfl⟩
abbrev main_call4_call0_call0_c_42 : Ref sig .tc := ⟨.hbm, 1120, rfl⟩
abbrev main_call4_call0_call0_v164 : Ref sig .tc := ⟨.hbm, 1121, rfl⟩
abbrev main_call4_call0_call0_v165 : Ref sig .tc := ⟨.hbm, 1122, rfl⟩
abbrev main_call4_call0_call0_c_43 : Ref sig .tc := ⟨.hbm, 1123, rfl⟩
abbrev main_call4_call0_call0_v166 : Ref sig .tc := ⟨.hbm, 1124, rfl⟩
abbrev main_call4_call0_call0_v167 : Ref sig .tc := ⟨.hbm, 1125, rfl⟩
abbrev main_call4_call0_call0_v168 : Ref sig .tc := ⟨.hbm, 1126, rfl⟩
abbrev main_call4_call0_call0_v169 : Ref sig .tc := ⟨.hbm, 1127, rfl⟩
abbrev main_call4_call0_call0_v170 : Ref sig .tc := ⟨.hbm, 1128, rfl⟩
abbrev main_call4_call0_v18_0 : Ref sig .tc := ⟨.hbm, 1129, rfl⟩
abbrev main_call4_call0_call0_v172 : Ref sig .tc := ⟨.hbm, 1130, rfl⟩
abbrev main_call4_call0_call0_v173 : Ref sig .tc := ⟨.hbm, 1131, rfl⟩
abbrev main_call4_call0_call0_c_44 : Ref sig .tc := ⟨.hbm, 1132, rfl⟩
abbrev main_call4_call0_call0_v174 : Ref sig .tc := ⟨.hbm, 1133, rfl⟩
abbrev main_call4_call0_v18_1 : Ref sig .tc := ⟨.hbm, 1134, rfl⟩
abbrev main_call4_call0_v19 : Ref sig .tc := ⟨.hbm, 1135, rfl⟩
abbrev main_call4_call0_c_2 : Ref sig .tc := ⟨.hbm, 1136, rfl⟩
abbrev main_call4_call0_v20 : Ref sig .tc := ⟨.hbm, 1137, rfl⟩
abbrev main_call4_call0_v21 : Ref sig .tc := ⟨.hbm, 1138, rfl⟩
abbrev main_call4_call0_c_3 : Ref sig .tc := ⟨.hbm, 1139, rfl⟩
abbrev main_call4_call0_v22 : Ref sig .tc := ⟨.hbm, 1140, rfl⟩
abbrev main_call4_call0_v23 : Ref sig .tc := ⟨.hbm, 1141, rfl⟩
abbrev main_call4_call0_v24 : Ref sig .tc := ⟨.hbm, 1142, rfl⟩
abbrev main_call4_call0_cst : Ref sig .tc := ⟨.hbm, 1143, rfl⟩
abbrev main_call4_call0_v25 : Ref sig .tc := ⟨.hbm, 1144, rfl⟩
abbrev main_call4_call0_v26 : Ref sig .tc := ⟨.hbm, 1145, rfl⟩
abbrev main_call4_call0_v27 : Ref sig .tc := ⟨.hbm, 1146, rfl⟩
abbrev main_call4_call0_v28 : Ref sig .tc := ⟨.hbm, 1147, rfl⟩
abbrev main_call4_call0_v29 : Ref sig .tc := ⟨.hbm, 1148, rfl⟩
abbrev main_call4_call0_v30 : Ref sig .tc := ⟨.hbm, 1149, rfl⟩
abbrev main_call4_call0_v31 : Ref sig .tc := ⟨.hbm, 1150, rfl⟩
abbrev main_call4_call0_v32 : Ref sig .tc := ⟨.hbm, 1151, rfl⟩
abbrev main_call4_v0 : Ref sig .tc := ⟨.hbm, 1152, rfl⟩
abbrev main_call4_v1 : Ref sig .tc := ⟨.hbm, 1153, rfl⟩
abbrev main_call4_v2 : Ref sig .tc := ⟨.hbm, 1154, rfl⟩
abbrev main_call4_v3 : Ref sig .tc := ⟨.hbm, 1155, rfl⟩
abbrev main_v93 : Ref sig .tc := ⟨.hbm, 1156, rfl⟩
abbrev main_v94 : Ref sig .tc := ⟨.hbm, 1157, rfl⟩
abbrev main_call5_v0 : Ref sig .tc := ⟨.hbm, 1158, rfl⟩
abbrev main_call5_cst : Ref sig .tc := ⟨.hbm, 1159, rfl⟩
abbrev main_call5_c : Ref sig .tc := ⟨.hbm, 1160, rfl⟩
abbrev main_call5_v1_0 : Ref sig .tc := ⟨.hbm, 1161, rfl⟩
abbrev main_v95 : Ref sig .tc := ⟨.hbm, 1162, rfl⟩
abbrev main_v96 : Ref sig .tc := ⟨.hbm, 1163, rfl⟩
abbrev main_v97 : Ref sig .tc := ⟨.hbm, 1164, rfl⟩
abbrev main_v98 : Ref sig .tc := ⟨.hbm, 1165, rfl⟩
abbrev main_v99 : Ref sig .tc := ⟨.hbm, 1166, rfl⟩
abbrev main_c_46 : Ref sig .tc := ⟨.hbm, 1167, rfl⟩
abbrev main_v100 : Ref sig .tc := ⟨.hbm, 1168, rfl⟩
abbrev main_v101 : Ref sig .tc := ⟨.hbm, 1169, rfl⟩
abbrev main_c_47 : Ref sig .tc := ⟨.hbm, 1170, rfl⟩
abbrev main_v102 : Ref sig .tc := ⟨.hbm, 1171, rfl⟩
abbrev main_v103 : Ref sig .tc := ⟨.hbm, 1172, rfl⟩
abbrev main_v104 : Ref sig .tc := ⟨.hbm, 1173, rfl⟩
abbrev main_v105 : Ref sig .tc := ⟨.hbm, 1174, rfl⟩
abbrev main_v106 : Ref sig .tc := ⟨.hbm, 1175, rfl⟩
abbrev main_v107 : Ref sig .tc := ⟨.hbm, 1176, rfl⟩
abbrev main_c_48 : Ref sig .tc := ⟨.hbm, 1177, rfl⟩
abbrev main_v108 : Ref sig .tc := ⟨.hbm, 1178, rfl⟩
abbrev main_c_49 : Ref sig .tc := ⟨.hbm, 1179, rfl⟩
abbrev main_v109 : Ref sig .tc := ⟨.hbm, 1180, rfl⟩
abbrev main_v110 : Ref sig .tc := ⟨.hbm, 1181, rfl⟩
abbrev main_c_50 : Ref sig .tc := ⟨.hbm, 1182, rfl⟩
abbrev main_v111 : Ref sig .tc := ⟨.hbm, 1183, rfl⟩
abbrev main_v112 : Ref sig .tc := ⟨.hbm, 1184, rfl⟩
abbrev main_c_51 : Ref sig .tc := ⟨.hbm, 1185, rfl⟩
abbrev main_v113 : Ref sig .tc := ⟨.hbm, 1186, rfl⟩
abbrev main_v114 : Ref sig .tc := ⟨.hbm, 1187, rfl⟩
abbrev main_v115 : Ref sig .tc := ⟨.hbm, 1188, rfl⟩
abbrev main_c_52 : Ref sig .tc := ⟨.hbm, 1189, rfl⟩
abbrev main_v116 : Ref sig .tc := ⟨.hbm, 1190, rfl⟩
abbrev main_v117 : Ref sig .tc := ⟨.hbm, 1191, rfl⟩
abbrev main_c_53 : Ref sig .tc := ⟨.hbm, 1192, rfl⟩
abbrev main_v118 : Ref sig .tc := ⟨.hbm, 1193, rfl⟩
abbrev main_v119 : Ref sig .tc := ⟨.hbm, 1194, rfl⟩
abbrev main_v120 : Ref sig .tc := ⟨.hbm, 1195, rfl⟩
abbrev main_v121 : Ref sig .tc := ⟨.hbm, 1196, rfl⟩
abbrev main_v122 : Ref sig .tc := ⟨.hbm, 1197, rfl⟩
abbrev main_v123 : Ref sig .tc := ⟨.hbm, 1198, rfl⟩
abbrev main_v124 : Ref sig .tc := ⟨.hbm, 1199, rfl⟩
abbrev main_v125 : Ref sig .tc := ⟨.hbm, 1200, rfl⟩
abbrev main_v126 : Ref sig .tc := ⟨.hbm, 1201, rfl⟩
abbrev main_c_54 : Ref sig .tc := ⟨.hbm, 1202, rfl⟩
abbrev main_v127 : Ref sig .tc := ⟨.hbm, 1203, rfl⟩
abbrev main_c_55 : Ref sig .tc := ⟨.hbm, 1204, rfl⟩
abbrev main_v128 : Ref sig .tc := ⟨.hbm, 1205, rfl⟩
abbrev main_v129 : Ref sig .tc := ⟨.hbm, 1206, rfl⟩
abbrev main_c_56 : Ref sig .tc := ⟨.hbm, 1207, rfl⟩
abbrev main_c_57 : Ref sig .tc := ⟨.hbm, 1208, rfl⟩
abbrev main_v130 : Ref sig .tc := ⟨.hbm, 1209, rfl⟩
abbrev main_c_58 : Ref sig .tc := ⟨.hbm, 1210, rfl⟩
abbrev main_c_59 : Ref sig .tc := ⟨.hbm, 1211, rfl⟩
abbrev main_v131 : Ref sig .tc := ⟨.hbm, 1212, rfl⟩
abbrev main_c_60 : Ref sig .tc := ⟨.hbm, 1213, rfl⟩
abbrev main_v132 : Ref sig .tc := ⟨.hbm, 1214, rfl⟩
abbrev main_c_61 : Ref sig .tc := ⟨.hbm, 1215, rfl⟩
abbrev main_c_62 : Ref sig .tc := ⟨.hbm, 1216, rfl⟩
abbrev main_v133 : Ref sig .tc := ⟨.hbm, 1217, rfl⟩
abbrev main_c_63 : Ref sig .tc := ⟨.hbm, 1218, rfl⟩
abbrev main_c_64 : Ref sig .tc := ⟨.hbm, 1219, rfl⟩
abbrev main_v134 : Ref sig .tc := ⟨.hbm, 1220, rfl⟩
abbrev main_c_65 : Ref sig .tc := ⟨.hbm, 1221, rfl⟩
abbrev main_v135 : Ref sig .tc := ⟨.hbm, 1222, rfl⟩
abbrev main_v136 : Ref sig .tc := ⟨.hbm, 1223, rfl⟩
abbrev main_v137 : Ref sig .tc := ⟨.hbm, 1224, rfl⟩
abbrev main_v138 : Ref sig .tc := ⟨.hbm, 1225, rfl⟩
abbrev main_v139 : Ref sig .tc := ⟨.hbm, 1226, rfl⟩
abbrev main_v140 : Ref sig .tc := ⟨.hbm, 1227, rfl⟩
abbrev main_call6_v0 : Ref sig .tc := ⟨.hbm, 1228, rfl⟩
abbrev main_call6_v1 : Ref sig .tc := ⟨.hbm, 1229, rfl⟩
abbrev main_call6_v2 : Ref sig .tc := ⟨.hbm, 1230, rfl⟩
abbrev main_call6_v3 : Ref sig .tc := ⟨.hbm, 1231, rfl⟩
abbrev main_call6_v4 : Ref sig .tc := ⟨.hbm, 1232, rfl⟩
abbrev main_call6_c : Ref sig .tc := ⟨.hbm, 1233, rfl⟩
abbrev main_call6_v5 : Ref sig .tc := ⟨.hbm, 1234, rfl⟩
abbrev main_call6_v6 : Ref sig .tc := ⟨.hbm, 1235, rfl⟩
abbrev main_call6_c_0 : Ref sig .tc := ⟨.hbm, 1236, rfl⟩
abbrev main_call6_v7 : Ref sig .tc := ⟨.hbm, 1237, rfl⟩
abbrev main_call6_v8 : Ref sig .tc := ⟨.hbm, 1238, rfl⟩
abbrev main_call6_v9 : Ref sig .tc := ⟨.hbm, 1239, rfl⟩
abbrev main_call6_v10 : Ref sig .tc := ⟨.hbm, 1240, rfl⟩
abbrev main_call6_call0_v0 : Ref sig .tc := ⟨.hbm, 1241, rfl⟩
abbrev main_call6_call0_c : Ref sig .tc := ⟨.hbm, 1242, rfl⟩
abbrev main_call6_call0_v1 : Ref sig .tc := ⟨.hbm, 1243, rfl⟩
abbrev main_call6_call0_v2 : Ref sig .tc := ⟨.hbm, 1244, rfl⟩
abbrev main_call6_call0_v3 : Ref sig .tc := ⟨.hbm, 1245, rfl⟩
abbrev main_call6_call0_v4 : Ref sig .tc := ⟨.hbm, 1246, rfl⟩
abbrev main_call6_call0_v5 : Ref sig .tc := ⟨.hbm, 1247, rfl⟩
abbrev main_call6_call0_v6 : Ref sig .tc := ⟨.hbm, 1248, rfl⟩
abbrev main_call6_call0_c_0 : Ref sig .tc := ⟨.hbm, 1249, rfl⟩
abbrev main_call6_call0_v7 : Ref sig .tc := ⟨.hbm, 1250, rfl⟩
abbrev main_call6_call0_v8 : Ref sig .tc := ⟨.hbm, 1251, rfl⟩
abbrev main_call6_call0_c_1 : Ref sig .tc := ⟨.hbm, 1252, rfl⟩
abbrev main_call6_call0_v9 : Ref sig .tc := ⟨.hbm, 1253, rfl⟩
abbrev main_call6_call0_v10 : Ref sig .tc := ⟨.hbm, 1254, rfl⟩
abbrev main_call6_call0_v11 : Ref sig .tc := ⟨.hbm, 1255, rfl⟩
abbrev main_call6_call0_v12 : Ref sig .tc := ⟨.hbm, 1256, rfl⟩
abbrev main_call6_call0_v13 : Ref sig .tc := ⟨.hbm, 1257, rfl⟩
abbrev main_call6_call0_c_2 : Ref sig .tc := ⟨.hbm, 1258, rfl⟩
abbrev main_call6_call0_v14 : Ref sig .tc := ⟨.hbm, 1259, rfl⟩
abbrev main_call6_call0_v15 : Ref sig .tc := ⟨.hbm, 1260, rfl⟩
abbrev main_call6_call0_c_3 : Ref sig .tc := ⟨.hbm, 1261, rfl⟩
abbrev main_call6_call0_v16 : Ref sig .tc := ⟨.hbm, 1262, rfl⟩
abbrev main_call6_call0_v17 : Ref sig .tc := ⟨.hbm, 1263, rfl⟩
abbrev main_call6_call0_v18 : Ref sig .tc := ⟨.hbm, 1264, rfl⟩
abbrev main_call6_call0_v19 : Ref sig .tc := ⟨.hbm, 1265, rfl⟩
abbrev main_call6_call0_v20 : Ref sig .tc := ⟨.hbm, 1266, rfl⟩
abbrev main_call6_call0_c_4 : Ref sig .tc := ⟨.hbm, 1267, rfl⟩
abbrev main_call6_call0_v21 : Ref sig .tc := ⟨.hbm, 1268, rfl⟩
abbrev main_call6_call0_v22 : Ref sig .tc := ⟨.hbm, 1269, rfl⟩
abbrev main_call6_call0_c_5 : Ref sig .tc := ⟨.hbm, 1270, rfl⟩
abbrev main_call6_call0_v23 : Ref sig .tc := ⟨.hbm, 1271, rfl⟩
abbrev main_call6_call0_v24 : Ref sig .tc := ⟨.hbm, 1272, rfl⟩
abbrev main_call6_call0_v25 : Ref sig .tc := ⟨.hbm, 1273, rfl⟩
abbrev main_call6_call0_v26 : Ref sig .tc := ⟨.hbm, 1274, rfl⟩
abbrev main_call6_call0_v27 : Ref sig .tc := ⟨.hbm, 1275, rfl⟩
abbrev main_call6_call0_c_6 : Ref sig .tc := ⟨.hbm, 1276, rfl⟩
abbrev main_call6_call0_v28 : Ref sig .tc := ⟨.hbm, 1277, rfl⟩
abbrev main_call6_call0_v29 : Ref sig .tc := ⟨.hbm, 1278, rfl⟩
abbrev main_call6_call0_c_7 : Ref sig .tc := ⟨.hbm, 1279, rfl⟩
abbrev main_call6_call0_v30 : Ref sig .tc := ⟨.hbm, 1280, rfl⟩
abbrev main_call6_call0_v31 : Ref sig .tc := ⟨.hbm, 1281, rfl⟩
abbrev main_call6_call0_v32 : Ref sig .tc := ⟨.hbm, 1282, rfl⟩
abbrev main_call6_call0_v33 : Ref sig .tc := ⟨.hbm, 1283, rfl⟩
abbrev main_call6_call0_v34 : Ref sig .tc := ⟨.hbm, 1284, rfl⟩
abbrev main_call6_call0_v35 : Ref sig .tc := ⟨.hbm, 1285, rfl⟩
abbrev main_call6_call0_v36 : Ref sig .tc := ⟨.hbm, 1286, rfl⟩
abbrev main_call6_call0_v37 : Ref sig .tc := ⟨.hbm, 1287, rfl⟩
abbrev main_call6_call0_c_8 : Ref sig .tc := ⟨.hbm, 1288, rfl⟩
abbrev main_call6_call0_v38 : Ref sig .tc := ⟨.hbm, 1289, rfl⟩
abbrev main_call6_call0_v39 : Ref sig .tc := ⟨.hbm, 1290, rfl⟩
abbrev main_call6_call0_v40 : Ref sig .tc := ⟨.hbm, 1291, rfl⟩
abbrev main_call6_call0_c_9 : Ref sig .tc := ⟨.hbm, 1292, rfl⟩
abbrev main_call6_call0_v41 : Ref sig .tc := ⟨.hbm, 1293, rfl⟩
abbrev main_call6_call0_v42 : Ref sig .tc := ⟨.hbm, 1294, rfl⟩
abbrev main_call6_call0_c_10 : Ref sig .tc := ⟨.hbm, 1295, rfl⟩
abbrev main_call6_call0_v43 : Ref sig .tc := ⟨.hbm, 1296, rfl⟩
abbrev main_call6_call0_v44 : Ref sig .tc := ⟨.hbm, 1297, rfl⟩
abbrev main_call6_call0_v45 : Ref sig .tc := ⟨.hbm, 1298, rfl⟩
abbrev main_call6_call0_v46 : Ref sig .tc := ⟨.hbm, 1299, rfl⟩
abbrev main_call6_call0_v47 : Ref sig .tc := ⟨.hbm, 1300, rfl⟩
abbrev main_call6_call0_c_11 : Ref sig .tc := ⟨.hbm, 1301, rfl⟩
abbrev main_call6_call0_v48 : Ref sig .tc := ⟨.hbm, 1302, rfl⟩
abbrev main_call6_call0_v49 : Ref sig .tc := ⟨.hbm, 1303, rfl⟩
abbrev main_call6_call0_c_12 : Ref sig .tc := ⟨.hbm, 1304, rfl⟩
abbrev main_call6_call0_v50 : Ref sig .tc := ⟨.hbm, 1305, rfl⟩
abbrev main_call6_call0_v51 : Ref sig .tc := ⟨.hbm, 1306, rfl⟩
abbrev main_call6_call0_v52 : Ref sig .tc := ⟨.hbm, 1307, rfl⟩
abbrev main_call6_call0_v53 : Ref sig .tc := ⟨.hbm, 1308, rfl⟩
abbrev main_call6_call0_v54 : Ref sig .tc := ⟨.hbm, 1309, rfl⟩
abbrev main_call6_call0_c_13 : Ref sig .tc := ⟨.hbm, 1310, rfl⟩
abbrev main_call6_call0_v55 : Ref sig .tc := ⟨.hbm, 1311, rfl⟩
abbrev main_call6_call0_v56 : Ref sig .tc := ⟨.hbm, 1312, rfl⟩
abbrev main_call6_call0_c_14 : Ref sig .tc := ⟨.hbm, 1313, rfl⟩
abbrev main_call6_call0_v57 : Ref sig .tc := ⟨.hbm, 1314, rfl⟩
abbrev main_call6_call0_v58 : Ref sig .tc := ⟨.hbm, 1315, rfl⟩
abbrev main_call6_call0_v59 : Ref sig .tc := ⟨.hbm, 1316, rfl⟩
abbrev main_call6_call0_v60 : Ref sig .tc := ⟨.hbm, 1317, rfl⟩
abbrev main_call6_call0_v61 : Ref sig .tc := ⟨.hbm, 1318, rfl⟩
abbrev main_call6_call0_c_15 : Ref sig .tc := ⟨.hbm, 1319, rfl⟩
abbrev main_call6_call0_v62 : Ref sig .tc := ⟨.hbm, 1320, rfl⟩
abbrev main_call6_call0_v63 : Ref sig .tc := ⟨.hbm, 1321, rfl⟩
abbrev main_call6_call0_c_16 : Ref sig .tc := ⟨.hbm, 1322, rfl⟩
abbrev main_call6_call0_v64 : Ref sig .tc := ⟨.hbm, 1323, rfl⟩
abbrev main_call6_call0_v65 : Ref sig .tc := ⟨.hbm, 1324, rfl⟩
abbrev main_call6_call0_v66 : Ref sig .tc := ⟨.hbm, 1325, rfl⟩
abbrev main_call6_call0_v67 : Ref sig .tc := ⟨.hbm, 1326, rfl⟩
abbrev main_call6_call0_v68 : Ref sig .tc := ⟨.hbm, 1327, rfl⟩
abbrev main_call6_call0_v69 : Ref sig .tc := ⟨.hbm, 1328, rfl⟩
abbrev main_call6_call0_v70 : Ref sig .tc := ⟨.hbm, 1329, rfl⟩
abbrev main_call6_call0_v71 : Ref sig .tc := ⟨.hbm, 1330, rfl⟩
abbrev main_call6_call0_c_17 : Ref sig .tc := ⟨.hbm, 1331, rfl⟩
abbrev main_call6_call0_v72 : Ref sig .tc := ⟨.hbm, 1332, rfl⟩
abbrev main_call6_call0_v73 : Ref sig .tc := ⟨.hbm, 1333, rfl⟩
abbrev main_call6_call0_v74 : Ref sig .tc := ⟨.hbm, 1334, rfl⟩
abbrev main_call6_call0_c_18 : Ref sig .tc := ⟨.hbm, 1335, rfl⟩
abbrev main_call6_call0_v75 : Ref sig .tc := ⟨.hbm, 1336, rfl⟩
abbrev main_call6_call0_v76 : Ref sig .tc := ⟨.hbm, 1337, rfl⟩
abbrev main_call6_call0_c_19 : Ref sig .tc := ⟨.hbm, 1338, rfl⟩
abbrev main_call6_call0_v77 : Ref sig .tc := ⟨.hbm, 1339, rfl⟩
abbrev main_call6_call0_v78 : Ref sig .tc := ⟨.hbm, 1340, rfl⟩
abbrev main_call6_call0_v79 : Ref sig .tc := ⟨.hbm, 1341, rfl⟩
abbrev main_call6_call0_v80 : Ref sig .tc := ⟨.hbm, 1342, rfl⟩
abbrev main_call6_call0_v81 : Ref sig .tc := ⟨.hbm, 1343, rfl⟩
abbrev main_call6_call0_c_20 : Ref sig .tc := ⟨.hbm, 1344, rfl⟩
abbrev main_call6_call0_v82 : Ref sig .tc := ⟨.hbm, 1345, rfl⟩
abbrev main_call6_call0_v83 : Ref sig .tc := ⟨.hbm, 1346, rfl⟩
abbrev main_call6_call0_c_21 : Ref sig .tc := ⟨.hbm, 1347, rfl⟩
abbrev main_call6_call0_v84 : Ref sig .tc := ⟨.hbm, 1348, rfl⟩
abbrev main_call6_call0_v85 : Ref sig .tc := ⟨.hbm, 1349, rfl⟩
abbrev main_call6_call0_v86 : Ref sig .tc := ⟨.hbm, 1350, rfl⟩
abbrev main_call6_call0_v87 : Ref sig .tc := ⟨.hbm, 1351, rfl⟩
abbrev main_call6_call0_v88 : Ref sig .tc := ⟨.hbm, 1352, rfl⟩
abbrev main_call6_call0_c_22 : Ref sig .tc := ⟨.hbm, 1353, rfl⟩
abbrev main_call6_call0_v89 : Ref sig .tc := ⟨.hbm, 1354, rfl⟩
abbrev main_call6_call0_v90 : Ref sig .tc := ⟨.hbm, 1355, rfl⟩
abbrev main_call6_call0_c_23 : Ref sig .tc := ⟨.hbm, 1356, rfl⟩
abbrev main_call6_call0_v91 : Ref sig .tc := ⟨.hbm, 1357, rfl⟩
abbrev main_call6_call0_v92 : Ref sig .tc := ⟨.hbm, 1358, rfl⟩
abbrev main_call6_call0_v93 : Ref sig .tc := ⟨.hbm, 1359, rfl⟩
abbrev main_call6_call0_v94 : Ref sig .tc := ⟨.hbm, 1360, rfl⟩
abbrev main_call6_call0_v95 : Ref sig .tc := ⟨.hbm, 1361, rfl⟩
abbrev main_call6_call0_c_24 : Ref sig .tc := ⟨.hbm, 1362, rfl⟩
abbrev main_call6_call0_v96 : Ref sig .tc := ⟨.hbm, 1363, rfl⟩
abbrev main_call6_call0_v97 : Ref sig .tc := ⟨.hbm, 1364, rfl⟩
abbrev main_call6_call0_c_25 : Ref sig .tc := ⟨.hbm, 1365, rfl⟩
abbrev main_call6_call0_v98 : Ref sig .tc := ⟨.hbm, 1366, rfl⟩
abbrev main_call6_call0_v99 : Ref sig .tc := ⟨.hbm, 1367, rfl⟩
abbrev main_call6_call0_v100 : Ref sig .tc := ⟨.hbm, 1368, rfl⟩
abbrev main_call6_call0_v101 : Ref sig .tc := ⟨.hbm, 1369, rfl⟩
abbrev main_call6_call0_v102 : Ref sig .tc := ⟨.hbm, 1370, rfl⟩
abbrev main_call6_call0_v103 : Ref sig .tc := ⟨.hbm, 1371, rfl⟩
abbrev main_call6_call0_v104 : Ref sig .tc := ⟨.hbm, 1372, rfl⟩
abbrev main_call6_call0_v105 : Ref sig .tc := ⟨.hbm, 1373, rfl⟩
abbrev main_call6_call0_c_26 : Ref sig .tc := ⟨.hbm, 1374, rfl⟩
abbrev main_call6_call0_v106 : Ref sig .tc := ⟨.hbm, 1375, rfl⟩
abbrev main_call6_call0_v107 : Ref sig .tc := ⟨.hbm, 1376, rfl⟩
abbrev main_call6_call0_v108 : Ref sig .tc := ⟨.hbm, 1377, rfl⟩
abbrev main_call6_call0_c_27 : Ref sig .tc := ⟨.hbm, 1378, rfl⟩
abbrev main_call6_call0_v109 : Ref sig .tc := ⟨.hbm, 1379, rfl⟩
abbrev main_call6_call0_v110 : Ref sig .tc := ⟨.hbm, 1380, rfl⟩
abbrev main_call6_call0_c_28 : Ref sig .tc := ⟨.hbm, 1381, rfl⟩
abbrev main_call6_call0_v111 : Ref sig .tc := ⟨.hbm, 1382, rfl⟩
abbrev main_call6_call0_v112 : Ref sig .tc := ⟨.hbm, 1383, rfl⟩
abbrev main_call6_call0_v113 : Ref sig .tc := ⟨.hbm, 1384, rfl⟩
abbrev main_call6_call0_v114 : Ref sig .tc := ⟨.hbm, 1385, rfl⟩
abbrev main_call6_call0_v115 : Ref sig .tc := ⟨.hbm, 1386, rfl⟩
abbrev main_call6_call0_c_29 : Ref sig .tc := ⟨.hbm, 1387, rfl⟩
abbrev main_call6_call0_v116 : Ref sig .tc := ⟨.hbm, 1388, rfl⟩
abbrev main_call6_call0_v117 : Ref sig .tc := ⟨.hbm, 1389, rfl⟩
abbrev main_call6_call0_c_30 : Ref sig .tc := ⟨.hbm, 1390, rfl⟩
abbrev main_call6_call0_v118 : Ref sig .tc := ⟨.hbm, 1391, rfl⟩
abbrev main_call6_call0_v119 : Ref sig .tc := ⟨.hbm, 1392, rfl⟩
abbrev main_call6_call0_v120 : Ref sig .tc := ⟨.hbm, 1393, rfl⟩
abbrev main_call6_call0_v121 : Ref sig .tc := ⟨.hbm, 1394, rfl⟩
abbrev main_call6_call0_v122 : Ref sig .tc := ⟨.hbm, 1395, rfl⟩
abbrev main_call6_call0_c_31 : Ref sig .tc := ⟨.hbm, 1396, rfl⟩
abbrev main_call6_call0_v123 : Ref sig .tc := ⟨.hbm, 1397, rfl⟩
abbrev main_call6_call0_v124 : Ref sig .tc := ⟨.hbm, 1398, rfl⟩
abbrev main_call6_call0_c_32 : Ref sig .tc := ⟨.hbm, 1399, rfl⟩
abbrev main_call6_call0_v125 : Ref sig .tc := ⟨.hbm, 1400, rfl⟩
abbrev main_call6_call0_v126 : Ref sig .tc := ⟨.hbm, 1401, rfl⟩
abbrev main_call6_call0_v127 : Ref sig .tc := ⟨.hbm, 1402, rfl⟩
abbrev main_call6_call0_v128 : Ref sig .tc := ⟨.hbm, 1403, rfl⟩
abbrev main_call6_call0_v129 : Ref sig .tc := ⟨.hbm, 1404, rfl⟩
abbrev main_call6_call0_c_33 : Ref sig .tc := ⟨.hbm, 1405, rfl⟩
abbrev main_call6_call0_v130 : Ref sig .tc := ⟨.hbm, 1406, rfl⟩
abbrev main_call6_call0_v131 : Ref sig .tc := ⟨.hbm, 1407, rfl⟩
abbrev main_call6_call0_c_34 : Ref sig .tc := ⟨.hbm, 1408, rfl⟩
abbrev main_call6_call0_v132 : Ref sig .tc := ⟨.hbm, 1409, rfl⟩
abbrev main_call6_call0_v133 : Ref sig .tc := ⟨.hbm, 1410, rfl⟩
abbrev main_call6_call0_v134 : Ref sig .tc := ⟨.hbm, 1411, rfl⟩
abbrev main_call6_call0_v135 : Ref sig .tc := ⟨.hbm, 1412, rfl⟩
abbrev main_call6_call0_v136 : Ref sig .tc := ⟨.hbm, 1413, rfl⟩
abbrev main_call6_call0_v137 : Ref sig .tc := ⟨.hbm, 1414, rfl⟩
abbrev main_call6_call0_v138 : Ref sig .tc := ⟨.hbm, 1415, rfl⟩
abbrev main_call6_call0_v139 : Ref sig .tc := ⟨.hbm, 1416, rfl⟩
abbrev main_call6_call0_c_35 : Ref sig .tc := ⟨.hbm, 1417, rfl⟩
abbrev main_call6_call0_v140 : Ref sig .tc := ⟨.hbm, 1418, rfl⟩
abbrev main_call6_call0_v141 : Ref sig .tc := ⟨.hbm, 1419, rfl⟩
abbrev main_call6_call0_v142 : Ref sig .tc := ⟨.hbm, 1420, rfl⟩
abbrev main_call6_call0_c_36 : Ref sig .tc := ⟨.hbm, 1421, rfl⟩
abbrev main_call6_call0_v143 : Ref sig .tc := ⟨.hbm, 1422, rfl⟩
abbrev main_call6_call0_v144 : Ref sig .tc := ⟨.hbm, 1423, rfl⟩
abbrev main_call6_call0_c_37 : Ref sig .tc := ⟨.hbm, 1424, rfl⟩
abbrev main_call6_call0_v145 : Ref sig .tc := ⟨.hbm, 1425, rfl⟩
abbrev main_call6_call0_v146 : Ref sig .tc := ⟨.hbm, 1426, rfl⟩
abbrev main_call6_call0_v147 : Ref sig .tc := ⟨.hbm, 1427, rfl⟩
abbrev main_call6_call0_v148 : Ref sig .tc := ⟨.hbm, 1428, rfl⟩
abbrev main_call6_call0_v149 : Ref sig .tc := ⟨.hbm, 1429, rfl⟩
abbrev main_call6_call0_c_38 : Ref sig .tc := ⟨.hbm, 1430, rfl⟩
abbrev main_call6_call0_v150 : Ref sig .tc := ⟨.hbm, 1431, rfl⟩
abbrev main_call6_call0_v151 : Ref sig .tc := ⟨.hbm, 1432, rfl⟩
abbrev main_call6_call0_c_39 : Ref sig .tc := ⟨.hbm, 1433, rfl⟩
abbrev main_call6_call0_v152 : Ref sig .tc := ⟨.hbm, 1434, rfl⟩
abbrev main_call6_call0_v153 : Ref sig .tc := ⟨.hbm, 1435, rfl⟩
abbrev main_call6_call0_v154 : Ref sig .tc := ⟨.hbm, 1436, rfl⟩
abbrev main_call6_call0_v155 : Ref sig .tc := ⟨.hbm, 1437, rfl⟩
abbrev main_call6_call0_v156 : Ref sig .tc := ⟨.hbm, 1438, rfl⟩
abbrev main_call6_call0_c_40 : Ref sig .tc := ⟨.hbm, 1439, rfl⟩
abbrev main_call6_call0_v157 : Ref sig .tc := ⟨.hbm, 1440, rfl⟩
abbrev main_call6_call0_v158 : Ref sig .tc := ⟨.hbm, 1441, rfl⟩
abbrev main_call6_call0_c_41 : Ref sig .tc := ⟨.hbm, 1442, rfl⟩
abbrev main_call6_call0_v159 : Ref sig .tc := ⟨.hbm, 1443, rfl⟩
abbrev main_call6_call0_v160 : Ref sig .tc := ⟨.hbm, 1444, rfl⟩
abbrev main_call6_call0_v161 : Ref sig .tc := ⟨.hbm, 1445, rfl⟩
abbrev main_call6_call0_v162 : Ref sig .tc := ⟨.hbm, 1446, rfl⟩
abbrev main_call6_call0_v163 : Ref sig .tc := ⟨.hbm, 1447, rfl⟩
abbrev main_call6_call0_c_42 : Ref sig .tc := ⟨.hbm, 1448, rfl⟩
abbrev main_call6_call0_v164 : Ref sig .tc := ⟨.hbm, 1449, rfl⟩
abbrev main_call6_call0_v165 : Ref sig .tc := ⟨.hbm, 1450, rfl⟩
abbrev main_call6_call0_c_43 : Ref sig .tc := ⟨.hbm, 1451, rfl⟩
abbrev main_call6_call0_v166 : Ref sig .tc := ⟨.hbm, 1452, rfl⟩
abbrev main_call6_call0_v167 : Ref sig .tc := ⟨.hbm, 1453, rfl⟩
abbrev main_call6_call0_v168 : Ref sig .tc := ⟨.hbm, 1454, rfl⟩
abbrev main_call6_call0_v169 : Ref sig .tc := ⟨.hbm, 1455, rfl⟩
abbrev main_call6_call0_v170 : Ref sig .tc := ⟨.hbm, 1456, rfl⟩
abbrev main_call6_v11_0 : Ref sig .tc := ⟨.hbm, 1457, rfl⟩
abbrev main_call6_call0_v172 : Ref sig .tc := ⟨.hbm, 1458, rfl⟩
abbrev main_call6_call0_v173 : Ref sig .tc := ⟨.hbm, 1459, rfl⟩
abbrev main_call6_call0_c_44 : Ref sig .tc := ⟨.hbm, 1460, rfl⟩
abbrev main_call6_call0_v174 : Ref sig .tc := ⟨.hbm, 1461, rfl⟩
abbrev main_call6_v11_1 : Ref sig .tc := ⟨.hbm, 1462, rfl⟩
abbrev main_call6_v12 : Ref sig .tc := ⟨.hbm, 1463, rfl⟩
abbrev main_call6_v13 : Ref sig .tc := ⟨.hbm, 1464, rfl⟩
abbrev main_v141 : Ref sig .tc := ⟨.hbm, 1465, rfl⟩
abbrev main_v142 : Ref sig .tc := ⟨.hbm, 1466, rfl⟩
abbrev main_v143 : Ref sig .tc := ⟨.hbm, 1467, rfl⟩
abbrev main_v144 : Ref sig .tc := ⟨.hbm, 1468, rfl⟩
abbrev main_v145 : Ref sig .tc := ⟨.hbm, 1469, rfl⟩
abbrev main_c_66 : Ref sig .tc := ⟨.hbm, 1470, rfl⟩
abbrev main_v146 : Ref sig .tc := ⟨.hbm, 1471, rfl⟩
abbrev main_c_67 : Ref sig .tc := ⟨.hbm, 1472, rfl⟩
abbrev main_v147 : Ref sig .tc := ⟨.hbm, 1473, rfl⟩
abbrev main_v148 : Ref sig .tc := ⟨.hbm, 1474, rfl⟩
abbrev main_c_68 : Ref sig .tc := ⟨.hbm, 1475, rfl⟩
abbrev main_c_69 : Ref sig .tc := ⟨.hbm, 1476, rfl⟩
abbrev main_v149 : Ref sig .tc := ⟨.hbm, 1477, rfl⟩
abbrev main_c_70 : Ref sig .tc := ⟨.hbm, 1478, rfl⟩
abbrev main_c_71 : Ref sig .tc := ⟨.hbm, 1479, rfl⟩
abbrev main_v150 : Ref sig .tc := ⟨.hbm, 1480, rfl⟩
abbrev main_c_72 : Ref sig .tc := ⟨.hbm, 1481, rfl⟩
abbrev main_v151 : Ref sig .tc := ⟨.hbm, 1482, rfl⟩
abbrev main_c_73 : Ref sig .tc := ⟨.hbm, 1483, rfl⟩
abbrev main_c_74 : Ref sig .tc := ⟨.hbm, 1484, rfl⟩
abbrev main_v152 : Ref sig .tc := ⟨.hbm, 1485, rfl⟩
abbrev main_c_75 : Ref sig .tc := ⟨.hbm, 1486, rfl⟩
abbrev main_c_76 : Ref sig .tc := ⟨.hbm, 1487, rfl⟩
abbrev main_v153 : Ref sig .tc := ⟨.hbm, 1488, rfl⟩
abbrev main_c_77 : Ref sig .tc := ⟨.hbm, 1489, rfl⟩
abbrev main_v154 : Ref sig .tc := ⟨.hbm, 1490, rfl⟩
abbrev main_v155 : Ref sig .tc := ⟨.hbm, 1491, rfl⟩
abbrev main_v156 : Ref sig .tc := ⟨.hbm, 1492, rfl⟩
abbrev main_call7_cst : Ref sig .tc := ⟨.hbm, 1493, rfl⟩
abbrev main_call7_cst_0 : Ref sig .tc := ⟨.hbm, 1494, rfl⟩
abbrev main_call7_call0_v0 : Ref sig .tc := ⟨.hbm, 1495, rfl⟩
abbrev main_call7_call0_v1 : Ref sig .tc := ⟨.hbm, 1496, rfl⟩
abbrev main_call7_call0_v2 : Ref sig .tc := ⟨.hbm, 1497, rfl⟩
abbrev main_call7_call0_v3 : Ref sig .tc := ⟨.hbm, 1498, rfl⟩
abbrev main_call7_call0_v4 : Ref sig .tc := ⟨.hbm, 1499, rfl⟩
abbrev main_call7_call0_v5 : Ref sig .tc := ⟨.hbm, 1500, rfl⟩
abbrev main_call7_call0_v6 : Ref sig .tc := ⟨.hbm, 1501, rfl⟩
abbrev main_call7_call0_v7 : Ref sig .tc := ⟨.hbm, 1502, rfl⟩
abbrev main_call7_call0_v8 : Ref sig .tc := ⟨.hbm, 1503, rfl⟩
abbrev main_call7_call0_c : Ref sig .tc := ⟨.hbm, 1504, rfl⟩
abbrev main_call7_call0_v9 : Ref sig .tc := ⟨.hbm, 1505, rfl⟩
abbrev main_call7_call0_v10 : Ref sig .tc := ⟨.hbm, 1506, rfl⟩
abbrev main_call7_call0_c_0 : Ref sig .tc := ⟨.hbm, 1507, rfl⟩
abbrev main_call7_call0_v11 : Ref sig .tc := ⟨.hbm, 1508, rfl⟩
abbrev main_call7_call0_v12 : Ref sig .tc := ⟨.hbm, 1509, rfl⟩
abbrev main_call7_call0_v13 : Ref sig .tc := ⟨.hbm, 1510, rfl⟩
abbrev main_call7_call0_c_1 : Ref sig .tc := ⟨.hbm, 1511, rfl⟩
abbrev main_call7_call0_v14 : Ref sig .tc := ⟨.hbm, 1512, rfl⟩
abbrev main_call7_call0_v15 : Ref sig .tc := ⟨.hbm, 1513, rfl⟩
abbrev main_call7_call0_v16 : Ref sig .tc := ⟨.hbm, 1514, rfl⟩
abbrev main_call7_call0_v17 : Ref sig .tc := ⟨.hbm, 1515, rfl⟩
abbrev main_call7_call0_call0_v0 : Ref sig .tc := ⟨.hbm, 1516, rfl⟩
abbrev main_call7_call0_call0_c : Ref sig .tc := ⟨.hbm, 1517, rfl⟩
abbrev main_call7_call0_call0_v1 : Ref sig .tc := ⟨.hbm, 1518, rfl⟩
abbrev main_call7_call0_call0_v2 : Ref sig .tc := ⟨.hbm, 1519, rfl⟩
abbrev main_call7_call0_call0_v3 : Ref sig .tc := ⟨.hbm, 1520, rfl⟩
abbrev main_call7_call0_call0_v4 : Ref sig .tc := ⟨.hbm, 1521, rfl⟩
abbrev main_call7_call0_call0_v5 : Ref sig .tc := ⟨.hbm, 1522, rfl⟩
abbrev main_call7_call0_call0_v6 : Ref sig .tc := ⟨.hbm, 1523, rfl⟩
abbrev main_call7_call0_call0_c_0 : Ref sig .tc := ⟨.hbm, 1524, rfl⟩
abbrev main_call7_call0_call0_v7 : Ref sig .tc := ⟨.hbm, 1525, rfl⟩
abbrev main_call7_call0_call0_v8 : Ref sig .tc := ⟨.hbm, 1526, rfl⟩
abbrev main_call7_call0_call0_c_1 : Ref sig .tc := ⟨.hbm, 1527, rfl⟩
abbrev main_call7_call0_call0_v9 : Ref sig .tc := ⟨.hbm, 1528, rfl⟩
abbrev main_call7_call0_call0_v10 : Ref sig .tc := ⟨.hbm, 1529, rfl⟩
abbrev main_call7_call0_call0_v11 : Ref sig .tc := ⟨.hbm, 1530, rfl⟩
abbrev main_call7_call0_call0_v12 : Ref sig .tc := ⟨.hbm, 1531, rfl⟩
abbrev main_call7_call0_call0_v13 : Ref sig .tc := ⟨.hbm, 1532, rfl⟩
abbrev main_call7_call0_call0_c_2 : Ref sig .tc := ⟨.hbm, 1533, rfl⟩
abbrev main_call7_call0_call0_v14 : Ref sig .tc := ⟨.hbm, 1534, rfl⟩
abbrev main_call7_call0_call0_v15 : Ref sig .tc := ⟨.hbm, 1535, rfl⟩
abbrev main_call7_call0_call0_c_3 : Ref sig .tc := ⟨.hbm, 1536, rfl⟩
abbrev main_call7_call0_call0_v16 : Ref sig .tc := ⟨.hbm, 1537, rfl⟩
abbrev main_call7_call0_call0_v17 : Ref sig .tc := ⟨.hbm, 1538, rfl⟩
abbrev main_call7_call0_call0_v18 : Ref sig .tc := ⟨.hbm, 1539, rfl⟩
abbrev main_call7_call0_call0_v19 : Ref sig .tc := ⟨.hbm, 1540, rfl⟩
abbrev main_call7_call0_call0_v20 : Ref sig .tc := ⟨.hbm, 1541, rfl⟩
abbrev main_call7_call0_call0_c_4 : Ref sig .tc := ⟨.hbm, 1542, rfl⟩
abbrev main_call7_call0_call0_v21 : Ref sig .tc := ⟨.hbm, 1543, rfl⟩
abbrev main_call7_call0_call0_v22 : Ref sig .tc := ⟨.hbm, 1544, rfl⟩
abbrev main_call7_call0_call0_c_5 : Ref sig .tc := ⟨.hbm, 1545, rfl⟩
abbrev main_call7_call0_call0_v23 : Ref sig .tc := ⟨.hbm, 1546, rfl⟩
abbrev main_call7_call0_call0_v24 : Ref sig .tc := ⟨.hbm, 1547, rfl⟩
abbrev main_call7_call0_call0_v25 : Ref sig .tc := ⟨.hbm, 1548, rfl⟩
abbrev main_call7_call0_call0_v26 : Ref sig .tc := ⟨.hbm, 1549, rfl⟩
abbrev main_call7_call0_call0_v27 : Ref sig .tc := ⟨.hbm, 1550, rfl⟩
abbrev main_call7_call0_call0_c_6 : Ref sig .tc := ⟨.hbm, 1551, rfl⟩
abbrev main_call7_call0_call0_v28 : Ref sig .tc := ⟨.hbm, 1552, rfl⟩
abbrev main_call7_call0_call0_v29 : Ref sig .tc := ⟨.hbm, 1553, rfl⟩
abbrev main_call7_call0_call0_c_7 : Ref sig .tc := ⟨.hbm, 1554, rfl⟩
abbrev main_call7_call0_call0_v30 : Ref sig .tc := ⟨.hbm, 1555, rfl⟩
abbrev main_call7_call0_call0_v31 : Ref sig .tc := ⟨.hbm, 1556, rfl⟩
abbrev main_call7_call0_call0_v32 : Ref sig .tc := ⟨.hbm, 1557, rfl⟩
abbrev main_call7_call0_call0_v33 : Ref sig .tc := ⟨.hbm, 1558, rfl⟩
abbrev main_call7_call0_call0_v34 : Ref sig .tc := ⟨.hbm, 1559, rfl⟩
abbrev main_call7_call0_call0_v35 : Ref sig .tc := ⟨.hbm, 1560, rfl⟩
abbrev main_call7_call0_call0_v36 : Ref sig .tc := ⟨.hbm, 1561, rfl⟩
abbrev main_call7_call0_call0_v37 : Ref sig .tc := ⟨.hbm, 1562, rfl⟩
abbrev main_call7_call0_call0_c_8 : Ref sig .tc := ⟨.hbm, 1563, rfl⟩
abbrev main_call7_call0_call0_v38 : Ref sig .tc := ⟨.hbm, 1564, rfl⟩
abbrev main_call7_call0_call0_v39 : Ref sig .tc := ⟨.hbm, 1565, rfl⟩
abbrev main_call7_call0_call0_v40 : Ref sig .tc := ⟨.hbm, 1566, rfl⟩
abbrev main_call7_call0_call0_c_9 : Ref sig .tc := ⟨.hbm, 1567, rfl⟩
abbrev main_call7_call0_call0_v41 : Ref sig .tc := ⟨.hbm, 1568, rfl⟩
abbrev main_call7_call0_call0_v42 : Ref sig .tc := ⟨.hbm, 1569, rfl⟩
abbrev main_call7_call0_call0_c_10 : Ref sig .tc := ⟨.hbm, 1570, rfl⟩
abbrev main_call7_call0_call0_v43 : Ref sig .tc := ⟨.hbm, 1571, rfl⟩
abbrev main_call7_call0_call0_v44 : Ref sig .tc := ⟨.hbm, 1572, rfl⟩
abbrev main_call7_call0_call0_v45 : Ref sig .tc := ⟨.hbm, 1573, rfl⟩
abbrev main_call7_call0_call0_v46 : Ref sig .tc := ⟨.hbm, 1574, rfl⟩
abbrev main_call7_call0_call0_v47 : Ref sig .tc := ⟨.hbm, 1575, rfl⟩
abbrev main_call7_call0_call0_c_11 : Ref sig .tc := ⟨.hbm, 1576, rfl⟩
abbrev main_call7_call0_call0_v48 : Ref sig .tc := ⟨.hbm, 1577, rfl⟩
abbrev main_call7_call0_call0_v49 : Ref sig .tc := ⟨.hbm, 1578, rfl⟩
abbrev main_call7_call0_call0_c_12 : Ref sig .tc := ⟨.hbm, 1579, rfl⟩
abbrev main_call7_call0_call0_v50 : Ref sig .tc := ⟨.hbm, 1580, rfl⟩
abbrev main_call7_call0_call0_v51 : Ref sig .tc := ⟨.hbm, 1581, rfl⟩
abbrev main_call7_call0_call0_v52 : Ref sig .tc := ⟨.hbm, 1582, rfl⟩
abbrev main_call7_call0_call0_v53 : Ref sig .tc := ⟨.hbm, 1583, rfl⟩
abbrev main_call7_call0_call0_v54 : Ref sig .tc := ⟨.hbm, 1584, rfl⟩
abbrev main_call7_call0_call0_c_13 : Ref sig .tc := ⟨.hbm, 1585, rfl⟩
abbrev main_call7_call0_call0_v55 : Ref sig .tc := ⟨.hbm, 1586, rfl⟩
abbrev main_call7_call0_call0_v56 : Ref sig .tc := ⟨.hbm, 1587, rfl⟩
abbrev main_call7_call0_call0_c_14 : Ref sig .tc := ⟨.hbm, 1588, rfl⟩
abbrev main_call7_call0_call0_v57 : Ref sig .tc := ⟨.hbm, 1589, rfl⟩
abbrev main_call7_call0_call0_v58 : Ref sig .tc := ⟨.hbm, 1590, rfl⟩
abbrev main_call7_call0_call0_v59 : Ref sig .tc := ⟨.hbm, 1591, rfl⟩
abbrev main_call7_call0_call0_v60 : Ref sig .tc := ⟨.hbm, 1592, rfl⟩
abbrev main_call7_call0_call0_v61 : Ref sig .tc := ⟨.hbm, 1593, rfl⟩
abbrev main_call7_call0_call0_c_15 : Ref sig .tc := ⟨.hbm, 1594, rfl⟩
abbrev main_call7_call0_call0_v62 : Ref sig .tc := ⟨.hbm, 1595, rfl⟩
abbrev main_call7_call0_call0_v63 : Ref sig .tc := ⟨.hbm, 1596, rfl⟩
abbrev main_call7_call0_call0_c_16 : Ref sig .tc := ⟨.hbm, 1597, rfl⟩
abbrev main_call7_call0_call0_v64 : Ref sig .tc := ⟨.hbm, 1598, rfl⟩
abbrev main_call7_call0_call0_v65 : Ref sig .tc := ⟨.hbm, 1599, rfl⟩
abbrev main_call7_call0_call0_v66 : Ref sig .tc := ⟨.hbm, 1600, rfl⟩
abbrev main_call7_call0_call0_v67 : Ref sig .tc := ⟨.hbm, 1601, rfl⟩
abbrev main_call7_call0_call0_v68 : Ref sig .tc := ⟨.hbm, 1602, rfl⟩
abbrev main_call7_call0_call0_v69 : Ref sig .tc := ⟨.hbm, 1603, rfl⟩
abbrev main_call7_call0_call0_v70 : Ref sig .tc := ⟨.hbm, 1604, rfl⟩
abbrev main_call7_call0_call0_v71 : Ref sig .tc := ⟨.hbm, 1605, rfl⟩
abbrev main_call7_call0_call0_c_17 : Ref sig .tc := ⟨.hbm, 1606, rfl⟩
abbrev main_call7_call0_call0_v72 : Ref sig .tc := ⟨.hbm, 1607, rfl⟩
abbrev main_call7_call0_call0_v73 : Ref sig .tc := ⟨.hbm, 1608, rfl⟩
abbrev main_call7_call0_call0_v74 : Ref sig .tc := ⟨.hbm, 1609, rfl⟩
abbrev main_call7_call0_call0_c_18 : Ref sig .tc := ⟨.hbm, 1610, rfl⟩
abbrev main_call7_call0_call0_v75 : Ref sig .tc := ⟨.hbm, 1611, rfl⟩
abbrev main_call7_call0_call0_v76 : Ref sig .tc := ⟨.hbm, 1612, rfl⟩
abbrev main_call7_call0_call0_c_19 : Ref sig .tc := ⟨.hbm, 1613, rfl⟩
abbrev main_call7_call0_call0_v77 : Ref sig .tc := ⟨.hbm, 1614, rfl⟩
abbrev main_call7_call0_call0_v78 : Ref sig .tc := ⟨.hbm, 1615, rfl⟩
abbrev main_call7_call0_call0_v79 : Ref sig .tc := ⟨.hbm, 1616, rfl⟩
abbrev main_call7_call0_call0_v80 : Ref sig .tc := ⟨.hbm, 1617, rfl⟩
abbrev main_call7_call0_call0_v81 : Ref sig .tc := ⟨.hbm, 1618, rfl⟩
abbrev main_call7_call0_call0_c_20 : Ref sig .tc := ⟨.hbm, 1619, rfl⟩
abbrev main_call7_call0_call0_v82 : Ref sig .tc := ⟨.hbm, 1620, rfl⟩
abbrev main_call7_call0_call0_v83 : Ref sig .tc := ⟨.hbm, 1621, rfl⟩
abbrev main_call7_call0_call0_c_21 : Ref sig .tc := ⟨.hbm, 1622, rfl⟩
abbrev main_call7_call0_call0_v84 : Ref sig .tc := ⟨.hbm, 1623, rfl⟩
abbrev main_call7_call0_call0_v85 : Ref sig .tc := ⟨.hbm, 1624, rfl⟩
abbrev main_call7_call0_call0_v86 : Ref sig .tc := ⟨.hbm, 1625, rfl⟩
abbrev main_call7_call0_call0_v87 : Ref sig .tc := ⟨.hbm, 1626, rfl⟩
abbrev main_call7_call0_call0_v88 : Ref sig .tc := ⟨.hbm, 1627, rfl⟩
abbrev main_call7_call0_call0_c_22 : Ref sig .tc := ⟨.hbm, 1628, rfl⟩
abbrev main_call7_call0_call0_v89 : Ref sig .tc := ⟨.hbm, 1629, rfl⟩
abbrev main_call7_call0_call0_v90 : Ref sig .tc := ⟨.hbm, 1630, rfl⟩
abbrev main_call7_call0_call0_c_23 : Ref sig .tc := ⟨.hbm, 1631, rfl⟩
abbrev main_call7_call0_call0_v91 : Ref sig .tc := ⟨.hbm, 1632, rfl⟩
abbrev main_call7_call0_call0_v92 : Ref sig .tc := ⟨.hbm, 1633, rfl⟩
abbrev main_call7_call0_call0_v93 : Ref sig .tc := ⟨.hbm, 1634, rfl⟩
abbrev main_call7_call0_call0_v94 : Ref sig .tc := ⟨.hbm, 1635, rfl⟩
abbrev main_call7_call0_call0_v95 : Ref sig .tc := ⟨.hbm, 1636, rfl⟩
abbrev main_call7_call0_call0_c_24 : Ref sig .tc := ⟨.hbm, 1637, rfl⟩
abbrev main_call7_call0_call0_v96 : Ref sig .tc := ⟨.hbm, 1638, rfl⟩
abbrev main_call7_call0_call0_v97 : Ref sig .tc := ⟨.hbm, 1639, rfl⟩
abbrev main_call7_call0_call0_c_25 : Ref sig .tc := ⟨.hbm, 1640, rfl⟩
abbrev main_call7_call0_call0_v98 : Ref sig .tc := ⟨.hbm, 1641, rfl⟩
abbrev main_call7_call0_call0_v99 : Ref sig .tc := ⟨.hbm, 1642, rfl⟩
abbrev main_call7_call0_call0_v100 : Ref sig .tc := ⟨.hbm, 1643, rfl⟩
abbrev main_call7_call0_call0_v101 : Ref sig .tc := ⟨.hbm, 1644, rfl⟩
abbrev main_call7_call0_call0_v102 : Ref sig .tc := ⟨.hbm, 1645, rfl⟩
abbrev main_call7_call0_call0_v103 : Ref sig .tc := ⟨.hbm, 1646, rfl⟩
abbrev main_call7_call0_call0_v104 : Ref sig .tc := ⟨.hbm, 1647, rfl⟩
abbrev main_call7_call0_call0_v105 : Ref sig .tc := ⟨.hbm, 1648, rfl⟩
abbrev main_call7_call0_call0_c_26 : Ref sig .tc := ⟨.hbm, 1649, rfl⟩
abbrev main_call7_call0_call0_v106 : Ref sig .tc := ⟨.hbm, 1650, rfl⟩
abbrev main_call7_call0_call0_v107 : Ref sig .tc := ⟨.hbm, 1651, rfl⟩
abbrev main_call7_call0_call0_v108 : Ref sig .tc := ⟨.hbm, 1652, rfl⟩
abbrev main_call7_call0_call0_c_27 : Ref sig .tc := ⟨.hbm, 1653, rfl⟩
abbrev main_call7_call0_call0_v109 : Ref sig .tc := ⟨.hbm, 1654, rfl⟩
abbrev main_call7_call0_call0_v110 : Ref sig .tc := ⟨.hbm, 1655, rfl⟩
abbrev main_call7_call0_call0_c_28 : Ref sig .tc := ⟨.hbm, 1656, rfl⟩
abbrev main_call7_call0_call0_v111 : Ref sig .tc := ⟨.hbm, 1657, rfl⟩
abbrev main_call7_call0_call0_v112 : Ref sig .tc := ⟨.hbm, 1658, rfl⟩
abbrev main_call7_call0_call0_v113 : Ref sig .tc := ⟨.hbm, 1659, rfl⟩
abbrev main_call7_call0_call0_v114 : Ref sig .tc := ⟨.hbm, 1660, rfl⟩
abbrev main_call7_call0_call0_v115 : Ref sig .tc := ⟨.hbm, 1661, rfl⟩
abbrev main_call7_call0_call0_c_29 : Ref sig .tc := ⟨.hbm, 1662, rfl⟩
abbrev main_call7_call0_call0_v116 : Ref sig .tc := ⟨.hbm, 1663, rfl⟩
abbrev main_call7_call0_call0_v117 : Ref sig .tc := ⟨.hbm, 1664, rfl⟩
abbrev main_call7_call0_call0_c_30 : Ref sig .tc := ⟨.hbm, 1665, rfl⟩
abbrev main_call7_call0_call0_v118 : Ref sig .tc := ⟨.hbm, 1666, rfl⟩
abbrev main_call7_call0_call0_v119 : Ref sig .tc := ⟨.hbm, 1667, rfl⟩
abbrev main_call7_call0_call0_v120 : Ref sig .tc := ⟨.hbm, 1668, rfl⟩
abbrev main_call7_call0_call0_v121 : Ref sig .tc := ⟨.hbm, 1669, rfl⟩
abbrev main_call7_call0_call0_v122 : Ref sig .tc := ⟨.hbm, 1670, rfl⟩
abbrev main_call7_call0_call0_c_31 : Ref sig .tc := ⟨.hbm, 1671, rfl⟩
abbrev main_call7_call0_call0_v123 : Ref sig .tc := ⟨.hbm, 1672, rfl⟩
abbrev main_call7_call0_call0_v124 : Ref sig .tc := ⟨.hbm, 1673, rfl⟩
abbrev main_call7_call0_call0_c_32 : Ref sig .tc := ⟨.hbm, 1674, rfl⟩
abbrev main_call7_call0_call0_v125 : Ref sig .tc := ⟨.hbm, 1675, rfl⟩
abbrev main_call7_call0_call0_v126 : Ref sig .tc := ⟨.hbm, 1676, rfl⟩
abbrev main_call7_call0_call0_v127 : Ref sig .tc := ⟨.hbm, 1677, rfl⟩
abbrev main_call7_call0_call0_v128 : Ref sig .tc := ⟨.hbm, 1678, rfl⟩
abbrev main_call7_call0_call0_v129 : Ref sig .tc := ⟨.hbm, 1679, rfl⟩
abbrev main_call7_call0_call0_c_33 : Ref sig .tc := ⟨.hbm, 1680, rfl⟩
abbrev main_call7_call0_call0_v130 : Ref sig .tc := ⟨.hbm, 1681, rfl⟩
abbrev main_call7_call0_call0_v131 : Ref sig .tc := ⟨.hbm, 1682, rfl⟩
abbrev main_call7_call0_call0_c_34 : Ref sig .tc := ⟨.hbm, 1683, rfl⟩
abbrev main_call7_call0_call0_v132 : Ref sig .tc := ⟨.hbm, 1684, rfl⟩
abbrev main_call7_call0_call0_v133 : Ref sig .tc := ⟨.hbm, 1685, rfl⟩
abbrev main_call7_call0_call0_v134 : Ref sig .tc := ⟨.hbm, 1686, rfl⟩
abbrev main_call7_call0_call0_v135 : Ref sig .tc := ⟨.hbm, 1687, rfl⟩
abbrev main_call7_call0_call0_v136 : Ref sig .tc := ⟨.hbm, 1688, rfl⟩
abbrev main_call7_call0_call0_v137 : Ref sig .tc := ⟨.hbm, 1689, rfl⟩
abbrev main_call7_call0_call0_v138 : Ref sig .tc := ⟨.hbm, 1690, rfl⟩
abbrev main_call7_call0_call0_v139 : Ref sig .tc := ⟨.hbm, 1691, rfl⟩
abbrev main_call7_call0_call0_c_35 : Ref sig .tc := ⟨.hbm, 1692, rfl⟩
abbrev main_call7_call0_call0_v140 : Ref sig .tc := ⟨.hbm, 1693, rfl⟩
abbrev main_call7_call0_call0_v141 : Ref sig .tc := ⟨.hbm, 1694, rfl⟩
abbrev main_call7_call0_call0_v142 : Ref sig .tc := ⟨.hbm, 1695, rfl⟩
abbrev main_call7_call0_call0_c_36 : Ref sig .tc := ⟨.hbm, 1696, rfl⟩
abbrev main_call7_call0_call0_v143 : Ref sig .tc := ⟨.hbm, 1697, rfl⟩
abbrev main_call7_call0_call0_v144 : Ref sig .tc := ⟨.hbm, 1698, rfl⟩
abbrev main_call7_call0_call0_c_37 : Ref sig .tc := ⟨.hbm, 1699, rfl⟩
abbrev main_call7_call0_call0_v145 : Ref sig .tc := ⟨.hbm, 1700, rfl⟩
abbrev main_call7_call0_call0_v146 : Ref sig .tc := ⟨.hbm, 1701, rfl⟩
abbrev main_call7_call0_call0_v147 : Ref sig .tc := ⟨.hbm, 1702, rfl⟩
abbrev main_call7_call0_call0_v148 : Ref sig .tc := ⟨.hbm, 1703, rfl⟩
abbrev main_call7_call0_call0_v149 : Ref sig .tc := ⟨.hbm, 1704, rfl⟩
abbrev main_call7_call0_call0_c_38 : Ref sig .tc := ⟨.hbm, 1705, rfl⟩
abbrev main_call7_call0_call0_v150 : Ref sig .tc := ⟨.hbm, 1706, rfl⟩
abbrev main_call7_call0_call0_v151 : Ref sig .tc := ⟨.hbm, 1707, rfl⟩
abbrev main_call7_call0_call0_c_39 : Ref sig .tc := ⟨.hbm, 1708, rfl⟩
abbrev main_call7_call0_call0_v152 : Ref sig .tc := ⟨.hbm, 1709, rfl⟩
abbrev main_call7_call0_call0_v153 : Ref sig .tc := ⟨.hbm, 1710, rfl⟩
abbrev main_call7_call0_call0_v154 : Ref sig .tc := ⟨.hbm, 1711, rfl⟩
abbrev main_call7_call0_call0_v155 : Ref sig .tc := ⟨.hbm, 1712, rfl⟩
abbrev main_call7_call0_call0_v156 : Ref sig .tc := ⟨.hbm, 1713, rfl⟩
abbrev main_call7_call0_call0_c_40 : Ref sig .tc := ⟨.hbm, 1714, rfl⟩
abbrev main_call7_call0_call0_v157 : Ref sig .tc := ⟨.hbm, 1715, rfl⟩
abbrev main_call7_call0_call0_v158 : Ref sig .tc := ⟨.hbm, 1716, rfl⟩
abbrev main_call7_call0_call0_c_41 : Ref sig .tc := ⟨.hbm, 1717, rfl⟩
abbrev main_call7_call0_call0_v159 : Ref sig .tc := ⟨.hbm, 1718, rfl⟩
abbrev main_call7_call0_call0_v160 : Ref sig .tc := ⟨.hbm, 1719, rfl⟩
abbrev main_call7_call0_call0_v161 : Ref sig .tc := ⟨.hbm, 1720, rfl⟩
abbrev main_call7_call0_call0_v162 : Ref sig .tc := ⟨.hbm, 1721, rfl⟩
abbrev main_call7_call0_call0_v163 : Ref sig .tc := ⟨.hbm, 1722, rfl⟩
abbrev main_call7_call0_call0_c_42 : Ref sig .tc := ⟨.hbm, 1723, rfl⟩
abbrev main_call7_call0_call0_v164 : Ref sig .tc := ⟨.hbm, 1724, rfl⟩
abbrev main_call7_call0_call0_v165 : Ref sig .tc := ⟨.hbm, 1725, rfl⟩
abbrev main_call7_call0_call0_c_43 : Ref sig .tc := ⟨.hbm, 1726, rfl⟩
abbrev main_call7_call0_call0_v166 : Ref sig .tc := ⟨.hbm, 1727, rfl⟩
abbrev main_call7_call0_call0_v167 : Ref sig .tc := ⟨.hbm, 1728, rfl⟩
abbrev main_call7_call0_call0_v168 : Ref sig .tc := ⟨.hbm, 1729, rfl⟩
abbrev main_call7_call0_call0_v169 : Ref sig .tc := ⟨.hbm, 1730, rfl⟩
abbrev main_call7_call0_call0_v170 : Ref sig .tc := ⟨.hbm, 1731, rfl⟩
abbrev main_call7_call0_v18_0 : Ref sig .tc := ⟨.hbm, 1732, rfl⟩
abbrev main_call7_call0_call0_v172 : Ref sig .tc := ⟨.hbm, 1733, rfl⟩
abbrev main_call7_call0_call0_v173 : Ref sig .tc := ⟨.hbm, 1734, rfl⟩
abbrev main_call7_call0_call0_c_44 : Ref sig .tc := ⟨.hbm, 1735, rfl⟩
abbrev main_call7_call0_call0_v174 : Ref sig .tc := ⟨.hbm, 1736, rfl⟩
abbrev main_call7_call0_v18_1 : Ref sig .tc := ⟨.hbm, 1737, rfl⟩
abbrev main_call7_call0_v19 : Ref sig .tc := ⟨.hbm, 1738, rfl⟩
abbrev main_call7_call0_c_2 : Ref sig .tc := ⟨.hbm, 1739, rfl⟩
abbrev main_call7_call0_v20 : Ref sig .tc := ⟨.hbm, 1740, rfl⟩
abbrev main_call7_call0_v21 : Ref sig .tc := ⟨.hbm, 1741, rfl⟩
abbrev main_call7_call0_c_3 : Ref sig .tc := ⟨.hbm, 1742, rfl⟩
abbrev main_call7_call0_v22 : Ref sig .tc := ⟨.hbm, 1743, rfl⟩
abbrev main_call7_call0_v23 : Ref sig .tc := ⟨.hbm, 1744, rfl⟩
abbrev main_call7_call0_v24 : Ref sig .tc := ⟨.hbm, 1745, rfl⟩
abbrev main_call7_call0_cst : Ref sig .tc := ⟨.hbm, 1746, rfl⟩
abbrev main_call7_call0_v25 : Ref sig .tc := ⟨.hbm, 1747, rfl⟩
abbrev main_call7_call0_v26 : Ref sig .tc := ⟨.hbm, 1748, rfl⟩
abbrev main_call7_call0_v27 : Ref sig .tc := ⟨.hbm, 1749, rfl⟩
abbrev main_call7_call0_v28 : Ref sig .tc := ⟨.hbm, 1750, rfl⟩
abbrev main_call7_call0_v29 : Ref sig .tc := ⟨.hbm, 1751, rfl⟩
abbrev main_call7_call0_v30 : Ref sig .tc := ⟨.hbm, 1752, rfl⟩
abbrev main_call7_call0_v31 : Ref sig .tc := ⟨.hbm, 1753, rfl⟩
abbrev main_call7_call0_v32 : Ref sig .tc := ⟨.hbm, 1754, rfl⟩
abbrev main_call7_v0 : Ref sig .tc := ⟨.hbm, 1755, rfl⟩
abbrev main_call7_v1 : Ref sig .tc := ⟨.hbm, 1756, rfl⟩
abbrev main_call7_v2 : Ref sig .tc := ⟨.hbm, 1757, rfl⟩
abbrev main_call7_v3 : Ref sig .tc := ⟨.hbm, 1758, rfl⟩
abbrev main_v157 : Ref sig .tc := ⟨.hbm, 1759, rfl⟩
abbrev main_v158 : Ref sig .tc := ⟨.hbm, 1760, rfl⟩
abbrev main_call8_v0 : Ref sig .tc := ⟨.hbm, 1761, rfl⟩
abbrev main_call8_cst : Ref sig .tc := ⟨.hbm, 1762, rfl⟩
abbrev main_call8_c : Ref sig .tc := ⟨.hbm, 1763, rfl⟩
abbrev main_call8_v1_0 : Ref sig .tc := ⟨.hbm, 1764, rfl⟩
abbrev main_v159 : Ref sig .tc := ⟨.hbm, 1765, rfl⟩
abbrev main_v160 : Ref sig .tc := ⟨.hbm, 1766, rfl⟩
abbrev main_v161 : Ref sig .tc := ⟨.hbm, 1767, rfl⟩
abbrev main_v162 : Ref sig .tc := ⟨.hbm, 1768, rfl⟩
abbrev main_v163 : Ref sig .tc := ⟨.hbm, 1769, rfl⟩
abbrev main_c_78 : Ref sig .tc := ⟨.hbm, 1770, rfl⟩
abbrev main_v164 : Ref sig .tc := ⟨.hbm, 1771, rfl⟩
abbrev main_v165 : Ref sig .tc := ⟨.hbm, 1772, rfl⟩
abbrev main_c_79 : Ref sig .tc := ⟨.hbm, 1773, rfl⟩
abbrev main_v166 : Ref sig .tc := ⟨.hbm, 1774, rfl⟩
abbrev main_v167 : Ref sig .tc := ⟨.hbm, 1775, rfl⟩
abbrev main_v168 : Ref sig .tc := ⟨.hbm, 1776, rfl⟩
abbrev main_v169 : Ref sig .tc := ⟨.hbm, 1777, rfl⟩
abbrev main_v170 : Ref sig .tc := ⟨.hbm, 1778, rfl⟩
abbrev main_v171 : Ref sig .tc := ⟨.hbm, 1779, rfl⟩
abbrev main_c_80 : Ref sig .tc := ⟨.hbm, 1780, rfl⟩
abbrev main_v172 : Ref sig .tc := ⟨.hbm, 1781, rfl⟩
abbrev main_c_81 : Ref sig .tc := ⟨.hbm, 1782, rfl⟩
abbrev main_v173 : Ref sig .tc := ⟨.hbm, 1783, rfl⟩
abbrev main_v174 : Ref sig .tc := ⟨.hbm, 1784, rfl⟩
abbrev main_c_82 : Ref sig .tc := ⟨.hbm, 1785, rfl⟩
abbrev main_v175 : Ref sig .tc := ⟨.hbm, 1786, rfl⟩
abbrev main_v176 : Ref sig .tc := ⟨.hbm, 1787, rfl⟩
abbrev main_c_83 : Ref sig .tc := ⟨.hbm, 1788, rfl⟩
abbrev main_v177 : Ref sig .tc := ⟨.hbm, 1789, rfl⟩
abbrev main_v178 : Ref sig .tc := ⟨.hbm, 1790, rfl⟩
abbrev main_v179 : Ref sig .tc := ⟨.hbm, 1791, rfl⟩
abbrev main_c_84 : Ref sig .tc := ⟨.hbm, 1792, rfl⟩
abbrev main_v180 : Ref sig .tc := ⟨.hbm, 1793, rfl⟩
abbrev main_v181 : Ref sig .tc := ⟨.hbm, 1794, rfl⟩
abbrev main_c_85 : Ref sig .tc := ⟨.hbm, 1795, rfl⟩
abbrev main_v182 : Ref sig .tc := ⟨.hbm, 1796, rfl⟩
abbrev main_v183 : Ref sig .tc := ⟨.hbm, 1797, rfl⟩
abbrev main_v184 : Ref sig .tc := ⟨.hbm, 1798, rfl⟩
abbrev main_v185 : Ref sig .tc := ⟨.hbm, 1799, rfl⟩
abbrev main_v186 : Ref sig .tc := ⟨.hbm, 1800, rfl⟩
abbrev main_v187 : Ref sig .tc := ⟨.hbm, 1801, rfl⟩
abbrev main_v188 : Ref sig .tc := ⟨.hbm, 1802, rfl⟩
abbrev main_v189 : Ref sig .tc := ⟨.hbm, 1803, rfl⟩
abbrev main_v190 : Ref sig .tc := ⟨.hbm, 1804, rfl⟩
abbrev main_c_86 : Ref sig .tc := ⟨.hbm, 1805, rfl⟩
abbrev main_v191 : Ref sig .tc := ⟨.hbm, 1806, rfl⟩
abbrev main_c_87 : Ref sig .tc := ⟨.hbm, 1807, rfl⟩
abbrev main_v192 : Ref sig .tc := ⟨.hbm, 1808, rfl⟩
abbrev main_v193 : Ref sig .tc := ⟨.hbm, 1809, rfl⟩
abbrev main_c_88 : Ref sig .tc := ⟨.hbm, 1810, rfl⟩
abbrev main_c_89 : Ref sig .tc := ⟨.hbm, 1811, rfl⟩
abbrev main_v194 : Ref sig .tc := ⟨.hbm, 1812, rfl⟩
abbrev main_c_90 : Ref sig .tc := ⟨.hbm, 1813, rfl⟩
abbrev main_c_91 : Ref sig .tc := ⟨.hbm, 1814, rfl⟩
abbrev main_v195 : Ref sig .tc := ⟨.hbm, 1815, rfl⟩
abbrev main_c_92 : Ref sig .tc := ⟨.hbm, 1816, rfl⟩
abbrev main_v196 : Ref sig .tc := ⟨.hbm, 1817, rfl⟩
abbrev main_c_93 : Ref sig .tc := ⟨.hbm, 1818, rfl⟩
abbrev main_c_94 : Ref sig .tc := ⟨.hbm, 1819, rfl⟩
abbrev main_v197 : Ref sig .tc := ⟨.hbm, 1820, rfl⟩
abbrev main_c_95 : Ref sig .tc := ⟨.hbm, 1821, rfl⟩
abbrev main_c_96 : Ref sig .tc := ⟨.hbm, 1822, rfl⟩
abbrev main_v198 : Ref sig .tc := ⟨.hbm, 1823, rfl⟩
abbrev main_c_97 : Ref sig .tc := ⟨.hbm, 1824, rfl⟩
abbrev main_v199 : Ref sig .tc := ⟨.hbm, 1825, rfl⟩
abbrev main_v200 : Ref sig .tc := ⟨.hbm, 1826, rfl⟩
abbrev main_v201 : Ref sig .tc := ⟨.hbm, 1827, rfl⟩
abbrev main_v202 : Ref sig .tc := ⟨.hbm, 1828, rfl⟩
abbrev main_v203 : Ref sig .tc := ⟨.hbm, 1829, rfl⟩
abbrev main_v204 : Ref sig .tc := ⟨.hbm, 1830, rfl⟩
abbrev main_call9_v0 : Ref sig .tc := ⟨.hbm, 1831, rfl⟩
abbrev main_call9_v1 : Ref sig .tc := ⟨.hbm, 1832, rfl⟩
abbrev main_call9_v2 : Ref sig .tc := ⟨.hbm, 1833, rfl⟩
abbrev main_call9_v3 : Ref sig .tc := ⟨.hbm, 1834, rfl⟩
abbrev main_call9_v4 : Ref sig .tc := ⟨.hbm, 1835, rfl⟩
abbrev main_call9_c : Ref sig .tc := ⟨.hbm, 1836, rfl⟩
abbrev main_call9_v5 : Ref sig .tc := ⟨.hbm, 1837, rfl⟩
abbrev main_call9_v6 : Ref sig .tc := ⟨.hbm, 1838, rfl⟩
abbrev main_call9_c_0 : Ref sig .tc := ⟨.hbm, 1839, rfl⟩
abbrev main_call9_v7 : Ref sig .tc := ⟨.hbm, 1840, rfl⟩
abbrev main_call9_v8 : Ref sig .tc := ⟨.hbm, 1841, rfl⟩
abbrev main_call9_v9 : Ref sig .tc := ⟨.hbm, 1842, rfl⟩
abbrev main_call9_v10 : Ref sig .tc := ⟨.hbm, 1843, rfl⟩
abbrev main_call9_call0_v0 : Ref sig .tc := ⟨.hbm, 1844, rfl⟩
abbrev main_call9_call0_c : Ref sig .tc := ⟨.hbm, 1845, rfl⟩
abbrev main_call9_call0_v1 : Ref sig .tc := ⟨.hbm, 1846, rfl⟩
abbrev main_call9_call0_v2 : Ref sig .tc := ⟨.hbm, 1847, rfl⟩
abbrev main_call9_call0_v3 : Ref sig .tc := ⟨.hbm, 1848, rfl⟩
abbrev main_call9_call0_v4 : Ref sig .tc := ⟨.hbm, 1849, rfl⟩
abbrev main_call9_call0_v5 : Ref sig .tc := ⟨.hbm, 1850, rfl⟩
abbrev main_call9_call0_v6 : Ref sig .tc := ⟨.hbm, 1851, rfl⟩
abbrev main_call9_call0_c_0 : Ref sig .tc := ⟨.hbm, 1852, rfl⟩
abbrev main_call9_call0_v7 : Ref sig .tc := ⟨.hbm, 1853, rfl⟩
abbrev main_call9_call0_v8 : Ref sig .tc := ⟨.hbm, 1854, rfl⟩
abbrev main_call9_call0_c_1 : Ref sig .tc := ⟨.hbm, 1855, rfl⟩
abbrev main_call9_call0_v9 : Ref sig .tc := ⟨.hbm, 1856, rfl⟩
abbrev main_call9_call0_v10 : Ref sig .tc := ⟨.hbm, 1857, rfl⟩
abbrev main_call9_call0_v11 : Ref sig .tc := ⟨.hbm, 1858, rfl⟩
abbrev main_call9_call0_v12 : Ref sig .tc := ⟨.hbm, 1859, rfl⟩
abbrev main_call9_call0_v13 : Ref sig .tc := ⟨.hbm, 1860, rfl⟩
abbrev main_call9_call0_c_2 : Ref sig .tc := ⟨.hbm, 1861, rfl⟩
abbrev main_call9_call0_v14 : Ref sig .tc := ⟨.hbm, 1862, rfl⟩
abbrev main_call9_call0_v15 : Ref sig .tc := ⟨.hbm, 1863, rfl⟩
abbrev main_call9_call0_c_3 : Ref sig .tc := ⟨.hbm, 1864, rfl⟩
abbrev main_call9_call0_v16 : Ref sig .tc := ⟨.hbm, 1865, rfl⟩
abbrev main_call9_call0_v17 : Ref sig .tc := ⟨.hbm, 1866, rfl⟩
abbrev main_call9_call0_v18 : Ref sig .tc := ⟨.hbm, 1867, rfl⟩
abbrev main_call9_call0_v19 : Ref sig .tc := ⟨.hbm, 1868, rfl⟩
abbrev main_call9_call0_v20 : Ref sig .tc := ⟨.hbm, 1869, rfl⟩
abbrev main_call9_call0_c_4 : Ref sig .tc := ⟨.hbm, 1870, rfl⟩
abbrev main_call9_call0_v21 : Ref sig .tc := ⟨.hbm, 1871, rfl⟩
abbrev main_call9_call0_v22 : Ref sig .tc := ⟨.hbm, 1872, rfl⟩
abbrev main_call9_call0_c_5 : Ref sig .tc := ⟨.hbm, 1873, rfl⟩
abbrev main_call9_call0_v23 : Ref sig .tc := ⟨.hbm, 1874, rfl⟩
abbrev main_call9_call0_v24 : Ref sig .tc := ⟨.hbm, 1875, rfl⟩
abbrev main_call9_call0_v25 : Ref sig .tc := ⟨.hbm, 1876, rfl⟩
abbrev main_call9_call0_v26 : Ref sig .tc := ⟨.hbm, 1877, rfl⟩
abbrev main_call9_call0_v27 : Ref sig .tc := ⟨.hbm, 1878, rfl⟩
abbrev main_call9_call0_c_6 : Ref sig .tc := ⟨.hbm, 1879, rfl⟩
abbrev main_call9_call0_v28 : Ref sig .tc := ⟨.hbm, 1880, rfl⟩
abbrev main_call9_call0_v29 : Ref sig .tc := ⟨.hbm, 1881, rfl⟩
abbrev main_call9_call0_c_7 : Ref sig .tc := ⟨.hbm, 1882, rfl⟩
abbrev main_call9_call0_v30 : Ref sig .tc := ⟨.hbm, 1883, rfl⟩
abbrev main_call9_call0_v31 : Ref sig .tc := ⟨.hbm, 1884, rfl⟩
abbrev main_call9_call0_v32 : Ref sig .tc := ⟨.hbm, 1885, rfl⟩
abbrev main_call9_call0_v33 : Ref sig .tc := ⟨.hbm, 1886, rfl⟩
abbrev main_call9_call0_v34 : Ref sig .tc := ⟨.hbm, 1887, rfl⟩
abbrev main_call9_call0_v35 : Ref sig .tc := ⟨.hbm, 1888, rfl⟩
abbrev main_call9_call0_v36 : Ref sig .tc := ⟨.hbm, 1889, rfl⟩
abbrev main_call9_call0_v37 : Ref sig .tc := ⟨.hbm, 1890, rfl⟩
abbrev main_call9_call0_c_8 : Ref sig .tc := ⟨.hbm, 1891, rfl⟩
abbrev main_call9_call0_v38 : Ref sig .tc := ⟨.hbm, 1892, rfl⟩
abbrev main_call9_call0_v39 : Ref sig .tc := ⟨.hbm, 1893, rfl⟩
abbrev main_call9_call0_v40 : Ref sig .tc := ⟨.hbm, 1894, rfl⟩
abbrev main_call9_call0_c_9 : Ref sig .tc := ⟨.hbm, 1895, rfl⟩
abbrev main_call9_call0_v41 : Ref sig .tc := ⟨.hbm, 1896, rfl⟩
abbrev main_call9_call0_v42 : Ref sig .tc := ⟨.hbm, 1897, rfl⟩
abbrev main_call9_call0_c_10 : Ref sig .tc := ⟨.hbm, 1898, rfl⟩
abbrev main_call9_call0_v43 : Ref sig .tc := ⟨.hbm, 1899, rfl⟩
abbrev main_call9_call0_v44 : Ref sig .tc := ⟨.hbm, 1900, rfl⟩
abbrev main_call9_call0_v45 : Ref sig .tc := ⟨.hbm, 1901, rfl⟩
abbrev main_call9_call0_v46 : Ref sig .tc := ⟨.hbm, 1902, rfl⟩
abbrev main_call9_call0_v47 : Ref sig .tc := ⟨.hbm, 1903, rfl⟩
abbrev main_call9_call0_c_11 : Ref sig .tc := ⟨.hbm, 1904, rfl⟩
abbrev main_call9_call0_v48 : Ref sig .tc := ⟨.hbm, 1905, rfl⟩
abbrev main_call9_call0_v49 : Ref sig .tc := ⟨.hbm, 1906, rfl⟩
abbrev main_call9_call0_c_12 : Ref sig .tc := ⟨.hbm, 1907, rfl⟩
abbrev main_call9_call0_v50 : Ref sig .tc := ⟨.hbm, 1908, rfl⟩
abbrev main_call9_call0_v51 : Ref sig .tc := ⟨.hbm, 1909, rfl⟩
abbrev main_call9_call0_v52 : Ref sig .tc := ⟨.hbm, 1910, rfl⟩
abbrev main_call9_call0_v53 : Ref sig .tc := ⟨.hbm, 1911, rfl⟩
abbrev main_call9_call0_v54 : Ref sig .tc := ⟨.hbm, 1912, rfl⟩
abbrev main_call9_call0_c_13 : Ref sig .tc := ⟨.hbm, 1913, rfl⟩
abbrev main_call9_call0_v55 : Ref sig .tc := ⟨.hbm, 1914, rfl⟩
abbrev main_call9_call0_v56 : Ref sig .tc := ⟨.hbm, 1915, rfl⟩
abbrev main_call9_call0_c_14 : Ref sig .tc := ⟨.hbm, 1916, rfl⟩
abbrev main_call9_call0_v57 : Ref sig .tc := ⟨.hbm, 1917, rfl⟩
abbrev main_call9_call0_v58 : Ref sig .tc := ⟨.hbm, 1918, rfl⟩
abbrev main_call9_call0_v59 : Ref sig .tc := ⟨.hbm, 1919, rfl⟩
abbrev main_call9_call0_v60 : Ref sig .tc := ⟨.hbm, 1920, rfl⟩
abbrev main_call9_call0_v61 : Ref sig .tc := ⟨.hbm, 1921, rfl⟩
abbrev main_call9_call0_c_15 : Ref sig .tc := ⟨.hbm, 1922, rfl⟩
abbrev main_call9_call0_v62 : Ref sig .tc := ⟨.hbm, 1923, rfl⟩
abbrev main_call9_call0_v63 : Ref sig .tc := ⟨.hbm, 1924, rfl⟩
abbrev main_call9_call0_c_16 : Ref sig .tc := ⟨.hbm, 1925, rfl⟩
abbrev main_call9_call0_v64 : Ref sig .tc := ⟨.hbm, 1926, rfl⟩
abbrev main_call9_call0_v65 : Ref sig .tc := ⟨.hbm, 1927, rfl⟩
abbrev main_call9_call0_v66 : Ref sig .tc := ⟨.hbm, 1928, rfl⟩
abbrev main_call9_call0_v67 : Ref sig .tc := ⟨.hbm, 1929, rfl⟩
abbrev main_call9_call0_v68 : Ref sig .tc := ⟨.hbm, 1930, rfl⟩
abbrev main_call9_call0_v69 : Ref sig .tc := ⟨.hbm, 1931, rfl⟩
abbrev main_call9_call0_v70 : Ref sig .tc := ⟨.hbm, 1932, rfl⟩
abbrev main_call9_call0_v71 : Ref sig .tc := ⟨.hbm, 1933, rfl⟩
abbrev main_call9_call0_c_17 : Ref sig .tc := ⟨.hbm, 1934, rfl⟩
abbrev main_call9_call0_v72 : Ref sig .tc := ⟨.hbm, 1935, rfl⟩
abbrev main_call9_call0_v73 : Ref sig .tc := ⟨.hbm, 1936, rfl⟩
abbrev main_call9_call0_v74 : Ref sig .tc := ⟨.hbm, 1937, rfl⟩
abbrev main_call9_call0_c_18 : Ref sig .tc := ⟨.hbm, 1938, rfl⟩
abbrev main_call9_call0_v75 : Ref sig .tc := ⟨.hbm, 1939, rfl⟩
abbrev main_call9_call0_v76 : Ref sig .tc := ⟨.hbm, 1940, rfl⟩
abbrev main_call9_call0_c_19 : Ref sig .tc := ⟨.hbm, 1941, rfl⟩
abbrev main_call9_call0_v77 : Ref sig .tc := ⟨.hbm, 1942, rfl⟩
abbrev main_call9_call0_v78 : Ref sig .tc := ⟨.hbm, 1943, rfl⟩
abbrev main_call9_call0_v79 : Ref sig .tc := ⟨.hbm, 1944, rfl⟩
abbrev main_call9_call0_v80 : Ref sig .tc := ⟨.hbm, 1945, rfl⟩
abbrev main_call9_call0_v81 : Ref sig .tc := ⟨.hbm, 1946, rfl⟩
abbrev main_call9_call0_c_20 : Ref sig .tc := ⟨.hbm, 1947, rfl⟩
abbrev main_call9_call0_v82 : Ref sig .tc := ⟨.hbm, 1948, rfl⟩
abbrev main_call9_call0_v83 : Ref sig .tc := ⟨.hbm, 1949, rfl⟩
abbrev main_call9_call0_c_21 : Ref sig .tc := ⟨.hbm, 1950, rfl⟩
abbrev main_call9_call0_v84 : Ref sig .tc := ⟨.hbm, 1951, rfl⟩
abbrev main_call9_call0_v85 : Ref sig .tc := ⟨.hbm, 1952, rfl⟩
abbrev main_call9_call0_v86 : Ref sig .tc := ⟨.hbm, 1953, rfl⟩
abbrev main_call9_call0_v87 : Ref sig .tc := ⟨.hbm, 1954, rfl⟩
abbrev main_call9_call0_v88 : Ref sig .tc := ⟨.hbm, 1955, rfl⟩
abbrev main_call9_call0_c_22 : Ref sig .tc := ⟨.hbm, 1956, rfl⟩
abbrev main_call9_call0_v89 : Ref sig .tc := ⟨.hbm, 1957, rfl⟩
abbrev main_call9_call0_v90 : Ref sig .tc := ⟨.hbm, 1958, rfl⟩
abbrev main_call9_call0_c_23 : Ref sig .tc := ⟨.hbm, 1959, rfl⟩
abbrev main_call9_call0_v91 : Ref sig .tc := ⟨.hbm, 1960, rfl⟩
abbrev main_call9_call0_v92 : Ref sig .tc := ⟨.hbm, 1961, rfl⟩
abbrev main_call9_call0_v93 : Ref sig .tc := ⟨.hbm, 1962, rfl⟩
abbrev main_call9_call0_v94 : Ref sig .tc := ⟨.hbm, 1963, rfl⟩
abbrev main_call9_call0_v95 : Ref sig .tc := ⟨.hbm, 1964, rfl⟩
abbrev main_call9_call0_c_24 : Ref sig .tc := ⟨.hbm, 1965, rfl⟩
abbrev main_call9_call0_v96 : Ref sig .tc := ⟨.hbm, 1966, rfl⟩
abbrev main_call9_call0_v97 : Ref sig .tc := ⟨.hbm, 1967, rfl⟩
abbrev main_call9_call0_c_25 : Ref sig .tc := ⟨.hbm, 1968, rfl⟩
abbrev main_call9_call0_v98 : Ref sig .tc := ⟨.hbm, 1969, rfl⟩
abbrev main_call9_call0_v99 : Ref sig .tc := ⟨.hbm, 1970, rfl⟩
abbrev main_call9_call0_v100 : Ref sig .tc := ⟨.hbm, 1971, rfl⟩
abbrev main_call9_call0_v101 : Ref sig .tc := ⟨.hbm, 1972, rfl⟩
abbrev main_call9_call0_v102 : Ref sig .tc := ⟨.hbm, 1973, rfl⟩
abbrev main_call9_call0_v103 : Ref sig .tc := ⟨.hbm, 1974, rfl⟩
abbrev main_call9_call0_v104 : Ref sig .tc := ⟨.hbm, 1975, rfl⟩
abbrev main_call9_call0_v105 : Ref sig .tc := ⟨.hbm, 1976, rfl⟩
abbrev main_call9_call0_c_26 : Ref sig .tc := ⟨.hbm, 1977, rfl⟩
abbrev main_call9_call0_v106 : Ref sig .tc := ⟨.hbm, 1978, rfl⟩
abbrev main_call9_call0_v107 : Ref sig .tc := ⟨.hbm, 1979, rfl⟩
abbrev main_call9_call0_v108 : Ref sig .tc := ⟨.hbm, 1980, rfl⟩
abbrev main_call9_call0_c_27 : Ref sig .tc := ⟨.hbm, 1981, rfl⟩
abbrev main_call9_call0_v109 : Ref sig .tc := ⟨.hbm, 1982, rfl⟩
abbrev main_call9_call0_v110 : Ref sig .tc := ⟨.hbm, 1983, rfl⟩
abbrev main_call9_call0_c_28 : Ref sig .tc := ⟨.hbm, 1984, rfl⟩
abbrev main_call9_call0_v111 : Ref sig .tc := ⟨.hbm, 1985, rfl⟩
abbrev main_call9_call0_v112 : Ref sig .tc := ⟨.hbm, 1986, rfl⟩
abbrev main_call9_call0_v113 : Ref sig .tc := ⟨.hbm, 1987, rfl⟩
abbrev main_call9_call0_v114 : Ref sig .tc := ⟨.hbm, 1988, rfl⟩
abbrev main_call9_call0_v115 : Ref sig .tc := ⟨.hbm, 1989, rfl⟩
abbrev main_call9_call0_c_29 : Ref sig .tc := ⟨.hbm, 1990, rfl⟩
abbrev main_call9_call0_v116 : Ref sig .tc := ⟨.hbm, 1991, rfl⟩
abbrev main_call9_call0_v117 : Ref sig .tc := ⟨.hbm, 1992, rfl⟩
abbrev main_call9_call0_c_30 : Ref sig .tc := ⟨.hbm, 1993, rfl⟩
abbrev main_call9_call0_v118 : Ref sig .tc := ⟨.hbm, 1994, rfl⟩
abbrev main_call9_call0_v119 : Ref sig .tc := ⟨.hbm, 1995, rfl⟩
abbrev main_call9_call0_v120 : Ref sig .tc := ⟨.hbm, 1996, rfl⟩
abbrev main_call9_call0_v121 : Ref sig .tc := ⟨.hbm, 1997, rfl⟩
abbrev main_call9_call0_v122 : Ref sig .tc := ⟨.hbm, 1998, rfl⟩
abbrev main_call9_call0_c_31 : Ref sig .tc := ⟨.hbm, 1999, rfl⟩
abbrev main_call9_call0_v123 : Ref sig .tc := ⟨.hbm, 2000, rfl⟩
abbrev main_call9_call0_v124 : Ref sig .tc := ⟨.hbm, 2001, rfl⟩
abbrev main_call9_call0_c_32 : Ref sig .tc := ⟨.hbm, 2002, rfl⟩
abbrev main_call9_call0_v125 : Ref sig .tc := ⟨.hbm, 2003, rfl⟩
abbrev main_call9_call0_v126 : Ref sig .tc := ⟨.hbm, 2004, rfl⟩
abbrev main_call9_call0_v127 : Ref sig .tc := ⟨.hbm, 2005, rfl⟩
abbrev main_call9_call0_v128 : Ref sig .tc := ⟨.hbm, 2006, rfl⟩
abbrev main_call9_call0_v129 : Ref sig .tc := ⟨.hbm, 2007, rfl⟩
abbrev main_call9_call0_c_33 : Ref sig .tc := ⟨.hbm, 2008, rfl⟩
abbrev main_call9_call0_v130 : Ref sig .tc := ⟨.hbm, 2009, rfl⟩
abbrev main_call9_call0_v131 : Ref sig .tc := ⟨.hbm, 2010, rfl⟩
abbrev main_call9_call0_c_34 : Ref sig .tc := ⟨.hbm, 2011, rfl⟩
abbrev main_call9_call0_v132 : Ref sig .tc := ⟨.hbm, 2012, rfl⟩
abbrev main_call9_call0_v133 : Ref sig .tc := ⟨.hbm, 2013, rfl⟩
abbrev main_call9_call0_v134 : Ref sig .tc := ⟨.hbm, 2014, rfl⟩
abbrev main_call9_call0_v135 : Ref sig .tc := ⟨.hbm, 2015, rfl⟩
abbrev main_call9_call0_v136 : Ref sig .tc := ⟨.hbm, 2016, rfl⟩
abbrev main_call9_call0_v137 : Ref sig .tc := ⟨.hbm, 2017, rfl⟩
abbrev main_call9_call0_v138 : Ref sig .tc := ⟨.hbm, 2018, rfl⟩
abbrev main_call9_call0_v139 : Ref sig .tc := ⟨.hbm, 2019, rfl⟩
abbrev main_call9_call0_c_35 : Ref sig .tc := ⟨.hbm, 2020, rfl⟩
abbrev main_call9_call0_v140 : Ref sig .tc := ⟨.hbm, 2021, rfl⟩
abbrev main_call9_call0_v141 : Ref sig .tc := ⟨.hbm, 2022, rfl⟩
abbrev main_call9_call0_v142 : Ref sig .tc := ⟨.hbm, 2023, rfl⟩
abbrev main_call9_call0_c_36 : Ref sig .tc := ⟨.hbm, 2024, rfl⟩
abbrev main_call9_call0_v143 : Ref sig .tc := ⟨.hbm, 2025, rfl⟩
abbrev main_call9_call0_v144 : Ref sig .tc := ⟨.hbm, 2026, rfl⟩
abbrev main_call9_call0_c_37 : Ref sig .tc := ⟨.hbm, 2027, rfl⟩
abbrev main_call9_call0_v145 : Ref sig .tc := ⟨.hbm, 2028, rfl⟩
abbrev main_call9_call0_v146 : Ref sig .tc := ⟨.hbm, 2029, rfl⟩
abbrev main_call9_call0_v147 : Ref sig .tc := ⟨.hbm, 2030, rfl⟩
abbrev main_call9_call0_v148 : Ref sig .tc := ⟨.hbm, 2031, rfl⟩
abbrev main_call9_call0_v149 : Ref sig .tc := ⟨.hbm, 2032, rfl⟩
abbrev main_call9_call0_c_38 : Ref sig .tc := ⟨.hbm, 2033, rfl⟩
abbrev main_call9_call0_v150 : Ref sig .tc := ⟨.hbm, 2034, rfl⟩
abbrev main_call9_call0_v151 : Ref sig .tc := ⟨.hbm, 2035, rfl⟩
abbrev main_call9_call0_c_39 : Ref sig .tc := ⟨.hbm, 2036, rfl⟩
abbrev main_call9_call0_v152 : Ref sig .tc := ⟨.hbm, 2037, rfl⟩
abbrev main_call9_call0_v153 : Ref sig .tc := ⟨.hbm, 2038, rfl⟩
abbrev main_call9_call0_v154 : Ref sig .tc := ⟨.hbm, 2039, rfl⟩
abbrev main_call9_call0_v155 : Ref sig .tc := ⟨.hbm, 2040, rfl⟩
abbrev main_call9_call0_v156 : Ref sig .tc := ⟨.hbm, 2041, rfl⟩
abbrev main_call9_call0_c_40 : Ref sig .tc := ⟨.hbm, 2042, rfl⟩
abbrev main_call9_call0_v157 : Ref sig .tc := ⟨.hbm, 2043, rfl⟩
abbrev main_call9_call0_v158 : Ref sig .tc := ⟨.hbm, 2044, rfl⟩
abbrev main_call9_call0_c_41 : Ref sig .tc := ⟨.hbm, 2045, rfl⟩
abbrev main_call9_call0_v159 : Ref sig .tc := ⟨.hbm, 2046, rfl⟩
abbrev main_call9_call0_v160 : Ref sig .tc := ⟨.hbm, 2047, rfl⟩
abbrev main_call9_call0_v161 : Ref sig .tc := ⟨.hbm, 2048, rfl⟩
abbrev main_call9_call0_v162 : Ref sig .tc := ⟨.hbm, 2049, rfl⟩
abbrev main_call9_call0_v163 : Ref sig .tc := ⟨.hbm, 2050, rfl⟩
abbrev main_call9_call0_c_42 : Ref sig .tc := ⟨.hbm, 2051, rfl⟩
abbrev main_call9_call0_v164 : Ref sig .tc := ⟨.hbm, 2052, rfl⟩
abbrev main_call9_call0_v165 : Ref sig .tc := ⟨.hbm, 2053, rfl⟩
abbrev main_call9_call0_c_43 : Ref sig .tc := ⟨.hbm, 2054, rfl⟩
abbrev main_call9_call0_v166 : Ref sig .tc := ⟨.hbm, 2055, rfl⟩
abbrev main_call9_call0_v167 : Ref sig .tc := ⟨.hbm, 2056, rfl⟩
abbrev main_call9_call0_v168 : Ref sig .tc := ⟨.hbm, 2057, rfl⟩
abbrev main_call9_call0_v169 : Ref sig .tc := ⟨.hbm, 2058, rfl⟩
abbrev main_call9_call0_v170 : Ref sig .tc := ⟨.hbm, 2059, rfl⟩
abbrev main_call9_v11_0 : Ref sig .tc := ⟨.hbm, 2060, rfl⟩
abbrev main_call9_call0_v172 : Ref sig .tc := ⟨.hbm, 2061, rfl⟩
abbrev main_call9_call0_v173 : Ref sig .tc := ⟨.hbm, 2062, rfl⟩
abbrev main_call9_call0_c_44 : Ref sig .tc := ⟨.hbm, 2063, rfl⟩
abbrev main_call9_call0_v174 : Ref sig .tc := ⟨.hbm, 2064, rfl⟩
abbrev main_call9_v11_1 : Ref sig .tc := ⟨.hbm, 2065, rfl⟩
abbrev main_call9_v12 : Ref sig .tc := ⟨.hbm, 2066, rfl⟩
abbrev main_call9_v13 : Ref sig .tc := ⟨.hbm, 2067, rfl⟩
abbrev main_v205 : Ref sig .tc := ⟨.hbm, 2068, rfl⟩
abbrev main_v206 : Ref sig .tc := ⟨.hbm, 2069, rfl⟩
abbrev main_v207 : Ref sig .tc := ⟨.hbm, 2070, rfl⟩
abbrev main_v208 : Ref sig .tc := ⟨.hbm, 2071, rfl⟩
abbrev main_v209 : Ref sig .tc := ⟨.hbm, 2072, rfl⟩
abbrev main_c_98 : Ref sig .tc := ⟨.hbm, 2073, rfl⟩
abbrev main_v210 : Ref sig .tc := ⟨.hbm, 2074, rfl⟩
abbrev main_c_99 : Ref sig .tc := ⟨.hbm, 2075, rfl⟩
abbrev main_v211 : Ref sig .tc := ⟨.hbm, 2076, rfl⟩
abbrev main_v212 : Ref sig .tc := ⟨.hbm, 2077, rfl⟩
abbrev main_c_100 : Ref sig .tc := ⟨.hbm, 2078, rfl⟩
abbrev main_c_101 : Ref sig .tc := ⟨.hbm, 2079, rfl⟩
abbrev main_v213 : Ref sig .tc := ⟨.hbm, 2080, rfl⟩
abbrev main_c_102 : Ref sig .tc := ⟨.hbm, 2081, rfl⟩
abbrev main_c_103 : Ref sig .tc := ⟨.hbm, 2082, rfl⟩
abbrev main_v214 : Ref sig .tc := ⟨.hbm, 2083, rfl⟩
abbrev main_c_104 : Ref sig .tc := ⟨.hbm, 2084, rfl⟩
abbrev main_v215 : Ref sig .tc := ⟨.hbm, 2085, rfl⟩
abbrev main_c_105 : Ref sig .tc := ⟨.hbm, 2086, rfl⟩
abbrev main_c_106 : Ref sig .tc := ⟨.hbm, 2087, rfl⟩
abbrev main_v216 : Ref sig .tc := ⟨.hbm, 2088, rfl⟩
abbrev main_c_107 : Ref sig .tc := ⟨.hbm, 2089, rfl⟩
abbrev main_c_108 : Ref sig .tc := ⟨.hbm, 2090, rfl⟩
abbrev main_v217 : Ref sig .tc := ⟨.hbm, 2091, rfl⟩
abbrev main_c_109 : Ref sig .tc := ⟨.hbm, 2092, rfl⟩
abbrev main_v218 : Ref sig .tc := ⟨.hbm, 2093, rfl⟩
abbrev main_v219 : Ref sig .tc := ⟨.hbm, 2094, rfl⟩
abbrev main_v220 : Ref sig .tc := ⟨.hbm, 2095, rfl⟩
abbrev main_call10_cst : Ref sig .tc := ⟨.hbm, 2096, rfl⟩
abbrev main_call10_cst_0 : Ref sig .tc := ⟨.hbm, 2097, rfl⟩
abbrev main_call10_call0_v0 : Ref sig .tc := ⟨.hbm, 2098, rfl⟩
abbrev main_call10_call0_v1 : Ref sig .tc := ⟨.hbm, 2099, rfl⟩
abbrev main_call10_call0_v2 : Ref sig .tc := ⟨.hbm, 2100, rfl⟩
abbrev main_call10_call0_v3 : Ref sig .tc := ⟨.hbm, 2101, rfl⟩
abbrev main_call10_call0_v4 : Ref sig .tc := ⟨.hbm, 2102, rfl⟩
abbrev main_call10_call0_v5 : Ref sig .tc := ⟨.hbm, 2103, rfl⟩
abbrev main_call10_call0_v6 : Ref sig .tc := ⟨.hbm, 2104, rfl⟩
abbrev main_call10_call0_v7 : Ref sig .tc := ⟨.hbm, 2105, rfl⟩
abbrev main_call10_call0_v8 : Ref sig .tc := ⟨.hbm, 2106, rfl⟩
abbrev main_call10_call0_c : Ref sig .tc := ⟨.hbm, 2107, rfl⟩
abbrev main_call10_call0_v9 : Ref sig .tc := ⟨.hbm, 2108, rfl⟩
abbrev main_call10_call0_v10 : Ref sig .tc := ⟨.hbm, 2109, rfl⟩
abbrev main_call10_call0_c_0 : Ref sig .tc := ⟨.hbm, 2110, rfl⟩
abbrev main_call10_call0_v11 : Ref sig .tc := ⟨.hbm, 2111, rfl⟩
abbrev main_call10_call0_v12 : Ref sig .tc := ⟨.hbm, 2112, rfl⟩
abbrev main_call10_call0_v13 : Ref sig .tc := ⟨.hbm, 2113, rfl⟩
abbrev main_call10_call0_c_1 : Ref sig .tc := ⟨.hbm, 2114, rfl⟩
abbrev main_call10_call0_v14 : Ref sig .tc := ⟨.hbm, 2115, rfl⟩
abbrev main_call10_call0_v15 : Ref sig .tc := ⟨.hbm, 2116, rfl⟩
abbrev main_call10_call0_v16 : Ref sig .tc := ⟨.hbm, 2117, rfl⟩
abbrev main_call10_call0_v17 : Ref sig .tc := ⟨.hbm, 2118, rfl⟩
abbrev main_call10_call0_call0_v0 : Ref sig .tc := ⟨.hbm, 2119, rfl⟩
abbrev main_call10_call0_call0_c : Ref sig .tc := ⟨.hbm, 2120, rfl⟩
abbrev main_call10_call0_call0_v1 : Ref sig .tc := ⟨.hbm, 2121, rfl⟩
abbrev main_call10_call0_call0_v2 : Ref sig .tc := ⟨.hbm, 2122, rfl⟩
abbrev main_call10_call0_call0_v3 : Ref sig .tc := ⟨.hbm, 2123, rfl⟩
abbrev main_call10_call0_call0_v4 : Ref sig .tc := ⟨.hbm, 2124, rfl⟩
abbrev main_call10_call0_call0_v5 : Ref sig .tc := ⟨.hbm, 2125, rfl⟩
abbrev main_call10_call0_call0_v6 : Ref sig .tc := ⟨.hbm, 2126, rfl⟩
abbrev main_call10_call0_call0_c_0 : Ref sig .tc := ⟨.hbm, 2127, rfl⟩
abbrev main_call10_call0_call0_v7 : Ref sig .tc := ⟨.hbm, 2128, rfl⟩
abbrev main_call10_call0_call0_v8 : Ref sig .tc := ⟨.hbm, 2129, rfl⟩
abbrev main_call10_call0_call0_c_1 : Ref sig .tc := ⟨.hbm, 2130, rfl⟩
abbrev main_call10_call0_call0_v9 : Ref sig .tc := ⟨.hbm, 2131, rfl⟩
abbrev main_call10_call0_call0_v10 : Ref sig .tc := ⟨.hbm, 2132, rfl⟩
abbrev main_call10_call0_call0_v11 : Ref sig .tc := ⟨.hbm, 2133, rfl⟩
abbrev main_call10_call0_call0_v12 : Ref sig .tc := ⟨.hbm, 2134, rfl⟩
abbrev main_call10_call0_call0_v13 : Ref sig .tc := ⟨.hbm, 2135, rfl⟩
abbrev main_call10_call0_call0_c_2 : Ref sig .tc := ⟨.hbm, 2136, rfl⟩
abbrev main_call10_call0_call0_v14 : Ref sig .tc := ⟨.hbm, 2137, rfl⟩
abbrev main_call10_call0_call0_v15 : Ref sig .tc := ⟨.hbm, 2138, rfl⟩
abbrev main_call10_call0_call0_c_3 : Ref sig .tc := ⟨.hbm, 2139, rfl⟩
abbrev main_call10_call0_call0_v16 : Ref sig .tc := ⟨.hbm, 2140, rfl⟩
abbrev main_call10_call0_call0_v17 : Ref sig .tc := ⟨.hbm, 2141, rfl⟩
abbrev main_call10_call0_call0_v18 : Ref sig .tc := ⟨.hbm, 2142, rfl⟩
abbrev main_call10_call0_call0_v19 : Ref sig .tc := ⟨.hbm, 2143, rfl⟩
abbrev main_call10_call0_call0_v20 : Ref sig .tc := ⟨.hbm, 2144, rfl⟩
abbrev main_call10_call0_call0_c_4 : Ref sig .tc := ⟨.hbm, 2145, rfl⟩
abbrev main_call10_call0_call0_v21 : Ref sig .tc := ⟨.hbm, 2146, rfl⟩
abbrev main_call10_call0_call0_v22 : Ref sig .tc := ⟨.hbm, 2147, rfl⟩
abbrev main_call10_call0_call0_c_5 : Ref sig .tc := ⟨.hbm, 2148, rfl⟩
abbrev main_call10_call0_call0_v23 : Ref sig .tc := ⟨.hbm, 2149, rfl⟩
abbrev main_call10_call0_call0_v24 : Ref sig .tc := ⟨.hbm, 2150, rfl⟩
abbrev main_call10_call0_call0_v25 : Ref sig .tc := ⟨.hbm, 2151, rfl⟩
abbrev main_call10_call0_call0_v26 : Ref sig .tc := ⟨.hbm, 2152, rfl⟩
abbrev main_call10_call0_call0_v27 : Ref sig .tc := ⟨.hbm, 2153, rfl⟩
abbrev main_call10_call0_call0_c_6 : Ref sig .tc := ⟨.hbm, 2154, rfl⟩
abbrev main_call10_call0_call0_v28 : Ref sig .tc := ⟨.hbm, 2155, rfl⟩
abbrev main_call10_call0_call0_v29 : Ref sig .tc := ⟨.hbm, 2156, rfl⟩
abbrev main_call10_call0_call0_c_7 : Ref sig .tc := ⟨.hbm, 2157, rfl⟩
abbrev main_call10_call0_call0_v30 : Ref sig .tc := ⟨.hbm, 2158, rfl⟩
abbrev main_call10_call0_call0_v31 : Ref sig .tc := ⟨.hbm, 2159, rfl⟩
abbrev main_call10_call0_call0_v32 : Ref sig .tc := ⟨.hbm, 2160, rfl⟩
abbrev main_call10_call0_call0_v33 : Ref sig .tc := ⟨.hbm, 2161, rfl⟩
abbrev main_call10_call0_call0_v34 : Ref sig .tc := ⟨.hbm, 2162, rfl⟩
abbrev main_call10_call0_call0_v35 : Ref sig .tc := ⟨.hbm, 2163, rfl⟩
abbrev main_call10_call0_call0_v36 : Ref sig .tc := ⟨.hbm, 2164, rfl⟩
abbrev main_call10_call0_call0_v37 : Ref sig .tc := ⟨.hbm, 2165, rfl⟩
abbrev main_call10_call0_call0_c_8 : Ref sig .tc := ⟨.hbm, 2166, rfl⟩
abbrev main_call10_call0_call0_v38 : Ref sig .tc := ⟨.hbm, 2167, rfl⟩
abbrev main_call10_call0_call0_v39 : Ref sig .tc := ⟨.hbm, 2168, rfl⟩
abbrev main_call10_call0_call0_v40 : Ref sig .tc := ⟨.hbm, 2169, rfl⟩
abbrev main_call10_call0_call0_c_9 : Ref sig .tc := ⟨.hbm, 2170, rfl⟩
abbrev main_call10_call0_call0_v41 : Ref sig .tc := ⟨.hbm, 2171, rfl⟩
abbrev main_call10_call0_call0_v42 : Ref sig .tc := ⟨.hbm, 2172, rfl⟩
abbrev main_call10_call0_call0_c_10 : Ref sig .tc := ⟨.hbm, 2173, rfl⟩
abbrev main_call10_call0_call0_v43 : Ref sig .tc := ⟨.hbm, 2174, rfl⟩
abbrev main_call10_call0_call0_v44 : Ref sig .tc := ⟨.hbm, 2175, rfl⟩
abbrev main_call10_call0_call0_v45 : Ref sig .tc := ⟨.hbm, 2176, rfl⟩
abbrev main_call10_call0_call0_v46 : Ref sig .tc := ⟨.hbm, 2177, rfl⟩
abbrev main_call10_call0_call0_v47 : Ref sig .tc := ⟨.hbm, 2178, rfl⟩
abbrev main_call10_call0_call0_c_11 : Ref sig .tc := ⟨.hbm, 2179, rfl⟩
abbrev main_call10_call0_call0_v48 : Ref sig .tc := ⟨.hbm, 2180, rfl⟩
abbrev main_call10_call0_call0_v49 : Ref sig .tc := ⟨.hbm, 2181, rfl⟩
abbrev main_call10_call0_call0_c_12 : Ref sig .tc := ⟨.hbm, 2182, rfl⟩
abbrev main_call10_call0_call0_v50 : Ref sig .tc := ⟨.hbm, 2183, rfl⟩
abbrev main_call10_call0_call0_v51 : Ref sig .tc := ⟨.hbm, 2184, rfl⟩
abbrev main_call10_call0_call0_v52 : Ref sig .tc := ⟨.hbm, 2185, rfl⟩
abbrev main_call10_call0_call0_v53 : Ref sig .tc := ⟨.hbm, 2186, rfl⟩
abbrev main_call10_call0_call0_v54 : Ref sig .tc := ⟨.hbm, 2187, rfl⟩
abbrev main_call10_call0_call0_c_13 : Ref sig .tc := ⟨.hbm, 2188, rfl⟩
abbrev main_call10_call0_call0_v55 : Ref sig .tc := ⟨.hbm, 2189, rfl⟩
abbrev main_call10_call0_call0_v56 : Ref sig .tc := ⟨.hbm, 2190, rfl⟩
abbrev main_call10_call0_call0_c_14 : Ref sig .tc := ⟨.hbm, 2191, rfl⟩
abbrev main_call10_call0_call0_v57 : Ref sig .tc := ⟨.hbm, 2192, rfl⟩
abbrev main_call10_call0_call0_v58 : Ref sig .tc := ⟨.hbm, 2193, rfl⟩
abbrev main_call10_call0_call0_v59 : Ref sig .tc := ⟨.hbm, 2194, rfl⟩
abbrev main_call10_call0_call0_v60 : Ref sig .tc := ⟨.hbm, 2195, rfl⟩
abbrev main_call10_call0_call0_v61 : Ref sig .tc := ⟨.hbm, 2196, rfl⟩
abbrev main_call10_call0_call0_c_15 : Ref sig .tc := ⟨.hbm, 2197, rfl⟩
abbrev main_call10_call0_call0_v62 : Ref sig .tc := ⟨.hbm, 2198, rfl⟩
abbrev main_call10_call0_call0_v63 : Ref sig .tc := ⟨.hbm, 2199, rfl⟩
abbrev main_call10_call0_call0_c_16 : Ref sig .tc := ⟨.hbm, 2200, rfl⟩
abbrev main_call10_call0_call0_v64 : Ref sig .tc := ⟨.hbm, 2201, rfl⟩
abbrev main_call10_call0_call0_v65 : Ref sig .tc := ⟨.hbm, 2202, rfl⟩
abbrev main_call10_call0_call0_v66 : Ref sig .tc := ⟨.hbm, 2203, rfl⟩
abbrev main_call10_call0_call0_v67 : Ref sig .tc := ⟨.hbm, 2204, rfl⟩
abbrev main_call10_call0_call0_v68 : Ref sig .tc := ⟨.hbm, 2205, rfl⟩
abbrev main_call10_call0_call0_v69 : Ref sig .tc := ⟨.hbm, 2206, rfl⟩
abbrev main_call10_call0_call0_v70 : Ref sig .tc := ⟨.hbm, 2207, rfl⟩
abbrev main_call10_call0_call0_v71 : Ref sig .tc := ⟨.hbm, 2208, rfl⟩
abbrev main_call10_call0_call0_c_17 : Ref sig .tc := ⟨.hbm, 2209, rfl⟩
abbrev main_call10_call0_call0_v72 : Ref sig .tc := ⟨.hbm, 2210, rfl⟩
abbrev main_call10_call0_call0_v73 : Ref sig .tc := ⟨.hbm, 2211, rfl⟩
abbrev main_call10_call0_call0_v74 : Ref sig .tc := ⟨.hbm, 2212, rfl⟩
abbrev main_call10_call0_call0_c_18 : Ref sig .tc := ⟨.hbm, 2213, rfl⟩
abbrev main_call10_call0_call0_v75 : Ref sig .tc := ⟨.hbm, 2214, rfl⟩
abbrev main_call10_call0_call0_v76 : Ref sig .tc := ⟨.hbm, 2215, rfl⟩
abbrev main_call10_call0_call0_c_19 : Ref sig .tc := ⟨.hbm, 2216, rfl⟩
abbrev main_call10_call0_call0_v77 : Ref sig .tc := ⟨.hbm, 2217, rfl⟩
abbrev main_call10_call0_call0_v78 : Ref sig .tc := ⟨.hbm, 2218, rfl⟩
abbrev main_call10_call0_call0_v79 : Ref sig .tc := ⟨.hbm, 2219, rfl⟩
abbrev main_call10_call0_call0_v80 : Ref sig .tc := ⟨.hbm, 2220, rfl⟩
abbrev main_call10_call0_call0_v81 : Ref sig .tc := ⟨.hbm, 2221, rfl⟩
abbrev main_call10_call0_call0_c_20 : Ref sig .tc := ⟨.hbm, 2222, rfl⟩
abbrev main_call10_call0_call0_v82 : Ref sig .tc := ⟨.hbm, 2223, rfl⟩
abbrev main_call10_call0_call0_v83 : Ref sig .tc := ⟨.hbm, 2224, rfl⟩
abbrev main_call10_call0_call0_c_21 : Ref sig .tc := ⟨.hbm, 2225, rfl⟩
abbrev main_call10_call0_call0_v84 : Ref sig .tc := ⟨.hbm, 2226, rfl⟩
abbrev main_call10_call0_call0_v85 : Ref sig .tc := ⟨.hbm, 2227, rfl⟩
abbrev main_call10_call0_call0_v86 : Ref sig .tc := ⟨.hbm, 2228, rfl⟩
abbrev main_call10_call0_call0_v87 : Ref sig .tc := ⟨.hbm, 2229, rfl⟩
abbrev main_call10_call0_call0_v88 : Ref sig .tc := ⟨.hbm, 2230, rfl⟩
abbrev main_call10_call0_call0_c_22 : Ref sig .tc := ⟨.hbm, 2231, rfl⟩
abbrev main_call10_call0_call0_v89 : Ref sig .tc := ⟨.hbm, 2232, rfl⟩
abbrev main_call10_call0_call0_v90 : Ref sig .tc := ⟨.hbm, 2233, rfl⟩
abbrev main_call10_call0_call0_c_23 : Ref sig .tc := ⟨.hbm, 2234, rfl⟩
abbrev main_call10_call0_call0_v91 : Ref sig .tc := ⟨.hbm, 2235, rfl⟩
abbrev main_call10_call0_call0_v92 : Ref sig .tc := ⟨.hbm, 2236, rfl⟩
abbrev main_call10_call0_call0_v93 : Ref sig .tc := ⟨.hbm, 2237, rfl⟩
abbrev main_call10_call0_call0_v94 : Ref sig .tc := ⟨.hbm, 2238, rfl⟩
abbrev main_call10_call0_call0_v95 : Ref sig .tc := ⟨.hbm, 2239, rfl⟩
abbrev main_call10_call0_call0_c_24 : Ref sig .tc := ⟨.hbm, 2240, rfl⟩
abbrev main_call10_call0_call0_v96 : Ref sig .tc := ⟨.hbm, 2241, rfl⟩
abbrev main_call10_call0_call0_v97 : Ref sig .tc := ⟨.hbm, 2242, rfl⟩
abbrev main_call10_call0_call0_c_25 : Ref sig .tc := ⟨.hbm, 2243, rfl⟩
abbrev main_call10_call0_call0_v98 : Ref sig .tc := ⟨.hbm, 2244, rfl⟩
abbrev main_call10_call0_call0_v99 : Ref sig .tc := ⟨.hbm, 2245, rfl⟩
abbrev main_call10_call0_call0_v100 : Ref sig .tc := ⟨.hbm, 2246, rfl⟩
abbrev main_call10_call0_call0_v101 : Ref sig .tc := ⟨.hbm, 2247, rfl⟩
abbrev main_call10_call0_call0_v102 : Ref sig .tc := ⟨.hbm, 2248, rfl⟩
abbrev main_call10_call0_call0_v103 : Ref sig .tc := ⟨.hbm, 2249, rfl⟩
abbrev main_call10_call0_call0_v104 : Ref sig .tc := ⟨.hbm, 2250, rfl⟩
abbrev main_call10_call0_call0_v105 : Ref sig .tc := ⟨.hbm, 2251, rfl⟩
abbrev main_call10_call0_call0_c_26 : Ref sig .tc := ⟨.hbm, 2252, rfl⟩
abbrev main_call10_call0_call0_v106 : Ref sig .tc := ⟨.hbm, 2253, rfl⟩
abbrev main_call10_call0_call0_v107 : Ref sig .tc := ⟨.hbm, 2254, rfl⟩
abbrev main_call10_call0_call0_v108 : Ref sig .tc := ⟨.hbm, 2255, rfl⟩
abbrev main_call10_call0_call0_c_27 : Ref sig .tc := ⟨.hbm, 2256, rfl⟩
abbrev main_call10_call0_call0_v109 : Ref sig .tc := ⟨.hbm, 2257, rfl⟩
abbrev main_call10_call0_call0_v110 : Ref sig .tc := ⟨.hbm, 2258, rfl⟩
abbrev main_call10_call0_call0_c_28 : Ref sig .tc := ⟨.hbm, 2259, rfl⟩
abbrev main_call10_call0_call0_v111 : Ref sig .tc := ⟨.hbm, 2260, rfl⟩
abbrev main_call10_call0_call0_v112 : Ref sig .tc := ⟨.hbm, 2261, rfl⟩
abbrev main_call10_call0_call0_v113 : Ref sig .tc := ⟨.hbm, 2262, rfl⟩
abbrev main_call10_call0_call0_v114 : Ref sig .tc := ⟨.hbm, 2263, rfl⟩
abbrev main_call10_call0_call0_v115 : Ref sig .tc := ⟨.hbm, 2264, rfl⟩
abbrev main_call10_call0_call0_c_29 : Ref sig .tc := ⟨.hbm, 2265, rfl⟩
abbrev main_call10_call0_call0_v116 : Ref sig .tc := ⟨.hbm, 2266, rfl⟩
abbrev main_call10_call0_call0_v117 : Ref sig .tc := ⟨.hbm, 2267, rfl⟩
abbrev main_call10_call0_call0_c_30 : Ref sig .tc := ⟨.hbm, 2268, rfl⟩
abbrev main_call10_call0_call0_v118 : Ref sig .tc := ⟨.hbm, 2269, rfl⟩
abbrev main_call10_call0_call0_v119 : Ref sig .tc := ⟨.hbm, 2270, rfl⟩
abbrev main_call10_call0_call0_v120 : Ref sig .tc := ⟨.hbm, 2271, rfl⟩
abbrev main_call10_call0_call0_v121 : Ref sig .tc := ⟨.hbm, 2272, rfl⟩
abbrev main_call10_call0_call0_v122 : Ref sig .tc := ⟨.hbm, 2273, rfl⟩
abbrev main_call10_call0_call0_c_31 : Ref sig .tc := ⟨.hbm, 2274, rfl⟩
abbrev main_call10_call0_call0_v123 : Ref sig .tc := ⟨.hbm, 2275, rfl⟩
abbrev main_call10_call0_call0_v124 : Ref sig .tc := ⟨.hbm, 2276, rfl⟩
abbrev main_call10_call0_call0_c_32 : Ref sig .tc := ⟨.hbm, 2277, rfl⟩
abbrev main_call10_call0_call0_v125 : Ref sig .tc := ⟨.hbm, 2278, rfl⟩
abbrev main_call10_call0_call0_v126 : Ref sig .tc := ⟨.hbm, 2279, rfl⟩
abbrev main_call10_call0_call0_v127 : Ref sig .tc := ⟨.hbm, 2280, rfl⟩
abbrev main_call10_call0_call0_v128 : Ref sig .tc := ⟨.hbm, 2281, rfl⟩
abbrev main_call10_call0_call0_v129 : Ref sig .tc := ⟨.hbm, 2282, rfl⟩
abbrev main_call10_call0_call0_c_33 : Ref sig .tc := ⟨.hbm, 2283, rfl⟩
abbrev main_call10_call0_call0_v130 : Ref sig .tc := ⟨.hbm, 2284, rfl⟩
abbrev main_call10_call0_call0_v131 : Ref sig .tc := ⟨.hbm, 2285, rfl⟩
abbrev main_call10_call0_call0_c_34 : Ref sig .tc := ⟨.hbm, 2286, rfl⟩
abbrev main_call10_call0_call0_v132 : Ref sig .tc := ⟨.hbm, 2287, rfl⟩
abbrev main_call10_call0_call0_v133 : Ref sig .tc := ⟨.hbm, 2288, rfl⟩
abbrev main_call10_call0_call0_v134 : Ref sig .tc := ⟨.hbm, 2289, rfl⟩
abbrev main_call10_call0_call0_v135 : Ref sig .tc := ⟨.hbm, 2290, rfl⟩
abbrev main_call10_call0_call0_v136 : Ref sig .tc := ⟨.hbm, 2291, rfl⟩
abbrev main_call10_call0_call0_v137 : Ref sig .tc := ⟨.hbm, 2292, rfl⟩
abbrev main_call10_call0_call0_v138 : Ref sig .tc := ⟨.hbm, 2293, rfl⟩
abbrev main_call10_call0_call0_v139 : Ref sig .tc := ⟨.hbm, 2294, rfl⟩
abbrev main_call10_call0_call0_c_35 : Ref sig .tc := ⟨.hbm, 2295, rfl⟩
abbrev main_call10_call0_call0_v140 : Ref sig .tc := ⟨.hbm, 2296, rfl⟩
abbrev main_call10_call0_call0_v141 : Ref sig .tc := ⟨.hbm, 2297, rfl⟩
abbrev main_call10_call0_call0_v142 : Ref sig .tc := ⟨.hbm, 2298, rfl⟩
abbrev main_call10_call0_call0_c_36 : Ref sig .tc := ⟨.hbm, 2299, rfl⟩
abbrev main_call10_call0_call0_v143 : Ref sig .tc := ⟨.hbm, 2300, rfl⟩
abbrev main_call10_call0_call0_v144 : Ref sig .tc := ⟨.hbm, 2301, rfl⟩
abbrev main_call10_call0_call0_c_37 : Ref sig .tc := ⟨.hbm, 2302, rfl⟩
abbrev main_call10_call0_call0_v145 : Ref sig .tc := ⟨.hbm, 2303, rfl⟩
abbrev main_call10_call0_call0_v146 : Ref sig .tc := ⟨.hbm, 2304, rfl⟩
abbrev main_call10_call0_call0_v147 : Ref sig .tc := ⟨.hbm, 2305, rfl⟩
abbrev main_call10_call0_call0_v148 : Ref sig .tc := ⟨.hbm, 2306, rfl⟩
abbrev main_call10_call0_call0_v149 : Ref sig .tc := ⟨.hbm, 2307, rfl⟩
abbrev main_call10_call0_call0_c_38 : Ref sig .tc := ⟨.hbm, 2308, rfl⟩
abbrev main_call10_call0_call0_v150 : Ref sig .tc := ⟨.hbm, 2309, rfl⟩
abbrev main_call10_call0_call0_v151 : Ref sig .tc := ⟨.hbm, 2310, rfl⟩
abbrev main_call10_call0_call0_c_39 : Ref sig .tc := ⟨.hbm, 2311, rfl⟩
abbrev main_call10_call0_call0_v152 : Ref sig .tc := ⟨.hbm, 2312, rfl⟩
abbrev main_call10_call0_call0_v153 : Ref sig .tc := ⟨.hbm, 2313, rfl⟩
abbrev main_call10_call0_call0_v154 : Ref sig .tc := ⟨.hbm, 2314, rfl⟩
abbrev main_call10_call0_call0_v155 : Ref sig .tc := ⟨.hbm, 2315, rfl⟩
abbrev main_call10_call0_call0_v156 : Ref sig .tc := ⟨.hbm, 2316, rfl⟩
abbrev main_call10_call0_call0_c_40 : Ref sig .tc := ⟨.hbm, 2317, rfl⟩
abbrev main_call10_call0_call0_v157 : Ref sig .tc := ⟨.hbm, 2318, rfl⟩
abbrev main_call10_call0_call0_v158 : Ref sig .tc := ⟨.hbm, 2319, rfl⟩
abbrev main_call10_call0_call0_c_41 : Ref sig .tc := ⟨.hbm, 2320, rfl⟩
abbrev main_call10_call0_call0_v159 : Ref sig .tc := ⟨.hbm, 2321, rfl⟩
abbrev main_call10_call0_call0_v160 : Ref sig .tc := ⟨.hbm, 2322, rfl⟩
abbrev main_call10_call0_call0_v161 : Ref sig .tc := ⟨.hbm, 2323, rfl⟩
abbrev main_call10_call0_call0_v162 : Ref sig .tc := ⟨.hbm, 2324, rfl⟩
abbrev main_call10_call0_call0_v163 : Ref sig .tc := ⟨.hbm, 2325, rfl⟩
abbrev main_call10_call0_call0_c_42 : Ref sig .tc := ⟨.hbm, 2326, rfl⟩
abbrev main_call10_call0_call0_v164 : Ref sig .tc := ⟨.hbm, 2327, rfl⟩
abbrev main_call10_call0_call0_v165 : Ref sig .tc := ⟨.hbm, 2328, rfl⟩
abbrev main_call10_call0_call0_c_43 : Ref sig .tc := ⟨.hbm, 2329, rfl⟩
abbrev main_call10_call0_call0_v166 : Ref sig .tc := ⟨.hbm, 2330, rfl⟩
abbrev main_call10_call0_call0_v167 : Ref sig .tc := ⟨.hbm, 2331, rfl⟩
abbrev main_call10_call0_call0_v168 : Ref sig .tc := ⟨.hbm, 2332, rfl⟩
abbrev main_call10_call0_call0_v169 : Ref sig .tc := ⟨.hbm, 2333, rfl⟩
abbrev main_call10_call0_call0_v170 : Ref sig .tc := ⟨.hbm, 2334, rfl⟩
abbrev main_call10_call0_v18_0 : Ref sig .tc := ⟨.hbm, 2335, rfl⟩
abbrev main_call10_call0_call0_v172 : Ref sig .tc := ⟨.hbm, 2336, rfl⟩
abbrev main_call10_call0_call0_v173 : Ref sig .tc := ⟨.hbm, 2337, rfl⟩
abbrev main_call10_call0_call0_c_44 : Ref sig .tc := ⟨.hbm, 2338, rfl⟩
abbrev main_call10_call0_call0_v174 : Ref sig .tc := ⟨.hbm, 2339, rfl⟩
abbrev main_call10_call0_v18_1 : Ref sig .tc := ⟨.hbm, 2340, rfl⟩
abbrev main_call10_call0_v19 : Ref sig .tc := ⟨.hbm, 2341, rfl⟩
abbrev main_call10_call0_c_2 : Ref sig .tc := ⟨.hbm, 2342, rfl⟩
abbrev main_call10_call0_v20 : Ref sig .tc := ⟨.hbm, 2343, rfl⟩
abbrev main_call10_call0_v21 : Ref sig .tc := ⟨.hbm, 2344, rfl⟩
abbrev main_call10_call0_c_3 : Ref sig .tc := ⟨.hbm, 2345, rfl⟩
abbrev main_call10_call0_v22 : Ref sig .tc := ⟨.hbm, 2346, rfl⟩
abbrev main_call10_call0_v23 : Ref sig .tc := ⟨.hbm, 2347, rfl⟩
abbrev main_call10_call0_v24 : Ref sig .tc := ⟨.hbm, 2348, rfl⟩
abbrev main_call10_call0_cst : Ref sig .tc := ⟨.hbm, 2349, rfl⟩
abbrev main_call10_call0_v25 : Ref sig .tc := ⟨.hbm, 2350, rfl⟩
abbrev main_call10_call0_v26 : Ref sig .tc := ⟨.hbm, 2351, rfl⟩
abbrev main_call10_call0_v27 : Ref sig .tc := ⟨.hbm, 2352, rfl⟩
abbrev main_call10_call0_v28 : Ref sig .tc := ⟨.hbm, 2353, rfl⟩
abbrev main_call10_call0_v29 : Ref sig .tc := ⟨.hbm, 2354, rfl⟩
abbrev main_call10_call0_v30 : Ref sig .tc := ⟨.hbm, 2355, rfl⟩
abbrev main_call10_call0_v31 : Ref sig .tc := ⟨.hbm, 2356, rfl⟩
abbrev main_call10_call0_v32 : Ref sig .tc := ⟨.hbm, 2357, rfl⟩
abbrev main_call10_v0 : Ref sig .tc := ⟨.hbm, 2358, rfl⟩
abbrev main_call10_v1 : Ref sig .tc := ⟨.hbm, 2359, rfl⟩
abbrev main_call10_v2 : Ref sig .tc := ⟨.hbm, 2360, rfl⟩
abbrev main_call10_v3 : Ref sig .tc := ⟨.hbm, 2361, rfl⟩
abbrev main_v221 : Ref sig .tc := ⟨.hbm, 2362, rfl⟩
abbrev main_v222 : Ref sig .tc := ⟨.hbm, 2363, rfl⟩
abbrev main_call11_v0 : Ref sig .tc := ⟨.hbm, 2364, rfl⟩
abbrev main_call11_cst : Ref sig .tc := ⟨.hbm, 2365, rfl⟩
abbrev main_call11_c : Ref sig .tc := ⟨.hbm, 2366, rfl⟩
abbrev main_call11_v1_0 : Ref sig .tc := ⟨.hbm, 2367, rfl⟩
abbrev main_v223 : Ref sig .tc := ⟨.hbm, 2368, rfl⟩
abbrev main_v224 : Ref sig .tc := ⟨.hbm, 2369, rfl⟩
abbrev main_v225 : Ref sig .tc := ⟨.hbm, 2370, rfl⟩
abbrev main_v226 : Ref sig .tc := ⟨.hbm, 2371, rfl⟩
abbrev main_v227 : Ref sig .tc := ⟨.hbm, 2372, rfl⟩
abbrev main_c_110 : Ref sig .tc := ⟨.hbm, 2373, rfl⟩
abbrev main_v228 : Ref sig .tc := ⟨.hbm, 2374, rfl⟩
abbrev main_v229 : Ref sig .tc := ⟨.hbm, 2375, rfl⟩
abbrev main_c_111 : Ref sig .tc := ⟨.hbm, 2376, rfl⟩
abbrev main_v230 : Ref sig .tc := ⟨.hbm, 2377, rfl⟩
abbrev main_v231 : Ref sig .tc := ⟨.hbm, 2378, rfl⟩
abbrev main_v232 : Ref sig .tc := ⟨.hbm, 2379, rfl⟩
abbrev main_v233 : Ref sig .tc := ⟨.hbm, 2380, rfl⟩
abbrev main_v234 : Ref sig .tc := ⟨.hbm, 2381, rfl⟩
abbrev main_v235 : Ref sig .tc := ⟨.hbm, 2382, rfl⟩
abbrev main_c_112 : Ref sig .tc := ⟨.hbm, 2383, rfl⟩
abbrev main_v236 : Ref sig .tc := ⟨.hbm, 2384, rfl⟩
abbrev main_c_113 : Ref sig .tc := ⟨.hbm, 2385, rfl⟩
abbrev main_v237 : Ref sig .tc := ⟨.hbm, 2386, rfl⟩
abbrev main_v238 : Ref sig .tc := ⟨.hbm, 2387, rfl⟩
abbrev main_c_114 : Ref sig .tc := ⟨.hbm, 2388, rfl⟩
abbrev main_v239 : Ref sig .tc := ⟨.hbm, 2389, rfl⟩
abbrev main_v240 : Ref sig .tc := ⟨.hbm, 2390, rfl⟩
abbrev main_c_115 : Ref sig .tc := ⟨.hbm, 2391, rfl⟩
abbrev main_v241 : Ref sig .tc := ⟨.hbm, 2392, rfl⟩
abbrev main_v242 : Ref sig .tc := ⟨.hbm, 2393, rfl⟩
abbrev main_v243 : Ref sig .tc := ⟨.hbm, 2394, rfl⟩
abbrev main_c_116 : Ref sig .tc := ⟨.hbm, 2395, rfl⟩
abbrev main_v244 : Ref sig .tc := ⟨.hbm, 2396, rfl⟩
abbrev main_v245 : Ref sig .tc := ⟨.hbm, 2397, rfl⟩
abbrev main_c_117 : Ref sig .tc := ⟨.hbm, 2398, rfl⟩
abbrev main_v246 : Ref sig .tc := ⟨.hbm, 2399, rfl⟩
abbrev main_v247 : Ref sig .tc := ⟨.hbm, 2400, rfl⟩
abbrev main_v248 : Ref sig .tc := ⟨.hbm, 2401, rfl⟩
abbrev main_v249 : Ref sig .tc := ⟨.hbm, 2402, rfl⟩
abbrev main_v250 : Ref sig .tc := ⟨.hbm, 2403, rfl⟩
abbrev main_v251 : Ref sig .tc := ⟨.hbm, 2404, rfl⟩
abbrev main_v252 : Ref sig .tc := ⟨.hbm, 2405, rfl⟩
abbrev main_v253 : Ref sig .tc := ⟨.hbm, 2406, rfl⟩
abbrev main_v254 : Ref sig .tc := ⟨.hbm, 2407, rfl⟩
abbrev main_c_118 : Ref sig .tc := ⟨.hbm, 2408, rfl⟩
abbrev main_v255 : Ref sig .tc := ⟨.hbm, 2409, rfl⟩
abbrev main_c_119 : Ref sig .tc := ⟨.hbm, 2410, rfl⟩
abbrev main_v256 : Ref sig .tc := ⟨.hbm, 2411, rfl⟩
abbrev main_v257 : Ref sig .tc := ⟨.hbm, 2412, rfl⟩
abbrev main_c_120 : Ref sig .tc := ⟨.hbm, 2413, rfl⟩
abbrev main_c_121 : Ref sig .tc := ⟨.hbm, 2414, rfl⟩
abbrev main_v258 : Ref sig .tc := ⟨.hbm, 2415, rfl⟩
abbrev main_c_122 : Ref sig .tc := ⟨.hbm, 2416, rfl⟩
abbrev main_c_123 : Ref sig .tc := ⟨.hbm, 2417, rfl⟩
abbrev main_v259 : Ref sig .tc := ⟨.hbm, 2418, rfl⟩
abbrev main_c_124 : Ref sig .tc := ⟨.hbm, 2419, rfl⟩
abbrev main_v260 : Ref sig .tc := ⟨.hbm, 2420, rfl⟩
abbrev main_c_125 : Ref sig .tc := ⟨.hbm, 2421, rfl⟩
abbrev main_c_126 : Ref sig .tc := ⟨.hbm, 2422, rfl⟩
abbrev main_v261 : Ref sig .tc := ⟨.hbm, 2423, rfl⟩
abbrev main_c_127 : Ref sig .tc := ⟨.hbm, 2424, rfl⟩
abbrev main_c_128 : Ref sig .tc := ⟨.hbm, 2425, rfl⟩
abbrev main_v262 : Ref sig .tc := ⟨.hbm, 2426, rfl⟩
abbrev main_c_129 : Ref sig .tc := ⟨.hbm, 2427, rfl⟩
abbrev main_v263 : Ref sig .tc := ⟨.hbm, 2428, rfl⟩
abbrev main_v264 : Ref sig .tc := ⟨.hbm, 2429, rfl⟩
abbrev main_v265 : Ref sig .tc := ⟨.hbm, 2430, rfl⟩
abbrev main_v266 : Ref sig .tc := ⟨.hbm, 2431, rfl⟩
abbrev main_v267 : Ref sig .tc := ⟨.hbm, 2432, rfl⟩
abbrev main_v268 : Ref sig .tc := ⟨.hbm, 2433, rfl⟩
abbrev main_call12_v0 : Ref sig .tc := ⟨.hbm, 2434, rfl⟩
abbrev main_call12_v1 : Ref sig .tc := ⟨.hbm, 2435, rfl⟩
abbrev main_call12_v2 : Ref sig .tc := ⟨.hbm, 2436, rfl⟩
abbrev main_call12_v3 : Ref sig .tc := ⟨.hbm, 2437, rfl⟩
abbrev main_call12_v4 : Ref sig .tc := ⟨.hbm, 2438, rfl⟩
abbrev main_call12_c : Ref sig .tc := ⟨.hbm, 2439, rfl⟩
abbrev main_call12_v5 : Ref sig .tc := ⟨.hbm, 2440, rfl⟩
abbrev main_call12_v6 : Ref sig .tc := ⟨.hbm, 2441, rfl⟩
abbrev main_call12_c_0 : Ref sig .tc := ⟨.hbm, 2442, rfl⟩
abbrev main_call12_v7 : Ref sig .tc := ⟨.hbm, 2443, rfl⟩
abbrev main_call12_v8 : Ref sig .tc := ⟨.hbm, 2444, rfl⟩
abbrev main_call12_v9 : Ref sig .tc := ⟨.hbm, 2445, rfl⟩
abbrev main_call12_v10 : Ref sig .tc := ⟨.hbm, 2446, rfl⟩
abbrev main_call12_call0_v0 : Ref sig .tc := ⟨.hbm, 2447, rfl⟩
abbrev main_call12_call0_c : Ref sig .tc := ⟨.hbm, 2448, rfl⟩
abbrev main_call12_call0_v1 : Ref sig .tc := ⟨.hbm, 2449, rfl⟩
abbrev main_call12_call0_v2 : Ref sig .tc := ⟨.hbm, 2450, rfl⟩
abbrev main_call12_call0_v3 : Ref sig .tc := ⟨.hbm, 2451, rfl⟩
abbrev main_call12_call0_v4 : Ref sig .tc := ⟨.hbm, 2452, rfl⟩
abbrev main_call12_call0_v5 : Ref sig .tc := ⟨.hbm, 2453, rfl⟩
abbrev main_call12_call0_v6 : Ref sig .tc := ⟨.hbm, 2454, rfl⟩
abbrev main_call12_call0_c_0 : Ref sig .tc := ⟨.hbm, 2455, rfl⟩
abbrev main_call12_call0_v7 : Ref sig .tc := ⟨.hbm, 2456, rfl⟩
abbrev main_call12_call0_v8 : Ref sig .tc := ⟨.hbm, 2457, rfl⟩
abbrev main_call12_call0_c_1 : Ref sig .tc := ⟨.hbm, 2458, rfl⟩
abbrev main_call12_call0_v9 : Ref sig .tc := ⟨.hbm, 2459, rfl⟩
abbrev main_call12_call0_v10 : Ref sig .tc := ⟨.hbm, 2460, rfl⟩
abbrev main_call12_call0_v11 : Ref sig .tc := ⟨.hbm, 2461, rfl⟩
abbrev main_call12_call0_v12 : Ref sig .tc := ⟨.hbm, 2462, rfl⟩
abbrev main_call12_call0_v13 : Ref sig .tc := ⟨.hbm, 2463, rfl⟩
abbrev main_call12_call0_c_2 : Ref sig .tc := ⟨.hbm, 2464, rfl⟩
abbrev main_call12_call0_v14 : Ref sig .tc := ⟨.hbm, 2465, rfl⟩
abbrev main_call12_call0_v15 : Ref sig .tc := ⟨.hbm, 2466, rfl⟩
abbrev main_call12_call0_c_3 : Ref sig .tc := ⟨.hbm, 2467, rfl⟩
abbrev main_call12_call0_v16 : Ref sig .tc := ⟨.hbm, 2468, rfl⟩
abbrev main_call12_call0_v17 : Ref sig .tc := ⟨.hbm, 2469, rfl⟩
abbrev main_call12_call0_v18 : Ref sig .tc := ⟨.hbm, 2470, rfl⟩
abbrev main_call12_call0_v19 : Ref sig .tc := ⟨.hbm, 2471, rfl⟩
abbrev main_call12_call0_v20 : Ref sig .tc := ⟨.hbm, 2472, rfl⟩
abbrev main_call12_call0_c_4 : Ref sig .tc := ⟨.hbm, 2473, rfl⟩
abbrev main_call12_call0_v21 : Ref sig .tc := ⟨.hbm, 2474, rfl⟩
abbrev main_call12_call0_v22 : Ref sig .tc := ⟨.hbm, 2475, rfl⟩
abbrev main_call12_call0_c_5 : Ref sig .tc := ⟨.hbm, 2476, rfl⟩
abbrev main_call12_call0_v23 : Ref sig .tc := ⟨.hbm, 2477, rfl⟩
abbrev main_call12_call0_v24 : Ref sig .tc := ⟨.hbm, 2478, rfl⟩
abbrev main_call12_call0_v25 : Ref sig .tc := ⟨.hbm, 2479, rfl⟩
abbrev main_call12_call0_v26 : Ref sig .tc := ⟨.hbm, 2480, rfl⟩
abbrev main_call12_call0_v27 : Ref sig .tc := ⟨.hbm, 2481, rfl⟩
abbrev main_call12_call0_c_6 : Ref sig .tc := ⟨.hbm, 2482, rfl⟩
abbrev main_call12_call0_v28 : Ref sig .tc := ⟨.hbm, 2483, rfl⟩
abbrev main_call12_call0_v29 : Ref sig .tc := ⟨.hbm, 2484, rfl⟩
abbrev main_call12_call0_c_7 : Ref sig .tc := ⟨.hbm, 2485, rfl⟩
abbrev main_call12_call0_v30 : Ref sig .tc := ⟨.hbm, 2486, rfl⟩
abbrev main_call12_call0_v31 : Ref sig .tc := ⟨.hbm, 2487, rfl⟩
abbrev main_call12_call0_v32 : Ref sig .tc := ⟨.hbm, 2488, rfl⟩
abbrev main_call12_call0_v33 : Ref sig .tc := ⟨.hbm, 2489, rfl⟩
abbrev main_call12_call0_v34 : Ref sig .tc := ⟨.hbm, 2490, rfl⟩
abbrev main_call12_call0_v35 : Ref sig .tc := ⟨.hbm, 2491, rfl⟩
abbrev main_call12_call0_v36 : Ref sig .tc := ⟨.hbm, 2492, rfl⟩
abbrev main_call12_call0_v37 : Ref sig .tc := ⟨.hbm, 2493, rfl⟩
abbrev main_call12_call0_c_8 : Ref sig .tc := ⟨.hbm, 2494, rfl⟩
abbrev main_call12_call0_v38 : Ref sig .tc := ⟨.hbm, 2495, rfl⟩
abbrev main_call12_call0_v39 : Ref sig .tc := ⟨.hbm, 2496, rfl⟩
abbrev main_call12_call0_v40 : Ref sig .tc := ⟨.hbm, 2497, rfl⟩
abbrev main_call12_call0_c_9 : Ref sig .tc := ⟨.hbm, 2498, rfl⟩
abbrev main_call12_call0_v41 : Ref sig .tc := ⟨.hbm, 2499, rfl⟩
abbrev main_call12_call0_v42 : Ref sig .tc := ⟨.hbm, 2500, rfl⟩
abbrev main_call12_call0_c_10 : Ref sig .tc := ⟨.hbm, 2501, rfl⟩
abbrev main_call12_call0_v43 : Ref sig .tc := ⟨.hbm, 2502, rfl⟩
abbrev main_call12_call0_v44 : Ref sig .tc := ⟨.hbm, 2503, rfl⟩
abbrev main_call12_call0_v45 : Ref sig .tc := ⟨.hbm, 2504, rfl⟩
abbrev main_call12_call0_v46 : Ref sig .tc := ⟨.hbm, 2505, rfl⟩
abbrev main_call12_call0_v47 : Ref sig .tc := ⟨.hbm, 2506, rfl⟩
abbrev main_call12_call0_c_11 : Ref sig .tc := ⟨.hbm, 2507, rfl⟩
abbrev main_call12_call0_v48 : Ref sig .tc := ⟨.hbm, 2508, rfl⟩
abbrev main_call12_call0_v49 : Ref sig .tc := ⟨.hbm, 2509, rfl⟩
abbrev main_call12_call0_c_12 : Ref sig .tc := ⟨.hbm, 2510, rfl⟩
abbrev main_call12_call0_v50 : Ref sig .tc := ⟨.hbm, 2511, rfl⟩
abbrev main_call12_call0_v51 : Ref sig .tc := ⟨.hbm, 2512, rfl⟩
abbrev main_call12_call0_v52 : Ref sig .tc := ⟨.hbm, 2513, rfl⟩
abbrev main_call12_call0_v53 : Ref sig .tc := ⟨.hbm, 2514, rfl⟩
abbrev main_call12_call0_v54 : Ref sig .tc := ⟨.hbm, 2515, rfl⟩
abbrev main_call12_call0_c_13 : Ref sig .tc := ⟨.hbm, 2516, rfl⟩
abbrev main_call12_call0_v55 : Ref sig .tc := ⟨.hbm, 2517, rfl⟩
abbrev main_call12_call0_v56 : Ref sig .tc := ⟨.hbm, 2518, rfl⟩
abbrev main_call12_call0_c_14 : Ref sig .tc := ⟨.hbm, 2519, rfl⟩
abbrev main_call12_call0_v57 : Ref sig .tc := ⟨.hbm, 2520, rfl⟩
abbrev main_call12_call0_v58 : Ref sig .tc := ⟨.hbm, 2521, rfl⟩
abbrev main_call12_call0_v59 : Ref sig .tc := ⟨.hbm, 2522, rfl⟩
abbrev main_call12_call0_v60 : Ref sig .tc := ⟨.hbm, 2523, rfl⟩
abbrev main_call12_call0_v61 : Ref sig .tc := ⟨.hbm, 2524, rfl⟩
abbrev main_call12_call0_c_15 : Ref sig .tc := ⟨.hbm, 2525, rfl⟩
abbrev main_call12_call0_v62 : Ref sig .tc := ⟨.hbm, 2526, rfl⟩
abbrev main_call12_call0_v63 : Ref sig .tc := ⟨.hbm, 2527, rfl⟩
abbrev main_call12_call0_c_16 : Ref sig .tc := ⟨.hbm, 2528, rfl⟩
abbrev main_call12_call0_v64 : Ref sig .tc := ⟨.hbm, 2529, rfl⟩
abbrev main_call12_call0_v65 : Ref sig .tc := ⟨.hbm, 2530, rfl⟩
abbrev main_call12_call0_v66 : Ref sig .tc := ⟨.hbm, 2531, rfl⟩
abbrev main_call12_call0_v67 : Ref sig .tc := ⟨.hbm, 2532, rfl⟩
abbrev main_call12_call0_v68 : Ref sig .tc := ⟨.hbm, 2533, rfl⟩
abbrev main_call12_call0_v69 : Ref sig .tc := ⟨.hbm, 2534, rfl⟩
abbrev main_call12_call0_v70 : Ref sig .tc := ⟨.hbm, 2535, rfl⟩
abbrev main_call12_call0_v71 : Ref sig .tc := ⟨.hbm, 2536, rfl⟩
abbrev main_call12_call0_c_17 : Ref sig .tc := ⟨.hbm, 2537, rfl⟩
abbrev main_call12_call0_v72 : Ref sig .tc := ⟨.hbm, 2538, rfl⟩
abbrev main_call12_call0_v73 : Ref sig .tc := ⟨.hbm, 2539, rfl⟩
abbrev main_call12_call0_v74 : Ref sig .tc := ⟨.hbm, 2540, rfl⟩
abbrev main_call12_call0_c_18 : Ref sig .tc := ⟨.hbm, 2541, rfl⟩
abbrev main_call12_call0_v75 : Ref sig .tc := ⟨.hbm, 2542, rfl⟩
abbrev main_call12_call0_v76 : Ref sig .tc := ⟨.hbm, 2543, rfl⟩
abbrev main_call12_call0_c_19 : Ref sig .tc := ⟨.hbm, 2544, rfl⟩
abbrev main_call12_call0_v77 : Ref sig .tc := ⟨.hbm, 2545, rfl⟩
abbrev main_call12_call0_v78 : Ref sig .tc := ⟨.hbm, 2546, rfl⟩
abbrev main_call12_call0_v79 : Ref sig .tc := ⟨.hbm, 2547, rfl⟩
abbrev main_call12_call0_v80 : Ref sig .tc := ⟨.hbm, 2548, rfl⟩
abbrev main_call12_call0_v81 : Ref sig .tc := ⟨.hbm, 2549, rfl⟩
abbrev main_call12_call0_c_20 : Ref sig .tc := ⟨.hbm, 2550, rfl⟩
abbrev main_call12_call0_v82 : Ref sig .tc := ⟨.hbm, 2551, rfl⟩
abbrev main_call12_call0_v83 : Ref sig .tc := ⟨.hbm, 2552, rfl⟩
abbrev main_call12_call0_c_21 : Ref sig .tc := ⟨.hbm, 2553, rfl⟩
abbrev main_call12_call0_v84 : Ref sig .tc := ⟨.hbm, 2554, rfl⟩
abbrev main_call12_call0_v85 : Ref sig .tc := ⟨.hbm, 2555, rfl⟩
abbrev main_call12_call0_v86 : Ref sig .tc := ⟨.hbm, 2556, rfl⟩
abbrev main_call12_call0_v87 : Ref sig .tc := ⟨.hbm, 2557, rfl⟩
abbrev main_call12_call0_v88 : Ref sig .tc := ⟨.hbm, 2558, rfl⟩
abbrev main_call12_call0_c_22 : Ref sig .tc := ⟨.hbm, 2559, rfl⟩
abbrev main_call12_call0_v89 : Ref sig .tc := ⟨.hbm, 2560, rfl⟩
abbrev main_call12_call0_v90 : Ref sig .tc := ⟨.hbm, 2561, rfl⟩
abbrev main_call12_call0_c_23 : Ref sig .tc := ⟨.hbm, 2562, rfl⟩
abbrev main_call12_call0_v91 : Ref sig .tc := ⟨.hbm, 2563, rfl⟩
abbrev main_call12_call0_v92 : Ref sig .tc := ⟨.hbm, 2564, rfl⟩
abbrev main_call12_call0_v93 : Ref sig .tc := ⟨.hbm, 2565, rfl⟩
abbrev main_call12_call0_v94 : Ref sig .tc := ⟨.hbm, 2566, rfl⟩
abbrev main_call12_call0_v95 : Ref sig .tc := ⟨.hbm, 2567, rfl⟩
abbrev main_call12_call0_c_24 : Ref sig .tc := ⟨.hbm, 2568, rfl⟩
abbrev main_call12_call0_v96 : Ref sig .tc := ⟨.hbm, 2569, rfl⟩
abbrev main_call12_call0_v97 : Ref sig .tc := ⟨.hbm, 2570, rfl⟩
abbrev main_call12_call0_c_25 : Ref sig .tc := ⟨.hbm, 2571, rfl⟩
abbrev main_call12_call0_v98 : Ref sig .tc := ⟨.hbm, 2572, rfl⟩
abbrev main_call12_call0_v99 : Ref sig .tc := ⟨.hbm, 2573, rfl⟩
abbrev main_call12_call0_v100 : Ref sig .tc := ⟨.hbm, 2574, rfl⟩
abbrev main_call12_call0_v101 : Ref sig .tc := ⟨.hbm, 2575, rfl⟩
abbrev main_call12_call0_v102 : Ref sig .tc := ⟨.hbm, 2576, rfl⟩
abbrev main_call12_call0_v103 : Ref sig .tc := ⟨.hbm, 2577, rfl⟩
abbrev main_call12_call0_v104 : Ref sig .tc := ⟨.hbm, 2578, rfl⟩
abbrev main_call12_call0_v105 : Ref sig .tc := ⟨.hbm, 2579, rfl⟩
abbrev main_call12_call0_c_26 : Ref sig .tc := ⟨.hbm, 2580, rfl⟩
abbrev main_call12_call0_v106 : Ref sig .tc := ⟨.hbm, 2581, rfl⟩
abbrev main_call12_call0_v107 : Ref sig .tc := ⟨.hbm, 2582, rfl⟩
abbrev main_call12_call0_v108 : Ref sig .tc := ⟨.hbm, 2583, rfl⟩
abbrev main_call12_call0_c_27 : Ref sig .tc := ⟨.hbm, 2584, rfl⟩
abbrev main_call12_call0_v109 : Ref sig .tc := ⟨.hbm, 2585, rfl⟩
abbrev main_call12_call0_v110 : Ref sig .tc := ⟨.hbm, 2586, rfl⟩
abbrev main_call12_call0_c_28 : Ref sig .tc := ⟨.hbm, 2587, rfl⟩
abbrev main_call12_call0_v111 : Ref sig .tc := ⟨.hbm, 2588, rfl⟩
abbrev main_call12_call0_v112 : Ref sig .tc := ⟨.hbm, 2589, rfl⟩
abbrev main_call12_call0_v113 : Ref sig .tc := ⟨.hbm, 2590, rfl⟩
abbrev main_call12_call0_v114 : Ref sig .tc := ⟨.hbm, 2591, rfl⟩
abbrev main_call12_call0_v115 : Ref sig .tc := ⟨.hbm, 2592, rfl⟩
abbrev main_call12_call0_c_29 : Ref sig .tc := ⟨.hbm, 2593, rfl⟩
abbrev main_call12_call0_v116 : Ref sig .tc := ⟨.hbm, 2594, rfl⟩
abbrev main_call12_call0_v117 : Ref sig .tc := ⟨.hbm, 2595, rfl⟩
abbrev main_call12_call0_c_30 : Ref sig .tc := ⟨.hbm, 2596, rfl⟩
abbrev main_call12_call0_v118 : Ref sig .tc := ⟨.hbm, 2597, rfl⟩
abbrev main_call12_call0_v119 : Ref sig .tc := ⟨.hbm, 2598, rfl⟩
abbrev main_call12_call0_v120 : Ref sig .tc := ⟨.hbm, 2599, rfl⟩
abbrev main_call12_call0_v121 : Ref sig .tc := ⟨.hbm, 2600, rfl⟩
abbrev main_call12_call0_v122 : Ref sig .tc := ⟨.hbm, 2601, rfl⟩
abbrev main_call12_call0_c_31 : Ref sig .tc := ⟨.hbm, 2602, rfl⟩
abbrev main_call12_call0_v123 : Ref sig .tc := ⟨.hbm, 2603, rfl⟩
abbrev main_call12_call0_v124 : Ref sig .tc := ⟨.hbm, 2604, rfl⟩
abbrev main_call12_call0_c_32 : Ref sig .tc := ⟨.hbm, 2605, rfl⟩
abbrev main_call12_call0_v125 : Ref sig .tc := ⟨.hbm, 2606, rfl⟩
abbrev main_call12_call0_v126 : Ref sig .tc := ⟨.hbm, 2607, rfl⟩
abbrev main_call12_call0_v127 : Ref sig .tc := ⟨.hbm, 2608, rfl⟩
abbrev main_call12_call0_v128 : Ref sig .tc := ⟨.hbm, 2609, rfl⟩
abbrev main_call12_call0_v129 : Ref sig .tc := ⟨.hbm, 2610, rfl⟩
abbrev main_call12_call0_c_33 : Ref sig .tc := ⟨.hbm, 2611, rfl⟩
abbrev main_call12_call0_v130 : Ref sig .tc := ⟨.hbm, 2612, rfl⟩
abbrev main_call12_call0_v131 : Ref sig .tc := ⟨.hbm, 2613, rfl⟩
abbrev main_call12_call0_c_34 : Ref sig .tc := ⟨.hbm, 2614, rfl⟩
abbrev main_call12_call0_v132 : Ref sig .tc := ⟨.hbm, 2615, rfl⟩
abbrev main_call12_call0_v133 : Ref sig .tc := ⟨.hbm, 2616, rfl⟩
abbrev main_call12_call0_v134 : Ref sig .tc := ⟨.hbm, 2617, rfl⟩
abbrev main_call12_call0_v135 : Ref sig .tc := ⟨.hbm, 2618, rfl⟩
abbrev main_call12_call0_v136 : Ref sig .tc := ⟨.hbm, 2619, rfl⟩
abbrev main_call12_call0_v137 : Ref sig .tc := ⟨.hbm, 2620, rfl⟩
abbrev main_call12_call0_v138 : Ref sig .tc := ⟨.hbm, 2621, rfl⟩
abbrev main_call12_call0_v139 : Ref sig .tc := ⟨.hbm, 2622, rfl⟩
abbrev main_call12_call0_c_35 : Ref sig .tc := ⟨.hbm, 2623, rfl⟩
abbrev main_call12_call0_v140 : Ref sig .tc := ⟨.hbm, 2624, rfl⟩
abbrev main_call12_call0_v141 : Ref sig .tc := ⟨.hbm, 2625, rfl⟩
abbrev main_call12_call0_v142 : Ref sig .tc := ⟨.hbm, 2626, rfl⟩
abbrev main_call12_call0_c_36 : Ref sig .tc := ⟨.hbm, 2627, rfl⟩
abbrev main_call12_call0_v143 : Ref sig .tc := ⟨.hbm, 2628, rfl⟩
abbrev main_call12_call0_v144 : Ref sig .tc := ⟨.hbm, 2629, rfl⟩
abbrev main_call12_call0_c_37 : Ref sig .tc := ⟨.hbm, 2630, rfl⟩
abbrev main_call12_call0_v145 : Ref sig .tc := ⟨.hbm, 2631, rfl⟩
abbrev main_call12_call0_v146 : Ref sig .tc := ⟨.hbm, 2632, rfl⟩
abbrev main_call12_call0_v147 : Ref sig .tc := ⟨.hbm, 2633, rfl⟩
abbrev main_call12_call0_v148 : Ref sig .tc := ⟨.hbm, 2634, rfl⟩
abbrev main_call12_call0_v149 : Ref sig .tc := ⟨.hbm, 2635, rfl⟩
abbrev main_call12_call0_c_38 : Ref sig .tc := ⟨.hbm, 2636, rfl⟩
abbrev main_call12_call0_v150 : Ref sig .tc := ⟨.hbm, 2637, rfl⟩
abbrev main_call12_call0_v151 : Ref sig .tc := ⟨.hbm, 2638, rfl⟩
abbrev main_call12_call0_c_39 : Ref sig .tc := ⟨.hbm, 2639, rfl⟩
abbrev main_call12_call0_v152 : Ref sig .tc := ⟨.hbm, 2640, rfl⟩
abbrev main_call12_call0_v153 : Ref sig .tc := ⟨.hbm, 2641, rfl⟩
abbrev main_call12_call0_v154 : Ref sig .tc := ⟨.hbm, 2642, rfl⟩
abbrev main_call12_call0_v155 : Ref sig .tc := ⟨.hbm, 2643, rfl⟩
abbrev main_call12_call0_v156 : Ref sig .tc := ⟨.hbm, 2644, rfl⟩
abbrev main_call12_call0_c_40 : Ref sig .tc := ⟨.hbm, 2645, rfl⟩
abbrev main_call12_call0_v157 : Ref sig .tc := ⟨.hbm, 2646, rfl⟩
abbrev main_call12_call0_v158 : Ref sig .tc := ⟨.hbm, 2647, rfl⟩
abbrev main_call12_call0_c_41 : Ref sig .tc := ⟨.hbm, 2648, rfl⟩
abbrev main_call12_call0_v159 : Ref sig .tc := ⟨.hbm, 2649, rfl⟩
abbrev main_call12_call0_v160 : Ref sig .tc := ⟨.hbm, 2650, rfl⟩
abbrev main_call12_call0_v161 : Ref sig .tc := ⟨.hbm, 2651, rfl⟩
abbrev main_call12_call0_v162 : Ref sig .tc := ⟨.hbm, 2652, rfl⟩
abbrev main_call12_call0_v163 : Ref sig .tc := ⟨.hbm, 2653, rfl⟩
abbrev main_call12_call0_c_42 : Ref sig .tc := ⟨.hbm, 2654, rfl⟩
abbrev main_call12_call0_v164 : Ref sig .tc := ⟨.hbm, 2655, rfl⟩
abbrev main_call12_call0_v165 : Ref sig .tc := ⟨.hbm, 2656, rfl⟩
abbrev main_call12_call0_c_43 : Ref sig .tc := ⟨.hbm, 2657, rfl⟩
abbrev main_call12_call0_v166 : Ref sig .tc := ⟨.hbm, 2658, rfl⟩
abbrev main_call12_call0_v167 : Ref sig .tc := ⟨.hbm, 2659, rfl⟩
abbrev main_call12_call0_v168 : Ref sig .tc := ⟨.hbm, 2660, rfl⟩
abbrev main_call12_call0_v169 : Ref sig .tc := ⟨.hbm, 2661, rfl⟩
abbrev main_call12_call0_v170 : Ref sig .tc := ⟨.hbm, 2662, rfl⟩
abbrev main_call12_v11_0 : Ref sig .tc := ⟨.hbm, 2663, rfl⟩
abbrev main_call12_call0_v172 : Ref sig .tc := ⟨.hbm, 2664, rfl⟩
abbrev main_call12_call0_v173 : Ref sig .tc := ⟨.hbm, 2665, rfl⟩
abbrev main_call12_call0_c_44 : Ref sig .tc := ⟨.hbm, 2666, rfl⟩
abbrev main_call12_call0_v174 : Ref sig .tc := ⟨.hbm, 2667, rfl⟩
abbrev main_call12_v11_1 : Ref sig .tc := ⟨.hbm, 2668, rfl⟩
abbrev main_call12_v12 : Ref sig .tc := ⟨.hbm, 2669, rfl⟩
abbrev main_call12_v13 : Ref sig .tc := ⟨.hbm, 2670, rfl⟩
abbrev main_v269 : Ref sig .tc := ⟨.hbm, 2671, rfl⟩
abbrev main_v270 : Ref sig .tc := ⟨.hbm, 2672, rfl⟩
abbrev main_v271 : Ref sig .tc := ⟨.hbm, 2673, rfl⟩
abbrev main_v272 : Ref sig .tc := ⟨.hbm, 2674, rfl⟩
abbrev main_v273 : Ref sig .tc := ⟨.hbm, 2675, rfl⟩
abbrev main_c_130 : Ref sig .tc := ⟨.hbm, 2676, rfl⟩
abbrev main_v274 : Ref sig .tc := ⟨.hbm, 2677, rfl⟩
abbrev main_c_131 : Ref sig .tc := ⟨.hbm, 2678, rfl⟩
abbrev main_v275 : Ref sig .tc := ⟨.hbm, 2679, rfl⟩
abbrev main_v276 : Ref sig .tc := ⟨.hbm, 2680, rfl⟩
abbrev main_c_132 : Ref sig .tc := ⟨.hbm, 2681, rfl⟩
abbrev main_c_133 : Ref sig .tc := ⟨.hbm, 2682, rfl⟩
abbrev main_v277 : Ref sig .tc := ⟨.hbm, 2683, rfl⟩
abbrev main_c_134 : Ref sig .tc := ⟨.hbm, 2684, rfl⟩
abbrev main_c_135 : Ref sig .tc := ⟨.hbm, 2685, rfl⟩
abbrev main_v278 : Ref sig .tc := ⟨.hbm, 2686, rfl⟩
abbrev main_c_136 : Ref sig .tc := ⟨.hbm, 2687, rfl⟩
abbrev main_v279 : Ref sig .tc := ⟨.hbm, 2688, rfl⟩
abbrev main_c_137 : Ref sig .tc := ⟨.hbm, 2689, rfl⟩
abbrev main_c_138 : Ref sig .tc := ⟨.hbm, 2690, rfl⟩
abbrev main_v280 : Ref sig .tc := ⟨.hbm, 2691, rfl⟩
abbrev main_c_139 : Ref sig .tc := ⟨.hbm, 2692, rfl⟩
abbrev main_c_140 : Ref sig .tc := ⟨.hbm, 2693, rfl⟩
abbrev main_v281 : Ref sig .tc := ⟨.hbm, 2694, rfl⟩
abbrev main_c_141 : Ref sig .tc := ⟨.hbm, 2695, rfl⟩
abbrev main_v282 : Ref sig .tc := ⟨.hbm, 2696, rfl⟩
abbrev main_v283 : Ref sig .tc := ⟨.hbm, 2697, rfl⟩
abbrev main_v284 : Ref sig .tc := ⟨.hbm, 2698, rfl⟩
abbrev main_call13_cst : Ref sig .tc := ⟨.hbm, 2699, rfl⟩
abbrev main_call13_cst_0 : Ref sig .tc := ⟨.hbm, 2700, rfl⟩
abbrev main_call13_call0_v0 : Ref sig .tc := ⟨.hbm, 2701, rfl⟩
abbrev main_call13_call0_v1 : Ref sig .tc := ⟨.hbm, 2702, rfl⟩
abbrev main_call13_call0_v2 : Ref sig .tc := ⟨.hbm, 2703, rfl⟩
abbrev main_call13_call0_v3 : Ref sig .tc := ⟨.hbm, 2704, rfl⟩
abbrev main_call13_call0_v4 : Ref sig .tc := ⟨.hbm, 2705, rfl⟩
abbrev main_call13_call0_v5 : Ref sig .tc := ⟨.hbm, 2706, rfl⟩
abbrev main_call13_call0_v6 : Ref sig .tc := ⟨.hbm, 2707, rfl⟩
abbrev main_call13_call0_v7 : Ref sig .tc := ⟨.hbm, 2708, rfl⟩
abbrev main_call13_call0_v8 : Ref sig .tc := ⟨.hbm, 2709, rfl⟩
abbrev main_call13_call0_c : Ref sig .tc := ⟨.hbm, 2710, rfl⟩
abbrev main_call13_call0_v9 : Ref sig .tc := ⟨.hbm, 2711, rfl⟩
abbrev main_call13_call0_v10 : Ref sig .tc := ⟨.hbm, 2712, rfl⟩
abbrev main_call13_call0_c_0 : Ref sig .tc := ⟨.hbm, 2713, rfl⟩
abbrev main_call13_call0_v11 : Ref sig .tc := ⟨.hbm, 2714, rfl⟩
abbrev main_call13_call0_v12 : Ref sig .tc := ⟨.hbm, 2715, rfl⟩
abbrev main_call13_call0_v13 : Ref sig .tc := ⟨.hbm, 2716, rfl⟩
abbrev main_call13_call0_c_1 : Ref sig .tc := ⟨.hbm, 2717, rfl⟩
abbrev main_call13_call0_v14 : Ref sig .tc := ⟨.hbm, 2718, rfl⟩
abbrev main_call13_call0_v15 : Ref sig .tc := ⟨.hbm, 2719, rfl⟩
abbrev main_call13_call0_v16 : Ref sig .tc := ⟨.hbm, 2720, rfl⟩
abbrev main_call13_call0_v17 : Ref sig .tc := ⟨.hbm, 2721, rfl⟩
abbrev main_call13_call0_call0_v0 : Ref sig .tc := ⟨.hbm, 2722, rfl⟩
abbrev main_call13_call0_call0_c : Ref sig .tc := ⟨.hbm, 2723, rfl⟩
abbrev main_call13_call0_call0_v1 : Ref sig .tc := ⟨.hbm, 2724, rfl⟩
abbrev main_call13_call0_call0_v2 : Ref sig .tc := ⟨.hbm, 2725, rfl⟩
abbrev main_call13_call0_call0_v3 : Ref sig .tc := ⟨.hbm, 2726, rfl⟩
abbrev main_call13_call0_call0_v4 : Ref sig .tc := ⟨.hbm, 2727, rfl⟩
abbrev main_call13_call0_call0_v5 : Ref sig .tc := ⟨.hbm, 2728, rfl⟩
abbrev main_call13_call0_call0_v6 : Ref sig .tc := ⟨.hbm, 2729, rfl⟩
abbrev main_call13_call0_call0_c_0 : Ref sig .tc := ⟨.hbm, 2730, rfl⟩
abbrev main_call13_call0_call0_v7 : Ref sig .tc := ⟨.hbm, 2731, rfl⟩
abbrev main_call13_call0_call0_v8 : Ref sig .tc := ⟨.hbm, 2732, rfl⟩
abbrev main_call13_call0_call0_c_1 : Ref sig .tc := ⟨.hbm, 2733, rfl⟩
abbrev main_call13_call0_call0_v9 : Ref sig .tc := ⟨.hbm, 2734, rfl⟩
abbrev main_call13_call0_call0_v10 : Ref sig .tc := ⟨.hbm, 2735, rfl⟩
abbrev main_call13_call0_call0_v11 : Ref sig .tc := ⟨.hbm, 2736, rfl⟩
abbrev main_call13_call0_call0_v12 : Ref sig .tc := ⟨.hbm, 2737, rfl⟩
abbrev main_call13_call0_call0_v13 : Ref sig .tc := ⟨.hbm, 2738, rfl⟩
abbrev main_call13_call0_call0_c_2 : Ref sig .tc := ⟨.hbm, 2739, rfl⟩
abbrev main_call13_call0_call0_v14 : Ref sig .tc := ⟨.hbm, 2740, rfl⟩
abbrev main_call13_call0_call0_v15 : Ref sig .tc := ⟨.hbm, 2741, rfl⟩
abbrev main_call13_call0_call0_c_3 : Ref sig .tc := ⟨.hbm, 2742, rfl⟩
abbrev main_call13_call0_call0_v16 : Ref sig .tc := ⟨.hbm, 2743, rfl⟩
abbrev main_call13_call0_call0_v17 : Ref sig .tc := ⟨.hbm, 2744, rfl⟩
abbrev main_call13_call0_call0_v18 : Ref sig .tc := ⟨.hbm, 2745, rfl⟩
abbrev main_call13_call0_call0_v19 : Ref sig .tc := ⟨.hbm, 2746, rfl⟩
abbrev main_call13_call0_call0_v20 : Ref sig .tc := ⟨.hbm, 2747, rfl⟩
abbrev main_call13_call0_call0_c_4 : Ref sig .tc := ⟨.hbm, 2748, rfl⟩
abbrev main_call13_call0_call0_v21 : Ref sig .tc := ⟨.hbm, 2749, rfl⟩
abbrev main_call13_call0_call0_v22 : Ref sig .tc := ⟨.hbm, 2750, rfl⟩
abbrev main_call13_call0_call0_c_5 : Ref sig .tc := ⟨.hbm, 2751, rfl⟩
abbrev main_call13_call0_call0_v23 : Ref sig .tc := ⟨.hbm, 2752, rfl⟩
abbrev main_call13_call0_call0_v24 : Ref sig .tc := ⟨.hbm, 2753, rfl⟩
abbrev main_call13_call0_call0_v25 : Ref sig .tc := ⟨.hbm, 2754, rfl⟩
abbrev main_call13_call0_call0_v26 : Ref sig .tc := ⟨.hbm, 2755, rfl⟩
abbrev main_call13_call0_call0_v27 : Ref sig .tc := ⟨.hbm, 2756, rfl⟩
abbrev main_call13_call0_call0_c_6 : Ref sig .tc := ⟨.hbm, 2757, rfl⟩
abbrev main_call13_call0_call0_v28 : Ref sig .tc := ⟨.hbm, 2758, rfl⟩
abbrev main_call13_call0_call0_v29 : Ref sig .tc := ⟨.hbm, 2759, rfl⟩
abbrev main_call13_call0_call0_c_7 : Ref sig .tc := ⟨.hbm, 2760, rfl⟩
abbrev main_call13_call0_call0_v30 : Ref sig .tc := ⟨.hbm, 2761, rfl⟩
abbrev main_call13_call0_call0_v31 : Ref sig .tc := ⟨.hbm, 2762, rfl⟩
abbrev main_call13_call0_call0_v32 : Ref sig .tc := ⟨.hbm, 2763, rfl⟩
abbrev main_call13_call0_call0_v33 : Ref sig .tc := ⟨.hbm, 2764, rfl⟩
abbrev main_call13_call0_call0_v34 : Ref sig .tc := ⟨.hbm, 2765, rfl⟩
abbrev main_call13_call0_call0_v35 : Ref sig .tc := ⟨.hbm, 2766, rfl⟩
abbrev main_call13_call0_call0_v36 : Ref sig .tc := ⟨.hbm, 2767, rfl⟩
abbrev main_call13_call0_call0_v37 : Ref sig .tc := ⟨.hbm, 2768, rfl⟩
abbrev main_call13_call0_call0_c_8 : Ref sig .tc := ⟨.hbm, 2769, rfl⟩
abbrev main_call13_call0_call0_v38 : Ref sig .tc := ⟨.hbm, 2770, rfl⟩
abbrev main_call13_call0_call0_v39 : Ref sig .tc := ⟨.hbm, 2771, rfl⟩
abbrev main_call13_call0_call0_v40 : Ref sig .tc := ⟨.hbm, 2772, rfl⟩
abbrev main_call13_call0_call0_c_9 : Ref sig .tc := ⟨.hbm, 2773, rfl⟩
abbrev main_call13_call0_call0_v41 : Ref sig .tc := ⟨.hbm, 2774, rfl⟩
abbrev main_call13_call0_call0_v42 : Ref sig .tc := ⟨.hbm, 2775, rfl⟩
abbrev main_call13_call0_call0_c_10 : Ref sig .tc := ⟨.hbm, 2776, rfl⟩
abbrev main_call13_call0_call0_v43 : Ref sig .tc := ⟨.hbm, 2777, rfl⟩
abbrev main_call13_call0_call0_v44 : Ref sig .tc := ⟨.hbm, 2778, rfl⟩
abbrev main_call13_call0_call0_v45 : Ref sig .tc := ⟨.hbm, 2779, rfl⟩
abbrev main_call13_call0_call0_v46 : Ref sig .tc := ⟨.hbm, 2780, rfl⟩
abbrev main_call13_call0_call0_v47 : Ref sig .tc := ⟨.hbm, 2781, rfl⟩
abbrev main_call13_call0_call0_c_11 : Ref sig .tc := ⟨.hbm, 2782, rfl⟩
abbrev main_call13_call0_call0_v48 : Ref sig .tc := ⟨.hbm, 2783, rfl⟩
abbrev main_call13_call0_call0_v49 : Ref sig .tc := ⟨.hbm, 2784, rfl⟩
abbrev main_call13_call0_call0_c_12 : Ref sig .tc := ⟨.hbm, 2785, rfl⟩
abbrev main_call13_call0_call0_v50 : Ref sig .tc := ⟨.hbm, 2786, rfl⟩
abbrev main_call13_call0_call0_v51 : Ref sig .tc := ⟨.hbm, 2787, rfl⟩
abbrev main_call13_call0_call0_v52 : Ref sig .tc := ⟨.hbm, 2788, rfl⟩
abbrev main_call13_call0_call0_v53 : Ref sig .tc := ⟨.hbm, 2789, rfl⟩
abbrev main_call13_call0_call0_v54 : Ref sig .tc := ⟨.hbm, 2790, rfl⟩
abbrev main_call13_call0_call0_c_13 : Ref sig .tc := ⟨.hbm, 2791, rfl⟩
abbrev main_call13_call0_call0_v55 : Ref sig .tc := ⟨.hbm, 2792, rfl⟩
abbrev main_call13_call0_call0_v56 : Ref sig .tc := ⟨.hbm, 2793, rfl⟩
abbrev main_call13_call0_call0_c_14 : Ref sig .tc := ⟨.hbm, 2794, rfl⟩
abbrev main_call13_call0_call0_v57 : Ref sig .tc := ⟨.hbm, 2795, rfl⟩
abbrev main_call13_call0_call0_v58 : Ref sig .tc := ⟨.hbm, 2796, rfl⟩
abbrev main_call13_call0_call0_v59 : Ref sig .tc := ⟨.hbm, 2797, rfl⟩
abbrev main_call13_call0_call0_v60 : Ref sig .tc := ⟨.hbm, 2798, rfl⟩
abbrev main_call13_call0_call0_v61 : Ref sig .tc := ⟨.hbm, 2799, rfl⟩
abbrev main_call13_call0_call0_c_15 : Ref sig .tc := ⟨.hbm, 2800, rfl⟩
abbrev main_call13_call0_call0_v62 : Ref sig .tc := ⟨.hbm, 2801, rfl⟩
abbrev main_call13_call0_call0_v63 : Ref sig .tc := ⟨.hbm, 2802, rfl⟩
abbrev main_call13_call0_call0_c_16 : Ref sig .tc := ⟨.hbm, 2803, rfl⟩
abbrev main_call13_call0_call0_v64 : Ref sig .tc := ⟨.hbm, 2804, rfl⟩
abbrev main_call13_call0_call0_v65 : Ref sig .tc := ⟨.hbm, 2805, rfl⟩
abbrev main_call13_call0_call0_v66 : Ref sig .tc := ⟨.hbm, 2806, rfl⟩
abbrev main_call13_call0_call0_v67 : Ref sig .tc := ⟨.hbm, 2807, rfl⟩
abbrev main_call13_call0_call0_v68 : Ref sig .tc := ⟨.hbm, 2808, rfl⟩
abbrev main_call13_call0_call0_v69 : Ref sig .tc := ⟨.hbm, 2809, rfl⟩
abbrev main_call13_call0_call0_v70 : Ref sig .tc := ⟨.hbm, 2810, rfl⟩
abbrev main_call13_call0_call0_v71 : Ref sig .tc := ⟨.hbm, 2811, rfl⟩
abbrev main_call13_call0_call0_c_17 : Ref sig .tc := ⟨.hbm, 2812, rfl⟩
abbrev main_call13_call0_call0_v72 : Ref sig .tc := ⟨.hbm, 2813, rfl⟩
abbrev main_call13_call0_call0_v73 : Ref sig .tc := ⟨.hbm, 2814, rfl⟩
abbrev main_call13_call0_call0_v74 : Ref sig .tc := ⟨.hbm, 2815, rfl⟩
abbrev main_call13_call0_call0_c_18 : Ref sig .tc := ⟨.hbm, 2816, rfl⟩
abbrev main_call13_call0_call0_v75 : Ref sig .tc := ⟨.hbm, 2817, rfl⟩
abbrev main_call13_call0_call0_v76 : Ref sig .tc := ⟨.hbm, 2818, rfl⟩
abbrev main_call13_call0_call0_c_19 : Ref sig .tc := ⟨.hbm, 2819, rfl⟩
abbrev main_call13_call0_call0_v77 : Ref sig .tc := ⟨.hbm, 2820, rfl⟩
abbrev main_call13_call0_call0_v78 : Ref sig .tc := ⟨.hbm, 2821, rfl⟩
abbrev main_call13_call0_call0_v79 : Ref sig .tc := ⟨.hbm, 2822, rfl⟩
abbrev main_call13_call0_call0_v80 : Ref sig .tc := ⟨.hbm, 2823, rfl⟩
abbrev main_call13_call0_call0_v81 : Ref sig .tc := ⟨.hbm, 2824, rfl⟩
abbrev main_call13_call0_call0_c_20 : Ref sig .tc := ⟨.hbm, 2825, rfl⟩
abbrev main_call13_call0_call0_v82 : Ref sig .tc := ⟨.hbm, 2826, rfl⟩
abbrev main_call13_call0_call0_v83 : Ref sig .tc := ⟨.hbm, 2827, rfl⟩
abbrev main_call13_call0_call0_c_21 : Ref sig .tc := ⟨.hbm, 2828, rfl⟩
abbrev main_call13_call0_call0_v84 : Ref sig .tc := ⟨.hbm, 2829, rfl⟩
abbrev main_call13_call0_call0_v85 : Ref sig .tc := ⟨.hbm, 2830, rfl⟩
abbrev main_call13_call0_call0_v86 : Ref sig .tc := ⟨.hbm, 2831, rfl⟩
abbrev main_call13_call0_call0_v87 : Ref sig .tc := ⟨.hbm, 2832, rfl⟩
abbrev main_call13_call0_call0_v88 : Ref sig .tc := ⟨.hbm, 2833, rfl⟩
abbrev main_call13_call0_call0_c_22 : Ref sig .tc := ⟨.hbm, 2834, rfl⟩
abbrev main_call13_call0_call0_v89 : Ref sig .tc := ⟨.hbm, 2835, rfl⟩
abbrev main_call13_call0_call0_v90 : Ref sig .tc := ⟨.hbm, 2836, rfl⟩
abbrev main_call13_call0_call0_c_23 : Ref sig .tc := ⟨.hbm, 2837, rfl⟩
abbrev main_call13_call0_call0_v91 : Ref sig .tc := ⟨.hbm, 2838, rfl⟩
abbrev main_call13_call0_call0_v92 : Ref sig .tc := ⟨.hbm, 2839, rfl⟩
abbrev main_call13_call0_call0_v93 : Ref sig .tc := ⟨.hbm, 2840, rfl⟩
abbrev main_call13_call0_call0_v94 : Ref sig .tc := ⟨.hbm, 2841, rfl⟩
abbrev main_call13_call0_call0_v95 : Ref sig .tc := ⟨.hbm, 2842, rfl⟩
abbrev main_call13_call0_call0_c_24 : Ref sig .tc := ⟨.hbm, 2843, rfl⟩
abbrev main_call13_call0_call0_v96 : Ref sig .tc := ⟨.hbm, 2844, rfl⟩
abbrev main_call13_call0_call0_v97 : Ref sig .tc := ⟨.hbm, 2845, rfl⟩
abbrev main_call13_call0_call0_c_25 : Ref sig .tc := ⟨.hbm, 2846, rfl⟩
abbrev main_call13_call0_call0_v98 : Ref sig .tc := ⟨.hbm, 2847, rfl⟩
abbrev main_call13_call0_call0_v99 : Ref sig .tc := ⟨.hbm, 2848, rfl⟩
abbrev main_call13_call0_call0_v100 : Ref sig .tc := ⟨.hbm, 2849, rfl⟩
abbrev main_call13_call0_call0_v101 : Ref sig .tc := ⟨.hbm, 2850, rfl⟩
abbrev main_call13_call0_call0_v102 : Ref sig .tc := ⟨.hbm, 2851, rfl⟩
abbrev main_call13_call0_call0_v103 : Ref sig .tc := ⟨.hbm, 2852, rfl⟩
abbrev main_call13_call0_call0_v104 : Ref sig .tc := ⟨.hbm, 2853, rfl⟩
abbrev main_call13_call0_call0_v105 : Ref sig .tc := ⟨.hbm, 2854, rfl⟩
abbrev main_call13_call0_call0_c_26 : Ref sig .tc := ⟨.hbm, 2855, rfl⟩
abbrev main_call13_call0_call0_v106 : Ref sig .tc := ⟨.hbm, 2856, rfl⟩
abbrev main_call13_call0_call0_v107 : Ref sig .tc := ⟨.hbm, 2857, rfl⟩
abbrev main_call13_call0_call0_v108 : Ref sig .tc := ⟨.hbm, 2858, rfl⟩
abbrev main_call13_call0_call0_c_27 : Ref sig .tc := ⟨.hbm, 2859, rfl⟩
abbrev main_call13_call0_call0_v109 : Ref sig .tc := ⟨.hbm, 2860, rfl⟩
abbrev main_call13_call0_call0_v110 : Ref sig .tc := ⟨.hbm, 2861, rfl⟩
abbrev main_call13_call0_call0_c_28 : Ref sig .tc := ⟨.hbm, 2862, rfl⟩
abbrev main_call13_call0_call0_v111 : Ref sig .tc := ⟨.hbm, 2863, rfl⟩
abbrev main_call13_call0_call0_v112 : Ref sig .tc := ⟨.hbm, 2864, rfl⟩
abbrev main_call13_call0_call0_v113 : Ref sig .tc := ⟨.hbm, 2865, rfl⟩
abbrev main_call13_call0_call0_v114 : Ref sig .tc := ⟨.hbm, 2866, rfl⟩
abbrev main_call13_call0_call0_v115 : Ref sig .tc := ⟨.hbm, 2867, rfl⟩
abbrev main_call13_call0_call0_c_29 : Ref sig .tc := ⟨.hbm, 2868, rfl⟩
abbrev main_call13_call0_call0_v116 : Ref sig .tc := ⟨.hbm, 2869, rfl⟩
abbrev main_call13_call0_call0_v117 : Ref sig .tc := ⟨.hbm, 2870, rfl⟩
abbrev main_call13_call0_call0_c_30 : Ref sig .tc := ⟨.hbm, 2871, rfl⟩
abbrev main_call13_call0_call0_v118 : Ref sig .tc := ⟨.hbm, 2872, rfl⟩
abbrev main_call13_call0_call0_v119 : Ref sig .tc := ⟨.hbm, 2873, rfl⟩
abbrev main_call13_call0_call0_v120 : Ref sig .tc := ⟨.hbm, 2874, rfl⟩
abbrev main_call13_call0_call0_v121 : Ref sig .tc := ⟨.hbm, 2875, rfl⟩
abbrev main_call13_call0_call0_v122 : Ref sig .tc := ⟨.hbm, 2876, rfl⟩
abbrev main_call13_call0_call0_c_31 : Ref sig .tc := ⟨.hbm, 2877, rfl⟩
abbrev main_call13_call0_call0_v123 : Ref sig .tc := ⟨.hbm, 2878, rfl⟩
abbrev main_call13_call0_call0_v124 : Ref sig .tc := ⟨.hbm, 2879, rfl⟩
abbrev main_call13_call0_call0_c_32 : Ref sig .tc := ⟨.hbm, 2880, rfl⟩
abbrev main_call13_call0_call0_v125 : Ref sig .tc := ⟨.hbm, 2881, rfl⟩
abbrev main_call13_call0_call0_v126 : Ref sig .tc := ⟨.hbm, 2882, rfl⟩
abbrev main_call13_call0_call0_v127 : Ref sig .tc := ⟨.hbm, 2883, rfl⟩
abbrev main_call13_call0_call0_v128 : Ref sig .tc := ⟨.hbm, 2884, rfl⟩
abbrev main_call13_call0_call0_v129 : Ref sig .tc := ⟨.hbm, 2885, rfl⟩
abbrev main_call13_call0_call0_c_33 : Ref sig .tc := ⟨.hbm, 2886, rfl⟩
abbrev main_call13_call0_call0_v130 : Ref sig .tc := ⟨.hbm, 2887, rfl⟩
abbrev main_call13_call0_call0_v131 : Ref sig .tc := ⟨.hbm, 2888, rfl⟩
abbrev main_call13_call0_call0_c_34 : Ref sig .tc := ⟨.hbm, 2889, rfl⟩
abbrev main_call13_call0_call0_v132 : Ref sig .tc := ⟨.hbm, 2890, rfl⟩
abbrev main_call13_call0_call0_v133 : Ref sig .tc := ⟨.hbm, 2891, rfl⟩
abbrev main_call13_call0_call0_v134 : Ref sig .tc := ⟨.hbm, 2892, rfl⟩
abbrev main_call13_call0_call0_v135 : Ref sig .tc := ⟨.hbm, 2893, rfl⟩
abbrev main_call13_call0_call0_v136 : Ref sig .tc := ⟨.hbm, 2894, rfl⟩
abbrev main_call13_call0_call0_v137 : Ref sig .tc := ⟨.hbm, 2895, rfl⟩
abbrev main_call13_call0_call0_v138 : Ref sig .tc := ⟨.hbm, 2896, rfl⟩
abbrev main_call13_call0_call0_v139 : Ref sig .tc := ⟨.hbm, 2897, rfl⟩
abbrev main_call13_call0_call0_c_35 : Ref sig .tc := ⟨.hbm, 2898, rfl⟩
abbrev main_call13_call0_call0_v140 : Ref sig .tc := ⟨.hbm, 2899, rfl⟩
abbrev main_call13_call0_call0_v141 : Ref sig .tc := ⟨.hbm, 2900, rfl⟩
abbrev main_call13_call0_call0_v142 : Ref sig .tc := ⟨.hbm, 2901, rfl⟩
abbrev main_call13_call0_call0_c_36 : Ref sig .tc := ⟨.hbm, 2902, rfl⟩
abbrev main_call13_call0_call0_v143 : Ref sig .tc := ⟨.hbm, 2903, rfl⟩
abbrev main_call13_call0_call0_v144 : Ref sig .tc := ⟨.hbm, 2904, rfl⟩
abbrev main_call13_call0_call0_c_37 : Ref sig .tc := ⟨.hbm, 2905, rfl⟩
abbrev main_call13_call0_call0_v145 : Ref sig .tc := ⟨.hbm, 2906, rfl⟩
abbrev main_call13_call0_call0_v146 : Ref sig .tc := ⟨.hbm, 2907, rfl⟩
abbrev main_call13_call0_call0_v147 : Ref sig .tc := ⟨.hbm, 2908, rfl⟩
abbrev main_call13_call0_call0_v148 : Ref sig .tc := ⟨.hbm, 2909, rfl⟩
abbrev main_call13_call0_call0_v149 : Ref sig .tc := ⟨.hbm, 2910, rfl⟩
abbrev main_call13_call0_call0_c_38 : Ref sig .tc := ⟨.hbm, 2911, rfl⟩
abbrev main_call13_call0_call0_v150 : Ref sig .tc := ⟨.hbm, 2912, rfl⟩
abbrev main_call13_call0_call0_v151 : Ref sig .tc := ⟨.hbm, 2913, rfl⟩
abbrev main_call13_call0_call0_c_39 : Ref sig .tc := ⟨.hbm, 2914, rfl⟩
abbrev main_call13_call0_call0_v152 : Ref sig .tc := ⟨.hbm, 2915, rfl⟩
abbrev main_call13_call0_call0_v153 : Ref sig .tc := ⟨.hbm, 2916, rfl⟩
abbrev main_call13_call0_call0_v154 : Ref sig .tc := ⟨.hbm, 2917, rfl⟩
abbrev main_call13_call0_call0_v155 : Ref sig .tc := ⟨.hbm, 2918, rfl⟩
abbrev main_call13_call0_call0_v156 : Ref sig .tc := ⟨.hbm, 2919, rfl⟩
abbrev main_call13_call0_call0_c_40 : Ref sig .tc := ⟨.hbm, 2920, rfl⟩
abbrev main_call13_call0_call0_v157 : Ref sig .tc := ⟨.hbm, 2921, rfl⟩
abbrev main_call13_call0_call0_v158 : Ref sig .tc := ⟨.hbm, 2922, rfl⟩
abbrev main_call13_call0_call0_c_41 : Ref sig .tc := ⟨.hbm, 2923, rfl⟩
abbrev main_call13_call0_call0_v159 : Ref sig .tc := ⟨.hbm, 2924, rfl⟩
abbrev main_call13_call0_call0_v160 : Ref sig .tc := ⟨.hbm, 2925, rfl⟩
abbrev main_call13_call0_call0_v161 : Ref sig .tc := ⟨.hbm, 2926, rfl⟩
abbrev main_call13_call0_call0_v162 : Ref sig .tc := ⟨.hbm, 2927, rfl⟩
abbrev main_call13_call0_call0_v163 : Ref sig .tc := ⟨.hbm, 2928, rfl⟩
abbrev main_call13_call0_call0_c_42 : Ref sig .tc := ⟨.hbm, 2929, rfl⟩
abbrev main_call13_call0_call0_v164 : Ref sig .tc := ⟨.hbm, 2930, rfl⟩
abbrev main_call13_call0_call0_v165 : Ref sig .tc := ⟨.hbm, 2931, rfl⟩
abbrev main_call13_call0_call0_c_43 : Ref sig .tc := ⟨.hbm, 2932, rfl⟩
abbrev main_call13_call0_call0_v166 : Ref sig .tc := ⟨.hbm, 2933, rfl⟩
abbrev main_call13_call0_call0_v167 : Ref sig .tc := ⟨.hbm, 2934, rfl⟩
abbrev main_call13_call0_call0_v168 : Ref sig .tc := ⟨.hbm, 2935, rfl⟩
abbrev main_call13_call0_call0_v169 : Ref sig .tc := ⟨.hbm, 2936, rfl⟩
abbrev main_call13_call0_call0_v170 : Ref sig .tc := ⟨.hbm, 2937, rfl⟩
abbrev main_call13_call0_v18_0 : Ref sig .tc := ⟨.hbm, 2938, rfl⟩
abbrev main_call13_call0_call0_v172 : Ref sig .tc := ⟨.hbm, 2939, rfl⟩
abbrev main_call13_call0_call0_v173 : Ref sig .tc := ⟨.hbm, 2940, rfl⟩
abbrev main_call13_call0_call0_c_44 : Ref sig .tc := ⟨.hbm, 2941, rfl⟩
abbrev main_call13_call0_call0_v174 : Ref sig .tc := ⟨.hbm, 2942, rfl⟩
abbrev main_call13_call0_v18_1 : Ref sig .tc := ⟨.hbm, 2943, rfl⟩
abbrev main_call13_call0_v19 : Ref sig .tc := ⟨.hbm, 2944, rfl⟩
abbrev main_call13_call0_c_2 : Ref sig .tc := ⟨.hbm, 2945, rfl⟩
abbrev main_call13_call0_v20 : Ref sig .tc := ⟨.hbm, 2946, rfl⟩
abbrev main_call13_call0_v21 : Ref sig .tc := ⟨.hbm, 2947, rfl⟩
abbrev main_call13_call0_c_3 : Ref sig .tc := ⟨.hbm, 2948, rfl⟩
abbrev main_call13_call0_v22 : Ref sig .tc := ⟨.hbm, 2949, rfl⟩
abbrev main_call13_call0_v23 : Ref sig .tc := ⟨.hbm, 2950, rfl⟩
abbrev main_call13_call0_v24 : Ref sig .tc := ⟨.hbm, 2951, rfl⟩
abbrev main_call13_call0_cst : Ref sig .tc := ⟨.hbm, 2952, rfl⟩
abbrev main_call13_call0_v25 : Ref sig .tc := ⟨.hbm, 2953, rfl⟩
abbrev main_call13_call0_v26 : Ref sig .tc := ⟨.hbm, 2954, rfl⟩
abbrev main_call13_call0_v27 : Ref sig .tc := ⟨.hbm, 2955, rfl⟩
abbrev main_call13_call0_v28 : Ref sig .tc := ⟨.hbm, 2956, rfl⟩
abbrev main_call13_call0_v29 : Ref sig .tc := ⟨.hbm, 2957, rfl⟩
abbrev main_call13_call0_v30 : Ref sig .tc := ⟨.hbm, 2958, rfl⟩
abbrev main_call13_call0_v31 : Ref sig .tc := ⟨.hbm, 2959, rfl⟩
abbrev main_call13_call0_v32 : Ref sig .tc := ⟨.hbm, 2960, rfl⟩
abbrev main_call13_v0 : Ref sig .tc := ⟨.hbm, 2961, rfl⟩
abbrev main_call13_v1 : Ref sig .tc := ⟨.hbm, 2962, rfl⟩
abbrev main_call13_v2 : Ref sig .tc := ⟨.hbm, 2963, rfl⟩
abbrev main_call13_v3 : Ref sig .tc := ⟨.hbm, 2964, rfl⟩
abbrev main_v285 : Ref sig .tc := ⟨.hbm, 2965, rfl⟩
abbrev main_v286 : Ref sig .tc := ⟨.hbm, 2966, rfl⟩
abbrev main_call14_v0 : Ref sig .tc := ⟨.hbm, 2967, rfl⟩
abbrev main_call14_cst : Ref sig .tc := ⟨.hbm, 2968, rfl⟩
abbrev main_call14_c : Ref sig .tc := ⟨.hbm, 2969, rfl⟩
abbrev main_call14_v1_0 : Ref sig .tc := ⟨.hbm, 2970, rfl⟩
abbrev main_v287 : Ref sig .tc := ⟨.hbm, 2971, rfl⟩
abbrev main_v288 : Ref sig .tc := ⟨.hbm, 2972, rfl⟩
abbrev main_v289 : Ref sig .tc := ⟨.hbm, 2973, rfl⟩
abbrev main_v290 : Ref sig .tc := ⟨.hbm, 2974, rfl⟩
abbrev main_v291 : Ref sig .tc := ⟨.hbm, 2975, rfl⟩
abbrev main_c_142 : Ref sig .tc := ⟨.hbm, 2976, rfl⟩
abbrev main_v292 : Ref sig .tc := ⟨.hbm, 2977, rfl⟩
abbrev main_v293 : Ref sig .tc := ⟨.hbm, 2978, rfl⟩
abbrev main_c_143 : Ref sig .tc := ⟨.hbm, 2979, rfl⟩
abbrev main_v294 : Ref sig .tc := ⟨.hbm, 2980, rfl⟩
abbrev main_v295 : Ref sig .tc := ⟨.hbm, 2981, rfl⟩
abbrev main_v296 : Ref sig .tc := ⟨.hbm, 2982, rfl⟩
abbrev main_v297 : Ref sig .tc := ⟨.hbm, 2983, rfl⟩
abbrev main_v298 : Ref sig .tc := ⟨.hbm, 2984, rfl⟩
abbrev main_v299 : Ref sig .tc := ⟨.hbm, 2985, rfl⟩
abbrev main_c_144 : Ref sig .tc := ⟨.hbm, 2986, rfl⟩
abbrev main_v300 : Ref sig .tc := ⟨.hbm, 2987, rfl⟩
abbrev main_c_145 : Ref sig .tc := ⟨.hbm, 2988, rfl⟩
abbrev main_v301 : Ref sig .tc := ⟨.hbm, 2989, rfl⟩
abbrev main_v302 : Ref sig .tc := ⟨.hbm, 2990, rfl⟩
abbrev main_c_146 : Ref sig .tc := ⟨.hbm, 2991, rfl⟩
abbrev main_v303 : Ref sig .tc := ⟨.hbm, 2992, rfl⟩
abbrev main_v304 : Ref sig .tc := ⟨.hbm, 2993, rfl⟩
abbrev main_c_147 : Ref sig .tc := ⟨.hbm, 2994, rfl⟩
abbrev main_v305 : Ref sig .tc := ⟨.hbm, 2995, rfl⟩
abbrev main_v306 : Ref sig .tc := ⟨.hbm, 2996, rfl⟩
abbrev main_v307 : Ref sig .tc := ⟨.hbm, 2997, rfl⟩
abbrev main_c_148 : Ref sig .tc := ⟨.hbm, 2998, rfl⟩
abbrev main_v308 : Ref sig .tc := ⟨.hbm, 2999, rfl⟩
abbrev main_v309 : Ref sig .tc := ⟨.hbm, 3000, rfl⟩
abbrev main_c_149 : Ref sig .tc := ⟨.hbm, 3001, rfl⟩
abbrev main_v310 : Ref sig .tc := ⟨.hbm, 3002, rfl⟩
abbrev main_v311 : Ref sig .tc := ⟨.hbm, 3003, rfl⟩
abbrev main_v312 : Ref sig .tc := ⟨.hbm, 3004, rfl⟩
abbrev main_v313 : Ref sig .tc := ⟨.hbm, 3005, rfl⟩
abbrev main_v314 : Ref sig .tc := ⟨.hbm, 3006, rfl⟩
abbrev main_v315 : Ref sig .tc := ⟨.hbm, 3007, rfl⟩
abbrev main_v316 : Ref sig .tc := ⟨.hbm, 3008, rfl⟩
abbrev main_v317 : Ref sig .tc := ⟨.hbm, 3009, rfl⟩
abbrev main_v318 : Ref sig .tc := ⟨.hbm, 3010, rfl⟩
abbrev main_c_150 : Ref sig .tc := ⟨.hbm, 3011, rfl⟩
abbrev main_v319 : Ref sig .tc := ⟨.hbm, 3012, rfl⟩
abbrev main_c_151 : Ref sig .tc := ⟨.hbm, 3013, rfl⟩
abbrev main_v320 : Ref sig .tc := ⟨.hbm, 3014, rfl⟩
abbrev main_v321 : Ref sig .tc := ⟨.hbm, 3015, rfl⟩
abbrev main_c_152 : Ref sig .tc := ⟨.hbm, 3016, rfl⟩
abbrev main_c_153 : Ref sig .tc := ⟨.hbm, 3017, rfl⟩
abbrev main_v322 : Ref sig .tc := ⟨.hbm, 3018, rfl⟩
abbrev main_c_154 : Ref sig .tc := ⟨.hbm, 3019, rfl⟩
abbrev main_c_155 : Ref sig .tc := ⟨.hbm, 3020, rfl⟩
abbrev main_v323 : Ref sig .tc := ⟨.hbm, 3021, rfl⟩
abbrev main_c_156 : Ref sig .tc := ⟨.hbm, 3022, rfl⟩
abbrev main_v324 : Ref sig .tc := ⟨.hbm, 3023, rfl⟩
abbrev main_c_157 : Ref sig .tc := ⟨.hbm, 3024, rfl⟩
abbrev main_c_158 : Ref sig .tc := ⟨.hbm, 3025, rfl⟩
abbrev main_v325 : Ref sig .tc := ⟨.hbm, 3026, rfl⟩
abbrev main_c_159 : Ref sig .tc := ⟨.hbm, 3027, rfl⟩
abbrev main_c_160 : Ref sig .tc := ⟨.hbm, 3028, rfl⟩
abbrev main_v326 : Ref sig .tc := ⟨.hbm, 3029, rfl⟩
abbrev main_c_161 : Ref sig .tc := ⟨.hbm, 3030, rfl⟩
abbrev main_v327 : Ref sig .tc := ⟨.hbm, 3031, rfl⟩
abbrev main_v328 : Ref sig .tc := ⟨.hbm, 3032, rfl⟩
abbrev main_v329 : Ref sig .tc := ⟨.hbm, 3033, rfl⟩
abbrev main_v330 : Ref sig .tc := ⟨.hbm, 3034, rfl⟩
abbrev main_v331 : Ref sig .tc := ⟨.hbm, 3035, rfl⟩
abbrev main_v332 : Ref sig .tc := ⟨.hbm, 3036, rfl⟩
abbrev main_call15_v0 : Ref sig .tc := ⟨.hbm, 3037, rfl⟩
abbrev main_call15_v1 : Ref sig .tc := ⟨.hbm, 3038, rfl⟩
abbrev main_call15_v2 : Ref sig .tc := ⟨.hbm, 3039, rfl⟩
abbrev main_call15_v3 : Ref sig .tc := ⟨.hbm, 3040, rfl⟩
abbrev main_call15_v4 : Ref sig .tc := ⟨.hbm, 3041, rfl⟩
abbrev main_call15_c : Ref sig .tc := ⟨.hbm, 3042, rfl⟩
abbrev main_call15_v5 : Ref sig .tc := ⟨.hbm, 3043, rfl⟩
abbrev main_call15_v6 : Ref sig .tc := ⟨.hbm, 3044, rfl⟩
abbrev main_call15_c_0 : Ref sig .tc := ⟨.hbm, 3045, rfl⟩
abbrev main_call15_v7 : Ref sig .tc := ⟨.hbm, 3046, rfl⟩
abbrev main_call15_v8 : Ref sig .tc := ⟨.hbm, 3047, rfl⟩
abbrev main_call15_v9 : Ref sig .tc := ⟨.hbm, 3048, rfl⟩
abbrev main_call15_v10 : Ref sig .tc := ⟨.hbm, 3049, rfl⟩
abbrev main_call15_call0_v0 : Ref sig .tc := ⟨.hbm, 3050, rfl⟩
abbrev main_call15_call0_c : Ref sig .tc := ⟨.hbm, 3051, rfl⟩
abbrev main_call15_call0_v1 : Ref sig .tc := ⟨.hbm, 3052, rfl⟩
abbrev main_call15_call0_v2 : Ref sig .tc := ⟨.hbm, 3053, rfl⟩
abbrev main_call15_call0_v3 : Ref sig .tc := ⟨.hbm, 3054, rfl⟩
abbrev main_call15_call0_v4 : Ref sig .tc := ⟨.hbm, 3055, rfl⟩
abbrev main_call15_call0_v5 : Ref sig .tc := ⟨.hbm, 3056, rfl⟩
abbrev main_call15_call0_v6 : Ref sig .tc := ⟨.hbm, 3057, rfl⟩
abbrev main_call15_call0_c_0 : Ref sig .tc := ⟨.hbm, 3058, rfl⟩
abbrev main_call15_call0_v7 : Ref sig .tc := ⟨.hbm, 3059, rfl⟩
abbrev main_call15_call0_v8 : Ref sig .tc := ⟨.hbm, 3060, rfl⟩
abbrev main_call15_call0_c_1 : Ref sig .tc := ⟨.hbm, 3061, rfl⟩
abbrev main_call15_call0_v9 : Ref sig .tc := ⟨.hbm, 3062, rfl⟩
abbrev main_call15_call0_v10 : Ref sig .tc := ⟨.hbm, 3063, rfl⟩
abbrev main_call15_call0_v11 : Ref sig .tc := ⟨.hbm, 3064, rfl⟩
abbrev main_call15_call0_v12 : Ref sig .tc := ⟨.hbm, 3065, rfl⟩
abbrev main_call15_call0_v13 : Ref sig .tc := ⟨.hbm, 3066, rfl⟩
abbrev main_call15_call0_c_2 : Ref sig .tc := ⟨.hbm, 3067, rfl⟩
abbrev main_call15_call0_v14 : Ref sig .tc := ⟨.hbm, 3068, rfl⟩
abbrev main_call15_call0_v15 : Ref sig .tc := ⟨.hbm, 3069, rfl⟩
abbrev main_call15_call0_c_3 : Ref sig .tc := ⟨.hbm, 3070, rfl⟩
abbrev main_call15_call0_v16 : Ref sig .tc := ⟨.hbm, 3071, rfl⟩
abbrev main_call15_call0_v17 : Ref sig .tc := ⟨.hbm, 3072, rfl⟩
abbrev main_call15_call0_v18 : Ref sig .tc := ⟨.hbm, 3073, rfl⟩
abbrev main_call15_call0_v19 : Ref sig .tc := ⟨.hbm, 3074, rfl⟩
abbrev main_call15_call0_v20 : Ref sig .tc := ⟨.hbm, 3075, rfl⟩
abbrev main_call15_call0_c_4 : Ref sig .tc := ⟨.hbm, 3076, rfl⟩
abbrev main_call15_call0_v21 : Ref sig .tc := ⟨.hbm, 3077, rfl⟩
abbrev main_call15_call0_v22 : Ref sig .tc := ⟨.hbm, 3078, rfl⟩
abbrev main_call15_call0_c_5 : Ref sig .tc := ⟨.hbm, 3079, rfl⟩
abbrev main_call15_call0_v23 : Ref sig .tc := ⟨.hbm, 3080, rfl⟩
abbrev main_call15_call0_v24 : Ref sig .tc := ⟨.hbm, 3081, rfl⟩
abbrev main_call15_call0_v25 : Ref sig .tc := ⟨.hbm, 3082, rfl⟩
abbrev main_call15_call0_v26 : Ref sig .tc := ⟨.hbm, 3083, rfl⟩
abbrev main_call15_call0_v27 : Ref sig .tc := ⟨.hbm, 3084, rfl⟩
abbrev main_call15_call0_c_6 : Ref sig .tc := ⟨.hbm, 3085, rfl⟩
abbrev main_call15_call0_v28 : Ref sig .tc := ⟨.hbm, 3086, rfl⟩
abbrev main_call15_call0_v29 : Ref sig .tc := ⟨.hbm, 3087, rfl⟩
abbrev main_call15_call0_c_7 : Ref sig .tc := ⟨.hbm, 3088, rfl⟩
abbrev main_call15_call0_v30 : Ref sig .tc := ⟨.hbm, 3089, rfl⟩
abbrev main_call15_call0_v31 : Ref sig .tc := ⟨.hbm, 3090, rfl⟩
abbrev main_call15_call0_v32 : Ref sig .tc := ⟨.hbm, 3091, rfl⟩
abbrev main_call15_call0_v33 : Ref sig .tc := ⟨.hbm, 3092, rfl⟩
abbrev main_call15_call0_v34 : Ref sig .tc := ⟨.hbm, 3093, rfl⟩
abbrev main_call15_call0_v35 : Ref sig .tc := ⟨.hbm, 3094, rfl⟩
abbrev main_call15_call0_v36 : Ref sig .tc := ⟨.hbm, 3095, rfl⟩
abbrev main_call15_call0_v37 : Ref sig .tc := ⟨.hbm, 3096, rfl⟩
abbrev main_call15_call0_c_8 : Ref sig .tc := ⟨.hbm, 3097, rfl⟩
abbrev main_call15_call0_v38 : Ref sig .tc := ⟨.hbm, 3098, rfl⟩
abbrev main_call15_call0_v39 : Ref sig .tc := ⟨.hbm, 3099, rfl⟩
abbrev main_call15_call0_v40 : Ref sig .tc := ⟨.hbm, 3100, rfl⟩
abbrev main_call15_call0_c_9 : Ref sig .tc := ⟨.hbm, 3101, rfl⟩
abbrev main_call15_call0_v41 : Ref sig .tc := ⟨.hbm, 3102, rfl⟩
abbrev main_call15_call0_v42 : Ref sig .tc := ⟨.hbm, 3103, rfl⟩
abbrev main_call15_call0_c_10 : Ref sig .tc := ⟨.hbm, 3104, rfl⟩
abbrev main_call15_call0_v43 : Ref sig .tc := ⟨.hbm, 3105, rfl⟩
abbrev main_call15_call0_v44 : Ref sig .tc := ⟨.hbm, 3106, rfl⟩
abbrev main_call15_call0_v45 : Ref sig .tc := ⟨.hbm, 3107, rfl⟩
abbrev main_call15_call0_v46 : Ref sig .tc := ⟨.hbm, 3108, rfl⟩
abbrev main_call15_call0_v47 : Ref sig .tc := ⟨.hbm, 3109, rfl⟩
abbrev main_call15_call0_c_11 : Ref sig .tc := ⟨.hbm, 3110, rfl⟩
abbrev main_call15_call0_v48 : Ref sig .tc := ⟨.hbm, 3111, rfl⟩
abbrev main_call15_call0_v49 : Ref sig .tc := ⟨.hbm, 3112, rfl⟩
abbrev main_call15_call0_c_12 : Ref sig .tc := ⟨.hbm, 3113, rfl⟩
abbrev main_call15_call0_v50 : Ref sig .tc := ⟨.hbm, 3114, rfl⟩
abbrev main_call15_call0_v51 : Ref sig .tc := ⟨.hbm, 3115, rfl⟩
abbrev main_call15_call0_v52 : Ref sig .tc := ⟨.hbm, 3116, rfl⟩
abbrev main_call15_call0_v53 : Ref sig .tc := ⟨.hbm, 3117, rfl⟩
abbrev main_call15_call0_v54 : Ref sig .tc := ⟨.hbm, 3118, rfl⟩
abbrev main_call15_call0_c_13 : Ref sig .tc := ⟨.hbm, 3119, rfl⟩
abbrev main_call15_call0_v55 : Ref sig .tc := ⟨.hbm, 3120, rfl⟩
abbrev main_call15_call0_v56 : Ref sig .tc := ⟨.hbm, 3121, rfl⟩
abbrev main_call15_call0_c_14 : Ref sig .tc := ⟨.hbm, 3122, rfl⟩
abbrev main_call15_call0_v57 : Ref sig .tc := ⟨.hbm, 3123, rfl⟩
abbrev main_call15_call0_v58 : Ref sig .tc := ⟨.hbm, 3124, rfl⟩
abbrev main_call15_call0_v59 : Ref sig .tc := ⟨.hbm, 3125, rfl⟩
abbrev main_call15_call0_v60 : Ref sig .tc := ⟨.hbm, 3126, rfl⟩
abbrev main_call15_call0_v61 : Ref sig .tc := ⟨.hbm, 3127, rfl⟩
abbrev main_call15_call0_c_15 : Ref sig .tc := ⟨.hbm, 3128, rfl⟩
abbrev main_call15_call0_v62 : Ref sig .tc := ⟨.hbm, 3129, rfl⟩
abbrev main_call15_call0_v63 : Ref sig .tc := ⟨.hbm, 3130, rfl⟩
abbrev main_call15_call0_c_16 : Ref sig .tc := ⟨.hbm, 3131, rfl⟩
abbrev main_call15_call0_v64 : Ref sig .tc := ⟨.hbm, 3132, rfl⟩
abbrev main_call15_call0_v65 : Ref sig .tc := ⟨.hbm, 3133, rfl⟩
abbrev main_call15_call0_v66 : Ref sig .tc := ⟨.hbm, 3134, rfl⟩
abbrev main_call15_call0_v67 : Ref sig .tc := ⟨.hbm, 3135, rfl⟩
abbrev main_call15_call0_v68 : Ref sig .tc := ⟨.hbm, 3136, rfl⟩
abbrev main_call15_call0_v69 : Ref sig .tc := ⟨.hbm, 3137, rfl⟩
abbrev main_call15_call0_v70 : Ref sig .tc := ⟨.hbm, 3138, rfl⟩
abbrev main_call15_call0_v71 : Ref sig .tc := ⟨.hbm, 3139, rfl⟩
abbrev main_call15_call0_c_17 : Ref sig .tc := ⟨.hbm, 3140, rfl⟩
abbrev main_call15_call0_v72 : Ref sig .tc := ⟨.hbm, 3141, rfl⟩
abbrev main_call15_call0_v73 : Ref sig .tc := ⟨.hbm, 3142, rfl⟩
abbrev main_call15_call0_v74 : Ref sig .tc := ⟨.hbm, 3143, rfl⟩
abbrev main_call15_call0_c_18 : Ref sig .tc := ⟨.hbm, 3144, rfl⟩
abbrev main_call15_call0_v75 : Ref sig .tc := ⟨.hbm, 3145, rfl⟩
abbrev main_call15_call0_v76 : Ref sig .tc := ⟨.hbm, 3146, rfl⟩
abbrev main_call15_call0_c_19 : Ref sig .tc := ⟨.hbm, 3147, rfl⟩
abbrev main_call15_call0_v77 : Ref sig .tc := ⟨.hbm, 3148, rfl⟩
abbrev main_call15_call0_v78 : Ref sig .tc := ⟨.hbm, 3149, rfl⟩
abbrev main_call15_call0_v79 : Ref sig .tc := ⟨.hbm, 3150, rfl⟩
abbrev main_call15_call0_v80 : Ref sig .tc := ⟨.hbm, 3151, rfl⟩
abbrev main_call15_call0_v81 : Ref sig .tc := ⟨.hbm, 3152, rfl⟩
abbrev main_call15_call0_c_20 : Ref sig .tc := ⟨.hbm, 3153, rfl⟩
abbrev main_call15_call0_v82 : Ref sig .tc := ⟨.hbm, 3154, rfl⟩
abbrev main_call15_call0_v83 : Ref sig .tc := ⟨.hbm, 3155, rfl⟩
abbrev main_call15_call0_c_21 : Ref sig .tc := ⟨.hbm, 3156, rfl⟩
abbrev main_call15_call0_v84 : Ref sig .tc := ⟨.hbm, 3157, rfl⟩
abbrev main_call15_call0_v85 : Ref sig .tc := ⟨.hbm, 3158, rfl⟩
abbrev main_call15_call0_v86 : Ref sig .tc := ⟨.hbm, 3159, rfl⟩
abbrev main_call15_call0_v87 : Ref sig .tc := ⟨.hbm, 3160, rfl⟩
abbrev main_call15_call0_v88 : Ref sig .tc := ⟨.hbm, 3161, rfl⟩
abbrev main_call15_call0_c_22 : Ref sig .tc := ⟨.hbm, 3162, rfl⟩
abbrev main_call15_call0_v89 : Ref sig .tc := ⟨.hbm, 3163, rfl⟩
abbrev main_call15_call0_v90 : Ref sig .tc := ⟨.hbm, 3164, rfl⟩
abbrev main_call15_call0_c_23 : Ref sig .tc := ⟨.hbm, 3165, rfl⟩
abbrev main_call15_call0_v91 : Ref sig .tc := ⟨.hbm, 3166, rfl⟩
abbrev main_call15_call0_v92 : Ref sig .tc := ⟨.hbm, 3167, rfl⟩
abbrev main_call15_call0_v93 : Ref sig .tc := ⟨.hbm, 3168, rfl⟩
abbrev main_call15_call0_v94 : Ref sig .tc := ⟨.hbm, 3169, rfl⟩
abbrev main_call15_call0_v95 : Ref sig .tc := ⟨.hbm, 3170, rfl⟩
abbrev main_call15_call0_c_24 : Ref sig .tc := ⟨.hbm, 3171, rfl⟩
abbrev main_call15_call0_v96 : Ref sig .tc := ⟨.hbm, 3172, rfl⟩
abbrev main_call15_call0_v97 : Ref sig .tc := ⟨.hbm, 3173, rfl⟩
abbrev main_call15_call0_c_25 : Ref sig .tc := ⟨.hbm, 3174, rfl⟩
abbrev main_call15_call0_v98 : Ref sig .tc := ⟨.hbm, 3175, rfl⟩
abbrev main_call15_call0_v99 : Ref sig .tc := ⟨.hbm, 3176, rfl⟩
abbrev main_call15_call0_v100 : Ref sig .tc := ⟨.hbm, 3177, rfl⟩
abbrev main_call15_call0_v101 : Ref sig .tc := ⟨.hbm, 3178, rfl⟩
abbrev main_call15_call0_v102 : Ref sig .tc := ⟨.hbm, 3179, rfl⟩
abbrev main_call15_call0_v103 : Ref sig .tc := ⟨.hbm, 3180, rfl⟩
abbrev main_call15_call0_v104 : Ref sig .tc := ⟨.hbm, 3181, rfl⟩
abbrev main_call15_call0_v105 : Ref sig .tc := ⟨.hbm, 3182, rfl⟩
abbrev main_call15_call0_c_26 : Ref sig .tc := ⟨.hbm, 3183, rfl⟩
abbrev main_call15_call0_v106 : Ref sig .tc := ⟨.hbm, 3184, rfl⟩
abbrev main_call15_call0_v107 : Ref sig .tc := ⟨.hbm, 3185, rfl⟩
abbrev main_call15_call0_v108 : Ref sig .tc := ⟨.hbm, 3186, rfl⟩
abbrev main_call15_call0_c_27 : Ref sig .tc := ⟨.hbm, 3187, rfl⟩
abbrev main_call15_call0_v109 : Ref sig .tc := ⟨.hbm, 3188, rfl⟩
abbrev main_call15_call0_v110 : Ref sig .tc := ⟨.hbm, 3189, rfl⟩
abbrev main_call15_call0_c_28 : Ref sig .tc := ⟨.hbm, 3190, rfl⟩
abbrev main_call15_call0_v111 : Ref sig .tc := ⟨.hbm, 3191, rfl⟩
abbrev main_call15_call0_v112 : Ref sig .tc := ⟨.hbm, 3192, rfl⟩
abbrev main_call15_call0_v113 : Ref sig .tc := ⟨.hbm, 3193, rfl⟩
abbrev main_call15_call0_v114 : Ref sig .tc := ⟨.hbm, 3194, rfl⟩
abbrev main_call15_call0_v115 : Ref sig .tc := ⟨.hbm, 3195, rfl⟩
abbrev main_call15_call0_c_29 : Ref sig .tc := ⟨.hbm, 3196, rfl⟩
abbrev main_call15_call0_v116 : Ref sig .tc := ⟨.hbm, 3197, rfl⟩
abbrev main_call15_call0_v117 : Ref sig .tc := ⟨.hbm, 3198, rfl⟩
abbrev main_call15_call0_c_30 : Ref sig .tc := ⟨.hbm, 3199, rfl⟩
abbrev main_call15_call0_v118 : Ref sig .tc := ⟨.hbm, 3200, rfl⟩
abbrev main_call15_call0_v119 : Ref sig .tc := ⟨.hbm, 3201, rfl⟩
abbrev main_call15_call0_v120 : Ref sig .tc := ⟨.hbm, 3202, rfl⟩
abbrev main_call15_call0_v121 : Ref sig .tc := ⟨.hbm, 3203, rfl⟩
abbrev main_call15_call0_v122 : Ref sig .tc := ⟨.hbm, 3204, rfl⟩
abbrev main_call15_call0_c_31 : Ref sig .tc := ⟨.hbm, 3205, rfl⟩
abbrev main_call15_call0_v123 : Ref sig .tc := ⟨.hbm, 3206, rfl⟩
abbrev main_call15_call0_v124 : Ref sig .tc := ⟨.hbm, 3207, rfl⟩
abbrev main_call15_call0_c_32 : Ref sig .tc := ⟨.hbm, 3208, rfl⟩
abbrev main_call15_call0_v125 : Ref sig .tc := ⟨.hbm, 3209, rfl⟩
abbrev main_call15_call0_v126 : Ref sig .tc := ⟨.hbm, 3210, rfl⟩
abbrev main_call15_call0_v127 : Ref sig .tc := ⟨.hbm, 3211, rfl⟩
abbrev main_call15_call0_v128 : Ref sig .tc := ⟨.hbm, 3212, rfl⟩
abbrev main_call15_call0_v129 : Ref sig .tc := ⟨.hbm, 3213, rfl⟩
abbrev main_call15_call0_c_33 : Ref sig .tc := ⟨.hbm, 3214, rfl⟩
abbrev main_call15_call0_v130 : Ref sig .tc := ⟨.hbm, 3215, rfl⟩
abbrev main_call15_call0_v131 : Ref sig .tc := ⟨.hbm, 3216, rfl⟩
abbrev main_call15_call0_c_34 : Ref sig .tc := ⟨.hbm, 3217, rfl⟩
abbrev main_call15_call0_v132 : Ref sig .tc := ⟨.hbm, 3218, rfl⟩
abbrev main_call15_call0_v133 : Ref sig .tc := ⟨.hbm, 3219, rfl⟩
abbrev main_call15_call0_v134 : Ref sig .tc := ⟨.hbm, 3220, rfl⟩
abbrev main_call15_call0_v135 : Ref sig .tc := ⟨.hbm, 3221, rfl⟩
abbrev main_call15_call0_v136 : Ref sig .tc := ⟨.hbm, 3222, rfl⟩
abbrev main_call15_call0_v137 : Ref sig .tc := ⟨.hbm, 3223, rfl⟩
abbrev main_call15_call0_v138 : Ref sig .tc := ⟨.hbm, 3224, rfl⟩
abbrev main_call15_call0_v139 : Ref sig .tc := ⟨.hbm, 3225, rfl⟩
abbrev main_call15_call0_c_35 : Ref sig .tc := ⟨.hbm, 3226, rfl⟩
abbrev main_call15_call0_v140 : Ref sig .tc := ⟨.hbm, 3227, rfl⟩
abbrev main_call15_call0_v141 : Ref sig .tc := ⟨.hbm, 3228, rfl⟩
abbrev main_call15_call0_v142 : Ref sig .tc := ⟨.hbm, 3229, rfl⟩
abbrev main_call15_call0_c_36 : Ref sig .tc := ⟨.hbm, 3230, rfl⟩
abbrev main_call15_call0_v143 : Ref sig .tc := ⟨.hbm, 3231, rfl⟩
abbrev main_call15_call0_v144 : Ref sig .tc := ⟨.hbm, 3232, rfl⟩
abbrev main_call15_call0_c_37 : Ref sig .tc := ⟨.hbm, 3233, rfl⟩
abbrev main_call15_call0_v145 : Ref sig .tc := ⟨.hbm, 3234, rfl⟩
abbrev main_call15_call0_v146 : Ref sig .tc := ⟨.hbm, 3235, rfl⟩
abbrev main_call15_call0_v147 : Ref sig .tc := ⟨.hbm, 3236, rfl⟩
abbrev main_call15_call0_v148 : Ref sig .tc := ⟨.hbm, 3237, rfl⟩
abbrev main_call15_call0_v149 : Ref sig .tc := ⟨.hbm, 3238, rfl⟩
abbrev main_call15_call0_c_38 : Ref sig .tc := ⟨.hbm, 3239, rfl⟩
abbrev main_call15_call0_v150 : Ref sig .tc := ⟨.hbm, 3240, rfl⟩
abbrev main_call15_call0_v151 : Ref sig .tc := ⟨.hbm, 3241, rfl⟩
abbrev main_call15_call0_c_39 : Ref sig .tc := ⟨.hbm, 3242, rfl⟩
abbrev main_call15_call0_v152 : Ref sig .tc := ⟨.hbm, 3243, rfl⟩
abbrev main_call15_call0_v153 : Ref sig .tc := ⟨.hbm, 3244, rfl⟩
abbrev main_call15_call0_v154 : Ref sig .tc := ⟨.hbm, 3245, rfl⟩
abbrev main_call15_call0_v155 : Ref sig .tc := ⟨.hbm, 3246, rfl⟩
abbrev main_call15_call0_v156 : Ref sig .tc := ⟨.hbm, 3247, rfl⟩
abbrev main_call15_call0_c_40 : Ref sig .tc := ⟨.hbm, 3248, rfl⟩
abbrev main_call15_call0_v157 : Ref sig .tc := ⟨.hbm, 3249, rfl⟩
abbrev main_call15_call0_v158 : Ref sig .tc := ⟨.hbm, 3250, rfl⟩
abbrev main_call15_call0_c_41 : Ref sig .tc := ⟨.hbm, 3251, rfl⟩
abbrev main_call15_call0_v159 : Ref sig .tc := ⟨.hbm, 3252, rfl⟩
abbrev main_call15_call0_v160 : Ref sig .tc := ⟨.hbm, 3253, rfl⟩
abbrev main_call15_call0_v161 : Ref sig .tc := ⟨.hbm, 3254, rfl⟩
abbrev main_call15_call0_v162 : Ref sig .tc := ⟨.hbm, 3255, rfl⟩
abbrev main_call15_call0_v163 : Ref sig .tc := ⟨.hbm, 3256, rfl⟩
abbrev main_call15_call0_c_42 : Ref sig .tc := ⟨.hbm, 3257, rfl⟩
abbrev main_call15_call0_v164 : Ref sig .tc := ⟨.hbm, 3258, rfl⟩
abbrev main_call15_call0_v165 : Ref sig .tc := ⟨.hbm, 3259, rfl⟩
abbrev main_call15_call0_c_43 : Ref sig .tc := ⟨.hbm, 3260, rfl⟩
abbrev main_call15_call0_v166 : Ref sig .tc := ⟨.hbm, 3261, rfl⟩
abbrev main_call15_call0_v167 : Ref sig .tc := ⟨.hbm, 3262, rfl⟩
abbrev main_call15_call0_v168 : Ref sig .tc := ⟨.hbm, 3263, rfl⟩
abbrev main_call15_call0_v169 : Ref sig .tc := ⟨.hbm, 3264, rfl⟩
abbrev main_call15_call0_v170 : Ref sig .tc := ⟨.hbm, 3265, rfl⟩
abbrev main_call15_v11_0 : Ref sig .tc := ⟨.hbm, 3266, rfl⟩
abbrev main_call15_call0_v172 : Ref sig .tc := ⟨.hbm, 3267, rfl⟩
abbrev main_call15_call0_v173 : Ref sig .tc := ⟨.hbm, 3268, rfl⟩
abbrev main_call15_call0_c_44 : Ref sig .tc := ⟨.hbm, 3269, rfl⟩
abbrev main_call15_call0_v174 : Ref sig .tc := ⟨.hbm, 3270, rfl⟩
abbrev main_call15_v11_1 : Ref sig .tc := ⟨.hbm, 3271, rfl⟩
abbrev main_call15_v12 : Ref sig .tc := ⟨.hbm, 3272, rfl⟩
abbrev main_call15_v13 : Ref sig .tc := ⟨.hbm, 3273, rfl⟩
abbrev main_v333 : Ref sig .tc := ⟨.hbm, 3274, rfl⟩
abbrev main_v334 : Ref sig .tc := ⟨.hbm, 3275, rfl⟩
abbrev main_v335 : Ref sig .tc := ⟨.hbm, 3276, rfl⟩
abbrev main_v336 : Ref sig .tc := ⟨.hbm, 3277, rfl⟩
abbrev main_v337 : Ref sig .tc := ⟨.hbm, 3278, rfl⟩
abbrev main_c_162 : Ref sig .tc := ⟨.hbm, 3279, rfl⟩
abbrev main_v338 : Ref sig .tc := ⟨.hbm, 3280, rfl⟩
abbrev main_c_163 : Ref sig .tc := ⟨.hbm, 3281, rfl⟩
abbrev main_v339 : Ref sig .tc := ⟨.hbm, 3282, rfl⟩
abbrev main_v340 : Ref sig .tc := ⟨.hbm, 3283, rfl⟩
abbrev main_c_164 : Ref sig .tc := ⟨.hbm, 3284, rfl⟩
abbrev main_c_165 : Ref sig .tc := ⟨.hbm, 3285, rfl⟩
abbrev main_v341 : Ref sig .tc := ⟨.hbm, 3286, rfl⟩
abbrev main_c_166 : Ref sig .tc := ⟨.hbm, 3287, rfl⟩
abbrev main_c_167 : Ref sig .tc := ⟨.hbm, 3288, rfl⟩
abbrev main_v342 : Ref sig .tc := ⟨.hbm, 3289, rfl⟩
abbrev main_c_168 : Ref sig .tc := ⟨.hbm, 3290, rfl⟩
abbrev main_v343 : Ref sig .tc := ⟨.hbm, 3291, rfl⟩
abbrev main_c_169 : Ref sig .tc := ⟨.hbm, 3292, rfl⟩
abbrev main_c_170 : Ref sig .tc := ⟨.hbm, 3293, rfl⟩
abbrev main_v344 : Ref sig .tc := ⟨.hbm, 3294, rfl⟩
abbrev main_c_171 : Ref sig .tc := ⟨.hbm, 3295, rfl⟩
abbrev main_c_172 : Ref sig .tc := ⟨.hbm, 3296, rfl⟩
abbrev main_v345 : Ref sig .tc := ⟨.hbm, 3297, rfl⟩
abbrev main_c_173 : Ref sig .tc := ⟨.hbm, 3298, rfl⟩
abbrev main_v346 : Ref sig .tc := ⟨.hbm, 3299, rfl⟩
abbrev main_v347 : Ref sig .tc := ⟨.hbm, 3300, rfl⟩
abbrev main_v348 : Ref sig .tc := ⟨.hbm, 3301, rfl⟩
abbrev main_call16_cst : Ref sig .tc := ⟨.hbm, 3302, rfl⟩
abbrev main_call16_cst_0 : Ref sig .tc := ⟨.hbm, 3303, rfl⟩
abbrev main_call16_call0_v0 : Ref sig .tc := ⟨.hbm, 3304, rfl⟩
abbrev main_call16_call0_v1 : Ref sig .tc := ⟨.hbm, 3305, rfl⟩
abbrev main_call16_call0_v2 : Ref sig .tc := ⟨.hbm, 3306, rfl⟩
abbrev main_call16_call0_v3 : Ref sig .tc := ⟨.hbm, 3307, rfl⟩
abbrev main_call16_call0_v4 : Ref sig .tc := ⟨.hbm, 3308, rfl⟩
abbrev main_call16_call0_v5 : Ref sig .tc := ⟨.hbm, 3309, rfl⟩
abbrev main_call16_call0_v6 : Ref sig .tc := ⟨.hbm, 3310, rfl⟩
abbrev main_call16_call0_v7 : Ref sig .tc := ⟨.hbm, 3311, rfl⟩
abbrev main_call16_call0_v8 : Ref sig .tc := ⟨.hbm, 3312, rfl⟩
abbrev main_call16_call0_c : Ref sig .tc := ⟨.hbm, 3313, rfl⟩
abbrev main_call16_call0_v9 : Ref sig .tc := ⟨.hbm, 3314, rfl⟩
abbrev main_call16_call0_v10 : Ref sig .tc := ⟨.hbm, 3315, rfl⟩
abbrev main_call16_call0_c_0 : Ref sig .tc := ⟨.hbm, 3316, rfl⟩
abbrev main_call16_call0_v11 : Ref sig .tc := ⟨.hbm, 3317, rfl⟩
abbrev main_call16_call0_v12 : Ref sig .tc := ⟨.hbm, 3318, rfl⟩
abbrev main_call16_call0_v13 : Ref sig .tc := ⟨.hbm, 3319, rfl⟩
abbrev main_call16_call0_c_1 : Ref sig .tc := ⟨.hbm, 3320, rfl⟩
abbrev main_call16_call0_v14 : Ref sig .tc := ⟨.hbm, 3321, rfl⟩
abbrev main_call16_call0_v15 : Ref sig .tc := ⟨.hbm, 3322, rfl⟩
abbrev main_call16_call0_v16 : Ref sig .tc := ⟨.hbm, 3323, rfl⟩
abbrev main_call16_call0_v17 : Ref sig .tc := ⟨.hbm, 3324, rfl⟩
abbrev main_call16_call0_call0_v0 : Ref sig .tc := ⟨.hbm, 3325, rfl⟩
abbrev main_call16_call0_call0_c : Ref sig .tc := ⟨.hbm, 3326, rfl⟩
abbrev main_call16_call0_call0_v1 : Ref sig .tc := ⟨.hbm, 3327, rfl⟩
abbrev main_call16_call0_call0_v2 : Ref sig .tc := ⟨.hbm, 3328, rfl⟩
abbrev main_call16_call0_call0_v3 : Ref sig .tc := ⟨.hbm, 3329, rfl⟩
abbrev main_call16_call0_call0_v4 : Ref sig .tc := ⟨.hbm, 3330, rfl⟩
abbrev main_call16_call0_call0_v5 : Ref sig .tc := ⟨.hbm, 3331, rfl⟩
abbrev main_call16_call0_call0_v6 : Ref sig .tc := ⟨.hbm, 3332, rfl⟩
abbrev main_call16_call0_call0_c_0 : Ref sig .tc := ⟨.hbm, 3333, rfl⟩
abbrev main_call16_call0_call0_v7 : Ref sig .tc := ⟨.hbm, 3334, rfl⟩
abbrev main_call16_call0_call0_v8 : Ref sig .tc := ⟨.hbm, 3335, rfl⟩
abbrev main_call16_call0_call0_c_1 : Ref sig .tc := ⟨.hbm, 3336, rfl⟩
abbrev main_call16_call0_call0_v9 : Ref sig .tc := ⟨.hbm, 3337, rfl⟩
abbrev main_call16_call0_call0_v10 : Ref sig .tc := ⟨.hbm, 3338, rfl⟩
abbrev main_call16_call0_call0_v11 : Ref sig .tc := ⟨.hbm, 3339, rfl⟩
abbrev main_call16_call0_call0_v12 : Ref sig .tc := ⟨.hbm, 3340, rfl⟩
abbrev main_call16_call0_call0_v13 : Ref sig .tc := ⟨.hbm, 3341, rfl⟩
abbrev main_call16_call0_call0_c_2 : Ref sig .tc := ⟨.hbm, 3342, rfl⟩
abbrev main_call16_call0_call0_v14 : Ref sig .tc := ⟨.hbm, 3343, rfl⟩
abbrev main_call16_call0_call0_v15 : Ref sig .tc := ⟨.hbm, 3344, rfl⟩
abbrev main_call16_call0_call0_c_3 : Ref sig .tc := ⟨.hbm, 3345, rfl⟩
abbrev main_call16_call0_call0_v16 : Ref sig .tc := ⟨.hbm, 3346, rfl⟩
abbrev main_call16_call0_call0_v17 : Ref sig .tc := ⟨.hbm, 3347, rfl⟩
abbrev main_call16_call0_call0_v18 : Ref sig .tc := ⟨.hbm, 3348, rfl⟩
abbrev main_call16_call0_call0_v19 : Ref sig .tc := ⟨.hbm, 3349, rfl⟩
abbrev main_call16_call0_call0_v20 : Ref sig .tc := ⟨.hbm, 3350, rfl⟩
abbrev main_call16_call0_call0_c_4 : Ref sig .tc := ⟨.hbm, 3351, rfl⟩
abbrev main_call16_call0_call0_v21 : Ref sig .tc := ⟨.hbm, 3352, rfl⟩
abbrev main_call16_call0_call0_v22 : Ref sig .tc := ⟨.hbm, 3353, rfl⟩
abbrev main_call16_call0_call0_c_5 : Ref sig .tc := ⟨.hbm, 3354, rfl⟩
abbrev main_call16_call0_call0_v23 : Ref sig .tc := ⟨.hbm, 3355, rfl⟩
abbrev main_call16_call0_call0_v24 : Ref sig .tc := ⟨.hbm, 3356, rfl⟩
abbrev main_call16_call0_call0_v25 : Ref sig .tc := ⟨.hbm, 3357, rfl⟩
abbrev main_call16_call0_call0_v26 : Ref sig .tc := ⟨.hbm, 3358, rfl⟩
abbrev main_call16_call0_call0_v27 : Ref sig .tc := ⟨.hbm, 3359, rfl⟩
abbrev main_call16_call0_call0_c_6 : Ref sig .tc := ⟨.hbm, 3360, rfl⟩
abbrev main_call16_call0_call0_v28 : Ref sig .tc := ⟨.hbm, 3361, rfl⟩
abbrev main_call16_call0_call0_v29 : Ref sig .tc := ⟨.hbm, 3362, rfl⟩
abbrev main_call16_call0_call0_c_7 : Ref sig .tc := ⟨.hbm, 3363, rfl⟩
abbrev main_call16_call0_call0_v30 : Ref sig .tc := ⟨.hbm, 3364, rfl⟩
abbrev main_call16_call0_call0_v31 : Ref sig .tc := ⟨.hbm, 3365, rfl⟩
abbrev main_call16_call0_call0_v32 : Ref sig .tc := ⟨.hbm, 3366, rfl⟩
abbrev main_call16_call0_call0_v33 : Ref sig .tc := ⟨.hbm, 3367, rfl⟩
abbrev main_call16_call0_call0_v34 : Ref sig .tc := ⟨.hbm, 3368, rfl⟩
abbrev main_call16_call0_call0_v35 : Ref sig .tc := ⟨.hbm, 3369, rfl⟩
abbrev main_call16_call0_call0_v36 : Ref sig .tc := ⟨.hbm, 3370, rfl⟩
abbrev main_call16_call0_call0_v37 : Ref sig .tc := ⟨.hbm, 3371, rfl⟩
abbrev main_call16_call0_call0_c_8 : Ref sig .tc := ⟨.hbm, 3372, rfl⟩
abbrev main_call16_call0_call0_v38 : Ref sig .tc := ⟨.hbm, 3373, rfl⟩
abbrev main_call16_call0_call0_v39 : Ref sig .tc := ⟨.hbm, 3374, rfl⟩
abbrev main_call16_call0_call0_v40 : Ref sig .tc := ⟨.hbm, 3375, rfl⟩
abbrev main_call16_call0_call0_c_9 : Ref sig .tc := ⟨.hbm, 3376, rfl⟩
abbrev main_call16_call0_call0_v41 : Ref sig .tc := ⟨.hbm, 3377, rfl⟩
abbrev main_call16_call0_call0_v42 : Ref sig .tc := ⟨.hbm, 3378, rfl⟩
abbrev main_call16_call0_call0_c_10 : Ref sig .tc := ⟨.hbm, 3379, rfl⟩
abbrev main_call16_call0_call0_v43 : Ref sig .tc := ⟨.hbm, 3380, rfl⟩
abbrev main_call16_call0_call0_v44 : Ref sig .tc := ⟨.hbm, 3381, rfl⟩
abbrev main_call16_call0_call0_v45 : Ref sig .tc := ⟨.hbm, 3382, rfl⟩
abbrev main_call16_call0_call0_v46 : Ref sig .tc := ⟨.hbm, 3383, rfl⟩
abbrev main_call16_call0_call0_v47 : Ref sig .tc := ⟨.hbm, 3384, rfl⟩
abbrev main_call16_call0_call0_c_11 : Ref sig .tc := ⟨.hbm, 3385, rfl⟩
abbrev main_call16_call0_call0_v48 : Ref sig .tc := ⟨.hbm, 3386, rfl⟩
abbrev main_call16_call0_call0_v49 : Ref sig .tc := ⟨.hbm, 3387, rfl⟩
abbrev main_call16_call0_call0_c_12 : Ref sig .tc := ⟨.hbm, 3388, rfl⟩
abbrev main_call16_call0_call0_v50 : Ref sig .tc := ⟨.hbm, 3389, rfl⟩
abbrev main_call16_call0_call0_v51 : Ref sig .tc := ⟨.hbm, 3390, rfl⟩
abbrev main_call16_call0_call0_v52 : Ref sig .tc := ⟨.hbm, 3391, rfl⟩
abbrev main_call16_call0_call0_v53 : Ref sig .tc := ⟨.hbm, 3392, rfl⟩
abbrev main_call16_call0_call0_v54 : Ref sig .tc := ⟨.hbm, 3393, rfl⟩
abbrev main_call16_call0_call0_c_13 : Ref sig .tc := ⟨.hbm, 3394, rfl⟩
abbrev main_call16_call0_call0_v55 : Ref sig .tc := ⟨.hbm, 3395, rfl⟩
abbrev main_call16_call0_call0_v56 : Ref sig .tc := ⟨.hbm, 3396, rfl⟩
abbrev main_call16_call0_call0_c_14 : Ref sig .tc := ⟨.hbm, 3397, rfl⟩
abbrev main_call16_call0_call0_v57 : Ref sig .tc := ⟨.hbm, 3398, rfl⟩
abbrev main_call16_call0_call0_v58 : Ref sig .tc := ⟨.hbm, 3399, rfl⟩
abbrev main_call16_call0_call0_v59 : Ref sig .tc := ⟨.hbm, 3400, rfl⟩
abbrev main_call16_call0_call0_v60 : Ref sig .tc := ⟨.hbm, 3401, rfl⟩
abbrev main_call16_call0_call0_v61 : Ref sig .tc := ⟨.hbm, 3402, rfl⟩
abbrev main_call16_call0_call0_c_15 : Ref sig .tc := ⟨.hbm, 3403, rfl⟩
abbrev main_call16_call0_call0_v62 : Ref sig .tc := ⟨.hbm, 3404, rfl⟩
abbrev main_call16_call0_call0_v63 : Ref sig .tc := ⟨.hbm, 3405, rfl⟩
abbrev main_call16_call0_call0_c_16 : Ref sig .tc := ⟨.hbm, 3406, rfl⟩
abbrev main_call16_call0_call0_v64 : Ref sig .tc := ⟨.hbm, 3407, rfl⟩
abbrev main_call16_call0_call0_v65 : Ref sig .tc := ⟨.hbm, 3408, rfl⟩
abbrev main_call16_call0_call0_v66 : Ref sig .tc := ⟨.hbm, 3409, rfl⟩
abbrev main_call16_call0_call0_v67 : Ref sig .tc := ⟨.hbm, 3410, rfl⟩
abbrev main_call16_call0_call0_v68 : Ref sig .tc := ⟨.hbm, 3411, rfl⟩
abbrev main_call16_call0_call0_v69 : Ref sig .tc := ⟨.hbm, 3412, rfl⟩
abbrev main_call16_call0_call0_v70 : Ref sig .tc := ⟨.hbm, 3413, rfl⟩
abbrev main_call16_call0_call0_v71 : Ref sig .tc := ⟨.hbm, 3414, rfl⟩
abbrev main_call16_call0_call0_c_17 : Ref sig .tc := ⟨.hbm, 3415, rfl⟩
abbrev main_call16_call0_call0_v72 : Ref sig .tc := ⟨.hbm, 3416, rfl⟩
abbrev main_call16_call0_call0_v73 : Ref sig .tc := ⟨.hbm, 3417, rfl⟩
abbrev main_call16_call0_call0_v74 : Ref sig .tc := ⟨.hbm, 3418, rfl⟩
abbrev main_call16_call0_call0_c_18 : Ref sig .tc := ⟨.hbm, 3419, rfl⟩
abbrev main_call16_call0_call0_v75 : Ref sig .tc := ⟨.hbm, 3420, rfl⟩
abbrev main_call16_call0_call0_v76 : Ref sig .tc := ⟨.hbm, 3421, rfl⟩
abbrev main_call16_call0_call0_c_19 : Ref sig .tc := ⟨.hbm, 3422, rfl⟩
abbrev main_call16_call0_call0_v77 : Ref sig .tc := ⟨.hbm, 3423, rfl⟩
abbrev main_call16_call0_call0_v78 : Ref sig .tc := ⟨.hbm, 3424, rfl⟩
abbrev main_call16_call0_call0_v79 : Ref sig .tc := ⟨.hbm, 3425, rfl⟩
abbrev main_call16_call0_call0_v80 : Ref sig .tc := ⟨.hbm, 3426, rfl⟩
abbrev main_call16_call0_call0_v81 : Ref sig .tc := ⟨.hbm, 3427, rfl⟩
abbrev main_call16_call0_call0_c_20 : Ref sig .tc := ⟨.hbm, 3428, rfl⟩
abbrev main_call16_call0_call0_v82 : Ref sig .tc := ⟨.hbm, 3429, rfl⟩
abbrev main_call16_call0_call0_v83 : Ref sig .tc := ⟨.hbm, 3430, rfl⟩
abbrev main_call16_call0_call0_c_21 : Ref sig .tc := ⟨.hbm, 3431, rfl⟩
abbrev main_call16_call0_call0_v84 : Ref sig .tc := ⟨.hbm, 3432, rfl⟩
abbrev main_call16_call0_call0_v85 : Ref sig .tc := ⟨.hbm, 3433, rfl⟩
abbrev main_call16_call0_call0_v86 : Ref sig .tc := ⟨.hbm, 3434, rfl⟩
abbrev main_call16_call0_call0_v87 : Ref sig .tc := ⟨.hbm, 3435, rfl⟩
abbrev main_call16_call0_call0_v88 : Ref sig .tc := ⟨.hbm, 3436, rfl⟩
abbrev main_call16_call0_call0_c_22 : Ref sig .tc := ⟨.hbm, 3437, rfl⟩
abbrev main_call16_call0_call0_v89 : Ref sig .tc := ⟨.hbm, 3438, rfl⟩
abbrev main_call16_call0_call0_v90 : Ref sig .tc := ⟨.hbm, 3439, rfl⟩
abbrev main_call16_call0_call0_c_23 : Ref sig .tc := ⟨.hbm, 3440, rfl⟩
abbrev main_call16_call0_call0_v91 : Ref sig .tc := ⟨.hbm, 3441, rfl⟩
abbrev main_call16_call0_call0_v92 : Ref sig .tc := ⟨.hbm, 3442, rfl⟩
abbrev main_call16_call0_call0_v93 : Ref sig .tc := ⟨.hbm, 3443, rfl⟩
abbrev main_call16_call0_call0_v94 : Ref sig .tc := ⟨.hbm, 3444, rfl⟩
abbrev main_call16_call0_call0_v95 : Ref sig .tc := ⟨.hbm, 3445, rfl⟩
abbrev main_call16_call0_call0_c_24 : Ref sig .tc := ⟨.hbm, 3446, rfl⟩
abbrev main_call16_call0_call0_v96 : Ref sig .tc := ⟨.hbm, 3447, rfl⟩
abbrev main_call16_call0_call0_v97 : Ref sig .tc := ⟨.hbm, 3448, rfl⟩
abbrev main_call16_call0_call0_c_25 : Ref sig .tc := ⟨.hbm, 3449, rfl⟩
abbrev main_call16_call0_call0_v98 : Ref sig .tc := ⟨.hbm, 3450, rfl⟩
abbrev main_call16_call0_call0_v99 : Ref sig .tc := ⟨.hbm, 3451, rfl⟩
abbrev main_call16_call0_call0_v100 : Ref sig .tc := ⟨.hbm, 3452, rfl⟩
abbrev main_call16_call0_call0_v101 : Ref sig .tc := ⟨.hbm, 3453, rfl⟩
abbrev main_call16_call0_call0_v102 : Ref sig .tc := ⟨.hbm, 3454, rfl⟩
abbrev main_call16_call0_call0_v103 : Ref sig .tc := ⟨.hbm, 3455, rfl⟩
abbrev main_call16_call0_call0_v104 : Ref sig .tc := ⟨.hbm, 3456, rfl⟩
abbrev main_call16_call0_call0_v105 : Ref sig .tc := ⟨.hbm, 3457, rfl⟩
abbrev main_call16_call0_call0_c_26 : Ref sig .tc := ⟨.hbm, 3458, rfl⟩
abbrev main_call16_call0_call0_v106 : Ref sig .tc := ⟨.hbm, 3459, rfl⟩
abbrev main_call16_call0_call0_v107 : Ref sig .tc := ⟨.hbm, 3460, rfl⟩
abbrev main_call16_call0_call0_v108 : Ref sig .tc := ⟨.hbm, 3461, rfl⟩
abbrev main_call16_call0_call0_c_27 : Ref sig .tc := ⟨.hbm, 3462, rfl⟩
abbrev main_call16_call0_call0_v109 : Ref sig .tc := ⟨.hbm, 3463, rfl⟩
abbrev main_call16_call0_call0_v110 : Ref sig .tc := ⟨.hbm, 3464, rfl⟩
abbrev main_call16_call0_call0_c_28 : Ref sig .tc := ⟨.hbm, 3465, rfl⟩
abbrev main_call16_call0_call0_v111 : Ref sig .tc := ⟨.hbm, 3466, rfl⟩
abbrev main_call16_call0_call0_v112 : Ref sig .tc := ⟨.hbm, 3467, rfl⟩
abbrev main_call16_call0_call0_v113 : Ref sig .tc := ⟨.hbm, 3468, rfl⟩
abbrev main_call16_call0_call0_v114 : Ref sig .tc := ⟨.hbm, 3469, rfl⟩
abbrev main_call16_call0_call0_v115 : Ref sig .tc := ⟨.hbm, 3470, rfl⟩
abbrev main_call16_call0_call0_c_29 : Ref sig .tc := ⟨.hbm, 3471, rfl⟩
abbrev main_call16_call0_call0_v116 : Ref sig .tc := ⟨.hbm, 3472, rfl⟩
abbrev main_call16_call0_call0_v117 : Ref sig .tc := ⟨.hbm, 3473, rfl⟩
abbrev main_call16_call0_call0_c_30 : Ref sig .tc := ⟨.hbm, 3474, rfl⟩
abbrev main_call16_call0_call0_v118 : Ref sig .tc := ⟨.hbm, 3475, rfl⟩
abbrev main_call16_call0_call0_v119 : Ref sig .tc := ⟨.hbm, 3476, rfl⟩
abbrev main_call16_call0_call0_v120 : Ref sig .tc := ⟨.hbm, 3477, rfl⟩
abbrev main_call16_call0_call0_v121 : Ref sig .tc := ⟨.hbm, 3478, rfl⟩
abbrev main_call16_call0_call0_v122 : Ref sig .tc := ⟨.hbm, 3479, rfl⟩
abbrev main_call16_call0_call0_c_31 : Ref sig .tc := ⟨.hbm, 3480, rfl⟩
abbrev main_call16_call0_call0_v123 : Ref sig .tc := ⟨.hbm, 3481, rfl⟩
abbrev main_call16_call0_call0_v124 : Ref sig .tc := ⟨.hbm, 3482, rfl⟩
abbrev main_call16_call0_call0_c_32 : Ref sig .tc := ⟨.hbm, 3483, rfl⟩
abbrev main_call16_call0_call0_v125 : Ref sig .tc := ⟨.hbm, 3484, rfl⟩
abbrev main_call16_call0_call0_v126 : Ref sig .tc := ⟨.hbm, 3485, rfl⟩
abbrev main_call16_call0_call0_v127 : Ref sig .tc := ⟨.hbm, 3486, rfl⟩
abbrev main_call16_call0_call0_v128 : Ref sig .tc := ⟨.hbm, 3487, rfl⟩
abbrev main_call16_call0_call0_v129 : Ref sig .tc := ⟨.hbm, 3488, rfl⟩
abbrev main_call16_call0_call0_c_33 : Ref sig .tc := ⟨.hbm, 3489, rfl⟩
abbrev main_call16_call0_call0_v130 : Ref sig .tc := ⟨.hbm, 3490, rfl⟩
abbrev main_call16_call0_call0_v131 : Ref sig .tc := ⟨.hbm, 3491, rfl⟩
abbrev main_call16_call0_call0_c_34 : Ref sig .tc := ⟨.hbm, 3492, rfl⟩
abbrev main_call16_call0_call0_v132 : Ref sig .tc := ⟨.hbm, 3493, rfl⟩
abbrev main_call16_call0_call0_v133 : Ref sig .tc := ⟨.hbm, 3494, rfl⟩
abbrev main_call16_call0_call0_v134 : Ref sig .tc := ⟨.hbm, 3495, rfl⟩
abbrev main_call16_call0_call0_v135 : Ref sig .tc := ⟨.hbm, 3496, rfl⟩
abbrev main_call16_call0_call0_v136 : Ref sig .tc := ⟨.hbm, 3497, rfl⟩
abbrev main_call16_call0_call0_v137 : Ref sig .tc := ⟨.hbm, 3498, rfl⟩
abbrev main_call16_call0_call0_v138 : Ref sig .tc := ⟨.hbm, 3499, rfl⟩
abbrev main_call16_call0_call0_v139 : Ref sig .tc := ⟨.hbm, 3500, rfl⟩
abbrev main_call16_call0_call0_c_35 : Ref sig .tc := ⟨.hbm, 3501, rfl⟩
abbrev main_call16_call0_call0_v140 : Ref sig .tc := ⟨.hbm, 3502, rfl⟩
abbrev main_call16_call0_call0_v141 : Ref sig .tc := ⟨.hbm, 3503, rfl⟩
abbrev main_call16_call0_call0_v142 : Ref sig .tc := ⟨.hbm, 3504, rfl⟩
abbrev main_call16_call0_call0_c_36 : Ref sig .tc := ⟨.hbm, 3505, rfl⟩
abbrev main_call16_call0_call0_v143 : Ref sig .tc := ⟨.hbm, 3506, rfl⟩
abbrev main_call16_call0_call0_v144 : Ref sig .tc := ⟨.hbm, 3507, rfl⟩
abbrev main_call16_call0_call0_c_37 : Ref sig .tc := ⟨.hbm, 3508, rfl⟩
abbrev main_call16_call0_call0_v145 : Ref sig .tc := ⟨.hbm, 3509, rfl⟩
abbrev main_call16_call0_call0_v146 : Ref sig .tc := ⟨.hbm, 3510, rfl⟩
abbrev main_call16_call0_call0_v147 : Ref sig .tc := ⟨.hbm, 3511, rfl⟩
abbrev main_call16_call0_call0_v148 : Ref sig .tc := ⟨.hbm, 3512, rfl⟩
abbrev main_call16_call0_call0_v149 : Ref sig .tc := ⟨.hbm, 3513, rfl⟩
abbrev main_call16_call0_call0_c_38 : Ref sig .tc := ⟨.hbm, 3514, rfl⟩
abbrev main_call16_call0_call0_v150 : Ref sig .tc := ⟨.hbm, 3515, rfl⟩
abbrev main_call16_call0_call0_v151 : Ref sig .tc := ⟨.hbm, 3516, rfl⟩
abbrev main_call16_call0_call0_c_39 : Ref sig .tc := ⟨.hbm, 3517, rfl⟩
abbrev main_call16_call0_call0_v152 : Ref sig .tc := ⟨.hbm, 3518, rfl⟩
abbrev main_call16_call0_call0_v153 : Ref sig .tc := ⟨.hbm, 3519, rfl⟩
abbrev main_call16_call0_call0_v154 : Ref sig .tc := ⟨.hbm, 3520, rfl⟩
abbrev main_call16_call0_call0_v155 : Ref sig .tc := ⟨.hbm, 3521, rfl⟩
abbrev main_call16_call0_call0_v156 : Ref sig .tc := ⟨.hbm, 3522, rfl⟩
abbrev main_call16_call0_call0_c_40 : Ref sig .tc := ⟨.hbm, 3523, rfl⟩
abbrev main_call16_call0_call0_v157 : Ref sig .tc := ⟨.hbm, 3524, rfl⟩
abbrev main_call16_call0_call0_v158 : Ref sig .tc := ⟨.hbm, 3525, rfl⟩
abbrev main_call16_call0_call0_c_41 : Ref sig .tc := ⟨.hbm, 3526, rfl⟩
abbrev main_call16_call0_call0_v159 : Ref sig .tc := ⟨.hbm, 3527, rfl⟩
abbrev main_call16_call0_call0_v160 : Ref sig .tc := ⟨.hbm, 3528, rfl⟩
abbrev main_call16_call0_call0_v161 : Ref sig .tc := ⟨.hbm, 3529, rfl⟩
abbrev main_call16_call0_call0_v162 : Ref sig .tc := ⟨.hbm, 3530, rfl⟩
abbrev main_call16_call0_call0_v163 : Ref sig .tc := ⟨.hbm, 3531, rfl⟩
abbrev main_call16_call0_call0_c_42 : Ref sig .tc := ⟨.hbm, 3532, rfl⟩
abbrev main_call16_call0_call0_v164 : Ref sig .tc := ⟨.hbm, 3533, rfl⟩
abbrev main_call16_call0_call0_v165 : Ref sig .tc := ⟨.hbm, 3534, rfl⟩
abbrev main_call16_call0_call0_c_43 : Ref sig .tc := ⟨.hbm, 3535, rfl⟩
abbrev main_call16_call0_call0_v166 : Ref sig .tc := ⟨.hbm, 3536, rfl⟩
abbrev main_call16_call0_call0_v167 : Ref sig .tc := ⟨.hbm, 3537, rfl⟩
abbrev main_call16_call0_call0_v168 : Ref sig .tc := ⟨.hbm, 3538, rfl⟩
abbrev main_call16_call0_call0_v169 : Ref sig .tc := ⟨.hbm, 3539, rfl⟩
abbrev main_call16_call0_call0_v170 : Ref sig .tc := ⟨.hbm, 3540, rfl⟩
abbrev main_call16_call0_v18_0 : Ref sig .tc := ⟨.hbm, 3541, rfl⟩
abbrev main_call16_call0_call0_v172 : Ref sig .tc := ⟨.hbm, 3542, rfl⟩
abbrev main_call16_call0_call0_v173 : Ref sig .tc := ⟨.hbm, 3543, rfl⟩
abbrev main_call16_call0_call0_c_44 : Ref sig .tc := ⟨.hbm, 3544, rfl⟩
abbrev main_call16_call0_call0_v174 : Ref sig .tc := ⟨.hbm, 3545, rfl⟩
abbrev main_call16_call0_v18_1 : Ref sig .tc := ⟨.hbm, 3546, rfl⟩
abbrev main_call16_call0_v19 : Ref sig .tc := ⟨.hbm, 3547, rfl⟩
abbrev main_call16_call0_c_2 : Ref sig .tc := ⟨.hbm, 3548, rfl⟩
abbrev main_call16_call0_v20 : Ref sig .tc := ⟨.hbm, 3549, rfl⟩
abbrev main_call16_call0_v21 : Ref sig .tc := ⟨.hbm, 3550, rfl⟩
abbrev main_call16_call0_c_3 : Ref sig .tc := ⟨.hbm, 3551, rfl⟩
abbrev main_call16_call0_v22 : Ref sig .tc := ⟨.hbm, 3552, rfl⟩
abbrev main_call16_call0_v23 : Ref sig .tc := ⟨.hbm, 3553, rfl⟩
abbrev main_call16_call0_v24 : Ref sig .tc := ⟨.hbm, 3554, rfl⟩
abbrev main_call16_call0_cst : Ref sig .tc := ⟨.hbm, 3555, rfl⟩
abbrev main_call16_call0_v25 : Ref sig .tc := ⟨.hbm, 3556, rfl⟩
abbrev main_call16_call0_v26 : Ref sig .tc := ⟨.hbm, 3557, rfl⟩
abbrev main_call16_call0_v27 : Ref sig .tc := ⟨.hbm, 3558, rfl⟩
abbrev main_call16_call0_v28 : Ref sig .tc := ⟨.hbm, 3559, rfl⟩
abbrev main_call16_call0_v29 : Ref sig .tc := ⟨.hbm, 3560, rfl⟩
abbrev main_call16_call0_v30 : Ref sig .tc := ⟨.hbm, 3561, rfl⟩
abbrev main_call16_call0_v31 : Ref sig .tc := ⟨.hbm, 3562, rfl⟩
abbrev main_call16_call0_v32 : Ref sig .tc := ⟨.hbm, 3563, rfl⟩
abbrev main_call16_v0 : Ref sig .tc := ⟨.hbm, 3564, rfl⟩
abbrev main_call16_v1 : Ref sig .tc := ⟨.hbm, 3565, rfl⟩
abbrev main_call16_v2 : Ref sig .tc := ⟨.hbm, 3566, rfl⟩
abbrev main_call16_v3 : Ref sig .tc := ⟨.hbm, 3567, rfl⟩
abbrev main_v349 : Ref sig .tc := ⟨.hbm, 3568, rfl⟩
abbrev main_v350 : Ref sig .tc := ⟨.hbm, 3569, rfl⟩
abbrev main_call17_v0 : Ref sig .tc := ⟨.hbm, 3570, rfl⟩
abbrev main_call17_cst : Ref sig .tc := ⟨.hbm, 3571, rfl⟩
abbrev main_call17_c : Ref sig .tc := ⟨.hbm, 3572, rfl⟩
abbrev main_call17_v1_0 : Ref sig .tc := ⟨.hbm, 3573, rfl⟩
abbrev main_v351 : Ref sig .tc := ⟨.hbm, 3574, rfl⟩
abbrev main_v352 : Ref sig .tc := ⟨.hbm, 3575, rfl⟩
abbrev main_v353 : Ref sig .tc := ⟨.hbm, 3576, rfl⟩
abbrev main_v354 : Ref sig .tc := ⟨.hbm, 3577, rfl⟩
abbrev main_v355 : Ref sig .tc := ⟨.hbm, 3578, rfl⟩
abbrev main_c_174 : Ref sig .tc := ⟨.hbm, 3579, rfl⟩
abbrev main_v356 : Ref sig .tc := ⟨.hbm, 3580, rfl⟩
abbrev main_v357 : Ref sig .tc := ⟨.hbm, 3581, rfl⟩
abbrev main_c_175 : Ref sig .tc := ⟨.hbm, 3582, rfl⟩
abbrev main_v358 : Ref sig .tc := ⟨.hbm, 3583, rfl⟩
abbrev main_v359 : Ref sig .tc := ⟨.hbm, 3584, rfl⟩
abbrev main_v360 : Ref sig .tc := ⟨.hbm, 3585, rfl⟩
abbrev main_v361 : Ref sig .tc := ⟨.hbm, 3586, rfl⟩
abbrev main_v362 : Ref sig .tc := ⟨.hbm, 3587, rfl⟩
abbrev main_v363 : Ref sig .tc := ⟨.hbm, 3588, rfl⟩
abbrev main_c_176 : Ref sig .tc := ⟨.hbm, 3589, rfl⟩
abbrev main_v364 : Ref sig .tc := ⟨.hbm, 3590, rfl⟩
abbrev main_c_177 : Ref sig .tc := ⟨.hbm, 3591, rfl⟩
abbrev main_v365 : Ref sig .tc := ⟨.hbm, 3592, rfl⟩
abbrev main_v366 : Ref sig .tc := ⟨.hbm, 3593, rfl⟩
abbrev main_c_178 : Ref sig .tc := ⟨.hbm, 3594, rfl⟩
abbrev main_v367 : Ref sig .tc := ⟨.hbm, 3595, rfl⟩
abbrev main_v368 : Ref sig .tc := ⟨.hbm, 3596, rfl⟩
abbrev main_c_179 : Ref sig .tc := ⟨.hbm, 3597, rfl⟩
abbrev main_v369 : Ref sig .tc := ⟨.hbm, 3598, rfl⟩
abbrev main_v370 : Ref sig .tc := ⟨.hbm, 3599, rfl⟩
abbrev main_v371 : Ref sig .tc := ⟨.hbm, 3600, rfl⟩
abbrev main_c_180 : Ref sig .tc := ⟨.hbm, 3601, rfl⟩
abbrev main_v372 : Ref sig .tc := ⟨.hbm, 3602, rfl⟩
abbrev main_v373 : Ref sig .tc := ⟨.hbm, 3603, rfl⟩
abbrev main_c_181 : Ref sig .tc := ⟨.hbm, 3604, rfl⟩
abbrev main_v374 : Ref sig .tc := ⟨.hbm, 3605, rfl⟩
abbrev main_v375 : Ref sig .tc := ⟨.hbm, 3606, rfl⟩
abbrev main_v376 : Ref sig .tc := ⟨.hbm, 3607, rfl⟩
abbrev main_v377 : Ref sig .tc := ⟨.hbm, 3608, rfl⟩
abbrev main_v378 : Ref sig .tc := ⟨.hbm, 3609, rfl⟩
abbrev main_v379 : Ref sig .tc := ⟨.hbm, 3610, rfl⟩
abbrev main_v380 : Ref sig .tc := ⟨.hbm, 3611, rfl⟩
abbrev main_v381 : Ref sig .tc := ⟨.hbm, 3612, rfl⟩
abbrev main_v382 : Ref sig .tc := ⟨.hbm, 3613, rfl⟩
abbrev main_c_182 : Ref sig .tc := ⟨.hbm, 3614, rfl⟩
abbrev main_v383 : Ref sig .tc := ⟨.hbm, 3615, rfl⟩
abbrev main_c_183 : Ref sig .tc := ⟨.hbm, 3616, rfl⟩
abbrev main_v384 : Ref sig .tc := ⟨.hbm, 3617, rfl⟩
abbrev main_v385 : Ref sig .tc := ⟨.hbm, 3618, rfl⟩
abbrev main_c_184 : Ref sig .tc := ⟨.hbm, 3619, rfl⟩
abbrev main_c_185 : Ref sig .tc := ⟨.hbm, 3620, rfl⟩
abbrev main_v386 : Ref sig .tc := ⟨.hbm, 3621, rfl⟩
abbrev main_c_186 : Ref sig .tc := ⟨.hbm, 3622, rfl⟩
abbrev main_c_187 : Ref sig .tc := ⟨.hbm, 3623, rfl⟩
abbrev main_v387 : Ref sig .tc := ⟨.hbm, 3624, rfl⟩
abbrev main_c_188 : Ref sig .tc := ⟨.hbm, 3625, rfl⟩
abbrev main_v388 : Ref sig .tc := ⟨.hbm, 3626, rfl⟩
abbrev main_c_189 : Ref sig .tc := ⟨.hbm, 3627, rfl⟩
abbrev main_c_190 : Ref sig .tc := ⟨.hbm, 3628, rfl⟩
abbrev main_v389 : Ref sig .tc := ⟨.hbm, 3629, rfl⟩
abbrev main_c_191 : Ref sig .tc := ⟨.hbm, 3630, rfl⟩
abbrev main_c_192 : Ref sig .tc := ⟨.hbm, 3631, rfl⟩
abbrev main_v390 : Ref sig .tc := ⟨.hbm, 3632, rfl⟩
abbrev main_c_193 : Ref sig .tc := ⟨.hbm, 3633, rfl⟩
abbrev main_v391 : Ref sig .tc := ⟨.hbm, 3634, rfl⟩
abbrev main_v392 : Ref sig .tc := ⟨.hbm, 3635, rfl⟩
abbrev main_v393 : Ref sig .tc := ⟨.hbm, 3636, rfl⟩
abbrev main_v394 : Ref sig .tc := ⟨.hbm, 3637, rfl⟩
abbrev main_v395 : Ref sig .tc := ⟨.hbm, 3638, rfl⟩
abbrev main_v396 : Ref sig .tc := ⟨.hbm, 3639, rfl⟩
abbrev main_call18_v0 : Ref sig .tc := ⟨.hbm, 3640, rfl⟩
abbrev main_call18_v1 : Ref sig .tc := ⟨.hbm, 3641, rfl⟩
abbrev main_call18_v2 : Ref sig .tc := ⟨.hbm, 3642, rfl⟩
abbrev main_call18_v3 : Ref sig .tc := ⟨.hbm, 3643, rfl⟩
abbrev main_call18_v4 : Ref sig .tc := ⟨.hbm, 3644, rfl⟩
abbrev main_call18_c : Ref sig .tc := ⟨.hbm, 3645, rfl⟩
abbrev main_call18_v5 : Ref sig .tc := ⟨.hbm, 3646, rfl⟩
abbrev main_call18_v6 : Ref sig .tc := ⟨.hbm, 3647, rfl⟩
abbrev main_call18_c_0 : Ref sig .tc := ⟨.hbm, 3648, rfl⟩
abbrev main_call18_v7 : Ref sig .tc := ⟨.hbm, 3649, rfl⟩
abbrev main_call18_v8 : Ref sig .tc := ⟨.hbm, 3650, rfl⟩
abbrev main_call18_v9 : Ref sig .tc := ⟨.hbm, 3651, rfl⟩
abbrev main_call18_v10 : Ref sig .tc := ⟨.hbm, 3652, rfl⟩
abbrev main_call18_call0_v0 : Ref sig .tc := ⟨.hbm, 3653, rfl⟩
abbrev main_call18_call0_c : Ref sig .tc := ⟨.hbm, 3654, rfl⟩
abbrev main_call18_call0_v1 : Ref sig .tc := ⟨.hbm, 3655, rfl⟩
abbrev main_call18_call0_v2 : Ref sig .tc := ⟨.hbm, 3656, rfl⟩
abbrev main_call18_call0_v3 : Ref sig .tc := ⟨.hbm, 3657, rfl⟩
abbrev main_call18_call0_v4 : Ref sig .tc := ⟨.hbm, 3658, rfl⟩
abbrev main_call18_call0_v5 : Ref sig .tc := ⟨.hbm, 3659, rfl⟩
abbrev main_call18_call0_v6 : Ref sig .tc := ⟨.hbm, 3660, rfl⟩
abbrev main_call18_call0_c_0 : Ref sig .tc := ⟨.hbm, 3661, rfl⟩
abbrev main_call18_call0_v7 : Ref sig .tc := ⟨.hbm, 3662, rfl⟩
abbrev main_call18_call0_v8 : Ref sig .tc := ⟨.hbm, 3663, rfl⟩
abbrev main_call18_call0_c_1 : Ref sig .tc := ⟨.hbm, 3664, rfl⟩
abbrev main_call18_call0_v9 : Ref sig .tc := ⟨.hbm, 3665, rfl⟩
abbrev main_call18_call0_v10 : Ref sig .tc := ⟨.hbm, 3666, rfl⟩
abbrev main_call18_call0_v11 : Ref sig .tc := ⟨.hbm, 3667, rfl⟩
abbrev main_call18_call0_v12 : Ref sig .tc := ⟨.hbm, 3668, rfl⟩
abbrev main_call18_call0_v13 : Ref sig .tc := ⟨.hbm, 3669, rfl⟩
abbrev main_call18_call0_c_2 : Ref sig .tc := ⟨.hbm, 3670, rfl⟩
abbrev main_call18_call0_v14 : Ref sig .tc := ⟨.hbm, 3671, rfl⟩
abbrev main_call18_call0_v15 : Ref sig .tc := ⟨.hbm, 3672, rfl⟩
abbrev main_call18_call0_c_3 : Ref sig .tc := ⟨.hbm, 3673, rfl⟩
abbrev main_call18_call0_v16 : Ref sig .tc := ⟨.hbm, 3674, rfl⟩
abbrev main_call18_call0_v17 : Ref sig .tc := ⟨.hbm, 3675, rfl⟩
abbrev main_call18_call0_v18 : Ref sig .tc := ⟨.hbm, 3676, rfl⟩
abbrev main_call18_call0_v19 : Ref sig .tc := ⟨.hbm, 3677, rfl⟩
abbrev main_call18_call0_v20 : Ref sig .tc := ⟨.hbm, 3678, rfl⟩
abbrev main_call18_call0_c_4 : Ref sig .tc := ⟨.hbm, 3679, rfl⟩
abbrev main_call18_call0_v21 : Ref sig .tc := ⟨.hbm, 3680, rfl⟩
abbrev main_call18_call0_v22 : Ref sig .tc := ⟨.hbm, 3681, rfl⟩
abbrev main_call18_call0_c_5 : Ref sig .tc := ⟨.hbm, 3682, rfl⟩
abbrev main_call18_call0_v23 : Ref sig .tc := ⟨.hbm, 3683, rfl⟩
abbrev main_call18_call0_v24 : Ref sig .tc := ⟨.hbm, 3684, rfl⟩
abbrev main_call18_call0_v25 : Ref sig .tc := ⟨.hbm, 3685, rfl⟩
abbrev main_call18_call0_v26 : Ref sig .tc := ⟨.hbm, 3686, rfl⟩
abbrev main_call18_call0_v27 : Ref sig .tc := ⟨.hbm, 3687, rfl⟩
abbrev main_call18_call0_c_6 : Ref sig .tc := ⟨.hbm, 3688, rfl⟩
abbrev main_call18_call0_v28 : Ref sig .tc := ⟨.hbm, 3689, rfl⟩
abbrev main_call18_call0_v29 : Ref sig .tc := ⟨.hbm, 3690, rfl⟩
abbrev main_call18_call0_c_7 : Ref sig .tc := ⟨.hbm, 3691, rfl⟩
abbrev main_call18_call0_v30 : Ref sig .tc := ⟨.hbm, 3692, rfl⟩
abbrev main_call18_call0_v31 : Ref sig .tc := ⟨.hbm, 3693, rfl⟩
abbrev main_call18_call0_v32 : Ref sig .tc := ⟨.hbm, 3694, rfl⟩
abbrev main_call18_call0_v33 : Ref sig .tc := ⟨.hbm, 3695, rfl⟩
abbrev main_call18_call0_v34 : Ref sig .tc := ⟨.hbm, 3696, rfl⟩
abbrev main_call18_call0_v35 : Ref sig .tc := ⟨.hbm, 3697, rfl⟩
abbrev main_call18_call0_v36 : Ref sig .tc := ⟨.hbm, 3698, rfl⟩
abbrev main_call18_call0_v37 : Ref sig .tc := ⟨.hbm, 3699, rfl⟩
abbrev main_call18_call0_c_8 : Ref sig .tc := ⟨.hbm, 3700, rfl⟩
abbrev main_call18_call0_v38 : Ref sig .tc := ⟨.hbm, 3701, rfl⟩
abbrev main_call18_call0_v39 : Ref sig .tc := ⟨.hbm, 3702, rfl⟩
abbrev main_call18_call0_v40 : Ref sig .tc := ⟨.hbm, 3703, rfl⟩
abbrev main_call18_call0_c_9 : Ref sig .tc := ⟨.hbm, 3704, rfl⟩
abbrev main_call18_call0_v41 : Ref sig .tc := ⟨.hbm, 3705, rfl⟩
abbrev main_call18_call0_v42 : Ref sig .tc := ⟨.hbm, 3706, rfl⟩
abbrev main_call18_call0_c_10 : Ref sig .tc := ⟨.hbm, 3707, rfl⟩
abbrev main_call18_call0_v43 : Ref sig .tc := ⟨.hbm, 3708, rfl⟩
abbrev main_call18_call0_v44 : Ref sig .tc := ⟨.hbm, 3709, rfl⟩
abbrev main_call18_call0_v45 : Ref sig .tc := ⟨.hbm, 3710, rfl⟩
abbrev main_call18_call0_v46 : Ref sig .tc := ⟨.hbm, 3711, rfl⟩
abbrev main_call18_call0_v47 : Ref sig .tc := ⟨.hbm, 3712, rfl⟩
abbrev main_call18_call0_c_11 : Ref sig .tc := ⟨.hbm, 3713, rfl⟩
abbrev main_call18_call0_v48 : Ref sig .tc := ⟨.hbm, 3714, rfl⟩
abbrev main_call18_call0_v49 : Ref sig .tc := ⟨.hbm, 3715, rfl⟩
abbrev main_call18_call0_c_12 : Ref sig .tc := ⟨.hbm, 3716, rfl⟩
abbrev main_call18_call0_v50 : Ref sig .tc := ⟨.hbm, 3717, rfl⟩
abbrev main_call18_call0_v51 : Ref sig .tc := ⟨.hbm, 3718, rfl⟩
abbrev main_call18_call0_v52 : Ref sig .tc := ⟨.hbm, 3719, rfl⟩
abbrev main_call18_call0_v53 : Ref sig .tc := ⟨.hbm, 3720, rfl⟩
abbrev main_call18_call0_v54 : Ref sig .tc := ⟨.hbm, 3721, rfl⟩
abbrev main_call18_call0_c_13 : Ref sig .tc := ⟨.hbm, 3722, rfl⟩
abbrev main_call18_call0_v55 : Ref sig .tc := ⟨.hbm, 3723, rfl⟩
abbrev main_call18_call0_v56 : Ref sig .tc := ⟨.hbm, 3724, rfl⟩
abbrev main_call18_call0_c_14 : Ref sig .tc := ⟨.hbm, 3725, rfl⟩
abbrev main_call18_call0_v57 : Ref sig .tc := ⟨.hbm, 3726, rfl⟩
abbrev main_call18_call0_v58 : Ref sig .tc := ⟨.hbm, 3727, rfl⟩
abbrev main_call18_call0_v59 : Ref sig .tc := ⟨.hbm, 3728, rfl⟩
abbrev main_call18_call0_v60 : Ref sig .tc := ⟨.hbm, 3729, rfl⟩
abbrev main_call18_call0_v61 : Ref sig .tc := ⟨.hbm, 3730, rfl⟩
abbrev main_call18_call0_c_15 : Ref sig .tc := ⟨.hbm, 3731, rfl⟩
abbrev main_call18_call0_v62 : Ref sig .tc := ⟨.hbm, 3732, rfl⟩
abbrev main_call18_call0_v63 : Ref sig .tc := ⟨.hbm, 3733, rfl⟩
abbrev main_call18_call0_c_16 : Ref sig .tc := ⟨.hbm, 3734, rfl⟩
abbrev main_call18_call0_v64 : Ref sig .tc := ⟨.hbm, 3735, rfl⟩
abbrev main_call18_call0_v65 : Ref sig .tc := ⟨.hbm, 3736, rfl⟩
abbrev main_call18_call0_v66 : Ref sig .tc := ⟨.hbm, 3737, rfl⟩
abbrev main_call18_call0_v67 : Ref sig .tc := ⟨.hbm, 3738, rfl⟩
abbrev main_call18_call0_v68 : Ref sig .tc := ⟨.hbm, 3739, rfl⟩
abbrev main_call18_call0_v69 : Ref sig .tc := ⟨.hbm, 3740, rfl⟩
abbrev main_call18_call0_v70 : Ref sig .tc := ⟨.hbm, 3741, rfl⟩
abbrev main_call18_call0_v71 : Ref sig .tc := ⟨.hbm, 3742, rfl⟩
abbrev main_call18_call0_c_17 : Ref sig .tc := ⟨.hbm, 3743, rfl⟩
abbrev main_call18_call0_v72 : Ref sig .tc := ⟨.hbm, 3744, rfl⟩
abbrev main_call18_call0_v73 : Ref sig .tc := ⟨.hbm, 3745, rfl⟩
abbrev main_call18_call0_v74 : Ref sig .tc := ⟨.hbm, 3746, rfl⟩
abbrev main_call18_call0_c_18 : Ref sig .tc := ⟨.hbm, 3747, rfl⟩
abbrev main_call18_call0_v75 : Ref sig .tc := ⟨.hbm, 3748, rfl⟩
abbrev main_call18_call0_v76 : Ref sig .tc := ⟨.hbm, 3749, rfl⟩
abbrev main_call18_call0_c_19 : Ref sig .tc := ⟨.hbm, 3750, rfl⟩
abbrev main_call18_call0_v77 : Ref sig .tc := ⟨.hbm, 3751, rfl⟩
abbrev main_call18_call0_v78 : Ref sig .tc := ⟨.hbm, 3752, rfl⟩
abbrev main_call18_call0_v79 : Ref sig .tc := ⟨.hbm, 3753, rfl⟩
abbrev main_call18_call0_v80 : Ref sig .tc := ⟨.hbm, 3754, rfl⟩
abbrev main_call18_call0_v81 : Ref sig .tc := ⟨.hbm, 3755, rfl⟩
abbrev main_call18_call0_c_20 : Ref sig .tc := ⟨.hbm, 3756, rfl⟩
abbrev main_call18_call0_v82 : Ref sig .tc := ⟨.hbm, 3757, rfl⟩
abbrev main_call18_call0_v83 : Ref sig .tc := ⟨.hbm, 3758, rfl⟩
abbrev main_call18_call0_c_21 : Ref sig .tc := ⟨.hbm, 3759, rfl⟩
abbrev main_call18_call0_v84 : Ref sig .tc := ⟨.hbm, 3760, rfl⟩
abbrev main_call18_call0_v85 : Ref sig .tc := ⟨.hbm, 3761, rfl⟩
abbrev main_call18_call0_v86 : Ref sig .tc := ⟨.hbm, 3762, rfl⟩
abbrev main_call18_call0_v87 : Ref sig .tc := ⟨.hbm, 3763, rfl⟩
abbrev main_call18_call0_v88 : Ref sig .tc := ⟨.hbm, 3764, rfl⟩
abbrev main_call18_call0_c_22 : Ref sig .tc := ⟨.hbm, 3765, rfl⟩
abbrev main_call18_call0_v89 : Ref sig .tc := ⟨.hbm, 3766, rfl⟩
abbrev main_call18_call0_v90 : Ref sig .tc := ⟨.hbm, 3767, rfl⟩
abbrev main_call18_call0_c_23 : Ref sig .tc := ⟨.hbm, 3768, rfl⟩
abbrev main_call18_call0_v91 : Ref sig .tc := ⟨.hbm, 3769, rfl⟩
abbrev main_call18_call0_v92 : Ref sig .tc := ⟨.hbm, 3770, rfl⟩
abbrev main_call18_call0_v93 : Ref sig .tc := ⟨.hbm, 3771, rfl⟩
abbrev main_call18_call0_v94 : Ref sig .tc := ⟨.hbm, 3772, rfl⟩
abbrev main_call18_call0_v95 : Ref sig .tc := ⟨.hbm, 3773, rfl⟩
abbrev main_call18_call0_c_24 : Ref sig .tc := ⟨.hbm, 3774, rfl⟩
abbrev main_call18_call0_v96 : Ref sig .tc := ⟨.hbm, 3775, rfl⟩
abbrev main_call18_call0_v97 : Ref sig .tc := ⟨.hbm, 3776, rfl⟩
abbrev main_call18_call0_c_25 : Ref sig .tc := ⟨.hbm, 3777, rfl⟩
abbrev main_call18_call0_v98 : Ref sig .tc := ⟨.hbm, 3778, rfl⟩
abbrev main_call18_call0_v99 : Ref sig .tc := ⟨.hbm, 3779, rfl⟩
abbrev main_call18_call0_v100 : Ref sig .tc := ⟨.hbm, 3780, rfl⟩
abbrev main_call18_call0_v101 : Ref sig .tc := ⟨.hbm, 3781, rfl⟩
abbrev main_call18_call0_v102 : Ref sig .tc := ⟨.hbm, 3782, rfl⟩
abbrev main_call18_call0_v103 : Ref sig .tc := ⟨.hbm, 3783, rfl⟩
abbrev main_call18_call0_v104 : Ref sig .tc := ⟨.hbm, 3784, rfl⟩
abbrev main_call18_call0_v105 : Ref sig .tc := ⟨.hbm, 3785, rfl⟩
abbrev main_call18_call0_c_26 : Ref sig .tc := ⟨.hbm, 3786, rfl⟩
abbrev main_call18_call0_v106 : Ref sig .tc := ⟨.hbm, 3787, rfl⟩
abbrev main_call18_call0_v107 : Ref sig .tc := ⟨.hbm, 3788, rfl⟩
abbrev main_call18_call0_v108 : Ref sig .tc := ⟨.hbm, 3789, rfl⟩
abbrev main_call18_call0_c_27 : Ref sig .tc := ⟨.hbm, 3790, rfl⟩
abbrev main_call18_call0_v109 : Ref sig .tc := ⟨.hbm, 3791, rfl⟩
abbrev main_call18_call0_v110 : Ref sig .tc := ⟨.hbm, 3792, rfl⟩
abbrev main_call18_call0_c_28 : Ref sig .tc := ⟨.hbm, 3793, rfl⟩
abbrev main_call18_call0_v111 : Ref sig .tc := ⟨.hbm, 3794, rfl⟩
abbrev main_call18_call0_v112 : Ref sig .tc := ⟨.hbm, 3795, rfl⟩
abbrev main_call18_call0_v113 : Ref sig .tc := ⟨.hbm, 3796, rfl⟩
abbrev main_call18_call0_v114 : Ref sig .tc := ⟨.hbm, 3797, rfl⟩
abbrev main_call18_call0_v115 : Ref sig .tc := ⟨.hbm, 3798, rfl⟩
abbrev main_call18_call0_c_29 : Ref sig .tc := ⟨.hbm, 3799, rfl⟩
abbrev main_call18_call0_v116 : Ref sig .tc := ⟨.hbm, 3800, rfl⟩
abbrev main_call18_call0_v117 : Ref sig .tc := ⟨.hbm, 3801, rfl⟩
abbrev main_call18_call0_c_30 : Ref sig .tc := ⟨.hbm, 3802, rfl⟩
abbrev main_call18_call0_v118 : Ref sig .tc := ⟨.hbm, 3803, rfl⟩
abbrev main_call18_call0_v119 : Ref sig .tc := ⟨.hbm, 3804, rfl⟩
abbrev main_call18_call0_v120 : Ref sig .tc := ⟨.hbm, 3805, rfl⟩
abbrev main_call18_call0_v121 : Ref sig .tc := ⟨.hbm, 3806, rfl⟩
abbrev main_call18_call0_v122 : Ref sig .tc := ⟨.hbm, 3807, rfl⟩
abbrev main_call18_call0_c_31 : Ref sig .tc := ⟨.hbm, 3808, rfl⟩
abbrev main_call18_call0_v123 : Ref sig .tc := ⟨.hbm, 3809, rfl⟩
abbrev main_call18_call0_v124 : Ref sig .tc := ⟨.hbm, 3810, rfl⟩
abbrev main_call18_call0_c_32 : Ref sig .tc := ⟨.hbm, 3811, rfl⟩
abbrev main_call18_call0_v125 : Ref sig .tc := ⟨.hbm, 3812, rfl⟩
abbrev main_call18_call0_v126 : Ref sig .tc := ⟨.hbm, 3813, rfl⟩
abbrev main_call18_call0_v127 : Ref sig .tc := ⟨.hbm, 3814, rfl⟩
abbrev main_call18_call0_v128 : Ref sig .tc := ⟨.hbm, 3815, rfl⟩
abbrev main_call18_call0_v129 : Ref sig .tc := ⟨.hbm, 3816, rfl⟩
abbrev main_call18_call0_c_33 : Ref sig .tc := ⟨.hbm, 3817, rfl⟩
abbrev main_call18_call0_v130 : Ref sig .tc := ⟨.hbm, 3818, rfl⟩
abbrev main_call18_call0_v131 : Ref sig .tc := ⟨.hbm, 3819, rfl⟩
abbrev main_call18_call0_c_34 : Ref sig .tc := ⟨.hbm, 3820, rfl⟩
abbrev main_call18_call0_v132 : Ref sig .tc := ⟨.hbm, 3821, rfl⟩
abbrev main_call18_call0_v133 : Ref sig .tc := ⟨.hbm, 3822, rfl⟩
abbrev main_call18_call0_v134 : Ref sig .tc := ⟨.hbm, 3823, rfl⟩
abbrev main_call18_call0_v135 : Ref sig .tc := ⟨.hbm, 3824, rfl⟩
abbrev main_call18_call0_v136 : Ref sig .tc := ⟨.hbm, 3825, rfl⟩
abbrev main_call18_call0_v137 : Ref sig .tc := ⟨.hbm, 3826, rfl⟩
abbrev main_call18_call0_v138 : Ref sig .tc := ⟨.hbm, 3827, rfl⟩
abbrev main_call18_call0_v139 : Ref sig .tc := ⟨.hbm, 3828, rfl⟩
abbrev main_call18_call0_c_35 : Ref sig .tc := ⟨.hbm, 3829, rfl⟩
abbrev main_call18_call0_v140 : Ref sig .tc := ⟨.hbm, 3830, rfl⟩
abbrev main_call18_call0_v141 : Ref sig .tc := ⟨.hbm, 3831, rfl⟩
abbrev main_call18_call0_v142 : Ref sig .tc := ⟨.hbm, 3832, rfl⟩
abbrev main_call18_call0_c_36 : Ref sig .tc := ⟨.hbm, 3833, rfl⟩
abbrev main_call18_call0_v143 : Ref sig .tc := ⟨.hbm, 3834, rfl⟩
abbrev main_call18_call0_v144 : Ref sig .tc := ⟨.hbm, 3835, rfl⟩
abbrev main_call18_call0_c_37 : Ref sig .tc := ⟨.hbm, 3836, rfl⟩
abbrev main_call18_call0_v145 : Ref sig .tc := ⟨.hbm, 3837, rfl⟩
abbrev main_call18_call0_v146 : Ref sig .tc := ⟨.hbm, 3838, rfl⟩
abbrev main_call18_call0_v147 : Ref sig .tc := ⟨.hbm, 3839, rfl⟩
abbrev main_call18_call0_v148 : Ref sig .tc := ⟨.hbm, 3840, rfl⟩
abbrev main_call18_call0_v149 : Ref sig .tc := ⟨.hbm, 3841, rfl⟩
abbrev main_call18_call0_c_38 : Ref sig .tc := ⟨.hbm, 3842, rfl⟩
abbrev main_call18_call0_v150 : Ref sig .tc := ⟨.hbm, 3843, rfl⟩
abbrev main_call18_call0_v151 : Ref sig .tc := ⟨.hbm, 3844, rfl⟩
abbrev main_call18_call0_c_39 : Ref sig .tc := ⟨.hbm, 3845, rfl⟩
abbrev main_call18_call0_v152 : Ref sig .tc := ⟨.hbm, 3846, rfl⟩
abbrev main_call18_call0_v153 : Ref sig .tc := ⟨.hbm, 3847, rfl⟩
abbrev main_call18_call0_v154 : Ref sig .tc := ⟨.hbm, 3848, rfl⟩
abbrev main_call18_call0_v155 : Ref sig .tc := ⟨.hbm, 3849, rfl⟩
abbrev main_call18_call0_v156 : Ref sig .tc := ⟨.hbm, 3850, rfl⟩
abbrev main_call18_call0_c_40 : Ref sig .tc := ⟨.hbm, 3851, rfl⟩
abbrev main_call18_call0_v157 : Ref sig .tc := ⟨.hbm, 3852, rfl⟩
abbrev main_call18_call0_v158 : Ref sig .tc := ⟨.hbm, 3853, rfl⟩
abbrev main_call18_call0_c_41 : Ref sig .tc := ⟨.hbm, 3854, rfl⟩
abbrev main_call18_call0_v159 : Ref sig .tc := ⟨.hbm, 3855, rfl⟩
abbrev main_call18_call0_v160 : Ref sig .tc := ⟨.hbm, 3856, rfl⟩
abbrev main_call18_call0_v161 : Ref sig .tc := ⟨.hbm, 3857, rfl⟩
abbrev main_call18_call0_v162 : Ref sig .tc := ⟨.hbm, 3858, rfl⟩
abbrev main_call18_call0_v163 : Ref sig .tc := ⟨.hbm, 3859, rfl⟩
abbrev main_call18_call0_c_42 : Ref sig .tc := ⟨.hbm, 3860, rfl⟩
abbrev main_call18_call0_v164 : Ref sig .tc := ⟨.hbm, 3861, rfl⟩
abbrev main_call18_call0_v165 : Ref sig .tc := ⟨.hbm, 3862, rfl⟩
abbrev main_call18_call0_c_43 : Ref sig .tc := ⟨.hbm, 3863, rfl⟩
abbrev main_call18_call0_v166 : Ref sig .tc := ⟨.hbm, 3864, rfl⟩
abbrev main_call18_call0_v167 : Ref sig .tc := ⟨.hbm, 3865, rfl⟩
abbrev main_call18_call0_v168 : Ref sig .tc := ⟨.hbm, 3866, rfl⟩
abbrev main_call18_call0_v169 : Ref sig .tc := ⟨.hbm, 3867, rfl⟩
abbrev main_call18_call0_v170 : Ref sig .tc := ⟨.hbm, 3868, rfl⟩
abbrev main_call18_v11_0 : Ref sig .tc := ⟨.hbm, 3869, rfl⟩
abbrev main_call18_call0_v172 : Ref sig .tc := ⟨.hbm, 3870, rfl⟩
abbrev main_call18_call0_v173 : Ref sig .tc := ⟨.hbm, 3871, rfl⟩
abbrev main_call18_call0_c_44 : Ref sig .tc := ⟨.hbm, 3872, rfl⟩
abbrev main_call18_call0_v174 : Ref sig .tc := ⟨.hbm, 3873, rfl⟩
abbrev main_call18_v11_1 : Ref sig .tc := ⟨.hbm, 3874, rfl⟩
abbrev main_call18_v12 : Ref sig .tc := ⟨.hbm, 3875, rfl⟩
abbrev main_call18_v13 : Ref sig .tc := ⟨.hbm, 3876, rfl⟩
abbrev main_v397 : Ref sig .tc := ⟨.hbm, 3877, rfl⟩
abbrev main_v398 : Ref sig .tc := ⟨.hbm, 3878, rfl⟩
abbrev main_v399 : Ref sig .tc := ⟨.hbm, 3879, rfl⟩
abbrev main_v400 : Ref sig .tc := ⟨.hbm, 3880, rfl⟩
abbrev main_v401 : Ref sig .tc := ⟨.hbm, 3881, rfl⟩
abbrev main_c_194 : Ref sig .tc := ⟨.hbm, 3882, rfl⟩
abbrev main_v402 : Ref sig .tc := ⟨.hbm, 3883, rfl⟩
abbrev main_c_195 : Ref sig .tc := ⟨.hbm, 3884, rfl⟩
abbrev main_v403 : Ref sig .tc := ⟨.hbm, 3885, rfl⟩
abbrev main_v404 : Ref sig .tc := ⟨.hbm, 3886, rfl⟩
abbrev main_c_196 : Ref sig .tc := ⟨.hbm, 3887, rfl⟩
abbrev main_c_197 : Ref sig .tc := ⟨.hbm, 3888, rfl⟩
abbrev main_v405 : Ref sig .tc := ⟨.hbm, 3889, rfl⟩
abbrev main_c_198 : Ref sig .tc := ⟨.hbm, 3890, rfl⟩
abbrev main_c_199 : Ref sig .tc := ⟨.hbm, 3891, rfl⟩
abbrev main_v406 : Ref sig .tc := ⟨.hbm, 3892, rfl⟩
abbrev main_c_200 : Ref sig .tc := ⟨.hbm, 3893, rfl⟩
abbrev main_v407 : Ref sig .tc := ⟨.hbm, 3894, rfl⟩
abbrev main_c_201 : Ref sig .tc := ⟨.hbm, 3895, rfl⟩
abbrev main_c_202 : Ref sig .tc := ⟨.hbm, 3896, rfl⟩
abbrev main_v408 : Ref sig .tc := ⟨.hbm, 3897, rfl⟩
abbrev main_c_203 : Ref sig .tc := ⟨.hbm, 3898, rfl⟩
abbrev main_c_204 : Ref sig .tc := ⟨.hbm, 3899, rfl⟩
abbrev main_v409 : Ref sig .tc := ⟨.hbm, 3900, rfl⟩
abbrev main_c_205 : Ref sig .tc := ⟨.hbm, 3901, rfl⟩
abbrev main_v410 : Ref sig .tc := ⟨.hbm, 3902, rfl⟩
abbrev main_v411 : Ref sig .tc := ⟨.hbm, 3903, rfl⟩
abbrev main_v412 : Ref sig .tc := ⟨.hbm, 3904, rfl⟩
abbrev main_call19_cst : Ref sig .tc := ⟨.hbm, 3905, rfl⟩
abbrev main_call19_cst_0 : Ref sig .tc := ⟨.hbm, 3906, rfl⟩
abbrev main_call19_call0_v0 : Ref sig .tc := ⟨.hbm, 3907, rfl⟩
abbrev main_call19_call0_v1 : Ref sig .tc := ⟨.hbm, 3908, rfl⟩
abbrev main_call19_call0_v2 : Ref sig .tc := ⟨.hbm, 3909, rfl⟩
abbrev main_call19_call0_v3 : Ref sig .tc := ⟨.hbm, 3910, rfl⟩
abbrev main_call19_call0_v4 : Ref sig .tc := ⟨.hbm, 3911, rfl⟩
abbrev main_call19_call0_v5 : Ref sig .tc := ⟨.hbm, 3912, rfl⟩
abbrev main_call19_call0_v6 : Ref sig .tc := ⟨.hbm, 3913, rfl⟩
abbrev main_call19_call0_v7 : Ref sig .tc := ⟨.hbm, 3914, rfl⟩
abbrev main_call19_call0_v8 : Ref sig .tc := ⟨.hbm, 3915, rfl⟩
abbrev main_call19_call0_c : Ref sig .tc := ⟨.hbm, 3916, rfl⟩
abbrev main_call19_call0_v9 : Ref sig .tc := ⟨.hbm, 3917, rfl⟩
abbrev main_call19_call0_v10 : Ref sig .tc := ⟨.hbm, 3918, rfl⟩
abbrev main_call19_call0_c_0 : Ref sig .tc := ⟨.hbm, 3919, rfl⟩
abbrev main_call19_call0_v11 : Ref sig .tc := ⟨.hbm, 3920, rfl⟩
abbrev main_call19_call0_v12 : Ref sig .tc := ⟨.hbm, 3921, rfl⟩
abbrev main_call19_call0_v13 : Ref sig .tc := ⟨.hbm, 3922, rfl⟩
abbrev main_call19_call0_c_1 : Ref sig .tc := ⟨.hbm, 3923, rfl⟩
abbrev main_call19_call0_v14 : Ref sig .tc := ⟨.hbm, 3924, rfl⟩
abbrev main_call19_call0_v15 : Ref sig .tc := ⟨.hbm, 3925, rfl⟩
abbrev main_call19_call0_v16 : Ref sig .tc := ⟨.hbm, 3926, rfl⟩
abbrev main_call19_call0_v17 : Ref sig .tc := ⟨.hbm, 3927, rfl⟩
abbrev main_call19_call0_call0_v0 : Ref sig .tc := ⟨.hbm, 3928, rfl⟩
abbrev main_call19_call0_call0_c : Ref sig .tc := ⟨.hbm, 3929, rfl⟩
abbrev main_call19_call0_call0_v1 : Ref sig .tc := ⟨.hbm, 3930, rfl⟩
abbrev main_call19_call0_call0_v2 : Ref sig .tc := ⟨.hbm, 3931, rfl⟩
abbrev main_call19_call0_call0_v3 : Ref sig .tc := ⟨.hbm, 3932, rfl⟩
abbrev main_call19_call0_call0_v4 : Ref sig .tc := ⟨.hbm, 3933, rfl⟩
abbrev main_call19_call0_call0_v5 : Ref sig .tc := ⟨.hbm, 3934, rfl⟩
abbrev main_call19_call0_call0_v6 : Ref sig .tc := ⟨.hbm, 3935, rfl⟩
abbrev main_call19_call0_call0_c_0 : Ref sig .tc := ⟨.hbm, 3936, rfl⟩
abbrev main_call19_call0_call0_v7 : Ref sig .tc := ⟨.hbm, 3937, rfl⟩
abbrev main_call19_call0_call0_v8 : Ref sig .tc := ⟨.hbm, 3938, rfl⟩
abbrev main_call19_call0_call0_c_1 : Ref sig .tc := ⟨.hbm, 3939, rfl⟩
abbrev main_call19_call0_call0_v9 : Ref sig .tc := ⟨.hbm, 3940, rfl⟩
abbrev main_call19_call0_call0_v10 : Ref sig .tc := ⟨.hbm, 3941, rfl⟩
abbrev main_call19_call0_call0_v11 : Ref sig .tc := ⟨.hbm, 3942, rfl⟩
abbrev main_call19_call0_call0_v12 : Ref sig .tc := ⟨.hbm, 3943, rfl⟩
abbrev main_call19_call0_call0_v13 : Ref sig .tc := ⟨.hbm, 3944, rfl⟩
abbrev main_call19_call0_call0_c_2 : Ref sig .tc := ⟨.hbm, 3945, rfl⟩
abbrev main_call19_call0_call0_v14 : Ref sig .tc := ⟨.hbm, 3946, rfl⟩
abbrev main_call19_call0_call0_v15 : Ref sig .tc := ⟨.hbm, 3947, rfl⟩
abbrev main_call19_call0_call0_c_3 : Ref sig .tc := ⟨.hbm, 3948, rfl⟩
abbrev main_call19_call0_call0_v16 : Ref sig .tc := ⟨.hbm, 3949, rfl⟩
abbrev main_call19_call0_call0_v17 : Ref sig .tc := ⟨.hbm, 3950, rfl⟩
abbrev main_call19_call0_call0_v18 : Ref sig .tc := ⟨.hbm, 3951, rfl⟩
abbrev main_call19_call0_call0_v19 : Ref sig .tc := ⟨.hbm, 3952, rfl⟩
abbrev main_call19_call0_call0_v20 : Ref sig .tc := ⟨.hbm, 3953, rfl⟩
abbrev main_call19_call0_call0_c_4 : Ref sig .tc := ⟨.hbm, 3954, rfl⟩
abbrev main_call19_call0_call0_v21 : Ref sig .tc := ⟨.hbm, 3955, rfl⟩
abbrev main_call19_call0_call0_v22 : Ref sig .tc := ⟨.hbm, 3956, rfl⟩
abbrev main_call19_call0_call0_c_5 : Ref sig .tc := ⟨.hbm, 3957, rfl⟩
abbrev main_call19_call0_call0_v23 : Ref sig .tc := ⟨.hbm, 3958, rfl⟩
abbrev main_call19_call0_call0_v24 : Ref sig .tc := ⟨.hbm, 3959, rfl⟩
abbrev main_call19_call0_call0_v25 : Ref sig .tc := ⟨.hbm, 3960, rfl⟩
abbrev main_call19_call0_call0_v26 : Ref sig .tc := ⟨.hbm, 3961, rfl⟩
abbrev main_call19_call0_call0_v27 : Ref sig .tc := ⟨.hbm, 3962, rfl⟩
abbrev main_call19_call0_call0_c_6 : Ref sig .tc := ⟨.hbm, 3963, rfl⟩
abbrev main_call19_call0_call0_v28 : Ref sig .tc := ⟨.hbm, 3964, rfl⟩
abbrev main_call19_call0_call0_v29 : Ref sig .tc := ⟨.hbm, 3965, rfl⟩
abbrev main_call19_call0_call0_c_7 : Ref sig .tc := ⟨.hbm, 3966, rfl⟩
abbrev main_call19_call0_call0_v30 : Ref sig .tc := ⟨.hbm, 3967, rfl⟩
abbrev main_call19_call0_call0_v31 : Ref sig .tc := ⟨.hbm, 3968, rfl⟩
abbrev main_call19_call0_call0_v32 : Ref sig .tc := ⟨.hbm, 3969, rfl⟩
abbrev main_call19_call0_call0_v33 : Ref sig .tc := ⟨.hbm, 3970, rfl⟩
abbrev main_call19_call0_call0_v34 : Ref sig .tc := ⟨.hbm, 3971, rfl⟩
abbrev main_call19_call0_call0_v35 : Ref sig .tc := ⟨.hbm, 3972, rfl⟩
abbrev main_call19_call0_call0_v36 : Ref sig .tc := ⟨.hbm, 3973, rfl⟩
abbrev main_call19_call0_call0_v37 : Ref sig .tc := ⟨.hbm, 3974, rfl⟩
abbrev main_call19_call0_call0_c_8 : Ref sig .tc := ⟨.hbm, 3975, rfl⟩
abbrev main_call19_call0_call0_v38 : Ref sig .tc := ⟨.hbm, 3976, rfl⟩
abbrev main_call19_call0_call0_v39 : Ref sig .tc := ⟨.hbm, 3977, rfl⟩
abbrev main_call19_call0_call0_v40 : Ref sig .tc := ⟨.hbm, 3978, rfl⟩
abbrev main_call19_call0_call0_c_9 : Ref sig .tc := ⟨.hbm, 3979, rfl⟩
abbrev main_call19_call0_call0_v41 : Ref sig .tc := ⟨.hbm, 3980, rfl⟩
abbrev main_call19_call0_call0_v42 : Ref sig .tc := ⟨.hbm, 3981, rfl⟩
abbrev main_call19_call0_call0_c_10 : Ref sig .tc := ⟨.hbm, 3982, rfl⟩
abbrev main_call19_call0_call0_v43 : Ref sig .tc := ⟨.hbm, 3983, rfl⟩
abbrev main_call19_call0_call0_v44 : Ref sig .tc := ⟨.hbm, 3984, rfl⟩
abbrev main_call19_call0_call0_v45 : Ref sig .tc := ⟨.hbm, 3985, rfl⟩
abbrev main_call19_call0_call0_v46 : Ref sig .tc := ⟨.hbm, 3986, rfl⟩
abbrev main_call19_call0_call0_v47 : Ref sig .tc := ⟨.hbm, 3987, rfl⟩
abbrev main_call19_call0_call0_c_11 : Ref sig .tc := ⟨.hbm, 3988, rfl⟩
abbrev main_call19_call0_call0_v48 : Ref sig .tc := ⟨.hbm, 3989, rfl⟩
abbrev main_call19_call0_call0_v49 : Ref sig .tc := ⟨.hbm, 3990, rfl⟩
abbrev main_call19_call0_call0_c_12 : Ref sig .tc := ⟨.hbm, 3991, rfl⟩
abbrev main_call19_call0_call0_v50 : Ref sig .tc := ⟨.hbm, 3992, rfl⟩
abbrev main_call19_call0_call0_v51 : Ref sig .tc := ⟨.hbm, 3993, rfl⟩
abbrev main_call19_call0_call0_v52 : Ref sig .tc := ⟨.hbm, 3994, rfl⟩
abbrev main_call19_call0_call0_v53 : Ref sig .tc := ⟨.hbm, 3995, rfl⟩
abbrev main_call19_call0_call0_v54 : Ref sig .tc := ⟨.hbm, 3996, rfl⟩
abbrev main_call19_call0_call0_c_13 : Ref sig .tc := ⟨.hbm, 3997, rfl⟩
abbrev main_call19_call0_call0_v55 : Ref sig .tc := ⟨.hbm, 3998, rfl⟩
abbrev main_call19_call0_call0_v56 : Ref sig .tc := ⟨.hbm, 3999, rfl⟩
abbrev main_call19_call0_call0_c_14 : Ref sig .tc := ⟨.hbm, 4000, rfl⟩
abbrev main_call19_call0_call0_v57 : Ref sig .tc := ⟨.hbm, 4001, rfl⟩
abbrev main_call19_call0_call0_v58 : Ref sig .tc := ⟨.hbm, 4002, rfl⟩
abbrev main_call19_call0_call0_v59 : Ref sig .tc := ⟨.hbm, 4003, rfl⟩
abbrev main_call19_call0_call0_v60 : Ref sig .tc := ⟨.hbm, 4004, rfl⟩
abbrev main_call19_call0_call0_v61 : Ref sig .tc := ⟨.hbm, 4005, rfl⟩
abbrev main_call19_call0_call0_c_15 : Ref sig .tc := ⟨.hbm, 4006, rfl⟩
abbrev main_call19_call0_call0_v62 : Ref sig .tc := ⟨.hbm, 4007, rfl⟩
abbrev main_call19_call0_call0_v63 : Ref sig .tc := ⟨.hbm, 4008, rfl⟩
abbrev main_call19_call0_call0_c_16 : Ref sig .tc := ⟨.hbm, 4009, rfl⟩
abbrev main_call19_call0_call0_v64 : Ref sig .tc := ⟨.hbm, 4010, rfl⟩
abbrev main_call19_call0_call0_v65 : Ref sig .tc := ⟨.hbm, 4011, rfl⟩
abbrev main_call19_call0_call0_v66 : Ref sig .tc := ⟨.hbm, 4012, rfl⟩
abbrev main_call19_call0_call0_v67 : Ref sig .tc := ⟨.hbm, 4013, rfl⟩
abbrev main_call19_call0_call0_v68 : Ref sig .tc := ⟨.hbm, 4014, rfl⟩
abbrev main_call19_call0_call0_v69 : Ref sig .tc := ⟨.hbm, 4015, rfl⟩
abbrev main_call19_call0_call0_v70 : Ref sig .tc := ⟨.hbm, 4016, rfl⟩
abbrev main_call19_call0_call0_v71 : Ref sig .tc := ⟨.hbm, 4017, rfl⟩
abbrev main_call19_call0_call0_c_17 : Ref sig .tc := ⟨.hbm, 4018, rfl⟩
abbrev main_call19_call0_call0_v72 : Ref sig .tc := ⟨.hbm, 4019, rfl⟩
abbrev main_call19_call0_call0_v73 : Ref sig .tc := ⟨.hbm, 4020, rfl⟩
abbrev main_call19_call0_call0_v74 : Ref sig .tc := ⟨.hbm, 4021, rfl⟩
abbrev main_call19_call0_call0_c_18 : Ref sig .tc := ⟨.hbm, 4022, rfl⟩
abbrev main_call19_call0_call0_v75 : Ref sig .tc := ⟨.hbm, 4023, rfl⟩
abbrev main_call19_call0_call0_v76 : Ref sig .tc := ⟨.hbm, 4024, rfl⟩
abbrev main_call19_call0_call0_c_19 : Ref sig .tc := ⟨.hbm, 4025, rfl⟩
abbrev main_call19_call0_call0_v77 : Ref sig .tc := ⟨.hbm, 4026, rfl⟩
abbrev main_call19_call0_call0_v78 : Ref sig .tc := ⟨.hbm, 4027, rfl⟩
abbrev main_call19_call0_call0_v79 : Ref sig .tc := ⟨.hbm, 4028, rfl⟩
abbrev main_call19_call0_call0_v80 : Ref sig .tc := ⟨.hbm, 4029, rfl⟩
abbrev main_call19_call0_call0_v81 : Ref sig .tc := ⟨.hbm, 4030, rfl⟩
abbrev main_call19_call0_call0_c_20 : Ref sig .tc := ⟨.hbm, 4031, rfl⟩
abbrev main_call19_call0_call0_v82 : Ref sig .tc := ⟨.hbm, 4032, rfl⟩
abbrev main_call19_call0_call0_v83 : Ref sig .tc := ⟨.hbm, 4033, rfl⟩
abbrev main_call19_call0_call0_c_21 : Ref sig .tc := ⟨.hbm, 4034, rfl⟩
abbrev main_call19_call0_call0_v84 : Ref sig .tc := ⟨.hbm, 4035, rfl⟩
abbrev main_call19_call0_call0_v85 : Ref sig .tc := ⟨.hbm, 4036, rfl⟩
abbrev main_call19_call0_call0_v86 : Ref sig .tc := ⟨.hbm, 4037, rfl⟩
abbrev main_call19_call0_call0_v87 : Ref sig .tc := ⟨.hbm, 4038, rfl⟩
abbrev main_call19_call0_call0_v88 : Ref sig .tc := ⟨.hbm, 4039, rfl⟩
abbrev main_call19_call0_call0_c_22 : Ref sig .tc := ⟨.hbm, 4040, rfl⟩
abbrev main_call19_call0_call0_v89 : Ref sig .tc := ⟨.hbm, 4041, rfl⟩
abbrev main_call19_call0_call0_v90 : Ref sig .tc := ⟨.hbm, 4042, rfl⟩
abbrev main_call19_call0_call0_c_23 : Ref sig .tc := ⟨.hbm, 4043, rfl⟩
abbrev main_call19_call0_call0_v91 : Ref sig .tc := ⟨.hbm, 4044, rfl⟩
abbrev main_call19_call0_call0_v92 : Ref sig .tc := ⟨.hbm, 4045, rfl⟩
abbrev main_call19_call0_call0_v93 : Ref sig .tc := ⟨.hbm, 4046, rfl⟩
abbrev main_call19_call0_call0_v94 : Ref sig .tc := ⟨.hbm, 4047, rfl⟩
abbrev main_call19_call0_call0_v95 : Ref sig .tc := ⟨.hbm, 4048, rfl⟩
abbrev main_call19_call0_call0_c_24 : Ref sig .tc := ⟨.hbm, 4049, rfl⟩
abbrev main_call19_call0_call0_v96 : Ref sig .tc := ⟨.hbm, 4050, rfl⟩
abbrev main_call19_call0_call0_v97 : Ref sig .tc := ⟨.hbm, 4051, rfl⟩
abbrev main_call19_call0_call0_c_25 : Ref sig .tc := ⟨.hbm, 4052, rfl⟩
abbrev main_call19_call0_call0_v98 : Ref sig .tc := ⟨.hbm, 4053, rfl⟩
abbrev main_call19_call0_call0_v99 : Ref sig .tc := ⟨.hbm, 4054, rfl⟩
abbrev main_call19_call0_call0_v100 : Ref sig .tc := ⟨.hbm, 4055, rfl⟩
abbrev main_call19_call0_call0_v101 : Ref sig .tc := ⟨.hbm, 4056, rfl⟩
abbrev main_call19_call0_call0_v102 : Ref sig .tc := ⟨.hbm, 4057, rfl⟩
abbrev main_call19_call0_call0_v103 : Ref sig .tc := ⟨.hbm, 4058, rfl⟩
abbrev main_call19_call0_call0_v104 : Ref sig .tc := ⟨.hbm, 4059, rfl⟩
abbrev main_call19_call0_call0_v105 : Ref sig .tc := ⟨.hbm, 4060, rfl⟩
abbrev main_call19_call0_call0_c_26 : Ref sig .tc := ⟨.hbm, 4061, rfl⟩
abbrev main_call19_call0_call0_v106 : Ref sig .tc := ⟨.hbm, 4062, rfl⟩
abbrev main_call19_call0_call0_v107 : Ref sig .tc := ⟨.hbm, 4063, rfl⟩
abbrev main_call19_call0_call0_v108 : Ref sig .tc := ⟨.hbm, 4064, rfl⟩
abbrev main_call19_call0_call0_c_27 : Ref sig .tc := ⟨.hbm, 4065, rfl⟩
abbrev main_call19_call0_call0_v109 : Ref sig .tc := ⟨.hbm, 4066, rfl⟩
abbrev main_call19_call0_call0_v110 : Ref sig .tc := ⟨.hbm, 4067, rfl⟩
abbrev main_call19_call0_call0_c_28 : Ref sig .tc := ⟨.hbm, 4068, rfl⟩
abbrev main_call19_call0_call0_v111 : Ref sig .tc := ⟨.hbm, 4069, rfl⟩
abbrev main_call19_call0_call0_v112 : Ref sig .tc := ⟨.hbm, 4070, rfl⟩
abbrev main_call19_call0_call0_v113 : Ref sig .tc := ⟨.hbm, 4071, rfl⟩
abbrev main_call19_call0_call0_v114 : Ref sig .tc := ⟨.hbm, 4072, rfl⟩
abbrev main_call19_call0_call0_v115 : Ref sig .tc := ⟨.hbm, 4073, rfl⟩
abbrev main_call19_call0_call0_c_29 : Ref sig .tc := ⟨.hbm, 4074, rfl⟩
abbrev main_call19_call0_call0_v116 : Ref sig .tc := ⟨.hbm, 4075, rfl⟩
abbrev main_call19_call0_call0_v117 : Ref sig .tc := ⟨.hbm, 4076, rfl⟩
abbrev main_call19_call0_call0_c_30 : Ref sig .tc := ⟨.hbm, 4077, rfl⟩
abbrev main_call19_call0_call0_v118 : Ref sig .tc := ⟨.hbm, 4078, rfl⟩
abbrev main_call19_call0_call0_v119 : Ref sig .tc := ⟨.hbm, 4079, rfl⟩
abbrev main_call19_call0_call0_v120 : Ref sig .tc := ⟨.hbm, 4080, rfl⟩
abbrev main_call19_call0_call0_v121 : Ref sig .tc := ⟨.hbm, 4081, rfl⟩
abbrev main_call19_call0_call0_v122 : Ref sig .tc := ⟨.hbm, 4082, rfl⟩
abbrev main_call19_call0_call0_c_31 : Ref sig .tc := ⟨.hbm, 4083, rfl⟩
abbrev main_call19_call0_call0_v123 : Ref sig .tc := ⟨.hbm, 4084, rfl⟩
abbrev main_call19_call0_call0_v124 : Ref sig .tc := ⟨.hbm, 4085, rfl⟩
abbrev main_call19_call0_call0_c_32 : Ref sig .tc := ⟨.hbm, 4086, rfl⟩
abbrev main_call19_call0_call0_v125 : Ref sig .tc := ⟨.hbm, 4087, rfl⟩
abbrev main_call19_call0_call0_v126 : Ref sig .tc := ⟨.hbm, 4088, rfl⟩
abbrev main_call19_call0_call0_v127 : Ref sig .tc := ⟨.hbm, 4089, rfl⟩
abbrev main_call19_call0_call0_v128 : Ref sig .tc := ⟨.hbm, 4090, rfl⟩
abbrev main_call19_call0_call0_v129 : Ref sig .tc := ⟨.hbm, 4091, rfl⟩
abbrev main_call19_call0_call0_c_33 : Ref sig .tc := ⟨.hbm, 4092, rfl⟩
abbrev main_call19_call0_call0_v130 : Ref sig .tc := ⟨.hbm, 4093, rfl⟩
abbrev main_call19_call0_call0_v131 : Ref sig .tc := ⟨.hbm, 4094, rfl⟩
abbrev main_call19_call0_call0_c_34 : Ref sig .tc := ⟨.hbm, 4095, rfl⟩
abbrev main_call19_call0_call0_v132 : Ref sig .tc := ⟨.hbm, 4096, rfl⟩
abbrev main_call19_call0_call0_v133 : Ref sig .tc := ⟨.hbm, 4097, rfl⟩
abbrev main_call19_call0_call0_v134 : Ref sig .tc := ⟨.hbm, 4098, rfl⟩
abbrev main_call19_call0_call0_v135 : Ref sig .tc := ⟨.hbm, 4099, rfl⟩
abbrev main_call19_call0_call0_v136 : Ref sig .tc := ⟨.hbm, 4100, rfl⟩
abbrev main_call19_call0_call0_v137 : Ref sig .tc := ⟨.hbm, 4101, rfl⟩
abbrev main_call19_call0_call0_v138 : Ref sig .tc := ⟨.hbm, 4102, rfl⟩
abbrev main_call19_call0_call0_v139 : Ref sig .tc := ⟨.hbm, 4103, rfl⟩
abbrev main_call19_call0_call0_c_35 : Ref sig .tc := ⟨.hbm, 4104, rfl⟩
abbrev main_call19_call0_call0_v140 : Ref sig .tc := ⟨.hbm, 4105, rfl⟩
abbrev main_call19_call0_call0_v141 : Ref sig .tc := ⟨.hbm, 4106, rfl⟩
abbrev main_call19_call0_call0_v142 : Ref sig .tc := ⟨.hbm, 4107, rfl⟩
abbrev main_call19_call0_call0_c_36 : Ref sig .tc := ⟨.hbm, 4108, rfl⟩
abbrev main_call19_call0_call0_v143 : Ref sig .tc := ⟨.hbm, 4109, rfl⟩
abbrev main_call19_call0_call0_v144 : Ref sig .tc := ⟨.hbm, 4110, rfl⟩
abbrev main_call19_call0_call0_c_37 : Ref sig .tc := ⟨.hbm, 4111, rfl⟩
abbrev main_call19_call0_call0_v145 : Ref sig .tc := ⟨.hbm, 4112, rfl⟩
abbrev main_call19_call0_call0_v146 : Ref sig .tc := ⟨.hbm, 4113, rfl⟩
abbrev main_call19_call0_call0_v147 : Ref sig .tc := ⟨.hbm, 4114, rfl⟩
abbrev main_call19_call0_call0_v148 : Ref sig .tc := ⟨.hbm, 4115, rfl⟩
abbrev main_call19_call0_call0_v149 : Ref sig .tc := ⟨.hbm, 4116, rfl⟩
abbrev main_call19_call0_call0_c_38 : Ref sig .tc := ⟨.hbm, 4117, rfl⟩
abbrev main_call19_call0_call0_v150 : Ref sig .tc := ⟨.hbm, 4118, rfl⟩
abbrev main_call19_call0_call0_v151 : Ref sig .tc := ⟨.hbm, 4119, rfl⟩
abbrev main_call19_call0_call0_c_39 : Ref sig .tc := ⟨.hbm, 4120, rfl⟩
abbrev main_call19_call0_call0_v152 : Ref sig .tc := ⟨.hbm, 4121, rfl⟩
abbrev main_call19_call0_call0_v153 : Ref sig .tc := ⟨.hbm, 4122, rfl⟩
abbrev main_call19_call0_call0_v154 : Ref sig .tc := ⟨.hbm, 4123, rfl⟩
abbrev main_call19_call0_call0_v155 : Ref sig .tc := ⟨.hbm, 4124, rfl⟩
abbrev main_call19_call0_call0_v156 : Ref sig .tc := ⟨.hbm, 4125, rfl⟩
abbrev main_call19_call0_call0_c_40 : Ref sig .tc := ⟨.hbm, 4126, rfl⟩
abbrev main_call19_call0_call0_v157 : Ref sig .tc := ⟨.hbm, 4127, rfl⟩
abbrev main_call19_call0_call0_v158 : Ref sig .tc := ⟨.hbm, 4128, rfl⟩
abbrev main_call19_call0_call0_c_41 : Ref sig .tc := ⟨.hbm, 4129, rfl⟩
abbrev main_call19_call0_call0_v159 : Ref sig .tc := ⟨.hbm, 4130, rfl⟩
abbrev main_call19_call0_call0_v160 : Ref sig .tc := ⟨.hbm, 4131, rfl⟩
abbrev main_call19_call0_call0_v161 : Ref sig .tc := ⟨.hbm, 4132, rfl⟩
abbrev main_call19_call0_call0_v162 : Ref sig .tc := ⟨.hbm, 4133, rfl⟩
abbrev main_call19_call0_call0_v163 : Ref sig .tc := ⟨.hbm, 4134, rfl⟩
abbrev main_call19_call0_call0_c_42 : Ref sig .tc := ⟨.hbm, 4135, rfl⟩
abbrev main_call19_call0_call0_v164 : Ref sig .tc := ⟨.hbm, 4136, rfl⟩
abbrev main_call19_call0_call0_v165 : Ref sig .tc := ⟨.hbm, 4137, rfl⟩
abbrev main_call19_call0_call0_c_43 : Ref sig .tc := ⟨.hbm, 4138, rfl⟩
abbrev main_call19_call0_call0_v166 : Ref sig .tc := ⟨.hbm, 4139, rfl⟩
abbrev main_call19_call0_call0_v167 : Ref sig .tc := ⟨.hbm, 4140, rfl⟩
abbrev main_call19_call0_call0_v168 : Ref sig .tc := ⟨.hbm, 4141, rfl⟩
abbrev main_call19_call0_call0_v169 : Ref sig .tc := ⟨.hbm, 4142, rfl⟩
abbrev main_call19_call0_call0_v170 : Ref sig .tc := ⟨.hbm, 4143, rfl⟩
abbrev main_call19_call0_v18_0 : Ref sig .tc := ⟨.hbm, 4144, rfl⟩
abbrev main_call19_call0_call0_v172 : Ref sig .tc := ⟨.hbm, 4145, rfl⟩
abbrev main_call19_call0_call0_v173 : Ref sig .tc := ⟨.hbm, 4146, rfl⟩
abbrev main_call19_call0_call0_c_44 : Ref sig .tc := ⟨.hbm, 4147, rfl⟩
abbrev main_call19_call0_call0_v174 : Ref sig .tc := ⟨.hbm, 4148, rfl⟩
abbrev main_call19_call0_v18_1 : Ref sig .tc := ⟨.hbm, 4149, rfl⟩
abbrev main_call19_call0_v19 : Ref sig .tc := ⟨.hbm, 4150, rfl⟩
abbrev main_call19_call0_c_2 : Ref sig .tc := ⟨.hbm, 4151, rfl⟩
abbrev main_call19_call0_v20 : Ref sig .tc := ⟨.hbm, 4152, rfl⟩
abbrev main_call19_call0_v21 : Ref sig .tc := ⟨.hbm, 4153, rfl⟩
abbrev main_call19_call0_c_3 : Ref sig .tc := ⟨.hbm, 4154, rfl⟩
abbrev main_call19_call0_v22 : Ref sig .tc := ⟨.hbm, 4155, rfl⟩
abbrev main_call19_call0_v23 : Ref sig .tc := ⟨.hbm, 4156, rfl⟩
abbrev main_call19_call0_v24 : Ref sig .tc := ⟨.hbm, 4157, rfl⟩
abbrev main_call19_call0_cst : Ref sig .tc := ⟨.hbm, 4158, rfl⟩
abbrev main_call19_call0_v25 : Ref sig .tc := ⟨.hbm, 4159, rfl⟩
abbrev main_call19_call0_v26 : Ref sig .tc := ⟨.hbm, 4160, rfl⟩
abbrev main_call19_call0_v27 : Ref sig .tc := ⟨.hbm, 4161, rfl⟩
abbrev main_call19_call0_v28 : Ref sig .tc := ⟨.hbm, 4162, rfl⟩
abbrev main_call19_call0_v29 : Ref sig .tc := ⟨.hbm, 4163, rfl⟩
abbrev main_call19_call0_v30 : Ref sig .tc := ⟨.hbm, 4164, rfl⟩
abbrev main_call19_call0_v31 : Ref sig .tc := ⟨.hbm, 4165, rfl⟩
abbrev main_call19_call0_v32 : Ref sig .tc := ⟨.hbm, 4166, rfl⟩
abbrev main_call19_v0 : Ref sig .tc := ⟨.hbm, 4167, rfl⟩
abbrev main_call19_v1 : Ref sig .tc := ⟨.hbm, 4168, rfl⟩
abbrev main_call19_v2 : Ref sig .tc := ⟨.hbm, 4169, rfl⟩
abbrev main_call19_v3 : Ref sig .tc := ⟨.hbm, 4170, rfl⟩
abbrev main_v413 : Ref sig .tc := ⟨.hbm, 4171, rfl⟩
abbrev main_v414 : Ref sig .tc := ⟨.hbm, 4172, rfl⟩
abbrev main_call20_v0 : Ref sig .tc := ⟨.hbm, 4173, rfl⟩
abbrev main_call20_cst : Ref sig .tc := ⟨.hbm, 4174, rfl⟩
abbrev main_call20_c : Ref sig .tc := ⟨.hbm, 4175, rfl⟩
abbrev main_call20_v1_0 : Ref sig .tc := ⟨.hbm, 4176, rfl⟩
abbrev main_v415 : Ref sig .tc := ⟨.hbm, 4177, rfl⟩
abbrev main_v416 : Ref sig .tc := ⟨.hbm, 4178, rfl⟩
abbrev main_v417 : Ref sig .tc := ⟨.hbm, 4179, rfl⟩
abbrev main_v418 : Ref sig .tc := ⟨.hbm, 4180, rfl⟩
abbrev main_v419 : Ref sig .tc := ⟨.hbm, 4181, rfl⟩
abbrev main_c_206 : Ref sig .tc := ⟨.hbm, 4182, rfl⟩
abbrev main_v420 : Ref sig .tc := ⟨.hbm, 4183, rfl⟩
abbrev main_v421 : Ref sig .tc := ⟨.hbm, 4184, rfl⟩
abbrev main_c_207 : Ref sig .tc := ⟨.hbm, 4185, rfl⟩
abbrev main_v422 : Ref sig .tc := ⟨.hbm, 4186, rfl⟩
abbrev main_v423 : Ref sig .tc := ⟨.hbm, 4187, rfl⟩
abbrev main_v424 : Ref sig .tc := ⟨.hbm, 4188, rfl⟩
abbrev main_v425 : Ref sig .tc := ⟨.hbm, 4189, rfl⟩
abbrev main_v426 : Ref sig .tc := ⟨.hbm, 4190, rfl⟩
abbrev main_v427 : Ref sig .tc := ⟨.hbm, 4191, rfl⟩
abbrev main_c_208 : Ref sig .tc := ⟨.hbm, 4192, rfl⟩
abbrev main_v428 : Ref sig .tc := ⟨.hbm, 4193, rfl⟩
abbrev main_c_209 : Ref sig .tc := ⟨.hbm, 4194, rfl⟩
abbrev main_v429 : Ref sig .tc := ⟨.hbm, 4195, rfl⟩
abbrev main_v430 : Ref sig .tc := ⟨.hbm, 4196, rfl⟩
abbrev main_c_210 : Ref sig .tc := ⟨.hbm, 4197, rfl⟩
abbrev main_v431 : Ref sig .tc := ⟨.hbm, 4198, rfl⟩
abbrev main_v432 : Ref sig .tc := ⟨.hbm, 4199, rfl⟩
abbrev main_c_211 : Ref sig .tc := ⟨.hbm, 4200, rfl⟩
abbrev main_v433 : Ref sig .tc := ⟨.hbm, 4201, rfl⟩
abbrev main_v434 : Ref sig .tc := ⟨.hbm, 4202, rfl⟩
abbrev main_v435 : Ref sig .tc := ⟨.hbm, 4203, rfl⟩
abbrev main_c_212 : Ref sig .tc := ⟨.hbm, 4204, rfl⟩
abbrev main_v436 : Ref sig .tc := ⟨.hbm, 4205, rfl⟩
abbrev main_v437 : Ref sig .tc := ⟨.hbm, 4206, rfl⟩
abbrev main_c_213 : Ref sig .tc := ⟨.hbm, 4207, rfl⟩
abbrev main_v438 : Ref sig .tc := ⟨.hbm, 4208, rfl⟩
abbrev main_v439 : Ref sig .tc := ⟨.hbm, 4209, rfl⟩
abbrev main_v440 : Ref sig .tc := ⟨.hbm, 4210, rfl⟩
abbrev main_v441 : Ref sig .tc := ⟨.hbm, 4211, rfl⟩
abbrev main_v442 : Ref sig .tc := ⟨.hbm, 4212, rfl⟩
abbrev main_v443 : Ref sig .tc := ⟨.hbm, 4213, rfl⟩
abbrev main_v444 : Ref sig .tc := ⟨.hbm, 4214, rfl⟩
abbrev main_v445 : Ref sig .tc := ⟨.hbm, 4215, rfl⟩
abbrev main_v446 : Ref sig .tc := ⟨.hbm, 4216, rfl⟩
abbrev main_c_214 : Ref sig .tc := ⟨.hbm, 4217, rfl⟩
abbrev main_v447 : Ref sig .tc := ⟨.hbm, 4218, rfl⟩
abbrev main_c_215 : Ref sig .tc := ⟨.hbm, 4219, rfl⟩
abbrev main_v448 : Ref sig .tc := ⟨.hbm, 4220, rfl⟩
abbrev main_v449 : Ref sig .tc := ⟨.hbm, 4221, rfl⟩
abbrev main_c_216 : Ref sig .tc := ⟨.hbm, 4222, rfl⟩
abbrev main_c_217 : Ref sig .tc := ⟨.hbm, 4223, rfl⟩
abbrev main_v450 : Ref sig .tc := ⟨.hbm, 4224, rfl⟩
abbrev main_c_218 : Ref sig .tc := ⟨.hbm, 4225, rfl⟩
abbrev main_c_219 : Ref sig .tc := ⟨.hbm, 4226, rfl⟩
abbrev main_v451 : Ref sig .tc := ⟨.hbm, 4227, rfl⟩
abbrev main_c_220 : Ref sig .tc := ⟨.hbm, 4228, rfl⟩
abbrev main_v452 : Ref sig .tc := ⟨.hbm, 4229, rfl⟩
abbrev main_c_221 : Ref sig .tc := ⟨.hbm, 4230, rfl⟩
abbrev main_c_222 : Ref sig .tc := ⟨.hbm, 4231, rfl⟩
abbrev main_v453 : Ref sig .tc := ⟨.hbm, 4232, rfl⟩
abbrev main_c_223 : Ref sig .tc := ⟨.hbm, 4233, rfl⟩
abbrev main_c_224 : Ref sig .tc := ⟨.hbm, 4234, rfl⟩
abbrev main_v454 : Ref sig .tc := ⟨.hbm, 4235, rfl⟩
abbrev main_c_225 : Ref sig .tc := ⟨.hbm, 4236, rfl⟩
abbrev main_v455 : Ref sig .tc := ⟨.hbm, 4237, rfl⟩
abbrev main_v456 : Ref sig .tc := ⟨.hbm, 4238, rfl⟩
abbrev main_v457 : Ref sig .tc := ⟨.hbm, 4239, rfl⟩
abbrev main_v458 : Ref sig .tc := ⟨.hbm, 4240, rfl⟩
abbrev main_v459 : Ref sig .tc := ⟨.hbm, 4241, rfl⟩
abbrev main_v460 : Ref sig .tc := ⟨.hbm, 4242, rfl⟩
abbrev main_call21_v0 : Ref sig .tc := ⟨.hbm, 4243, rfl⟩
abbrev main_call21_v1 : Ref sig .tc := ⟨.hbm, 4244, rfl⟩
abbrev main_call21_v2 : Ref sig .tc := ⟨.hbm, 4245, rfl⟩
abbrev main_call21_v3 : Ref sig .tc := ⟨.hbm, 4246, rfl⟩
abbrev main_call21_v4 : Ref sig .tc := ⟨.hbm, 4247, rfl⟩
abbrev main_call21_c : Ref sig .tc := ⟨.hbm, 4248, rfl⟩
abbrev main_call21_v5 : Ref sig .tc := ⟨.hbm, 4249, rfl⟩
abbrev main_call21_v6 : Ref sig .tc := ⟨.hbm, 4250, rfl⟩
abbrev main_call21_c_0 : Ref sig .tc := ⟨.hbm, 4251, rfl⟩
abbrev main_call21_v7 : Ref sig .tc := ⟨.hbm, 4252, rfl⟩
abbrev main_call21_v8 : Ref sig .tc := ⟨.hbm, 4253, rfl⟩
abbrev main_call21_v9 : Ref sig .tc := ⟨.hbm, 4254, rfl⟩
abbrev main_call21_v10 : Ref sig .tc := ⟨.hbm, 4255, rfl⟩
abbrev main_call21_call0_v0 : Ref sig .tc := ⟨.hbm, 4256, rfl⟩
abbrev main_call21_call0_c : Ref sig .tc := ⟨.hbm, 4257, rfl⟩
abbrev main_call21_call0_v1 : Ref sig .tc := ⟨.hbm, 4258, rfl⟩
abbrev main_call21_call0_v2 : Ref sig .tc := ⟨.hbm, 4259, rfl⟩
abbrev main_call21_call0_v3 : Ref sig .tc := ⟨.hbm, 4260, rfl⟩
abbrev main_call21_call0_v4 : Ref sig .tc := ⟨.hbm, 4261, rfl⟩
abbrev main_call21_call0_v5 : Ref sig .tc := ⟨.hbm, 4262, rfl⟩
abbrev main_call21_call0_v6 : Ref sig .tc := ⟨.hbm, 4263, rfl⟩
abbrev main_call21_call0_c_0 : Ref sig .tc := ⟨.hbm, 4264, rfl⟩
abbrev main_call21_call0_v7 : Ref sig .tc := ⟨.hbm, 4265, rfl⟩
abbrev main_call21_call0_v8 : Ref sig .tc := ⟨.hbm, 4266, rfl⟩
abbrev main_call21_call0_c_1 : Ref sig .tc := ⟨.hbm, 4267, rfl⟩
abbrev main_call21_call0_v9 : Ref sig .tc := ⟨.hbm, 4268, rfl⟩
abbrev main_call21_call0_v10 : Ref sig .tc := ⟨.hbm, 4269, rfl⟩
abbrev main_call21_call0_v11 : Ref sig .tc := ⟨.hbm, 4270, rfl⟩
abbrev main_call21_call0_v12 : Ref sig .tc := ⟨.hbm, 4271, rfl⟩
abbrev main_call21_call0_v13 : Ref sig .tc := ⟨.hbm, 4272, rfl⟩
abbrev main_call21_call0_c_2 : Ref sig .tc := ⟨.hbm, 4273, rfl⟩
abbrev main_call21_call0_v14 : Ref sig .tc := ⟨.hbm, 4274, rfl⟩
abbrev main_call21_call0_v15 : Ref sig .tc := ⟨.hbm, 4275, rfl⟩
abbrev main_call21_call0_c_3 : Ref sig .tc := ⟨.hbm, 4276, rfl⟩
abbrev main_call21_call0_v16 : Ref sig .tc := ⟨.hbm, 4277, rfl⟩
abbrev main_call21_call0_v17 : Ref sig .tc := ⟨.hbm, 4278, rfl⟩
abbrev main_call21_call0_v18 : Ref sig .tc := ⟨.hbm, 4279, rfl⟩
abbrev main_call21_call0_v19 : Ref sig .tc := ⟨.hbm, 4280, rfl⟩
abbrev main_call21_call0_v20 : Ref sig .tc := ⟨.hbm, 4281, rfl⟩
abbrev main_call21_call0_c_4 : Ref sig .tc := ⟨.hbm, 4282, rfl⟩
abbrev main_call21_call0_v21 : Ref sig .tc := ⟨.hbm, 4283, rfl⟩
abbrev main_call21_call0_v22 : Ref sig .tc := ⟨.hbm, 4284, rfl⟩
abbrev main_call21_call0_c_5 : Ref sig .tc := ⟨.hbm, 4285, rfl⟩
abbrev main_call21_call0_v23 : Ref sig .tc := ⟨.hbm, 4286, rfl⟩
abbrev main_call21_call0_v24 : Ref sig .tc := ⟨.hbm, 4287, rfl⟩
abbrev main_call21_call0_v25 : Ref sig .tc := ⟨.hbm, 4288, rfl⟩
abbrev main_call21_call0_v26 : Ref sig .tc := ⟨.hbm, 4289, rfl⟩
abbrev main_call21_call0_v27 : Ref sig .tc := ⟨.hbm, 4290, rfl⟩
abbrev main_call21_call0_c_6 : Ref sig .tc := ⟨.hbm, 4291, rfl⟩
abbrev main_call21_call0_v28 : Ref sig .tc := ⟨.hbm, 4292, rfl⟩
abbrev main_call21_call0_v29 : Ref sig .tc := ⟨.hbm, 4293, rfl⟩
abbrev main_call21_call0_c_7 : Ref sig .tc := ⟨.hbm, 4294, rfl⟩
abbrev main_call21_call0_v30 : Ref sig .tc := ⟨.hbm, 4295, rfl⟩
abbrev main_call21_call0_v31 : Ref sig .tc := ⟨.hbm, 4296, rfl⟩
abbrev main_call21_call0_v32 : Ref sig .tc := ⟨.hbm, 4297, rfl⟩
abbrev main_call21_call0_v33 : Ref sig .tc := ⟨.hbm, 4298, rfl⟩
abbrev main_call21_call0_v34 : Ref sig .tc := ⟨.hbm, 4299, rfl⟩
abbrev main_call21_call0_v35 : Ref sig .tc := ⟨.hbm, 4300, rfl⟩
abbrev main_call21_call0_v36 : Ref sig .tc := ⟨.hbm, 4301, rfl⟩
abbrev main_call21_call0_v37 : Ref sig .tc := ⟨.hbm, 4302, rfl⟩
abbrev main_call21_call0_c_8 : Ref sig .tc := ⟨.hbm, 4303, rfl⟩
abbrev main_call21_call0_v38 : Ref sig .tc := ⟨.hbm, 4304, rfl⟩
abbrev main_call21_call0_v39 : Ref sig .tc := ⟨.hbm, 4305, rfl⟩
abbrev main_call21_call0_v40 : Ref sig .tc := ⟨.hbm, 4306, rfl⟩
abbrev main_call21_call0_c_9 : Ref sig .tc := ⟨.hbm, 4307, rfl⟩
abbrev main_call21_call0_v41 : Ref sig .tc := ⟨.hbm, 4308, rfl⟩
abbrev main_call21_call0_v42 : Ref sig .tc := ⟨.hbm, 4309, rfl⟩
abbrev main_call21_call0_c_10 : Ref sig .tc := ⟨.hbm, 4310, rfl⟩
abbrev main_call21_call0_v43 : Ref sig .tc := ⟨.hbm, 4311, rfl⟩
abbrev main_call21_call0_v44 : Ref sig .tc := ⟨.hbm, 4312, rfl⟩
abbrev main_call21_call0_v45 : Ref sig .tc := ⟨.hbm, 4313, rfl⟩
abbrev main_call21_call0_v46 : Ref sig .tc := ⟨.hbm, 4314, rfl⟩
abbrev main_call21_call0_v47 : Ref sig .tc := ⟨.hbm, 4315, rfl⟩
abbrev main_call21_call0_c_11 : Ref sig .tc := ⟨.hbm, 4316, rfl⟩
abbrev main_call21_call0_v48 : Ref sig .tc := ⟨.hbm, 4317, rfl⟩
abbrev main_call21_call0_v49 : Ref sig .tc := ⟨.hbm, 4318, rfl⟩
abbrev main_call21_call0_c_12 : Ref sig .tc := ⟨.hbm, 4319, rfl⟩
abbrev main_call21_call0_v50 : Ref sig .tc := ⟨.hbm, 4320, rfl⟩
abbrev main_call21_call0_v51 : Ref sig .tc := ⟨.hbm, 4321, rfl⟩
abbrev main_call21_call0_v52 : Ref sig .tc := ⟨.hbm, 4322, rfl⟩
abbrev main_call21_call0_v53 : Ref sig .tc := ⟨.hbm, 4323, rfl⟩
abbrev main_call21_call0_v54 : Ref sig .tc := ⟨.hbm, 4324, rfl⟩
abbrev main_call21_call0_c_13 : Ref sig .tc := ⟨.hbm, 4325, rfl⟩
abbrev main_call21_call0_v55 : Ref sig .tc := ⟨.hbm, 4326, rfl⟩
abbrev main_call21_call0_v56 : Ref sig .tc := ⟨.hbm, 4327, rfl⟩
abbrev main_call21_call0_c_14 : Ref sig .tc := ⟨.hbm, 4328, rfl⟩
abbrev main_call21_call0_v57 : Ref sig .tc := ⟨.hbm, 4329, rfl⟩
abbrev main_call21_call0_v58 : Ref sig .tc := ⟨.hbm, 4330, rfl⟩
abbrev main_call21_call0_v59 : Ref sig .tc := ⟨.hbm, 4331, rfl⟩
abbrev main_call21_call0_v60 : Ref sig .tc := ⟨.hbm, 4332, rfl⟩
abbrev main_call21_call0_v61 : Ref sig .tc := ⟨.hbm, 4333, rfl⟩
abbrev main_call21_call0_c_15 : Ref sig .tc := ⟨.hbm, 4334, rfl⟩
abbrev main_call21_call0_v62 : Ref sig .tc := ⟨.hbm, 4335, rfl⟩
abbrev main_call21_call0_v63 : Ref sig .tc := ⟨.hbm, 4336, rfl⟩
abbrev main_call21_call0_c_16 : Ref sig .tc := ⟨.hbm, 4337, rfl⟩
abbrev main_call21_call0_v64 : Ref sig .tc := ⟨.hbm, 4338, rfl⟩
abbrev main_call21_call0_v65 : Ref sig .tc := ⟨.hbm, 4339, rfl⟩
abbrev main_call21_call0_v66 : Ref sig .tc := ⟨.hbm, 4340, rfl⟩
abbrev main_call21_call0_v67 : Ref sig .tc := ⟨.hbm, 4341, rfl⟩
abbrev main_call21_call0_v68 : Ref sig .tc := ⟨.hbm, 4342, rfl⟩
abbrev main_call21_call0_v69 : Ref sig .tc := ⟨.hbm, 4343, rfl⟩
abbrev main_call21_call0_v70 : Ref sig .tc := ⟨.hbm, 4344, rfl⟩
abbrev main_call21_call0_v71 : Ref sig .tc := ⟨.hbm, 4345, rfl⟩
abbrev main_call21_call0_c_17 : Ref sig .tc := ⟨.hbm, 4346, rfl⟩
abbrev main_call21_call0_v72 : Ref sig .tc := ⟨.hbm, 4347, rfl⟩
abbrev main_call21_call0_v73 : Ref sig .tc := ⟨.hbm, 4348, rfl⟩
abbrev main_call21_call0_v74 : Ref sig .tc := ⟨.hbm, 4349, rfl⟩
abbrev main_call21_call0_c_18 : Ref sig .tc := ⟨.hbm, 4350, rfl⟩
abbrev main_call21_call0_v75 : Ref sig .tc := ⟨.hbm, 4351, rfl⟩
abbrev main_call21_call0_v76 : Ref sig .tc := ⟨.hbm, 4352, rfl⟩
abbrev main_call21_call0_c_19 : Ref sig .tc := ⟨.hbm, 4353, rfl⟩
abbrev main_call21_call0_v77 : Ref sig .tc := ⟨.hbm, 4354, rfl⟩
abbrev main_call21_call0_v78 : Ref sig .tc := ⟨.hbm, 4355, rfl⟩
abbrev main_call21_call0_v79 : Ref sig .tc := ⟨.hbm, 4356, rfl⟩
abbrev main_call21_call0_v80 : Ref sig .tc := ⟨.hbm, 4357, rfl⟩
abbrev main_call21_call0_v81 : Ref sig .tc := ⟨.hbm, 4358, rfl⟩
abbrev main_call21_call0_c_20 : Ref sig .tc := ⟨.hbm, 4359, rfl⟩
abbrev main_call21_call0_v82 : Ref sig .tc := ⟨.hbm, 4360, rfl⟩
abbrev main_call21_call0_v83 : Ref sig .tc := ⟨.hbm, 4361, rfl⟩
abbrev main_call21_call0_c_21 : Ref sig .tc := ⟨.hbm, 4362, rfl⟩
abbrev main_call21_call0_v84 : Ref sig .tc := ⟨.hbm, 4363, rfl⟩
abbrev main_call21_call0_v85 : Ref sig .tc := ⟨.hbm, 4364, rfl⟩
abbrev main_call21_call0_v86 : Ref sig .tc := ⟨.hbm, 4365, rfl⟩
abbrev main_call21_call0_v87 : Ref sig .tc := ⟨.hbm, 4366, rfl⟩
abbrev main_call21_call0_v88 : Ref sig .tc := ⟨.hbm, 4367, rfl⟩
abbrev main_call21_call0_c_22 : Ref sig .tc := ⟨.hbm, 4368, rfl⟩
abbrev main_call21_call0_v89 : Ref sig .tc := ⟨.hbm, 4369, rfl⟩
abbrev main_call21_call0_v90 : Ref sig .tc := ⟨.hbm, 4370, rfl⟩
abbrev main_call21_call0_c_23 : Ref sig .tc := ⟨.hbm, 4371, rfl⟩
abbrev main_call21_call0_v91 : Ref sig .tc := ⟨.hbm, 4372, rfl⟩
abbrev main_call21_call0_v92 : Ref sig .tc := ⟨.hbm, 4373, rfl⟩
abbrev main_call21_call0_v93 : Ref sig .tc := ⟨.hbm, 4374, rfl⟩
abbrev main_call21_call0_v94 : Ref sig .tc := ⟨.hbm, 4375, rfl⟩
abbrev main_call21_call0_v95 : Ref sig .tc := ⟨.hbm, 4376, rfl⟩
abbrev main_call21_call0_c_24 : Ref sig .tc := ⟨.hbm, 4377, rfl⟩
abbrev main_call21_call0_v96 : Ref sig .tc := ⟨.hbm, 4378, rfl⟩
abbrev main_call21_call0_v97 : Ref sig .tc := ⟨.hbm, 4379, rfl⟩
abbrev main_call21_call0_c_25 : Ref sig .tc := ⟨.hbm, 4380, rfl⟩
abbrev main_call21_call0_v98 : Ref sig .tc := ⟨.hbm, 4381, rfl⟩
abbrev main_call21_call0_v99 : Ref sig .tc := ⟨.hbm, 4382, rfl⟩
abbrev main_call21_call0_v100 : Ref sig .tc := ⟨.hbm, 4383, rfl⟩
abbrev main_call21_call0_v101 : Ref sig .tc := ⟨.hbm, 4384, rfl⟩
abbrev main_call21_call0_v102 : Ref sig .tc := ⟨.hbm, 4385, rfl⟩
abbrev main_call21_call0_v103 : Ref sig .tc := ⟨.hbm, 4386, rfl⟩
abbrev main_call21_call0_v104 : Ref sig .tc := ⟨.hbm, 4387, rfl⟩
abbrev main_call21_call0_v105 : Ref sig .tc := ⟨.hbm, 4388, rfl⟩
abbrev main_call21_call0_c_26 : Ref sig .tc := ⟨.hbm, 4389, rfl⟩
abbrev main_call21_call0_v106 : Ref sig .tc := ⟨.hbm, 4390, rfl⟩
abbrev main_call21_call0_v107 : Ref sig .tc := ⟨.hbm, 4391, rfl⟩
abbrev main_call21_call0_v108 : Ref sig .tc := ⟨.hbm, 4392, rfl⟩
abbrev main_call21_call0_c_27 : Ref sig .tc := ⟨.hbm, 4393, rfl⟩
abbrev main_call21_call0_v109 : Ref sig .tc := ⟨.hbm, 4394, rfl⟩
abbrev main_call21_call0_v110 : Ref sig .tc := ⟨.hbm, 4395, rfl⟩
abbrev main_call21_call0_c_28 : Ref sig .tc := ⟨.hbm, 4396, rfl⟩
abbrev main_call21_call0_v111 : Ref sig .tc := ⟨.hbm, 4397, rfl⟩
abbrev main_call21_call0_v112 : Ref sig .tc := ⟨.hbm, 4398, rfl⟩
abbrev main_call21_call0_v113 : Ref sig .tc := ⟨.hbm, 4399, rfl⟩
abbrev main_call21_call0_v114 : Ref sig .tc := ⟨.hbm, 4400, rfl⟩
abbrev main_call21_call0_v115 : Ref sig .tc := ⟨.hbm, 4401, rfl⟩
abbrev main_call21_call0_c_29 : Ref sig .tc := ⟨.hbm, 4402, rfl⟩
abbrev main_call21_call0_v116 : Ref sig .tc := ⟨.hbm, 4403, rfl⟩
abbrev main_call21_call0_v117 : Ref sig .tc := ⟨.hbm, 4404, rfl⟩
abbrev main_call21_call0_c_30 : Ref sig .tc := ⟨.hbm, 4405, rfl⟩
abbrev main_call21_call0_v118 : Ref sig .tc := ⟨.hbm, 4406, rfl⟩
abbrev main_call21_call0_v119 : Ref sig .tc := ⟨.hbm, 4407, rfl⟩
abbrev main_call21_call0_v120 : Ref sig .tc := ⟨.hbm, 4408, rfl⟩
abbrev main_call21_call0_v121 : Ref sig .tc := ⟨.hbm, 4409, rfl⟩
abbrev main_call21_call0_v122 : Ref sig .tc := ⟨.hbm, 4410, rfl⟩
abbrev main_call21_call0_c_31 : Ref sig .tc := ⟨.hbm, 4411, rfl⟩
abbrev main_call21_call0_v123 : Ref sig .tc := ⟨.hbm, 4412, rfl⟩
abbrev main_call21_call0_v124 : Ref sig .tc := ⟨.hbm, 4413, rfl⟩
abbrev main_call21_call0_c_32 : Ref sig .tc := ⟨.hbm, 4414, rfl⟩
abbrev main_call21_call0_v125 : Ref sig .tc := ⟨.hbm, 4415, rfl⟩
abbrev main_call21_call0_v126 : Ref sig .tc := ⟨.hbm, 4416, rfl⟩
abbrev main_call21_call0_v127 : Ref sig .tc := ⟨.hbm, 4417, rfl⟩
abbrev main_call21_call0_v128 : Ref sig .tc := ⟨.hbm, 4418, rfl⟩
abbrev main_call21_call0_v129 : Ref sig .tc := ⟨.hbm, 4419, rfl⟩
abbrev main_call21_call0_c_33 : Ref sig .tc := ⟨.hbm, 4420, rfl⟩
abbrev main_call21_call0_v130 : Ref sig .tc := ⟨.hbm, 4421, rfl⟩
abbrev main_call21_call0_v131 : Ref sig .tc := ⟨.hbm, 4422, rfl⟩
abbrev main_call21_call0_c_34 : Ref sig .tc := ⟨.hbm, 4423, rfl⟩
abbrev main_call21_call0_v132 : Ref sig .tc := ⟨.hbm, 4424, rfl⟩
abbrev main_call21_call0_v133 : Ref sig .tc := ⟨.hbm, 4425, rfl⟩
abbrev main_call21_call0_v134 : Ref sig .tc := ⟨.hbm, 4426, rfl⟩
abbrev main_call21_call0_v135 : Ref sig .tc := ⟨.hbm, 4427, rfl⟩
abbrev main_call21_call0_v136 : Ref sig .tc := ⟨.hbm, 4428, rfl⟩
abbrev main_call21_call0_v137 : Ref sig .tc := ⟨.hbm, 4429, rfl⟩
abbrev main_call21_call0_v138 : Ref sig .tc := ⟨.hbm, 4430, rfl⟩
abbrev main_call21_call0_v139 : Ref sig .tc := ⟨.hbm, 4431, rfl⟩
abbrev main_call21_call0_c_35 : Ref sig .tc := ⟨.hbm, 4432, rfl⟩
abbrev main_call21_call0_v140 : Ref sig .tc := ⟨.hbm, 4433, rfl⟩
abbrev main_call21_call0_v141 : Ref sig .tc := ⟨.hbm, 4434, rfl⟩
abbrev main_call21_call0_v142 : Ref sig .tc := ⟨.hbm, 4435, rfl⟩
abbrev main_call21_call0_c_36 : Ref sig .tc := ⟨.hbm, 4436, rfl⟩
abbrev main_call21_call0_v143 : Ref sig .tc := ⟨.hbm, 4437, rfl⟩
abbrev main_call21_call0_v144 : Ref sig .tc := ⟨.hbm, 4438, rfl⟩
abbrev main_call21_call0_c_37 : Ref sig .tc := ⟨.hbm, 4439, rfl⟩
abbrev main_call21_call0_v145 : Ref sig .tc := ⟨.hbm, 4440, rfl⟩
abbrev main_call21_call0_v146 : Ref sig .tc := ⟨.hbm, 4441, rfl⟩
abbrev main_call21_call0_v147 : Ref sig .tc := ⟨.hbm, 4442, rfl⟩
abbrev main_call21_call0_v148 : Ref sig .tc := ⟨.hbm, 4443, rfl⟩
abbrev main_call21_call0_v149 : Ref sig .tc := ⟨.hbm, 4444, rfl⟩
abbrev main_call21_call0_c_38 : Ref sig .tc := ⟨.hbm, 4445, rfl⟩
abbrev main_call21_call0_v150 : Ref sig .tc := ⟨.hbm, 4446, rfl⟩
abbrev main_call21_call0_v151 : Ref sig .tc := ⟨.hbm, 4447, rfl⟩
abbrev main_call21_call0_c_39 : Ref sig .tc := ⟨.hbm, 4448, rfl⟩
abbrev main_call21_call0_v152 : Ref sig .tc := ⟨.hbm, 4449, rfl⟩
abbrev main_call21_call0_v153 : Ref sig .tc := ⟨.hbm, 4450, rfl⟩
abbrev main_call21_call0_v154 : Ref sig .tc := ⟨.hbm, 4451, rfl⟩
abbrev main_call21_call0_v155 : Ref sig .tc := ⟨.hbm, 4452, rfl⟩
abbrev main_call21_call0_v156 : Ref sig .tc := ⟨.hbm, 4453, rfl⟩
abbrev main_call21_call0_c_40 : Ref sig .tc := ⟨.hbm, 4454, rfl⟩
abbrev main_call21_call0_v157 : Ref sig .tc := ⟨.hbm, 4455, rfl⟩
abbrev main_call21_call0_v158 : Ref sig .tc := ⟨.hbm, 4456, rfl⟩
abbrev main_call21_call0_c_41 : Ref sig .tc := ⟨.hbm, 4457, rfl⟩
abbrev main_call21_call0_v159 : Ref sig .tc := ⟨.hbm, 4458, rfl⟩
abbrev main_call21_call0_v160 : Ref sig .tc := ⟨.hbm, 4459, rfl⟩
abbrev main_call21_call0_v161 : Ref sig .tc := ⟨.hbm, 4460, rfl⟩
abbrev main_call21_call0_v162 : Ref sig .tc := ⟨.hbm, 4461, rfl⟩
abbrev main_call21_call0_v163 : Ref sig .tc := ⟨.hbm, 4462, rfl⟩
abbrev main_call21_call0_c_42 : Ref sig .tc := ⟨.hbm, 4463, rfl⟩
abbrev main_call21_call0_v164 : Ref sig .tc := ⟨.hbm, 4464, rfl⟩
abbrev main_call21_call0_v165 : Ref sig .tc := ⟨.hbm, 4465, rfl⟩
abbrev main_call21_call0_c_43 : Ref sig .tc := ⟨.hbm, 4466, rfl⟩
abbrev main_call21_call0_v166 : Ref sig .tc := ⟨.hbm, 4467, rfl⟩
abbrev main_call21_call0_v167 : Ref sig .tc := ⟨.hbm, 4468, rfl⟩
abbrev main_call21_call0_v168 : Ref sig .tc := ⟨.hbm, 4469, rfl⟩
abbrev main_call21_call0_v169 : Ref sig .tc := ⟨.hbm, 4470, rfl⟩
abbrev main_call21_call0_v170 : Ref sig .tc := ⟨.hbm, 4471, rfl⟩
abbrev main_call21_v11_0 : Ref sig .tc := ⟨.hbm, 4472, rfl⟩
abbrev main_call21_call0_v172 : Ref sig .tc := ⟨.hbm, 4473, rfl⟩
abbrev main_call21_call0_v173 : Ref sig .tc := ⟨.hbm, 4474, rfl⟩
abbrev main_call21_call0_c_44 : Ref sig .tc := ⟨.hbm, 4475, rfl⟩
abbrev main_call21_call0_v174 : Ref sig .tc := ⟨.hbm, 4476, rfl⟩
abbrev main_call21_v11_1 : Ref sig .tc := ⟨.hbm, 4477, rfl⟩
abbrev main_call21_v12 : Ref sig .tc := ⟨.hbm, 4478, rfl⟩
abbrev main_call21_v13 : Ref sig .tc := ⟨.hbm, 4479, rfl⟩
abbrev main_v461 : Ref sig .tc := ⟨.hbm, 4480, rfl⟩
abbrev main_v462 : Ref sig .tc := ⟨.hbm, 4481, rfl⟩
abbrev main_v463 : Ref sig .tc := ⟨.hbm, 4482, rfl⟩
abbrev main_v464 : Ref sig .tc := ⟨.hbm, 4483, rfl⟩
abbrev main_v465 : Ref sig .tc := ⟨.hbm, 4484, rfl⟩
abbrev main_c_226 : Ref sig .tc := ⟨.hbm, 4485, rfl⟩
abbrev main_v466 : Ref sig .tc := ⟨.hbm, 4486, rfl⟩
abbrev main_c_227 : Ref sig .tc := ⟨.hbm, 4487, rfl⟩
abbrev main_v467 : Ref sig .tc := ⟨.hbm, 4488, rfl⟩
abbrev main_v468 : Ref sig .tc := ⟨.hbm, 4489, rfl⟩
abbrev main_c_228 : Ref sig .tc := ⟨.hbm, 4490, rfl⟩
abbrev main_c_229 : Ref sig .tc := ⟨.hbm, 4491, rfl⟩
abbrev main_v469 : Ref sig .tc := ⟨.hbm, 4492, rfl⟩
abbrev main_c_230 : Ref sig .tc := ⟨.hbm, 4493, rfl⟩
abbrev main_c_231 : Ref sig .tc := ⟨.hbm, 4494, rfl⟩
abbrev main_v470 : Ref sig .tc := ⟨.hbm, 4495, rfl⟩
abbrev main_c_232 : Ref sig .tc := ⟨.hbm, 4496, rfl⟩
abbrev main_v471 : Ref sig .tc := ⟨.hbm, 4497, rfl⟩
abbrev main_c_233 : Ref sig .tc := ⟨.hbm, 4498, rfl⟩
abbrev main_c_234 : Ref sig .tc := ⟨.hbm, 4499, rfl⟩
abbrev main_v472 : Ref sig .tc := ⟨.hbm, 4500, rfl⟩
abbrev main_c_235 : Ref sig .tc := ⟨.hbm, 4501, rfl⟩
abbrev main_c_236 : Ref sig .tc := ⟨.hbm, 4502, rfl⟩
abbrev main_v473 : Ref sig .tc := ⟨.hbm, 4503, rfl⟩
abbrev main_c_237 : Ref sig .tc := ⟨.hbm, 4504, rfl⟩
abbrev main_v474 : Ref sig .tc := ⟨.hbm, 4505, rfl⟩
abbrev main_v475 : Ref sig .tc := ⟨.hbm, 4506, rfl⟩
abbrev main_v476 : Ref sig .tc := ⟨.hbm, 4507, rfl⟩
abbrev main_call22_cst : Ref sig .tc := ⟨.hbm, 4508, rfl⟩
abbrev main_call22_cst_0 : Ref sig .tc := ⟨.hbm, 4509, rfl⟩
abbrev main_call22_call0_v0 : Ref sig .tc := ⟨.hbm, 4510, rfl⟩
abbrev main_call22_call0_v1 : Ref sig .tc := ⟨.hbm, 4511, rfl⟩
abbrev main_call22_call0_v2 : Ref sig .tc := ⟨.hbm, 4512, rfl⟩
abbrev main_call22_call0_v3 : Ref sig .tc := ⟨.hbm, 4513, rfl⟩
abbrev main_call22_call0_v4 : Ref sig .tc := ⟨.hbm, 4514, rfl⟩
abbrev main_call22_call0_v5 : Ref sig .tc := ⟨.hbm, 4515, rfl⟩
abbrev main_call22_call0_v6 : Ref sig .tc := ⟨.hbm, 4516, rfl⟩
abbrev main_call22_call0_v7 : Ref sig .tc := ⟨.hbm, 4517, rfl⟩
abbrev main_call22_call0_v8 : Ref sig .tc := ⟨.hbm, 4518, rfl⟩
abbrev main_call22_call0_c : Ref sig .tc := ⟨.hbm, 4519, rfl⟩
abbrev main_call22_call0_v9 : Ref sig .tc := ⟨.hbm, 4520, rfl⟩
abbrev main_call22_call0_v10 : Ref sig .tc := ⟨.hbm, 4521, rfl⟩
abbrev main_call22_call0_c_0 : Ref sig .tc := ⟨.hbm, 4522, rfl⟩
abbrev main_call22_call0_v11 : Ref sig .tc := ⟨.hbm, 4523, rfl⟩
abbrev main_call22_call0_v12 : Ref sig .tc := ⟨.hbm, 4524, rfl⟩
abbrev main_call22_call0_v13 : Ref sig .tc := ⟨.hbm, 4525, rfl⟩
abbrev main_call22_call0_c_1 : Ref sig .tc := ⟨.hbm, 4526, rfl⟩
abbrev main_call22_call0_v14 : Ref sig .tc := ⟨.hbm, 4527, rfl⟩
abbrev main_call22_call0_v15 : Ref sig .tc := ⟨.hbm, 4528, rfl⟩
abbrev main_call22_call0_v16 : Ref sig .tc := ⟨.hbm, 4529, rfl⟩
abbrev main_call22_call0_v17 : Ref sig .tc := ⟨.hbm, 4530, rfl⟩
abbrev main_call22_call0_call0_v0 : Ref sig .tc := ⟨.hbm, 4531, rfl⟩
abbrev main_call22_call0_call0_c : Ref sig .tc := ⟨.hbm, 4532, rfl⟩
abbrev main_call22_call0_call0_v1 : Ref sig .tc := ⟨.hbm, 4533, rfl⟩
abbrev main_call22_call0_call0_v2 : Ref sig .tc := ⟨.hbm, 4534, rfl⟩
abbrev main_call22_call0_call0_v3 : Ref sig .tc := ⟨.hbm, 4535, rfl⟩
abbrev main_call22_call0_call0_v4 : Ref sig .tc := ⟨.hbm, 4536, rfl⟩
abbrev main_call22_call0_call0_v5 : Ref sig .tc := ⟨.hbm, 4537, rfl⟩
abbrev main_call22_call0_call0_v6 : Ref sig .tc := ⟨.hbm, 4538, rfl⟩
abbrev main_call22_call0_call0_c_0 : Ref sig .tc := ⟨.hbm, 4539, rfl⟩
abbrev main_call22_call0_call0_v7 : Ref sig .tc := ⟨.hbm, 4540, rfl⟩
abbrev main_call22_call0_call0_v8 : Ref sig .tc := ⟨.hbm, 4541, rfl⟩
abbrev main_call22_call0_call0_c_1 : Ref sig .tc := ⟨.hbm, 4542, rfl⟩
abbrev main_call22_call0_call0_v9 : Ref sig .tc := ⟨.hbm, 4543, rfl⟩
abbrev main_call22_call0_call0_v10 : Ref sig .tc := ⟨.hbm, 4544, rfl⟩
abbrev main_call22_call0_call0_v11 : Ref sig .tc := ⟨.hbm, 4545, rfl⟩
abbrev main_call22_call0_call0_v12 : Ref sig .tc := ⟨.hbm, 4546, rfl⟩
abbrev main_call22_call0_call0_v13 : Ref sig .tc := ⟨.hbm, 4547, rfl⟩
abbrev main_call22_call0_call0_c_2 : Ref sig .tc := ⟨.hbm, 4548, rfl⟩
abbrev main_call22_call0_call0_v14 : Ref sig .tc := ⟨.hbm, 4549, rfl⟩
abbrev main_call22_call0_call0_v15 : Ref sig .tc := ⟨.hbm, 4550, rfl⟩
abbrev main_call22_call0_call0_c_3 : Ref sig .tc := ⟨.hbm, 4551, rfl⟩
abbrev main_call22_call0_call0_v16 : Ref sig .tc := ⟨.hbm, 4552, rfl⟩
abbrev main_call22_call0_call0_v17 : Ref sig .tc := ⟨.hbm, 4553, rfl⟩
abbrev main_call22_call0_call0_v18 : Ref sig .tc := ⟨.hbm, 4554, rfl⟩
abbrev main_call22_call0_call0_v19 : Ref sig .tc := ⟨.hbm, 4555, rfl⟩
abbrev main_call22_call0_call0_v20 : Ref sig .tc := ⟨.hbm, 4556, rfl⟩
abbrev main_call22_call0_call0_c_4 : Ref sig .tc := ⟨.hbm, 4557, rfl⟩
abbrev main_call22_call0_call0_v21 : Ref sig .tc := ⟨.hbm, 4558, rfl⟩
abbrev main_call22_call0_call0_v22 : Ref sig .tc := ⟨.hbm, 4559, rfl⟩
abbrev main_call22_call0_call0_c_5 : Ref sig .tc := ⟨.hbm, 4560, rfl⟩
abbrev main_call22_call0_call0_v23 : Ref sig .tc := ⟨.hbm, 4561, rfl⟩
abbrev main_call22_call0_call0_v24 : Ref sig .tc := ⟨.hbm, 4562, rfl⟩
abbrev main_call22_call0_call0_v25 : Ref sig .tc := ⟨.hbm, 4563, rfl⟩
abbrev main_call22_call0_call0_v26 : Ref sig .tc := ⟨.hbm, 4564, rfl⟩
abbrev main_call22_call0_call0_v27 : Ref sig .tc := ⟨.hbm, 4565, rfl⟩
abbrev main_call22_call0_call0_c_6 : Ref sig .tc := ⟨.hbm, 4566, rfl⟩
abbrev main_call22_call0_call0_v28 : Ref sig .tc := ⟨.hbm, 4567, rfl⟩
abbrev main_call22_call0_call0_v29 : Ref sig .tc := ⟨.hbm, 4568, rfl⟩
abbrev main_call22_call0_call0_c_7 : Ref sig .tc := ⟨.hbm, 4569, rfl⟩
abbrev main_call22_call0_call0_v30 : Ref sig .tc := ⟨.hbm, 4570, rfl⟩
abbrev main_call22_call0_call0_v31 : Ref sig .tc := ⟨.hbm, 4571, rfl⟩
abbrev main_call22_call0_call0_v32 : Ref sig .tc := ⟨.hbm, 4572, rfl⟩
abbrev main_call22_call0_call0_v33 : Ref sig .tc := ⟨.hbm, 4573, rfl⟩
abbrev main_call22_call0_call0_v34 : Ref sig .tc := ⟨.hbm, 4574, rfl⟩
abbrev main_call22_call0_call0_v35 : Ref sig .tc := ⟨.hbm, 4575, rfl⟩
abbrev main_call22_call0_call0_v36 : Ref sig .tc := ⟨.hbm, 4576, rfl⟩
abbrev main_call22_call0_call0_v37 : Ref sig .tc := ⟨.hbm, 4577, rfl⟩
abbrev main_call22_call0_call0_c_8 : Ref sig .tc := ⟨.hbm, 4578, rfl⟩
abbrev main_call22_call0_call0_v38 : Ref sig .tc := ⟨.hbm, 4579, rfl⟩
abbrev main_call22_call0_call0_v39 : Ref sig .tc := ⟨.hbm, 4580, rfl⟩
abbrev main_call22_call0_call0_v40 : Ref sig .tc := ⟨.hbm, 4581, rfl⟩
abbrev main_call22_call0_call0_c_9 : Ref sig .tc := ⟨.hbm, 4582, rfl⟩
abbrev main_call22_call0_call0_v41 : Ref sig .tc := ⟨.hbm, 4583, rfl⟩
abbrev main_call22_call0_call0_v42 : Ref sig .tc := ⟨.hbm, 4584, rfl⟩
abbrev main_call22_call0_call0_c_10 : Ref sig .tc := ⟨.hbm, 4585, rfl⟩
abbrev main_call22_call0_call0_v43 : Ref sig .tc := ⟨.hbm, 4586, rfl⟩
abbrev main_call22_call0_call0_v44 : Ref sig .tc := ⟨.hbm, 4587, rfl⟩
abbrev main_call22_call0_call0_v45 : Ref sig .tc := ⟨.hbm, 4588, rfl⟩
abbrev main_call22_call0_call0_v46 : Ref sig .tc := ⟨.hbm, 4589, rfl⟩
abbrev main_call22_call0_call0_v47 : Ref sig .tc := ⟨.hbm, 4590, rfl⟩
abbrev main_call22_call0_call0_c_11 : Ref sig .tc := ⟨.hbm, 4591, rfl⟩
abbrev main_call22_call0_call0_v48 : Ref sig .tc := ⟨.hbm, 4592, rfl⟩
abbrev main_call22_call0_call0_v49 : Ref sig .tc := ⟨.hbm, 4593, rfl⟩
abbrev main_call22_call0_call0_c_12 : Ref sig .tc := ⟨.hbm, 4594, rfl⟩
abbrev main_call22_call0_call0_v50 : Ref sig .tc := ⟨.hbm, 4595, rfl⟩
abbrev main_call22_call0_call0_v51 : Ref sig .tc := ⟨.hbm, 4596, rfl⟩
abbrev main_call22_call0_call0_v52 : Ref sig .tc := ⟨.hbm, 4597, rfl⟩
abbrev main_call22_call0_call0_v53 : Ref sig .tc := ⟨.hbm, 4598, rfl⟩
abbrev main_call22_call0_call0_v54 : Ref sig .tc := ⟨.hbm, 4599, rfl⟩
abbrev main_call22_call0_call0_c_13 : Ref sig .tc := ⟨.hbm, 4600, rfl⟩
abbrev main_call22_call0_call0_v55 : Ref sig .tc := ⟨.hbm, 4601, rfl⟩
abbrev main_call22_call0_call0_v56 : Ref sig .tc := ⟨.hbm, 4602, rfl⟩
abbrev main_call22_call0_call0_c_14 : Ref sig .tc := ⟨.hbm, 4603, rfl⟩
abbrev main_call22_call0_call0_v57 : Ref sig .tc := ⟨.hbm, 4604, rfl⟩
abbrev main_call22_call0_call0_v58 : Ref sig .tc := ⟨.hbm, 4605, rfl⟩
abbrev main_call22_call0_call0_v59 : Ref sig .tc := ⟨.hbm, 4606, rfl⟩
abbrev main_call22_call0_call0_v60 : Ref sig .tc := ⟨.hbm, 4607, rfl⟩
abbrev main_call22_call0_call0_v61 : Ref sig .tc := ⟨.hbm, 4608, rfl⟩
abbrev main_call22_call0_call0_c_15 : Ref sig .tc := ⟨.hbm, 4609, rfl⟩
abbrev main_call22_call0_call0_v62 : Ref sig .tc := ⟨.hbm, 4610, rfl⟩
abbrev main_call22_call0_call0_v63 : Ref sig .tc := ⟨.hbm, 4611, rfl⟩
abbrev main_call22_call0_call0_c_16 : Ref sig .tc := ⟨.hbm, 4612, rfl⟩
abbrev main_call22_call0_call0_v64 : Ref sig .tc := ⟨.hbm, 4613, rfl⟩
abbrev main_call22_call0_call0_v65 : Ref sig .tc := ⟨.hbm, 4614, rfl⟩
abbrev main_call22_call0_call0_v66 : Ref sig .tc := ⟨.hbm, 4615, rfl⟩
abbrev main_call22_call0_call0_v67 : Ref sig .tc := ⟨.hbm, 4616, rfl⟩
abbrev main_call22_call0_call0_v68 : Ref sig .tc := ⟨.hbm, 4617, rfl⟩
abbrev main_call22_call0_call0_v69 : Ref sig .tc := ⟨.hbm, 4618, rfl⟩
abbrev main_call22_call0_call0_v70 : Ref sig .tc := ⟨.hbm, 4619, rfl⟩
abbrev main_call22_call0_call0_v71 : Ref sig .tc := ⟨.hbm, 4620, rfl⟩
abbrev main_call22_call0_call0_c_17 : Ref sig .tc := ⟨.hbm, 4621, rfl⟩
abbrev main_call22_call0_call0_v72 : Ref sig .tc := ⟨.hbm, 4622, rfl⟩
abbrev main_call22_call0_call0_v73 : Ref sig .tc := ⟨.hbm, 4623, rfl⟩
abbrev main_call22_call0_call0_v74 : Ref sig .tc := ⟨.hbm, 4624, rfl⟩
abbrev main_call22_call0_call0_c_18 : Ref sig .tc := ⟨.hbm, 4625, rfl⟩
abbrev main_call22_call0_call0_v75 : Ref sig .tc := ⟨.hbm, 4626, rfl⟩
abbrev main_call22_call0_call0_v76 : Ref sig .tc := ⟨.hbm, 4627, rfl⟩
abbrev main_call22_call0_call0_c_19 : Ref sig .tc := ⟨.hbm, 4628, rfl⟩
abbrev main_call22_call0_call0_v77 : Ref sig .tc := ⟨.hbm, 4629, rfl⟩
abbrev main_call22_call0_call0_v78 : Ref sig .tc := ⟨.hbm, 4630, rfl⟩
abbrev main_call22_call0_call0_v79 : Ref sig .tc := ⟨.hbm, 4631, rfl⟩
abbrev main_call22_call0_call0_v80 : Ref sig .tc := ⟨.hbm, 4632, rfl⟩
abbrev main_call22_call0_call0_v81 : Ref sig .tc := ⟨.hbm, 4633, rfl⟩
abbrev main_call22_call0_call0_c_20 : Ref sig .tc := ⟨.hbm, 4634, rfl⟩
abbrev main_call22_call0_call0_v82 : Ref sig .tc := ⟨.hbm, 4635, rfl⟩
abbrev main_call22_call0_call0_v83 : Ref sig .tc := ⟨.hbm, 4636, rfl⟩
abbrev main_call22_call0_call0_c_21 : Ref sig .tc := ⟨.hbm, 4637, rfl⟩
abbrev main_call22_call0_call0_v84 : Ref sig .tc := ⟨.hbm, 4638, rfl⟩
abbrev main_call22_call0_call0_v85 : Ref sig .tc := ⟨.hbm, 4639, rfl⟩
abbrev main_call22_call0_call0_v86 : Ref sig .tc := ⟨.hbm, 4640, rfl⟩
abbrev main_call22_call0_call0_v87 : Ref sig .tc := ⟨.hbm, 4641, rfl⟩
abbrev main_call22_call0_call0_v88 : Ref sig .tc := ⟨.hbm, 4642, rfl⟩
abbrev main_call22_call0_call0_c_22 : Ref sig .tc := ⟨.hbm, 4643, rfl⟩
abbrev main_call22_call0_call0_v89 : Ref sig .tc := ⟨.hbm, 4644, rfl⟩
abbrev main_call22_call0_call0_v90 : Ref sig .tc := ⟨.hbm, 4645, rfl⟩
abbrev main_call22_call0_call0_c_23 : Ref sig .tc := ⟨.hbm, 4646, rfl⟩
abbrev main_call22_call0_call0_v91 : Ref sig .tc := ⟨.hbm, 4647, rfl⟩
abbrev main_call22_call0_call0_v92 : Ref sig .tc := ⟨.hbm, 4648, rfl⟩
abbrev main_call22_call0_call0_v93 : Ref sig .tc := ⟨.hbm, 4649, rfl⟩
abbrev main_call22_call0_call0_v94 : Ref sig .tc := ⟨.hbm, 4650, rfl⟩
abbrev main_call22_call0_call0_v95 : Ref sig .tc := ⟨.hbm, 4651, rfl⟩
abbrev main_call22_call0_call0_c_24 : Ref sig .tc := ⟨.hbm, 4652, rfl⟩
abbrev main_call22_call0_call0_v96 : Ref sig .tc := ⟨.hbm, 4653, rfl⟩
abbrev main_call22_call0_call0_v97 : Ref sig .tc := ⟨.hbm, 4654, rfl⟩
abbrev main_call22_call0_call0_c_25 : Ref sig .tc := ⟨.hbm, 4655, rfl⟩
abbrev main_call22_call0_call0_v98 : Ref sig .tc := ⟨.hbm, 4656, rfl⟩
abbrev main_call22_call0_call0_v99 : Ref sig .tc := ⟨.hbm, 4657, rfl⟩
abbrev main_call22_call0_call0_v100 : Ref sig .tc := ⟨.hbm, 4658, rfl⟩
abbrev main_call22_call0_call0_v101 : Ref sig .tc := ⟨.hbm, 4659, rfl⟩
abbrev main_call22_call0_call0_v102 : Ref sig .tc := ⟨.hbm, 4660, rfl⟩
abbrev main_call22_call0_call0_v103 : Ref sig .tc := ⟨.hbm, 4661, rfl⟩
abbrev main_call22_call0_call0_v104 : Ref sig .tc := ⟨.hbm, 4662, rfl⟩
abbrev main_call22_call0_call0_v105 : Ref sig .tc := ⟨.hbm, 4663, rfl⟩
abbrev main_call22_call0_call0_c_26 : Ref sig .tc := ⟨.hbm, 4664, rfl⟩
abbrev main_call22_call0_call0_v106 : Ref sig .tc := ⟨.hbm, 4665, rfl⟩
abbrev main_call22_call0_call0_v107 : Ref sig .tc := ⟨.hbm, 4666, rfl⟩
abbrev main_call22_call0_call0_v108 : Ref sig .tc := ⟨.hbm, 4667, rfl⟩
abbrev main_call22_call0_call0_c_27 : Ref sig .tc := ⟨.hbm, 4668, rfl⟩
abbrev main_call22_call0_call0_v109 : Ref sig .tc := ⟨.hbm, 4669, rfl⟩
abbrev main_call22_call0_call0_v110 : Ref sig .tc := ⟨.hbm, 4670, rfl⟩
abbrev main_call22_call0_call0_c_28 : Ref sig .tc := ⟨.hbm, 4671, rfl⟩
abbrev main_call22_call0_call0_v111 : Ref sig .tc := ⟨.hbm, 4672, rfl⟩
abbrev main_call22_call0_call0_v112 : Ref sig .tc := ⟨.hbm, 4673, rfl⟩
abbrev main_call22_call0_call0_v113 : Ref sig .tc := ⟨.hbm, 4674, rfl⟩
abbrev main_call22_call0_call0_v114 : Ref sig .tc := ⟨.hbm, 4675, rfl⟩
abbrev main_call22_call0_call0_v115 : Ref sig .tc := ⟨.hbm, 4676, rfl⟩
abbrev main_call22_call0_call0_c_29 : Ref sig .tc := ⟨.hbm, 4677, rfl⟩
abbrev main_call22_call0_call0_v116 : Ref sig .tc := ⟨.hbm, 4678, rfl⟩
abbrev main_call22_call0_call0_v117 : Ref sig .tc := ⟨.hbm, 4679, rfl⟩
abbrev main_call22_call0_call0_c_30 : Ref sig .tc := ⟨.hbm, 4680, rfl⟩
abbrev main_call22_call0_call0_v118 : Ref sig .tc := ⟨.hbm, 4681, rfl⟩
abbrev main_call22_call0_call0_v119 : Ref sig .tc := ⟨.hbm, 4682, rfl⟩
abbrev main_call22_call0_call0_v120 : Ref sig .tc := ⟨.hbm, 4683, rfl⟩
abbrev main_call22_call0_call0_v121 : Ref sig .tc := ⟨.hbm, 4684, rfl⟩
abbrev main_call22_call0_call0_v122 : Ref sig .tc := ⟨.hbm, 4685, rfl⟩
abbrev main_call22_call0_call0_c_31 : Ref sig .tc := ⟨.hbm, 4686, rfl⟩
abbrev main_call22_call0_call0_v123 : Ref sig .tc := ⟨.hbm, 4687, rfl⟩
abbrev main_call22_call0_call0_v124 : Ref sig .tc := ⟨.hbm, 4688, rfl⟩
abbrev main_call22_call0_call0_c_32 : Ref sig .tc := ⟨.hbm, 4689, rfl⟩
abbrev main_call22_call0_call0_v125 : Ref sig .tc := ⟨.hbm, 4690, rfl⟩
abbrev main_call22_call0_call0_v126 : Ref sig .tc := ⟨.hbm, 4691, rfl⟩
abbrev main_call22_call0_call0_v127 : Ref sig .tc := ⟨.hbm, 4692, rfl⟩
abbrev main_call22_call0_call0_v128 : Ref sig .tc := ⟨.hbm, 4693, rfl⟩
abbrev main_call22_call0_call0_v129 : Ref sig .tc := ⟨.hbm, 4694, rfl⟩
abbrev main_call22_call0_call0_c_33 : Ref sig .tc := ⟨.hbm, 4695, rfl⟩
abbrev main_call22_call0_call0_v130 : Ref sig .tc := ⟨.hbm, 4696, rfl⟩
abbrev main_call22_call0_call0_v131 : Ref sig .tc := ⟨.hbm, 4697, rfl⟩
abbrev main_call22_call0_call0_c_34 : Ref sig .tc := ⟨.hbm, 4698, rfl⟩
abbrev main_call22_call0_call0_v132 : Ref sig .tc := ⟨.hbm, 4699, rfl⟩
abbrev main_call22_call0_call0_v133 : Ref sig .tc := ⟨.hbm, 4700, rfl⟩
abbrev main_call22_call0_call0_v134 : Ref sig .tc := ⟨.hbm, 4701, rfl⟩
abbrev main_call22_call0_call0_v135 : Ref sig .tc := ⟨.hbm, 4702, rfl⟩
abbrev main_call22_call0_call0_v136 : Ref sig .tc := ⟨.hbm, 4703, rfl⟩
abbrev main_call22_call0_call0_v137 : Ref sig .tc := ⟨.hbm, 4704, rfl⟩
abbrev main_call22_call0_call0_v138 : Ref sig .tc := ⟨.hbm, 4705, rfl⟩
abbrev main_call22_call0_call0_v139 : Ref sig .tc := ⟨.hbm, 4706, rfl⟩
abbrev main_call22_call0_call0_c_35 : Ref sig .tc := ⟨.hbm, 4707, rfl⟩
abbrev main_call22_call0_call0_v140 : Ref sig .tc := ⟨.hbm, 4708, rfl⟩
abbrev main_call22_call0_call0_v141 : Ref sig .tc := ⟨.hbm, 4709, rfl⟩
abbrev main_call22_call0_call0_v142 : Ref sig .tc := ⟨.hbm, 4710, rfl⟩
abbrev main_call22_call0_call0_c_36 : Ref sig .tc := ⟨.hbm, 4711, rfl⟩
abbrev main_call22_call0_call0_v143 : Ref sig .tc := ⟨.hbm, 4712, rfl⟩
abbrev main_call22_call0_call0_v144 : Ref sig .tc := ⟨.hbm, 4713, rfl⟩
abbrev main_call22_call0_call0_c_37 : Ref sig .tc := ⟨.hbm, 4714, rfl⟩
abbrev main_call22_call0_call0_v145 : Ref sig .tc := ⟨.hbm, 4715, rfl⟩
abbrev main_call22_call0_call0_v146 : Ref sig .tc := ⟨.hbm, 4716, rfl⟩
abbrev main_call22_call0_call0_v147 : Ref sig .tc := ⟨.hbm, 4717, rfl⟩
abbrev main_call22_call0_call0_v148 : Ref sig .tc := ⟨.hbm, 4718, rfl⟩
abbrev main_call22_call0_call0_v149 : Ref sig .tc := ⟨.hbm, 4719, rfl⟩
abbrev main_call22_call0_call0_c_38 : Ref sig .tc := ⟨.hbm, 4720, rfl⟩
abbrev main_call22_call0_call0_v150 : Ref sig .tc := ⟨.hbm, 4721, rfl⟩
abbrev main_call22_call0_call0_v151 : Ref sig .tc := ⟨.hbm, 4722, rfl⟩
abbrev main_call22_call0_call0_c_39 : Ref sig .tc := ⟨.hbm, 4723, rfl⟩
abbrev main_call22_call0_call0_v152 : Ref sig .tc := ⟨.hbm, 4724, rfl⟩
abbrev main_call22_call0_call0_v153 : Ref sig .tc := ⟨.hbm, 4725, rfl⟩
abbrev main_call22_call0_call0_v154 : Ref sig .tc := ⟨.hbm, 4726, rfl⟩
abbrev main_call22_call0_call0_v155 : Ref sig .tc := ⟨.hbm, 4727, rfl⟩
abbrev main_call22_call0_call0_v156 : Ref sig .tc := ⟨.hbm, 4728, rfl⟩
abbrev main_call22_call0_call0_c_40 : Ref sig .tc := ⟨.hbm, 4729, rfl⟩
abbrev main_call22_call0_call0_v157 : Ref sig .tc := ⟨.hbm, 4730, rfl⟩
abbrev main_call22_call0_call0_v158 : Ref sig .tc := ⟨.hbm, 4731, rfl⟩
abbrev main_call22_call0_call0_c_41 : Ref sig .tc := ⟨.hbm, 4732, rfl⟩
abbrev main_call22_call0_call0_v159 : Ref sig .tc := ⟨.hbm, 4733, rfl⟩
abbrev main_call22_call0_call0_v160 : Ref sig .tc := ⟨.hbm, 4734, rfl⟩
abbrev main_call22_call0_call0_v161 : Ref sig .tc := ⟨.hbm, 4735, rfl⟩
abbrev main_call22_call0_call0_v162 : Ref sig .tc := ⟨.hbm, 4736, rfl⟩
abbrev main_call22_call0_call0_v163 : Ref sig .tc := ⟨.hbm, 4737, rfl⟩
abbrev main_call22_call0_call0_c_42 : Ref sig .tc := ⟨.hbm, 4738, rfl⟩
abbrev main_call22_call0_call0_v164 : Ref sig .tc := ⟨.hbm, 4739, rfl⟩
abbrev main_call22_call0_call0_v165 : Ref sig .tc := ⟨.hbm, 4740, rfl⟩
abbrev main_call22_call0_call0_c_43 : Ref sig .tc := ⟨.hbm, 4741, rfl⟩
abbrev main_call22_call0_call0_v166 : Ref sig .tc := ⟨.hbm, 4742, rfl⟩
abbrev main_call22_call0_call0_v167 : Ref sig .tc := ⟨.hbm, 4743, rfl⟩
abbrev main_call22_call0_call0_v168 : Ref sig .tc := ⟨.hbm, 4744, rfl⟩
abbrev main_call22_call0_call0_v169 : Ref sig .tc := ⟨.hbm, 4745, rfl⟩
abbrev main_call22_call0_call0_v170 : Ref sig .tc := ⟨.hbm, 4746, rfl⟩
abbrev main_call22_call0_v18_0 : Ref sig .tc := ⟨.hbm, 4747, rfl⟩
abbrev main_call22_call0_call0_v172 : Ref sig .tc := ⟨.hbm, 4748, rfl⟩
abbrev main_call22_call0_call0_v173 : Ref sig .tc := ⟨.hbm, 4749, rfl⟩
abbrev main_call22_call0_call0_c_44 : Ref sig .tc := ⟨.hbm, 4750, rfl⟩
abbrev main_call22_call0_call0_v174 : Ref sig .tc := ⟨.hbm, 4751, rfl⟩
abbrev main_call22_call0_v18_1 : Ref sig .tc := ⟨.hbm, 4752, rfl⟩
abbrev main_call22_call0_v19 : Ref sig .tc := ⟨.hbm, 4753, rfl⟩
abbrev main_call22_call0_c_2 : Ref sig .tc := ⟨.hbm, 4754, rfl⟩
abbrev main_call22_call0_v20 : Ref sig .tc := ⟨.hbm, 4755, rfl⟩
abbrev main_call22_call0_v21 : Ref sig .tc := ⟨.hbm, 4756, rfl⟩
abbrev main_call22_call0_c_3 : Ref sig .tc := ⟨.hbm, 4757, rfl⟩
abbrev main_call22_call0_v22 : Ref sig .tc := ⟨.hbm, 4758, rfl⟩
abbrev main_call22_call0_v23 : Ref sig .tc := ⟨.hbm, 4759, rfl⟩
abbrev main_call22_call0_v24 : Ref sig .tc := ⟨.hbm, 4760, rfl⟩
abbrev main_call22_call0_cst : Ref sig .tc := ⟨.hbm, 4761, rfl⟩
abbrev main_call22_call0_v25 : Ref sig .tc := ⟨.hbm, 4762, rfl⟩
abbrev main_call22_call0_v26 : Ref sig .tc := ⟨.hbm, 4763, rfl⟩
abbrev main_call22_call0_v27 : Ref sig .tc := ⟨.hbm, 4764, rfl⟩
abbrev main_call22_call0_v28 : Ref sig .tc := ⟨.hbm, 4765, rfl⟩
abbrev main_call22_call0_v29 : Ref sig .tc := ⟨.hbm, 4766, rfl⟩
abbrev main_call22_call0_v30 : Ref sig .tc := ⟨.hbm, 4767, rfl⟩
abbrev main_call22_call0_v31 : Ref sig .tc := ⟨.hbm, 4768, rfl⟩
abbrev main_call22_call0_v32 : Ref sig .tc := ⟨.hbm, 4769, rfl⟩
abbrev main_call22_v0 : Ref sig .tc := ⟨.hbm, 4770, rfl⟩
abbrev main_call22_v1 : Ref sig .tc := ⟨.hbm, 4771, rfl⟩
abbrev main_call22_v2 : Ref sig .tc := ⟨.hbm, 4772, rfl⟩
abbrev main_call22_v3 : Ref sig .tc := ⟨.hbm, 4773, rfl⟩
abbrev main_v477 : Ref sig .tc := ⟨.hbm, 4774, rfl⟩
abbrev main_v478 : Ref sig .tc := ⟨.hbm, 4775, rfl⟩
abbrev main_call23_v0 : Ref sig .tc := ⟨.hbm, 4776, rfl⟩
abbrev main_call23_cst : Ref sig .tc := ⟨.hbm, 4777, rfl⟩
abbrev main_call23_c : Ref sig .tc := ⟨.hbm, 4778, rfl⟩
abbrev main_call23_v1_0 : Ref sig .tc := ⟨.hbm, 4779, rfl⟩
abbrev main_v479 : Ref sig .tc := ⟨.hbm, 4780, rfl⟩
abbrev main_v480 : Ref sig .tc := ⟨.hbm, 4781, rfl⟩
abbrev main_v481 : Ref sig .tc := ⟨.hbm, 4782, rfl⟩
abbrev main_v482 : Ref sig .tc := ⟨.hbm, 4783, rfl⟩
abbrev main_v483 : Ref sig .tc := ⟨.hbm, 4784, rfl⟩
abbrev main_c_238 : Ref sig .tc := ⟨.hbm, 4785, rfl⟩
abbrev main_v484 : Ref sig .tc := ⟨.hbm, 4786, rfl⟩
abbrev main_v485 : Ref sig .tc := ⟨.hbm, 4787, rfl⟩
abbrev main_c_239 : Ref sig .tc := ⟨.hbm, 4788, rfl⟩
abbrev main_v486 : Ref sig .tc := ⟨.hbm, 4789, rfl⟩
abbrev main_v487 : Ref sig .tc := ⟨.hbm, 4790, rfl⟩
abbrev main_v488 : Ref sig .tc := ⟨.hbm, 4791, rfl⟩
abbrev main_v489 : Ref sig .tc := ⟨.hbm, 4792, rfl⟩
abbrev main_v490 : Ref sig .tc := ⟨.hbm, 4793, rfl⟩
abbrev main_v491 : Ref sig .tc := ⟨.hbm, 4794, rfl⟩
abbrev main_c_240 : Ref sig .tc := ⟨.hbm, 4795, rfl⟩
abbrev main_v492 : Ref sig .tc := ⟨.hbm, 4796, rfl⟩
abbrev main_c_241 : Ref sig .tc := ⟨.hbm, 4797, rfl⟩
abbrev main_v493 : Ref sig .tc := ⟨.hbm, 4798, rfl⟩
abbrev main_v494 : Ref sig .tc := ⟨.hbm, 4799, rfl⟩
abbrev main_c_242 : Ref sig .tc := ⟨.hbm, 4800, rfl⟩
abbrev main_v495 : Ref sig .tc := ⟨.hbm, 4801, rfl⟩
abbrev main_v496 : Ref sig .tc := ⟨.hbm, 4802, rfl⟩
abbrev main_c_243 : Ref sig .tc := ⟨.hbm, 4803, rfl⟩
abbrev main_v497 : Ref sig .tc := ⟨.hbm, 4804, rfl⟩
abbrev main_v498 : Ref sig .tc := ⟨.hbm, 4805, rfl⟩
abbrev main_v499 : Ref sig .tc := ⟨.hbm, 4806, rfl⟩
abbrev main_c_244 : Ref sig .tc := ⟨.hbm, 4807, rfl⟩
abbrev main_v500 : Ref sig .tc := ⟨.hbm, 4808, rfl⟩
abbrev main_v501 : Ref sig .tc := ⟨.hbm, 4809, rfl⟩
abbrev main_c_245 : Ref sig .tc := ⟨.hbm, 4810, rfl⟩
abbrev main_v502 : Ref sig .tc := ⟨.hbm, 4811, rfl⟩
abbrev main_v503 : Ref sig .tc := ⟨.hbm, 4812, rfl⟩
abbrev main_v504 : Ref sig .tc := ⟨.hbm, 4813, rfl⟩
abbrev main_v505 : Ref sig .tc := ⟨.hbm, 4814, rfl⟩
abbrev main_v506 : Ref sig .tc := ⟨.hbm, 4815, rfl⟩
abbrev main_v507 : Ref sig .tc := ⟨.hbm, 4816, rfl⟩
abbrev main_v508 : Ref sig .tc := ⟨.hbm, 4817, rfl⟩
abbrev main_v509 : Ref sig .tc := ⟨.hbm, 4818, rfl⟩
abbrev main_v510 : Ref sig .tc := ⟨.hbm, 4819, rfl⟩
abbrev main_c_246 : Ref sig .tc := ⟨.hbm, 4820, rfl⟩
abbrev main_v511 : Ref sig .tc := ⟨.hbm, 4821, rfl⟩
abbrev main_c_247 : Ref sig .tc := ⟨.hbm, 4822, rfl⟩
abbrev main_v512 : Ref sig .tc := ⟨.hbm, 4823, rfl⟩
abbrev main_v513 : Ref sig .tc := ⟨.hbm, 4824, rfl⟩
abbrev main_c_248 : Ref sig .tc := ⟨.hbm, 4825, rfl⟩
abbrev main_c_249 : Ref sig .tc := ⟨.hbm, 4826, rfl⟩
abbrev main_v514 : Ref sig .tc := ⟨.hbm, 4827, rfl⟩
abbrev main_c_250 : Ref sig .tc := ⟨.hbm, 4828, rfl⟩
abbrev main_c_251 : Ref sig .tc := ⟨.hbm, 4829, rfl⟩
abbrev main_v515 : Ref sig .tc := ⟨.hbm, 4830, rfl⟩
abbrev main_c_252 : Ref sig .tc := ⟨.hbm, 4831, rfl⟩
abbrev main_v516 : Ref sig .tc := ⟨.hbm, 4832, rfl⟩
abbrev main_c_253 : Ref sig .tc := ⟨.hbm, 4833, rfl⟩
abbrev main_c_254 : Ref sig .tc := ⟨.hbm, 4834, rfl⟩
abbrev main_v517 : Ref sig .tc := ⟨.hbm, 4835, rfl⟩
abbrev main_c_255 : Ref sig .tc := ⟨.hbm, 4836, rfl⟩
abbrev main_c_256 : Ref sig .tc := ⟨.hbm, 4837, rfl⟩
abbrev main_v518 : Ref sig .tc := ⟨.hbm, 4838, rfl⟩
abbrev main_c_257 : Ref sig .tc := ⟨.hbm, 4839, rfl⟩
abbrev main_v519 : Ref sig .tc := ⟨.hbm, 4840, rfl⟩
abbrev main_v520 : Ref sig .tc := ⟨.hbm, 4841, rfl⟩
abbrev main_v521 : Ref sig .tc := ⟨.hbm, 4842, rfl⟩
abbrev main_v522 : Ref sig .tc := ⟨.hbm, 4843, rfl⟩
abbrev main_v523 : Ref sig .tc := ⟨.hbm, 4844, rfl⟩
abbrev main_cst : Ref sig .tc := ⟨.hbm, 4845, rfl⟩
abbrev main_v524 : Ref sig .tc := ⟨.hbm, 4846, rfl⟩
abbrev main_cst_258 : Ref sig .tc := ⟨.hbm, 4847, rfl⟩
abbrev main_v525 : Ref sig .tc := ⟨.hbm, 4848, rfl⟩
abbrev main_v526 : Ref sig .tc := ⟨.hbm, 4849, rfl⟩
abbrev main_v527 : Ref sig .tc := ⟨.hbm, 4850, rfl⟩
abbrev main_v528 : Ref sig .tc := ⟨.hbm, 4851, rfl⟩
abbrev main_v529 : Ref sig .tc := ⟨.hbm, 4852, rfl⟩
abbrev main_v530 : Ref sig .tc := ⟨.hbm, 4853, rfl⟩
abbrev main_cst_259 : Ref sig .tc := ⟨.hbm, 4854, rfl⟩
abbrev main_v531 : Ref sig .tc := ⟨.hbm, 4855, rfl⟩
abbrev main_v532 : Ref sig .tc := ⟨.hbm, 4856, rfl⟩
abbrev main_v533 : Ref sig .tc := ⟨.hbm, 4857, rfl⟩
abbrev main_v534 : Ref sig .tc := ⟨.hbm, 4858, rfl⟩
abbrev main_cst_260 : Ref sig .tc := ⟨.hbm, 4859, rfl⟩
abbrev main_v535 : Ref sig .tc := ⟨.hbm, 4860, rfl⟩
abbrev main_v536 : Ref sig .tc := ⟨.hbm, 4861, rfl⟩
abbrev main_cst_261 : Ref sig .tc := ⟨.hbm, 4862, rfl⟩
abbrev main_v537 : Ref sig .tc := ⟨.hbm, 4863, rfl⟩
abbrev main_v538 : Ref sig .tc := ⟨.hbm, 4864, rfl⟩
abbrev main_v539 : Ref sig .tc := ⟨.hbm, 4865, rfl⟩
abbrev main_v540 : Ref sig .tc := ⟨.hbm, 4866, rfl⟩
abbrev main_v541 : Ref sig .tc := ⟨.hbm, 4867, rfl⟩

abbrev nD : Nat := 1
abbrev τ : Topo := Topo.v7x

variable {F : FTy → Type} [FloatOps F]
-- ==== Proof.KernelValue.lean ====
/-
  What the kernel computes over the extended reals: entry (b, q, v) of the result is the sum over f of x[b, v, f] times the
  sum of column f of Wv, whatever q is. Each grid point writes two batch rows of it.
-/
module

public import proofs.«01_k».proof.Proof.Gen.KernelIdeal.Value
public import Idealize.ShloMosaic.Lib.Pointwise
public import Idealize.ShloMosaic.PureOps.Ideal

@[expose] public section

noncomputable section

namespace Cert.KernelIdeal.Result

open Cert.KernelIdeal Cert.KernelIdeal.Gen Cert.KernelIdeal.Value Idealize.ShloMosaic Idealize.ShloMosaic.TcCoe Idealize.SL.Sem

/-- The row of an array of `n` batch rows contracted with the column sums of the weights. -/
def rowSum {n : Nat} (x : (⟨3, ![n, 1024, 1024]⟩ : Shape).Idx → EReal) (w : S1024x1024.Idx → EReal) (b : Fin n) (v : Fin 1024) : EReal :=
  ∑ f : Fin 1024, x (ix3 b v f) * ∑ d : Fin 1024, w (ix2 d f)

/-- The result as one function of the two arrays that the kernel reads: independent of the middle coordinate. -/
def G {n : Nat} (x : (⟨3, ![n, 1024, 1024]⟩ : Shape).Idx → EReal) (w : S1024x1024.Idx → EReal) :
    (⟨3, ![n, 1024, 1024]⟩ : Shape).Idx → EReal := fun i => rowSum x w (i 0) (i 2)

/-- The first store's payload at an index. -/
theorem pay2_apply (w : Vec Ideal S1024x1024 .f32) (x : Vec Ideal S1x1024x1024 .f32) (a : Fin 1) (q v : Fin 1024) :
    k0_pay2 w x (ix3 a q v) = rowSum (n := 1) x w a v := by
  obtain rfl : a = 0 := Subsingleton.elim _ _
  pointwise [k0_pay2, k0_pay1, rowSum]

/-- The second store's payload at an index. -/
theorem pay3_apply (w : Vec Ideal S1024x1024 .f32) (x : Vec Ideal S1x1024x1024 .f32) (a : Fin 1) (q v : Fin 1024) :
    k0_pay3 w x (ix3 a q v) = rowSum (n := 1) x w a v := by
  obtain rfl : a = 0 := Subsingleton.elim _ _
  pointwise [k0_pay3, k0_pay1, rowSum]

theorem hz : (![0, 0] : Fin 2 → Nat) = fun _ => 0 := funext fun a => by fin_cases a <;> rfl

/-- A row of one batch element is the row of the block at the place that the load reads. -/
theorem rowSum_ld (x : Vec Ideal S2x1024x1024 .f32) (w : Vec Ideal S1024x1024 .f32) (o : Fin 2)
    (inb : ∀ a, ![o.val, 0, 0] a + S1x1024x1024.size a ≤ S2x1024x1024.size a) (a : Fin 1) (v : Fin 1024) :
    rowSum (n := 1) (View.ld x (Rect.unit (s := S2x1024x1024) ![o.val, 0, 0] S1x1024x1024.size inb)) w a v
      = rowSum (n := 2) x w o v := by
  refine Finset.sum_congr rfl fun f _ => ?_
  refine congrArg (· * _) ?_
  refine congrArg x (funext fun k => Fin.ext ?_)
  match k with
  | ⟨0, _⟩ => show o.val + 1 * a.val = o.val; omega
  | ⟨1, _⟩ => show 0 + 1 * v.val = v.val; omega
  | ⟨2, _⟩ => show 0 + 1 * f.val = f.val; omega

/-- An index of the block at the place where the store writes. -/
theorem G_emb (x : Vec Ideal S2x1024x1024 .f32) (w : Vec Ideal S1024x1024 .f32) (o : Fin 2)
    (inb : ∀ a, ![o.val, 0, 0] a + S1x1024x1024.size a ≤ S2x1024x1024.size a) (j : S1x1024x1024.Idx) :
    G (n := 2) x w ((Rect.unit (s := S2x1024x1024) ![o.val, 0, 0] S1x1024x1024.size inb).emb j) = rowSum (n := 2) x w o (j 2) := by
  unfold G
  refine congrArg₂ (rowSum (n := 2) x w) (Fin.ext ?_) (Fin.ext ?_)
  · show o.val + 1 * (j 0).val = o.val
    have : (j 0).val < 1 := (j 0).isLt
    omega
  · show 0 + 1 * (j 2).val = (j 2).val; omega

/-- What the body leaves in the output block: `G` of the two input blocks. -/
theorem out_eq (x : Vec Ideal S2x1024x1024 .f32) (w : Vec Ideal S1024x1024 .f32) : out0_2 x w = G (n := 2) x w := by
  funext y
  unfold out0_2
  refine View.canon_apply_of_pieces (Val := Elt Ideal) (e := .f32) (G (n := 2) x w) _ ?_ y (cover0_2 _ _ y)
  intro p hp j
  have hw : View.ld w r0_0 = w := View.ld_unit_zero hz _ w
  rcases List.mem_cons.mp hp with rfl | hp
  · show k0_pay3 (View.ld w r0_0) (View.ld x r0_2) j = G x w (r0_2.emb j)
    refine Eq.trans ?_ (G_emb x w 1 _ j).symm
    rw [hw, eq_ix3 j]
    exact (pay3_apply w _ _ _ _).trans (rowSum_ld x w 1 _ _ _)
  · obtain rfl := List.mem_singleton.mp hp
    show k0_pay2 (View.ld w r0_0) (View.ld x r0_1) j = G x w (r0_1.emb j)
    refine Eq.trans ?_ (G_emb x w 0 _ j).symm
    rw [hw, eq_ix3 j]
    exact (pay2_apply w _ _ _ _).trans (rowSum_ld x w 0 _ _ _)

variable (m : (ℓ : Loc nD τ sig) → Buf (Elt Ideal) ℓ) (ρ : Dev nD → PrngReg)

/-- At point `t` the two moving windows are at block `t` of the batch axis, and the weights' window is at its one block. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The batch row of the whole array at row `r` of block `t`. -/
def batch (t : Fin cfg0.N) (r : Fin 2) : Fin 8 := ⟨2 * t.val + r.val, by have h : t.val < 4 := t.isLt; omega⟩

/-- Where an index of the input block lies in the argument. -/
theorem emb0 (t : Fin cfg0.N) (r : Fin 2) (v f : Fin 1024) :
    ((cfg0.win 0).blk t).view.emb (ix3 r v f) = ix3 (batch t r) v f := by
  obtain ⟨e0, e1, e2⟩ := index0 t
  funext a; apply Fin.ext
  match a with
  | ⟨0, _⟩ => show win0_0.index t (0 : Fin 3) * 2 + 1 * r.val = 2 * t.val + r.val; omega
  | ⟨1, _⟩ => show win0_0.index t (1 : Fin 3) * 1024 + 1 * v.val = v.val; omega
  | ⟨2, _⟩ => show win0_0.index t (2 : Fin 3) * 1024 + 1 * f.val = f.val; omega

/-- The weights' block is the whole of them. -/
theorem emb1 (t : Fin cfg0.N) (d f : Fin 1024) : ((cfg0.win 1).blk t).view.emb (ix2 d f) = ix2 d f := by
  obtain ⟨e0, e1⟩ := index1 t
  funext a; apply Fin.ext
  match a with
  | ⟨0, _⟩ => show win0_1.index t (0 : Fin 2) * 1024 + 1 * d.val = d.val; omega
  | ⟨1, _⟩ => show win0_1.index t (1 : Fin 2) * 1024 + 1 * f.val = f.val; omega

/-- Where an index of the output block lies in the result. -/
theorem emb2 (t : Fin cfg0.N) (r : Fin 2) (q v : Fin 1024) :
    ((cfg0.win 2).blk t).view.emb (ix3 r q v) = ix3 (batch t r) q v := by
  obtain ⟨e0, e1, e2⟩ := index2 t
  funext a; apply Fin.ext
  match a with
  | ⟨0, _⟩ => show win0_2.index t (0 : Fin 3) * 2 + 1 * r.val = 2 * t.val + r.val; omega
  | ⟨1, _⟩ => show win0_2.index t (1 : Fin 3) * 1024 + 1 * q.val = q.val; omega
  | ⟨2, _⟩ => show win0_2.index t (2 : Fin 3) * 1024 + 1 * v.val = v.val; omega

/-- What point `t` writes back is its block of `G` of the two arguments. -/
theorem flushed2_eq (c : Dev nD) (t : Fin cfg0.N) :
    (dats m 0 c).flushed 2 t = ((cfg0.win 2).blk t).view.read (Elt Ideal) (G (n := 8) (V m c main_arg0) (V m c main_arg4)) := by
  rw [flushed2, out_eq]
  funext j
  show G (n := 2) (iblk m c 0 t) (iblk m c 1 t) j = G (n := 8) (V m c main_arg0) (V m c main_arg4) (((cfg0.win 2).blk t).view.emb j)
  obtain ⟨r, q, v, rfl⟩ : ∃ (r : Fin 2) (q v : Fin 1024), j = ix3 r q v := ⟨_, _, _, eq_ix3 j⟩
  rw [emb2]
  show rowSum (n := 2) (iblk m c 0 t) (iblk m c 1 t) r v = rowSum (n := 8) (V m c main_arg0) (V m c main_arg4) (batch t r) v
  refine Finset.sum_congr rfl fun f _ => congrArg₂ (· * ·) ?_ (Finset.sum_congr rfl fun d _ => ?_)
  · show V m c main_arg0 (((cfg0.win 0).blk t).view.emb (ix3 r v f)) = _
    rw [emb0]
  · show V m c main_arg4 (((cfg0.win 1).blk t).view.emb (ix2 d f)) = _
    rw [emb1]

/-- Every index of the result is in some point's block. -/
theorem covered2 (i : S8x1024x1024.Idx) :
    ∃ t : Fin cfg0.N, (cfg0.win 2).flush t = true ∧ i ∈ ((cfg0.win 2).blk t).view.set := by
  have h0 : (i 0).val < 8 := (i 0).isLt
  let t : Fin cfg0.N := ⟨(i 0).val / 2, (by omega : (i 0).val / 2 < 4)⟩
  let r : Fin 2 := ⟨(i 0).val % 2, by omega⟩
  refine ⟨t, flush0_2 _, ?_⟩
  have h := emb2 t r (i 1) (i 2) ▸ ((cfg0.win 2).blk t).view.emb_mem_set (ix3 r (i 1) (i 2))
  have e : i = ix3 (batch t r) (i 1) (i 2) := by
    rw [show batch t r = i 0 from Fin.ext (by show 2 * ((i 0).val / 2) + (i 0).val % 2 = (i 0).val; omega)]
    exact eq_ix3 i
  rw [e]; exact h

/-- The result array after the run: `G` of the arguments as launched. -/
theorem final2 (c : Dev nD) : (dats m 0 c).arrAt 2 cfg0.N
    = G (n := 8) (m ((c : Thread nD τ).loc main_arg0)) (m ((c : Thread nD τ).loc main_arg4)) :=
  ((dats m 0 c).arrAt_eq_of_cover 2 (G (n := 8) (V m c main_arg0) (V m c main_arg4)) (fun t _ => flushed2_eq m c t) covered2).trans
    (by rw [V_main_arg0, V_main_arg4])

end Cert.KernelIdeal.Result

end
-- ==== Proof.Line.lean ====
/-
  The reference program read as a straight line of host operations, and the invariant carried along it: the arguments and
  the three products computed first are never written again, and every float buffer on the way from the arguments to the
  attention scores holds finite numbers only. The random draws are not evaluated: whatever they are, they only choose
  WHICH entry of a score row is replaced.
-/
module

public import proofs.«01_k».proof.Proof.Gen.ReferenceIdeal
public import Idealize.ShloMosaic.Lib.StableHlo.RunHlo
public import Idealize.ShloMosaic.PureOps.Ideal

@[expose] public section

noncomputable section

namespace Cert.ReferenceIdeal.Line

open Idealize.ShloMosaic Idealize.SL.Sem Idealize.ShloMosaic.StableHlo Cert.ReferenceIdeal

/-- A host program of the reference. -/
abbrev HProg : Type 1 :=
  Prog (TpuEff nD τ sig (Elt Ideal) (Pipeline.Sig Λ₀ (Fin 0) fun p => (pcfgs (F := Ideal) p).Adm) .tc) PUnit

/-- The contents of a device's buffers. -/
abbrev Vals : Type := Valuation τ sig (Elt Ideal)

/-- One operation as a program. -/
abbrev act (op : HloOp τ sig (Elt Ideal)) : HProg := hlo rfl op fun _ => .ret ⟨⟩

/-- Every buffer of the reference is one a TensorCore names: it has buffers in HBM only, none a SparseCore's. -/
theorem sub_tcRefs (S : Finset (DevRef τ sig)) : S ⊆ tcRefs τ sig := by
  rintro ⟨tb, i, h⟩ -
  match tb, i, h with
  | .hbm, i, h => exact devRef_mem_tcRefs (τ := τ) (sig := sig) ⟨.hbm, i, rfl⟩

/-- `p` is a straight line of host operations which takes contents satisfying `P` to contents satisfying `Q`. -/
def Seg (p : HProg) (P Q : Vals → Prop) : Prop :=
  ∃ ops : List (HloOp τ sig (Elt Ideal)), IsSeq p ops ∧ (∀ op ∈ ops, op.fresh = ∅) ∧ ∀ v, P v → Q (after ops v)

/-- The empty line changes nothing. -/
theorem Seg.nil {P : Vals → Prop} : Seg (pure ⟨⟩) P P :=
  ⟨[], IsSeq.nil, by simp, fun _ h => h⟩

/-- Two lines in a row. -/
theorem Seg.bind {p : HProg} {k : PUnit → HProg} {P Q R : Vals → Prop} (hp : Seg p P Q) (hk : Seg (k ⟨⟩) Q R) :
    Seg (p >>= k) P R := by
  obtain ⟨o₁, e₁, f₁, h₁⟩ := hp
  obtain ⟨o₂, e₂, f₂, h₂⟩ := hk
  refine ⟨o₁ ++ o₂, ?_, ?_, ?_⟩
  · unfold IsSeq at *
    rw [e₁, seq_append, ← e₂]
  · intro op hop
    rcases List.mem_append.mp hop with h | h
    · exact f₁ op h
    · exact f₂ op h
  · intro v hv
    have : after (o₁ ++ o₂) v = after o₂ (after o₁ v) := by
      clear e₁ e₂ f₁ f₂ h₁ h₂ hv
      induction o₁ generalizing v with
      | nil => rfl
      | cons op l ih => exact ih _
    rw [this]
    exact h₂ _ (h₁ _ hv)

/-- One operation. -/
theorem Seg.one {op : HloOp τ sig (Elt Ideal)} {P Q : Vals → Prop} (hf : op.fresh = ∅) (h : ∀ v, P v → Q (op.result v)) :
    Seg (hlo rfl op fun _ => .ret ⟨⟩) P Q :=
  ⟨[op], rfl, by simpa using hf, h⟩

/-- A stronger precondition and a weaker postcondition. -/
theorem Seg.weaken {p : HProg} {P P' Q Q' : Vals → Prop} (h : Seg p P Q) (hP : ∀ v, P' v → P v) (hQ : ∀ v, Q v → Q' v) :
    Seg p P' Q' := by
  obtain ⟨o, e, f, h⟩ := h
  exact ⟨o, e, f, fun v hv => hQ _ (h v (hP v hv))⟩

/-! ## Finite contents -/

/-- A number that is neither infinity. -/
def IsReal (x : EReal) : Prop := ∃ r : ℝ, x = (r : EReal)

/-- An element of a buffer is finite: said of the 32-bit floats, nothing being asked of the other types. -/
def IsFin : (e : EltTy) → Elt Ideal e → Prop
  | .f32, x => IsReal x
  | _, _ => True

/-- Every element of a buffer is finite. -/
def FinC (T : BufTy) (c : T.Contents (Elt Ideal)) : Prop := ∀ i, IsFin T.elt (c i)

/-- The buffer `r` holds finite numbers only. -/
def FinAt (v : Vals) (r : Ref sig .tc) : Prop := FinC r.ty (v (Proc.devRef .tc r))

/-- The invariant: buffers below the ninth are as in `V`; the buffers listed in `L`, all below `m`, hold finite numbers only. -/
structure Inv (V : Vals) (m : Nat) (L : List Nat) (v : Vals) : Prop where
  base : ∀ r : Ref sig .tc, r.idx.val < 9 → v (Proc.devRef .tc r) = V (Proc.devRef .tc r)
  fin : ∀ r : Ref sig .tc, r.idx.val ∈ L → FinAt v r
  nine : 9 ≤ m
  lt : ∀ k ∈ L, k < m

/-- An operation leaves every buffer other than its result's alone. -/
theorem result_keep {op : HloOp τ sig (Elt Ideal)} {y : Ref sig .tc} (hw : op.writes = {Proc.devRef .tc y}) (v : Vals)
    {r : Ref sig .tc} (h : r.idx.val ≠ y.idx.val) : op.result v (Proc.devRef .tc r) = v (Proc.devRef .tc r) :=
  result_of_writes_ne op v y r hw fun e => h (by rw [e])

/-- An operation whose result is a buffer at or past `m` keeps the invariant. -/
theorem Inv.noise {V : Vals} {m : Nat} {L : List Nat} {op : HloOp τ sig (Elt Ideal)} {y : Ref sig .tc}
    (hw : op.writes = {Proc.devRef .tc y}) (hy : Nat.ble m y.idx.val = true) {v : Vals} (h : Inv V m L v) :
    Inv V m L (op.result v) where
  base r hr := by
    have := Nat.le_of_ble_eq_true hy
    have := h.nine
    rw [result_keep hw v (by omega), h.base r hr]
  fin r hr := by
    have := Nat.le_of_ble_eq_true hy
    have := h.lt _ hr
    unfold FinAt
    rw [result_keep hw v (by omega)]
    exact h.fin r hr
  nine := h.nine
  lt := h.lt

/-- An operation whose result is finite and at or past `m` extends the invariant. -/
theorem Inv.data {V : Vals} {m : Nat} {L : List Nat} {op : HloOp τ sig (Elt Ideal)} {y : Ref sig .tc} {n : Nat}
    (hw : op.writes = {Proc.devRef .tc y}) (hn : y.idx.val = n) (hy : Nat.ble m n = true) {v : Vals} (h : Inv V m L v)
    (hf : FinAt (op.result v) y) (hs : y.space = .hbm) : Inv V (n + 1) (n :: L) (op.result v) where
  base r hr := by
    have := Nat.le_of_ble_eq_true hy
    have := h.nine
    rw [result_keep hw v (by omega), h.base r hr]
  fin r hr := by
    have := Nat.le_of_ble_eq_true hy
    rcases List.mem_cons.mp hr with e | hr
    · have : r = y := by
        obtain ⟨s, i, hi⟩ := r
        obtain ⟨s', j, hj⟩ := y
        obtain rfl : s' = Space.hbm := hs
        match s, i, hi, e with
        | .hbm, i, _, e =>
          obtain rfl : i = j := Fin.ext (e.trans hn.symm)
          rfl
      rw [this]; exact hf
    · have := h.lt _ hr
      unfold FinAt
      rw [result_keep hw v (by omega)]
      exact h.fin r hr
  nine := by
    have := Nat.le_of_ble_eq_true hy
    have := h.nine
    omega
  lt k hk := by
    have := Nat.le_of_ble_eq_true hy
    rcases List.mem_cons.mp hk with e | hk
    · omega
    · have := h.lt _ hk
      omega

end Cert.ReferenceIdeal.Line

end
-- ==== Proof.Pre.lean ====
/-
  What the precondition says: every number in the arguments the programs compute with is a real.
-/
module

public import proofs.«01_k».proof.Pre_finite_inputs
public import proofs.«01_k».proof.Proof.Line
public import Idealize.ShloMosaic.Lib.ReduceAll
public import Idealize.ShloMosaic.Lib.Affine
public import Idealize.ShloMosaic.Lib.Decide

@[expose] public section

noncomputable section

namespace Cert.Pre_finite_inputs

open Idealize.ShloMosaic Cert.ReferenceIdeal.Line

/-- The shapes of the precondition's operations fit. -/
instance facts : Facts where
  bcast_S_S8x1024x1024 := by decide
  reducesTo_S8x1024x1024_S_d0_1_2 := by decide
  h_S_ := by decide
  bcast_S_S1024x1024 := by decide
  reducesTo_S1024x1024_S_d0_1 := by decide
  bcast_S_S32x1024x1024 := by decide
  reducesTo_S32x1024x1024_S_d0_1_2 := by decide

/-- The word of positive infinity. -/
theorem word_top : Ideal.ofBits .f32 0x7F800000#32 = ⊤ := by
  simp [Ideal.ofBits, Ideal.ieee]

/-- A number whose absolute value is below infinity is a real. -/
theorem isReal_of_abs {x : EReal} (h : max x (-x) < ⊤) : IsReal x := by
  have ht : x ≠ ⊤ := fun e => by simp [e] at h
  have hb : x ≠ ⊥ := fun e => by simp [e] at h
  exact ⟨x.toReal, (EReal.coe_toReal ht hb).symm⟩

/-- The comparison at one entry. -/
theorem isReal_of_cmp {s : Shape} (x : FVec Ideal s .f32) (hb : (⟨0, ![]⟩ : Shape).BroadcastsInDim s (![] : Fin 0 → Fin s.rank))
    (i : s.Idx) (h : cmpf .olt (Host.absf (F := Ideal) x) (broadcastInDim s ![] hb (constant (F := Ideal) ⟨0, ![]⟩ .f32 0x7F800000#32)) i = 1#1) :
    IsReal (x i) := by
  have h' : BitVec.ofBool (decide (max (x i) (-(x i)) < Ideal.ofBits .f32 0x7F800000#32)) = 1#1 := h
  rw [word_top] at h'
  refine isReal_of_abs ?_
  by_contra hn
  rw [decide_eq_false hn] at h'
  exact absurd h' (by decide)

/-- A conjunction over all entries which holds makes every entry a real. -/
theorem isReal_of_all {s : Shape} {axes : List (Fin s.rank)} (x : FVec Ideal s .f32)
    (hb : (⟨0, ![]⟩ : Shape).BroadcastsInDim s (![] : Fin 0 → Fin s.rank)) (init : (⟨0, ![]⟩ : Shape).Idx → BitVec 1)
    (hr : s.ReducesTo axes ⟨0, ![]⟩) (hu : 0 < (⟨0, ![]⟩ : Shape).numel) (j : (⟨0, ![]⟩ : Shape).Idx)
    (e : Host.reduce IntOp.andi (cmpf .olt (Host.absf (F := Ideal) x)
      (broadcastInDim s ![] hb (constant (F := Ideal) ⟨0, ![]⟩ .f32 0x7F800000#32))) init hr hu j = 1#1) (i : s.Idx) : IsReal (x i) :=
  have : Subsingleton (⟨0, ![]⟩ : Shape).Idx := ⟨fun _ _ => funext fun a => a.elim0⟩
  isReal_of_cmp x hb i (Host.reduce_andi_all _ init hr hu j e i)

/-- What the precondition says of the arguments. -/
theorem isReal_of_fn (a0 : FVec Ideal S8x1024x1024 .f32) (a1 : IVec S8 32) (a2 a3 a4 : FVec Ideal S1024x1024 .f32)
    (a5 : FVec Ideal S32x1024x1024 .f32) (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ ∀ i, IsReal (a5 i) := by
  have h0 := congrFun h fun a => a.elim0
  dsimp only [fn, fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨isReal_of_all a0 _ _ _ _ _ h0, isReal_of_all a2 _ _ _ _ _ h2, isReal_of_all a3 _ _ _ _ _ h3,
    isReal_of_all a4 _ _ _ _ _ h4, isReal_of_all a5 _ _ _ _ _ h5⟩

end Cert.Pre_finite_inputs

end
-- ==== Proof.Calls.lean ====
/-
  The functions the reference calls (the random draws), each read once as a straight line of host operations together with the
  list of the buffers it writes. What the operations compute is not looked at.
-/
module

public import proofs.«01_k».proof.Proof.Line

@[expose] public section

noncomputable section

namespace Cert.ReferenceIdeal.Line

open Idealize.ShloMosaic Idealize.SL.Sem Idealize.ShloMosaic.StableHlo Cert.ReferenceIdeal

/-- `p` is a straight line of host operations writing the buffers `ys`, in this order. -/
def Writes (p : HProg) (ys : List (Ref sig .tc)) : Prop :=
  ∃ ops : List (HloOp τ sig (Elt Ideal)), IsSeq p ops ∧ (∀ op ∈ ops, op.fresh = ∅) ∧
    ops.map HloOp.writes = ys.map fun y => {Proc.devRef .tc y}

/-- A program with the buffers it writes. -/
abbrev Written (p : HProg) : Type := { ys : List (Ref sig .tc) // Writes p ys }

/-- The empty line writes nothing. -/
def Written.nil : Written (pure ⟨⟩) := ⟨[], [], IsSeq.nil, by simp, rfl⟩

/-- One operation writes its result's buffer. -/
def Written.op {op : HloOp τ sig (Elt Ideal)} {y : Ref sig .tc} (hw : op.writes = {Proc.devRef .tc y}) (hf : op.fresh = ∅) :
    Written (hlo rfl op fun _ => .ret ⟨⟩) :=
  ⟨[y], [op], rfl, by simpa using hf, by simp [hw]⟩

/-- Two lines in a row write what the first and then the second writes. -/
def Written.bind {p : HProg} {k : PUnit → HProg} (hp : Written p) (hk : Written (k ⟨⟩)) : Written (p >>= k) :=
  ⟨hp.1 ++ hk.1, by
    obtain ⟨o₁, e₁, f₁, h₁⟩ := hp.2
    obtain ⟨o₂, e₂, f₂, h₂⟩ := hk.2
    refine ⟨o₁ ++ o₂, ?_, ?_, ?_⟩
    · unfold IsSeq at *
      rw [e₁, seq_append, ← e₂]
    · intro op hop
      rcases List.mem_append.mp hop with h | h
      · exact f₁ op h
      · exact f₂ op h
    · rw [List.map_append, List.map_append, h₁, h₂]⟩

/-- A line writing only buffers at or past `m` keeps the invariant. -/
theorem Written.keeps {p : HProg} (w : Written p) {V : Vals} {m : Nat} {L : List Nat}
    (h : (w.1.all fun y => Nat.ble m y.idx.val) = true) : Seg p (Inv V m L) (Inv V m L) := by
  obtain ⟨ys, ops, e, f, hw⟩ := w
  refine ⟨ops, e, f, ?_⟩
  dsimp only at h
  clear e f
  induction ops generalizing ys with
  | nil => exact fun v hv => hv
  | cons op ops ih =>
    cases ys with
    | nil => simp at hw
    | cons y ys =>
      simp only [List.map_cons, List.cons.injEq] at hw
      simp only [List.all_cons, Bool.and_eq_true] at h
      intro v hv
      rw [after_cons]
      exact ih ys hw.2 h.2 _ (hv.noise hw.1 h.1)

/-- What the hash of a key writes. -/
def threefry (a b c d) (φ : fn_threefry2x32.Bufs) : Written (fn_threefry2x32.body (F := Ideal) a b c d φ) := by
  refine Written.bind ?_ (Written.bind ?_ (Written.bind ?_ ?_))
  · unfold fn_threefry2x32.body_part0
    repeat first | exact Written.nil | exact Written.op rfl rfl | refine Written.bind (Written.op rfl rfl) ?_
  · unfold fn_threefry2x32.body_part1
    repeat first | exact Written.nil | exact Written.op rfl rfl | refine Written.bind (Written.op rfl rfl) ?_
  · unfold fn_threefry2x32.body_part2
    repeat first | exact Written.nil | exact Written.op rfl rfl | refine Written.bind (Written.op rfl rfl) ?_
  · unfold fn_threefry2x32.body_part3
    repeat first | exact Written.nil | exact Written.op rfl rfl | refine Written.bind (Written.op rfl rfl) ?_

/-- What the hash drawing the random bits writes. -/
def threefryBits (a b c d) (φ : fn_threefry2x32_0.Bufs) : Written (fn_threefry2x32_0.body (F := Ideal) a b c d φ) := by
  refine Written.bind ?_ (Written.bind ?_ (Written.bind ?_ ?_))
  · unfold fn_threefry2x32_0.body_part0
    repeat first | exact Written.nil | exact Written.op rfl rfl | refine Written.bind (Written.op rfl rfl) ?_
  · unfold fn_threefry2x32_0.body_part1
    repeat first | exact Written.nil | exact Written.op rfl rfl | refine Written.bind (Written.op rfl rfl) ?_
  · unfold fn_threefry2x32_0.body_part2
    repeat first | exact Written.nil | exact Written.op rfl rfl | refine Written.bind (Written.op rfl rfl) ?_
  · unfold fn_threefry2x32_0.body_part3
    repeat first | exact Written.nil | exact Written.op rfl rfl | refine Written.bind (Written.op rfl rfl) ?_

/-- What the first splitting of the key writes. -/
def split (a) (φ : fn_threefry_split.Bufs) : Written (fn_threefry_split.body (F := Ideal) a φ) := by
  unfold fn_threefry_split.body
  repeat first | exact Written.nil | refine Written.bind (Written.op rfl rfl) ?_ | refine Written.bind (threefry _ _ _ _ _) ?_

/-- What the splittings of the key after the first writes. -/
def splitNext (a) (φ : fn_threefry_split_1.Bufs) : Written (fn_threefry_split_1.body (F := Ideal) a φ) := by
  unfold fn_threefry_split_1.body
  repeat first | exact Written.nil | refine Written.bind (Written.op rfl rfl) ?_ | refine Written.bind (threefry _ _ _ _ _) ?_

/-- What the uniform draw writes. -/
def uniform (a b c) (φ : fn_uniform.Bufs) : Written (fn_uniform.body (F := Ideal) a b c φ) := by
  unfold fn_uniform.body
  repeat first | exact Written.nil | refine Written.bind (Written.op rfl rfl) ?_ | refine Written.bind (threefryBits _ _ _ _ _) ?_

/-- What the Gumbel draw writes. -/
def gumbel (a) (φ : fn_gumbel.Bufs) : Written (fn_gumbel.body (F := Ideal) a φ) := by
  unfold fn_gumbel.body
  repeat first | exact Written.nil | refine Written.bind (Written.op rfl rfl) ?_ | refine Written.bind (uniform _ _ _ _) ?_

/-- What the position of a row's maximum writes. -/
def argmax (a) (φ : fn_argmax.Bufs) : Written (fn_argmax.body (F := Ideal) a φ) := by
  unfold fn_argmax.body
  repeat first | exact Written.nil | exact Written.op rfl rfl | refine Written.bind (Written.op rfl rfl) ?_

end Cert.ReferenceIdeal.Line

end
-- ==== Proof.Keep.lean ====
/-
  The reference runs to its end from any contents, and never writes an argument: every buffer that an operation of it writes
  comes after the six arguments.
-/
module

public import proofs.«01_k».proof.Proof.Calls

@[expose] public section

set_option maxHeartbeats 40000000

noncomputable section

namespace Cert.ReferenceIdeal.Line

open Idealize.ShloMosaic Idealize.SL.Sem Idealize.ShloMosaic.StableHlo Cert.ReferenceIdeal

/-- The arguments are as in `V`. -/
def Kept (V v : Vals) : Prop := ∀ r : Ref sig .tc, r.idx.val < 6 → v (Proc.devRef .tc r) = V (Proc.devRef .tc r)

/-- An operation that writes a buffer after the arguments keeps them. -/
theorem Kept.result {V v : Vals} {op : HloOp τ sig (Elt Ideal)} {y : Ref sig .tc} (hw : op.writes = {Proc.devRef .tc y})
    (hy : Nat.ble 6 y.idx.val = true) (h : Kept V v) : Kept V (op.result v) := fun r hr => by
  have := Nat.le_of_ble_eq_true hy
  rw [result_keep hw v (by omega), h r hr]

/-- So does a line of them. -/
theorem Written.kept {p : HProg} (w : Written p) {V : Vals} (h : (w.1.all fun y => Nat.ble 6 y.idx.val) = true) :
    Seg p (Kept V) (Kept V) := by
  obtain ⟨ys, ops, e, f, hw⟩ := w
  refine ⟨ops, e, f, ?_⟩
  dsimp only at h
  clear e f
  induction ops generalizing ys with
  | nil => exact fun v hv => hv
  | cons op ops ih =>
    cases ys with
    | nil => simp at hw
    | cons y ys =>
      simp only [List.map_cons, List.cons.injEq] at hw
      simp only [List.all_cons, Bool.and_eq_true] at h
      intro v hv
      rw [after_cons]
      exact ih ys hw.2 h.2 _ (hv.result hw.1 h.1)

/-- One operation, then the rest of the line. -/
theorem kept_op {V : Vals} {k : HProg} {op : HloOp τ sig (Elt Ideal)} {y : Ref sig .tc} (hw : op.writes = {Proc.devRef .tc y})
    (hf : op.fresh = ∅) (hy : Nat.ble 6 y.idx.val = true) (hk : Seg k (Kept V) (Kept V)) :
    Seg (act op >>= fun _ => k) (Kept V) (Kept V) :=
  Seg.bind (Seg.one hf fun _ hv => hv.result hw hy) hk

/-- One operation that ends a part. -/
theorem kept_last {V : Vals} {op : HloOp τ sig (Elt Ideal)} {y : Ref sig .tc} (hw : op.writes = {Proc.devRef .tc y})
    (hf : op.fresh = ∅) (hy : Nat.ble 6 y.idx.val = true) : Seg (act op) (Kept V) (Kept V) :=
  Seg.one hf fun _ hv => hv.result hw hy

/-- One call, then the rest of the line. -/
theorem kept_call {V : Vals} {p k : HProg} (w : Written p) (hy : (w.1.all fun y => Nat.ble 6 y.idx.val) = true)
    (hk : Seg k (Kept V) (Kept V)) : Seg (p >>= fun _ => k) (Kept V) (Kept V) :=
  Seg.bind (w.kept hy) hk

/-- One part, then the rest of the line. -/
theorem kept_bind {V : Vals} {p k : HProg} (hp : Seg p (Kept V) (Kept V)) (hk : Seg k (Kept V) (Kept V)) :
    Seg (p >>= fun _ => k) (Kept V) (Kept V) :=
  Seg.bind hp hk

/-- The whole reference keeps the arguments. -/
theorem main_kept (V : Vals) : Seg (main (F := Ideal) 0) (Kept V) (Kept V) := by
  unfold main
  refine kept_bind ?_ (kept_bind ?_ (kept_bind ?_ (kept_bind ?_ (kept_bind ?_ (kept_bind ?_ (kept_bind ?_
    (kept_bind ?_ (kept_bind ?_ (kept_bind ?_ (kept_bind ?_ (kept_bind ?_ (kept_bind ?_ ?_))))))))))))
  all_goals
    first
    | unfold main_part0 | unfold main_part1 | unfold main_part2 | unfold main_part3 | unfold main_part4 | unfold main_part5
    | unfold main_part6 | unfold main_part7 | unfold main_part8 | unfold main_part9 | unfold main_part10 | unfold main_part11
    | unfold main_part12 | unfold main_part13
  all_goals
   repeat first
    | exact Seg.nil
    | refine kept_op rfl rfl (by decide +kernel) ?_
    | with_reducible refine kept_call (splitNext _ _) (by decide +kernel) ?_
    | with_reducible refine kept_call (gumbel _ _) (by decide +kernel) ?_
    | with_reducible refine kept_call (argmax _ _) (by decide +kernel) ?_
    | with_reducible refine kept_call (split _ _) (by decide +kernel) ?_
    | exact kept_last rfl rfl (by decide +kernel)
    | with_reducible exact (splitNext _ _).kept (by decide +kernel)
    | with_reducible exact (gumbel _ _).kept (by decide +kernel)
    | with_reducible exact (argmax _ _).kept (by decide +kernel)

end Cert.ReferenceIdeal.Line

end
-- ==== Proof.Fin.lean ====
/-
  One step of the line for each kind of operation on the way from the arguments to the attention scores: slices, reshapes,
  broadcasts, gathers, batched dot products, scattered updates and dynamic slices all take finite numbers to finite numbers,
  whatever their indices are.
-/
module

public import proofs.«01_k».proof.Proof.Calls

@[expose] public section

noncomputable section

namespace Cert.ReferenceIdeal.Line

open Idealize.ShloMosaic Idealize.SL.Sem Idealize.ShloMosaic.StableHlo Cert.ReferenceIdeal

/-! ## Finite numbers -/

/-- A product of finite numbers is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two finite numbers is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of finite numbers is finite. -/
theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## Operations on finite contents -/

variable {s t u si : Shape} {e : EltTy}

/-- A slice of finite contents is finite. -/
theorem fin_slice {off : Fin s.rank → Nat} {h : s.Slices off t} {c : (⟨s, e⟩ : BufTy).Contents (Elt Ideal)} (hc : FinC ⟨s, e⟩ c) :
    FinC ⟨t, e⟩ (extractStridedSlice t off c h) := fun _ => hc _

/-- A reshape of finite contents is finite. -/
theorem fin_reshape {X Y : BufTy} (he : X.elt = Y.elt) (hn : X.shape.ShapeCasts Y.shape) {c : X.Contents (Elt Ideal)}
    (hc : FinC X c) : FinC Y (fun i => he ▸ shapeCast Y.shape c hn i) := by
  obtain ⟨sx, ex⟩ := X
  obtain ⟨sy, ey⟩ := Y
  dsimp only at he
  subst he
  exact fun _ => hc _

/-- A broadcast of finite contents is finite. -/
theorem fin_broadcast {dims : Fin s.rank → Fin t.rank} {h : s.BroadcastsInDim t dims} {c : (⟨s, e⟩ : BufTy).Contents (Elt Ideal)}
    (hc : FinC ⟨s, e⟩ c) : FinC ⟨t, e⟩ (broadcastInDim t dims h c) := fun _ => hc _

/-- A dynamic slice of finite contents is finite, wherever it starts. -/
theorem fin_dynamicSlice {st : Fin s.rank → Int} {h : s.Slices (fun _ => 0) t} {c : (⟨s, e⟩ : BufTy).Contents (Elt Ideal)}
    (hc : FinC ⟨s, e⟩ c) : FinC ⟨t, e⟩ (Host.dynamicSlice t c st h) := fun _ => hc _

/-- Entries gathered from finite contents are finite, whichever they are. -/
theorem fin_gather {w : Nat} {d : GatherDims s si t} {c : (⟨s, e⟩ : BufTy).Contents (Elt Ideal)} {i : IVec si w}
    (hc : FinC ⟨s, e⟩ c) : FinC ⟨t, e⟩ (Host.gather d c i) := fun _ => hc _

/-- Finite contents with finite entries written over some of them are finite. -/
theorem fin_scatter {w : Nat} {d : ScatterDims s si u} {c : (⟨s, e⟩ : BufTy).Contents (Elt Ideal)} {i : IVec si w}
    {x : (⟨u, e⟩ : BufTy).Contents (Elt Ideal)} (hc : FinC ⟨s, e⟩ c) (hx : FinC ⟨u, e⟩ x) :
    FinC ⟨s, e⟩ (Host.scatter d (fun _ b => b) c i x) := by
  unfold Host.scatter
  generalize List.finRange u.numel = l
  induction l generalizing c with
  | nil => exact hc
  | cons n l ih =>
    rw [List.foldl_cons]
    apply ih
    split
    · intro j
      dsimp only
      split
      · exact hx _
      · exact hc j
    · exact hc

/-- Eight finite pieces side by side are finite. -/
theorem fin_concat8 {a : Fin t.rank} {x0 x1 x2 x3 x4 x5 x6 x7 : (⟨s, e⟩ : BufTy).Contents (Elt Ideal)}
    {h : Shape.Concatenates [s, s, s, s, s, s, s, s] t a}
    (h0 : FinC ⟨s, e⟩ x0) (h1 : FinC ⟨s, e⟩ x1) (h2 : FinC ⟨s, e⟩ x2) (h3 : FinC ⟨s, e⟩ x3) (h4 : FinC ⟨s, e⟩ x4)
    (h5 : FinC ⟨s, e⟩ x5) (h6 : FinC ⟨s, e⟩ x6) (h7 : FinC ⟨s, e⟩ x7) :
    FinC ⟨t, e⟩ (concatenate t a [⟨s, x0⟩, ⟨s, x1⟩, ⟨s, x2⟩, ⟨s, x3⟩, ⟨s, x4⟩, ⟨s, x5⟩, ⟨s, x6⟩, ⟨s, x7⟩] h) := by
  intro j
  have key : ∀ p ∈ ([⟨s, x0⟩, ⟨s, x1⟩, ⟨s, x2⟩, ⟨s, x3⟩, ⟨s, x4⟩, ⟨s, x5⟩, ⟨s, x6⟩, ⟨s, x7⟩] : List ((s : Shape) × (s.Idx → Elt Ideal e))),
      FinC ⟨p.1, e⟩ p.2 := by
    simp only [List.mem_cons, List.not_mem_nil, or_false]
    rintro p (rfl | rfl | rfl | rfl | rfl | rfl | rfl | rfl) <;> assumption
  exact key _ (List.getElem_mem _) _

/-- Dot products of finite contents are finite. -/
theorem fin_dot {d : DotDims s t u} {c : (⟨s, .f32⟩ : BufTy).Contents (Elt Ideal)}
    {x : (⟨t, .f32⟩ : BufTy).Contents (Elt Ideal)} (hc : FinC ⟨s, .f32⟩ c) (hx : FinC ⟨t, .f32⟩ x) :
    FinC ⟨u, .f32⟩ (Host.dotGeneral (F := Ideal) (φ₁ := .f32) (φ₂ := .f32) d none c x) := by
  intro j
  exact IsReal.add ⟨0, rfl⟩ (IsReal.sum _ fun k _ => (hc _).mul (hx _))

/-! ## Steps of the line -/

variable {V : Vals} {m n : Nat} {L : List Nat} {k : HProg} {Q : Vals → Prop}

/-- An operation whose result is not looked at. -/
theorem step_noise {op : HloOp τ sig (Elt Ideal)} {y : Ref sig .tc} (hw : op.writes = {Proc.devRef .tc y}) (hf : op.fresh = ∅)
    (hy : Nat.ble m y.idx.val = true) (hk : Seg k (Inv V m L) Q) :
    Seg (act op >>= fun _ => k) (Inv V m L) Q :=
  Seg.bind (Seg.one hf fun _ hv => hv.noise hw hy) hk

/-- A call whose results are not looked at. -/
theorem step_call {p : HProg} (w : Written p) (hy : (w.1.all fun y => Nat.ble m y.idx.val) = true)
    (hk : Seg k (Inv V m L) Q) : Seg (p >>= fun _ => k) (Inv V m L) Q :=
  Seg.bind (w.keeps hy) hk

/-- An operation of one operand which keeps finiteness. -/
theorem step_unary {x y : Ref sig .tc} {f : x.ty.Contents (Elt Ideal) → y.ty.Contents (Elt Ideal)} {hx hy}
    (hm : L.elem x.idx.val = true) (hn : y.idx.val = n) (hb : Nat.ble m n = true) (hs : y.space = .hbm)
    (hf : ∀ c, FinC x.ty c → FinC y.ty (f c)) (hk : Seg k (Inv V (n + 1) (n :: L)) Q) :
    Seg (act (unary x y f hx hy) >>= fun _ => k) (Inv V m L) Q :=
  Seg.bind (Seg.one rfl fun v hv => hv.data rfl hn hb
    (by unfold FinAt; rw [unary_result]; exact hf _ (hv.fin x (List.mem_of_elem_eq_true hm))) hs) hk

/-- A reshape. -/
theorem step_reshape {x y : Ref sig .tc} {he : x.ty.elt = y.ty.elt} {hc : x.ty.shape.ShapeCasts y.ty.shape} {hx hy}
    (hm : L.elem x.idx.val = true) (hn : y.idx.val = n) (hb : Nat.ble m n = true) (hs : y.space = .hbm)
    (hk : Seg k (Inv V (n + 1) (n :: L)) Q) :
    Seg (act (reshape x y he hc hx hy) >>= fun _ => k) (Inv V m L) Q :=
  Seg.bind (Seg.one rfl fun v hv => hv.data rfl hn hb
    (by
      unfold FinAt
      rw [reshape_result]
      exact fin_reshape he hc (hv.fin x (List.mem_of_elem_eq_true hm))) hs) hk

/-- An operation of two operands which takes a finite first operand to finite results. -/
theorem step_binary_left {a b y : Ref sig .tc} {f : a.ty.Contents (Elt Ideal) → b.ty.Contents (Elt Ideal) → y.ty.Contents (Elt Ideal)}
    {ha hb hy} (hm : L.elem a.idx.val = true) (hn : y.idx.val = n) (hb' : Nat.ble m n = true) (hs : y.space = .hbm)
    (hf : ∀ c x, FinC a.ty c → FinC y.ty (f c x)) (hk : Seg k (Inv V (n + 1) (n :: L)) Q) :
    Seg (act (binary a b y f ha hb hy) >>= fun _ => k) (Inv V m L) Q :=
  Seg.bind (Seg.one rfl fun v hv => hv.data rfl hn hb'
    (by unfold FinAt; rw [binary_result]; exact hf _ _ (hv.fin a (List.mem_of_elem_eq_true hm))) hs) hk

/-- An operation of two operands which takes finite operands to finite results. -/
theorem step_binary {a b y : Ref sig .tc} {f : a.ty.Contents (Elt Ideal) → b.ty.Contents (Elt Ideal) → y.ty.Contents (Elt Ideal)}
    {ha hb hy} (hm : L.elem a.idx.val = true) (hm' : L.elem b.idx.val = true) (hn : y.idx.val = n) (hb' : Nat.ble m n = true)
    (hs : y.space = .hbm) (hf : ∀ c x, FinC a.ty c → FinC b.ty x → FinC y.ty (f c x))
    (hk : Seg k (Inv V (n + 1) (n :: L)) Q) :
    Seg (act (binary a b y f ha hb hy) >>= fun _ => k) (Inv V m L) Q :=
  Seg.bind (Seg.one rfl fun v hv => hv.data rfl hn hb'
    (by
      unfold FinAt
      rw [binary_result]
      exact hf _ _ (hv.fin a (List.mem_of_elem_eq_true hm)) (hv.fin b (List.mem_of_elem_eq_true hm'))) hs) hk

/-- An operation of three operands which takes a finite first and third operand to finite results. -/
theorem step_ternary {a i b y : Ref sig .tc}
    {f : a.ty.Contents (Elt Ideal) → i.ty.Contents (Elt Ideal) → b.ty.Contents (Elt Ideal) → y.ty.Contents (Elt Ideal)}
    {ha hi hb hy} (hm : L.elem a.idx.val = true) (hm' : L.elem b.idx.val = true) (hn : y.idx.val = n) (hb' : Nat.ble m n = true)
    (hs : y.space = .hbm) (hf : ∀ c j x, FinC a.ty c → FinC b.ty x → FinC y.ty (f c j x))
    (hk : Seg k (Inv V (n + 1) (n :: L)) Q) :
    Seg (act (ternary a i b y f ha hi hb hy) >>= fun _ => k) (Inv V m L) Q :=
  Seg.bind (Seg.one rfl fun v hv => hv.data rfl hn hb'
    (by
      unfold FinAt
      rw [ternary_result]
      exact hf _ _ _ (hv.fin a (List.mem_of_elem_eq_true hm)) (hv.fin b (List.mem_of_elem_eq_true hm'))) hs) hk

/-- An operation of one operand and index operands which keeps finiteness. -/
theorem step_indexed {a y : Ref sig .tc} {N : Nat} {ix : Fin N → Ref sig .tc} {T : BufTy}
    {f : a.ty.Contents (Elt Ideal) → (Fin N → T.Contents (Elt Ideal)) → y.ty.Contents (Elt Ideal)} {hT ha hix hy}
    (hm : L.elem a.idx.val = true) (hn : y.idx.val = n) (hb : Nat.ble m n = true) (hs : y.space = .hbm)
    (hf : ∀ c i, FinC a.ty c → FinC y.ty (f c i)) (hk : Seg k (Inv V (n + 1) (n :: L)) Q) :
    Seg (act (unaryIndexed a ix T y f hT ha hix hy) >>= fun _ => k) (Inv V m L) Q :=
  Seg.bind (Seg.one rfl fun v hv => hv.data rfl hn hb
    (by unfold FinAt; rw [unaryIndexed_result]; exact hf _ _ (hv.fin a (List.mem_of_elem_eq_true hm))) hs) hk

/-- An operation of several operands which takes finite operands to finite results. -/
theorem step_nary {N : Nat} {xs : Fin N → Ref sig .tc} {y : Ref sig .tc}
    {f : ((k : Fin N) → (xs k).ty.Contents (Elt Ideal)) → y.ty.Contents (Elt Ideal)} {hxs hy}
    (hm : ∀ k, L.elem (xs k).idx.val = true) (hn : y.idx.val = n) (hb : Nat.ble m n = true) (hs : y.space = .hbm)
    (hf : ∀ u, (∀ k, FinC (xs k).ty (u k)) → FinC y.ty (f u)) (hk : Seg k (Inv V (n + 1) (n :: L)) Q) :
    Seg (act (nary xs y f hxs hy) >>= fun _ => k) (Inv V m L) Q :=
  Seg.bind (Seg.one rfl fun v hv => hv.data rfl hn hb
    (by unfold FinAt; rw [nary_result]; exact hf _ fun k => hv.fin (xs k) (List.mem_of_elem_eq_true (hm k))) hs) hk

/-- An operation from known contents. -/
theorem step_known {op : HloOp τ sig (Elt Ideal)} (hf : op.fresh = ∅) (hk : Seg k (fun v => v = op.result V) Q) :
    Seg (act op >>= fun _ => k) (fun v => v = V) Q :=
  Seg.bind (Seg.one hf fun v hv => by rw [hv]) hk

/-- A reference of the reference's signature is known by its index. -/
theorem ref_ext {r y : Ref sig .tc} (hs : y.space = .hbm) (e : r.idx.val = y.idx.val) : r = y := by
  obtain ⟨s, i, hi⟩ := r
  obtain ⟨s', j, hj⟩ := y
  obtain rfl : s' = Space.hbm := hs
  match s, i, hi, e with
  | .hbm, i, _, e =>
    obtain rfl : i = j := Fin.ext e
    rfl

/-- The invariant begins: the last argument and the first two products are finite. -/
theorem step_start (h5 : FinAt V main_arg5) (h6 : FinAt V main_v0) (h7 : FinAt V main_v1) (hk : Seg k (Inv V 9 [7, 6, 5]) Q) :
    Seg k (fun v => v = V) Q :=
  hk.weaken (fun v hv => by
    subst hv
    refine ⟨fun r _ => rfl, fun r hr => ?_, le_rfl, by simp⟩
    simp only [List.mem_cons, List.not_mem_nil, or_false] at hr
    rcases hr with e | e | e
    · rw [ref_ext (y := main_v1) rfl e]; exact h7
    · rw [ref_ext (y := main_v0) rfl e]; exact h6
    · rw [ref_ext (y := main_arg5) rfl e]; exact h5) fun _ h => h

/-- A line whose operations are read off at once. -/
theorem step_ops {ops : List (HloOp τ sig (Elt Ideal))} (hq : IsSeq k ops) (ys : List (Ref sig .tc))
    (hw : ops.map HloOp.writes = ys.map fun y => {Proc.devRef .tc y})
    (hf : ops.map HloOp.fresh = ys.map fun _ => ∅) (hy : (ys.all fun y => Nat.ble m y.idx.val) = true)
    (h : ∀ v, Inv V m L v → Inv V m L (after ops v) → Q (after ops v)) : Seg k (Inv V m L) Q := by
  refine ⟨ops, hq, ?_, fun v hv => h v hv ?_⟩
  · clear hq hw hy h
    induction ops generalizing ys with
    | nil => simp
    | cons op ops ih =>
      cases ys with
      | nil => simp at hf
      | cons y ys =>
        simp only [List.map_cons, List.cons.injEq] at hf
        intro o ho
        rcases List.mem_cons.mp ho with rfl | ho
        · exact hf.1
        · exact ih ys hf.2 o ho
  · clear hq hf h
    induction ops generalizing ys v with
    | nil => exact hv
    | cons op ops ih =>
      cases ys with
      | nil => simp at hw
      | cons y ys =>
        simp only [List.map_cons, List.cons.injEq] at hw
        simp only [List.all_cons, Bool.and_eq_true] at hy
        rw [after_cons]
        exact ih ys hw.2 hy.2 _ (hv.noise hw.1 hy.1)

/-- The end of a part: some of what is known is kept. -/
theorem step_end {m' : Nat} {L' : List Nat} (hm : Nat.ble m m' = true) (hL : (L'.all fun i => L.elem i) = true) :
    Seg (pure ⟨⟩) (Inv V m L) (Inv V m' L') :=
  Seg.nil.weaken (fun _ h => h) fun v h => by
    have := Nat.le_of_ble_eq_true hm
    have hL : ∀ i ∈ L', i ∈ L := fun i hi => List.mem_of_elem_eq_true (List.all_eq_true.mp hL i hi)
    exact { base := h.base, fin := fun r hr => h.fin r (hL _ hr), nine := le_trans h.nine this
            lt := fun k hk => lt_of_lt_of_le (h.lt k (hL k hk)) this }

/-- A last operation is an operation followed by nothing. -/
theorem step_last {p : HProg} {P : Vals → Prop} (h : Seg (p >>= fun _ => pure ⟨⟩) P Q) : Seg p P Q := by
  have : (p >>= fun _ => pure ⟨⟩) = p := bind_pure p
  rwa [this] at h

/-- The same for one operation. -/
theorem step_last_op {op : HloOp τ sig (Elt Ideal)} {P : Vals → Prop} (h : Seg (act op >>= fun _ => pure ⟨⟩) P Q) :
    Seg (act op) P Q :=
  step_last h

end Cert.ReferenceIdeal.Line

end
-- ==== Proof.Finish.lean ====
/-
  The two closed forms that the reference is read through: the products computed first, and the softmax with the two sums
  computed last.
-/
module

public import proofs.«01_k».proof.Proof.Gen.ReferenceIdeal
public import Idealize.ShloMosaic.PureOps.Ideal

@[expose] public section

noncomputable section

namespace Cert.ReferenceIdeal.Line

open Idealize.ShloMosaic Idealize.SL.Sem Idealize.ShloMosaic.StableHlo Cert.ReferenceIdeal Cert.ReferenceIdeal.Facts₀ Cert.ReferenceIdeal.Facts

/-- A product of the input with a weight matrix, as the reference computes it. -/
def prod (x : (⟨S8x1024x1024, .f32⟩ : BufTy).Contents (Elt Ideal)) (w : (⟨S1024x1024, .f32⟩ : BufTy).Contents (Elt Ideal)) :
    (⟨S8x1024x1024, .f32⟩ : BufTy).Contents (Elt Ideal) :=
  Host.dotGeneral (F := Ideal) (φ₁ := .f32) (φ₂ := .f32) dot_S8x1024x1024_S1024x1024_S8x1024x1024_2_1_01_0_n_n none x w

/-- Scores by batch, query and key; and one number for each batch and query. -/
abbrev Scores : Type := (⟨S8x1024x1024, .f32⟩ : BufTy).Contents (Elt Ideal)
abbrev Rows : Type := (⟨S8x1024, .f32⟩ : BufTy).Contents (Elt Ideal)

/-- The number of each row at every entry of the row. -/
def spread (r : Rows) : Scores :=
  broadcastInDim S8x1024x1024 ![0, 1, 2] bcast_S8x1024x1_S8x1024x1024_0_1_2 (broadcastInDim S8x1024x1 ![0, 1] bcast_S8x1024_S8x1024x1_0_1 r)

/-- The number of each row at every entry of the column of the same place. -/
def spreadT (r : Rows) : Scores :=
  broadcastInDim S8x1024x1024 ![0, 1, 2] bcast_S8x1x1024_S8x1024x1024_0_1_2 (broadcastInDim S8x1x1024 ![0, 2] bcast_S8x1024_S8x1x1024_0_2 r)

/-- The sum of each row. -/
def total (x : Scores) : Rows :=
  Host.reduceAdd (F := Ideal) (φ := .f32) x (constant (F := Ideal) S_ .f32 0x00000000#32) reducesTo_S8x1024x1024_S8x1024_d2 h_S_

/-- The maximum of each row. -/
def top (x : Scores) : Rows :=
  maximumf (F := Ideal) (φ := .f32) (broadcastInDim S8x1024 ![] bcast_S_S8x1024 (constant (F := Ideal) S_ .f32 0xFF800000#32))
    (Host.reduce (FloatOps.maximumf (F := Ideal) (φ := .f32)) x (constant (F := Ideal) S_ .f32 0xFF800000#32)
      reducesTo_S8x1024x1024_S8x1024_d2 h_S_)

/-- The exponentials of the scores below their row's maximum. -/
def expo (x : Scores) : Scores := Host.exp (F := Ideal) (φ := .f32) (subf (F := Ideal) (φ := .f32) x (spread (top x)))

/-- Each row divided by its sum. -/
def ratio (x : Scores) : Scores := Host.divf (F := Ideal) (φ := .f32) x (spread (total x))

/-- The reference's result from the attention scores `x` and the values `w`: the softmax of `x`, its row sums, and their
products with the row sums of `w`. -/
def finish (x w : Scores) : Scores :=
  mulf (F := Ideal) (φ := .f32) (spread (total (ratio (expo x)))) (spreadT (total w))

end Cert.ReferenceIdeal.Line

end
-- ==== Proof.Parts.lean ====
/-
  The reference program up to the attention scores: fourteen parts of one straight line, each taking the invariant at its
  start to the invariant at its end.
-/
module

public import proofs.«01_k».proof.Proof.Fin
public import proofs.«01_k».proof.Proof.Finish

@[expose] public section

set_option maxHeartbeats 40000000
set_option maxRecDepth 4000

noncomputable section

namespace Cert.ReferenceIdeal.Line

open Idealize.ShloMosaic Idealize.SL.Sem Idealize.ShloMosaic.StableHlo Cert.ReferenceIdeal Cert.ReferenceIdeal.Facts₀ Cert.ReferenceIdeal.Facts

/-- The first part from contents with finite arguments: it computes the three products and begins the line. -/
def First (V₀ : Vals) (m : Nat) (L : List Nat) : Prop :=
  ∃ V : Vals, (∀ r : Ref sig .tc, r.idx.val < 6 → V (Proc.devRef .tc r) = V₀ (Proc.devRef .tc r)) ∧
    V (Proc.devRef .tc main_v2) = prod (V₀ (Proc.devRef .tc main_arg0)) (V₀ (Proc.devRef .tc main_arg4)) ∧
    Seg (main_part0 (F := Ideal) 0) (fun v => v = V₀) (Inv V m L)

/-- Three operations in a row are the first part's beginning. -/
theorem begin_three {V₀ : Vals} {o₀ o₁ o₂ : HloOp τ sig (Elt Ideal)} {k : HProg} {m : Nat} {L : List Nat} {P : Vals → Prop}
    {y : (⟨S8x1024x1024, .f32⟩ : BufTy).Contents (Elt Ideal)}
    (f₀ : o₀.fresh = ∅) (f₁ : o₁.fresh = ∅) (f₂ : o₂.fresh = ∅)
    (hP : P (o₂.result (o₁.result (o₀.result V₀))))
    (hy : o₂.result (o₁.result (o₀.result V₀)) (Proc.devRef .tc main_v2) = y)
    (h5 : FinAt (o₂.result (o₁.result (o₀.result V₀))) main_arg5)
    (h6 : FinAt (o₂.result (o₁.result (o₀.result V₀))) main_v0)
    (h7 : FinAt (o₂.result (o₁.result (o₀.result V₀))) main_v1)
    (hk : Seg k (Inv (o₂.result (o₁.result (o₀.result V₀))) 9 [7, 6, 5]) (Inv (o₂.result (o₁.result (o₀.result V₀))) m L)) :
    ∃ V : Vals, P V ∧ V (Proc.devRef .tc main_v2) = y ∧
      Seg (act o₀ >>= fun _ => act o₁ >>= fun _ => act o₂ >>= fun _ => k) (fun v => v = V₀) (Inv V m L) :=
  ⟨_, hP, hy, step_known f₀ (step_known f₁ (step_known f₂ (step_start h5 h6 h7 hk)))⟩

/-- What the whole reference leaves: the arguments as they were, and `finish` of some finite scores and the values. -/
def Done (V v : Vals) : Prop :=
  (∀ r : Ref sig .tc, r.idx.val < 9 → v (Proc.devRef .tc r) = V (Proc.devRef .tc r)) ∧
    ∃ x : (⟨S8x1024x1024, .f32⟩ : BufTy).Contents (Elt Ideal), FinC ⟨S8x1024x1024, .f32⟩ x ∧
      v (Proc.devRef .tc main_v541) = finish x (V (Proc.devRef .tc main_v2))

/-- The last part. -/
theorem last {V : Vals} (d) : Seg (main_part13 (F := Ideal) d) (Inv V 4842 [4841, 4240, 3637, 3034, 2431, 1828, 1225, 622, 5]) (Done V) := by
  unfold main_part13
  with_reducible refine step_reshape ?_ rfl ?_ ?_ ?_
  · decide +kernel
  · decide +kernel
  · rfl
  with_reducible refine step_unary ?_ rfl ?_ ?_ ?_ ?_
  · decide +kernel
  · decide +kernel
  · rfl
  · exact fun _ h _ => h _
  with_reducible refine step_nary ?_ rfl ?_ ?_ ?_ ?_
  · decide +kernel
  · decide +kernel
  · rfl
  · exact fun u h => fin_concat8 (h 0) (h 1) (h 2) (h 3) (h 4) (h 5) (h 6) (h 7)
  refine step_ops (by hlo_seq)
    [main_cst, main_v524, main_cst_258, main_v525, main_v526, main_v527, main_v528, main_v529, main_v530, main_cst_259, main_v531,
      main_v532, main_v533, main_v534, main_cst_260, main_v535, main_v536, main_cst_261, main_v537, main_v538, main_v539,
      main_v540, main_v541] rfl rfl (by decide +kernel) ?_
  intro v hv hv'
  refine ⟨hv'.base, v (Proc.devRef .tc main_v523), hv.fin main_v523 (List.mem_cons_self ..), ?_⟩
  rw [← hv.base main_v2 (by decide)]
  after_results
  unfold finish ratio expo top total spread spreadT
  rfl

/-- The parts before the last. -/
theorem parts {V₀ : Vals} (h0 : FinAt V₀ main_arg0) (h2 : FinAt V₀ main_arg2) (h3 : FinAt V₀ main_arg3) (h5 : FinAt V₀ main_arg5)
    (V : Vals) :
    First V₀ 573 [572, 561, 7, 6, 5] ∧
    Seg (main_part1 (F := Ideal) 0) (Inv V 573 [572, 561, 7, 6, 5]) (Inv V 870 [622, 598, 7, 6, 5]) ∧
    Seg (main_part2 (F := Ideal) 0) (Inv V 870 [622, 598, 7, 6, 5]) (Inv V 1200 [1176, 622, 598, 7, 6, 5]) ∧
    Seg (main_part3 (F := Ideal) 0) (Inv V 1200 [1176, 622, 598, 7, 6, 5]) (Inv V 1767 [1766, 1225, 1201, 622, 7, 6, 5]) ∧
    Seg (main_part4 (F := Ideal) 0) (Inv V 1767 [1766, 1225, 1201, 622, 7, 6, 5]) (Inv V 1827 [1826, 1804, 1225, 622, 7, 6, 5]) ∧
    Seg (main_part5 (F := Ideal) 0) (Inv V 1827 [1826, 1804, 1225, 622, 7, 6, 5]) (Inv V 2394 [2382, 1828, 1804, 1225, 622, 7, 6, 5]) ∧
    Seg (main_part6 (F := Ideal) 0) (Inv V 2394 [2382, 1828, 1804, 1225, 622, 7, 6, 5]) (Inv V 2691 [2431, 2407, 1828, 1225, 622, 7, 6, 5]) ∧
    Seg (main_part7 (F := Ideal) 0) (Inv V 2691 [2431, 2407, 1828, 1225, 622, 7, 6, 5]) (Inv V 3021 [3010, 2431, 1828, 1225, 622, 7, 6, 5]) ∧
    Seg (main_part8 (F := Ideal) 0) (Inv V 3021 [3010, 2431, 1828, 1225, 622, 7, 6, 5]) (Inv V 3588 [3587, 3576, 3034, 3010, 2431, 1828, 1225, 622, 7, 6, 5]) ∧
    Seg (main_part9 (F := Ideal) 0) (Inv V 3588 [3587, 3576, 3034, 3010, 2431, 1828, 1225, 622, 7, 6, 5]) (Inv V 3885 [3637, 3613, 3034, 2431, 1828, 1225, 622, 7, 6, 5]) ∧
    Seg (main_part10 (F := Ideal) 0) (Inv V 3885 [3637, 3613, 3034, 2431, 1828, 1225, 622, 7, 6, 5]) (Inv V 4215 [4191, 3637, 3613, 3034, 2431, 1828, 1225, 622, 7, 6, 5]) ∧
    Seg (main_part11 (F := Ideal) 0) (Inv V 4215 [4191, 3637, 3613, 3034, 2431, 1828, 1225, 622, 7, 6, 5]) (Inv V 4782 [4781, 4240, 4216, 3637, 3034, 2431, 1828, 1225, 622, 7, 5]) ∧
    Seg (main_part12 (F := Ideal) 0) (Inv V 4782 [4781, 4240, 4216, 3637, 3034, 2431, 1828, 1225, 622, 7, 5]) (Inv V 4842 [4841, 4240, 3637, 3034, 2431, 1828, 1225, 622, 5]) := by
  unfold First main_part0 main_part1 main_part2 main_part3 main_part4 main_part5 main_part6 main_part7 main_part8 main_part9
    main_part10 main_part11 main_part12
  refine ⟨begin_three rfl rfl rfl ?base ?value ?arg5 ?v0 ?v1 ?_,
    ?_, ?_, ?_, ?_, ?_, ?_, ?_, ?_, ?_, ?_, ?_, ?_⟩
  case base =>
    intro r hr
    rw [result_keep (y := main_v2) rfl, result_keep (y := main_v1) rfl, result_keep (y := main_v0) rfl] <;>
      exact fun e => absurd (e ▸ hr) (by decide)
  case value =>
    rw [binary_result, result_keep (y := main_v1) rfl, result_keep (y := main_v0) rfl, result_keep (y := main_v1) rfl,
      result_keep (y := main_v0) rfl] <;> first | decide | rfl
  case arg5 =>
    unfold FinAt
    rw [result_keep (y := main_v2) rfl, result_keep (y := main_v1) rfl, result_keep (y := main_v0) rfl] <;>
      first | exact h5 | decide
  case v0 =>
    unfold FinAt
    rw [result_keep (y := main_v2) rfl, result_keep (y := main_v1) rfl, binary_result] <;>
      first | exact fin_dot h0 h2 | decide
  case v1 =>
    unfold FinAt
    rw [result_keep (y := main_v2) rfl, binary_result, result_keep (y := main_v0) rfl, result_keep (y := main_v0) rfl] <;>
      first | exact fin_dot h0 h3 | decide
  all_goals
   repeat first
    | (with_reducible refine step_unary ?_ rfl ?_ ?_ ?_ ?_
       · decide +kernel
       · decide +kernel
       · rfl
       · exact fun _ h _ => h _)
    | (with_reducible refine step_reshape ?_ rfl ?_ ?_ ?_
       · decide +kernel
       · decide +kernel
       · rfl)
    | (with_reducible refine step_binary ?_ ?_ rfl ?_ ?_ ?_ ?_
       · decide +kernel
       · decide +kernel
       · decide +kernel
       · rfl
       · exact fun _ _ h h' => fin_dot h h')
    | (with_reducible refine step_binary_left ?_ rfl ?_ ?_ ?_ ?_
       · decide +kernel
       · decide +kernel
       · rfl
       · exact fun _ _ h _ => h _)
    | (with_reducible refine step_ternary ?_ ?_ rfl ?_ ?_ ?_ ?_
       · decide +kernel
       · decide +kernel
       · decide +kernel
       · rfl
       · exact fun _ _ _ h h' => fin_scatter h h')
    | (with_reducible refine step_indexed ?_ rfl ?_ ?_ ?_ ?_
       · decide +kernel
       · decide +kernel
       · rfl
       · exact fun _ _ h _ => h _)
    | with_reducible refine step_call (splitNext _ _) (by decide +kernel) ?_
    | with_reducible refine step_call (gumbel _ _) (by decide +kernel) ?_
    | with_reducible refine step_call (argmax _ _) (by decide +kernel) ?_
    | with_reducible refine step_call (split _ _) (by decide +kernel) ?_
    | with_reducible refine step_last_op ?_
    | refine step_noise rfl rfl (by decide +kernel) ?_
    | exact step_end (by decide +kernel) (by decide +kernel)
end Cert.ReferenceIdeal.Line

end
-- ==== Proof.Run.lean ====
/-
  From a line of operations to a run of the reference: what holds of the contents after the line holds at the end of every run.
-/
module

public import proofs.«01_k».proof.Proof.Line
public import Idealize.ShloMosaic.Lib.Claim
public import Idealize.ShloMosaic.Lib.Quiescent

@[expose] public section

noncomputable section

namespace Cert.ReferenceIdeal.Line

open Idealize.ShloMosaic Idealize.SL.Sem Idealize.ShloMosaic.StableHlo Cert.ReferenceIdeal

/-- No buffer of the reference is scoped. -/
theorem no_scoped : (Finset.univ.filter fun b : Ref sig .tc => b.isScoped) = ∅ := by
  refine Finset.filter_eq_empty_iff.mpr ?_
  rintro ⟨s, i, h⟩ -
  match s, i, h with
  | .hbm, i, h => exact Bool.false_ne_true

/-- The reference has no semaphore. -/
theorem no_sems : (Finset.univ.filter fun sm : SemLoc sig => sm.isScoped .tc) = ∅ := by
  have : IsEmpty (SemLoc sig) := Fintype.card_eq_zero_iff.mp (SemLoc.card_eq ▸ rfl)
  exact Finset.filter_eq_empty_iff.mpr fun x => isEmptyElim x

/-- Every run of the reference ends with contents of which `Q` holds, when the line takes the launch contents there. -/
theorem run_seg {Q : Vals → Prop} (m : (ℓ : Loc nD τ sig) → Buf (Elt Ideal) ℓ) (ρ : Dev nD → PrngReg)
    {P : Vals → Prop} (hP : P (launchContents m 0)) (h : Seg (main (F := Ideal) 0) P Q) :
    θ_run (defs (F := Ideal)) (onTc (τ := τ) (main (F := Ideal))) ⟨m, fun _ => 0, ρ⟩ fun r =>
      ∃ v, Q v ∧ ∀ (d : Dev nD) (b : Ref sig .tc), r.2.mem ((d.tc : Thread nD τ).loc b) = v (Proc.devRef .tc b) := by
  obtain ⟨ops, e, f, hQ⟩ := h
  refine θ_run_mono (run_hlo (ops := ops) (defs (F := Ideal)) (main (F := Ideal)) ?_ no_scoped no_sems
    (List.forall_iff_forall_mem.mpr fun op _ => sub_tcRefs _) f m ρ) ?_
  · intro d
    obtain rfl : d = 0 := Subsingleton.elim _ _
    exact e
  · intro r hr
    refine ⟨_, hQ _ hP, fun d b => ?_⟩
    obtain rfl : d = 0 := Subsingleton.elim _ _
    exact hr 0 b

end Cert.ReferenceIdeal.Line

end
-- ==== Proof.Softmax.lean ====
/-
  What the reference computes from finite scores: each row of the softmax is a row of reals with sum one, so what is left of
  entry (b, q, v) is the sum of row v of the values.
-/
module

public import proofs.«01_k».proof.Proof.Finish
public import proofs.«01_k».proof.Proof.Line
public import Idealize.ShloMosaic.Lib.Pointwise

@[expose] public section

noncomputable section

namespace Cert.ReferenceIdeal.Line

open Idealize.ShloMosaic Idealize.SL.Sem Idealize.ShloMosaic.StableHlo Cert.ReferenceIdeal Cert.ReferenceIdeal.Facts₀ Cert.ReferenceIdeal.Facts

/-! ## The operations at an index -/

theorem total_apply (x : Scores) (b : Fin 8) (q : Fin 1024) : total x (ix2 b q) = ∑ k : Fin 1024, x (ix3 b q k) := by
  pointwise [total]

theorem spread_apply (r : Rows) (b : Fin 8) (q v : Fin 1024) : spread r (ix3 b q v) = r (ix2 b q) := by
  pointwise [spread]

theorem spreadT_apply (r : Rows) (b : Fin 8) (q v : Fin 1024) : spreadT r (ix3 b q v) = r (ix2 b v) := by
  pointwise [spreadT]

/-- The word of negative infinity. -/
theorem word_bot : Ideal.ofBits .f32 0xFF800000#32 = ⊥ := by
  simp [Ideal.ofBits, Ideal.ieee]

theorem expo_apply (x : Scores) (b : Fin 8) (q v : Fin 1024) :
    expo x (ix3 b q v) = Ideal.exp (x (ix3 b q v) - top x (ix2 b q)) := by
  pointwise [expo, spread_apply]

theorem ratio_apply (x : Scores) (b : Fin 8) (q v : Fin 1024) :
    ratio x (ix3 b q v) = Ideal.div (x (ix3 b q v)) (total x (ix2 b q)) := by
  pointwise [ratio, spread_apply]

theorem finish_apply (x w : Scores) (b : Fin 8) (q v : Fin 1024) :
    finish x w (ix3 b q v) = total (ratio (expo x)) (ix2 b q) * total w (ix2 b v) := by
  pointwise [finish, spread_apply, spreadT_apply]

theorem prod_apply (x : Scores) (w : (⟨S1024x1024, .f32⟩ : BufTy).Contents (Elt Ideal)) (b : Fin 8) (q d : Fin 1024) :
    prod x w (ix3 b q d) = ∑ f : Fin 1024, x (ix3 b q f) * w (ix2 d f) := by
  pointwise [prod]

/-! ## The softmax's row sums -/

/-- The larger of a real and a real is a real. -/
theorem isReal_max {x y : EReal} (hx : IsReal x) (hy : IsReal y) : IsReal (max x y) := by
  rcases max_choice x y with e | e <;> rw [e] <;> assumption

/-- The maximum of reals over a nonempty list, from negative infinity, is a real. -/
theorem isReal_foldl {ι : Type} (x : ι → EReal) (hx : ∀ i, IsReal (x i)) (l : List ι) {e : EReal} (he : IsReal e ∨ e = ⊥ ∧ l ≠ []) :
    IsReal (l.foldl (fun r i => max r (x i)) e) := by
  induction l generalizing e with
  | nil => exact he.elim id fun h => absurd rfl h.2
  | cons a l ih =>
    refine ih (.inl ?_)
    rcases he with h | ⟨rfl, -⟩
    · exact isReal_max h (hx a)
    · show IsReal (max ⊥ (x a)); rw [max_eq_right bot_le]; exact hx a

/-- A maximum of reals along axes is a real, wherever some index falls. -/
theorem isReal_reduce {s t u : Shape} {axes : List (Fin s.rank)} (x : FVec Ideal s .f32) (hx : ∀ i, IsReal (x i))
    (init : FVec Ideal u .f32) (h : s.ReducesTo axes t) (hu : 0 < u.numel) (hi : init (Shape.Idx.first hu) = ⊥) (j : t.Idx)
    (i : s.Idx) (hij : h.drop i = j) : IsReal (Host.reduce (FloatOps.maximumf (F := Ideal) (φ := .f32)) x init h hu j) := by
  rw [Host.reduce_eq_foldl]
  refine isReal_foldl x hx _ (.inr ⟨hi, List.ne_nil_of_mem (a := i) ?_⟩)
  rw [List.mem_filter]
  exact ⟨List.mem_map.mpr ⟨s.rowMajor i, List.mem_finRange _, s.rowMajor.symm_apply_apply i⟩, decide_eq_true hij⟩

/-- A maximum at an index. -/
theorem maximumf_at {s : Shape} (x y : FVec Ideal s .f32) (i : s.Idx) :
    maximumf (F := Ideal) (φ := .f32) x y i = max (x i) (y i) := rfl

/-- The largest score of a row is a real. -/
theorem isReal_top {x : Scores} (hx : FinC ⟨S8x1024x1024, .f32⟩ x) (b : Fin 8) (q : Fin 1024) : IsReal (top x (ix2 b q)) := by
  have hr : IsReal (Host.reduce (FloatOps.maximumf (F := Ideal) (φ := .f32)) x (constant (F := Ideal) S_ .f32 0xFF800000#32)
      reducesTo_S8x1024x1024_S8x1024_d2 h_S_ (ix2 b q)) :=
    isReal_reduce x hx _ _ _ word_bot _ (ix3 b q 0) (((reducesTo_S8x1024x1024_S8x1024_d2).fiber_r3_a2 _ _).mpr ⟨0, rfl⟩)
  have hb : broadcastInDim S8x1024 ![] bcast_S_S8x1024 (constant (F := Ideal) S_ .f32 0xFF800000#32) (ix2 b q) = ⊥ := word_bot
  unfold top
  rw [maximumf_at, hb, max_eq_right bot_le]
  exact hr

/-- A sum of reals as extended reals. -/
theorem coe_total {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Positive reals, each divided by their sum, have sum one. -/
theorem sum_div {n : Nat} (g : Fin (n + 1) → ℝ) (hg : ∀ k, 0 < g k) :
    ∑ k, Ideal.div (g k : EReal) (∑ j, (g j : EReal)) = 1 := by
  have hpos : 0 < ∑ j, g j := Finset.sum_pos (fun k _ => hg k) ⟨0, Finset.mem_univ 0⟩
  have e : ∀ k, Ideal.div (g k : EReal) (∑ j, (g j : EReal)) = ((g k * (∑ j, g j)⁻¹ : ℝ) : EReal) := fun k => by
    rw [coe_total, Ideal.div, if_neg (by exact_mod_cast hpos.ne'), EReal.coe_mul, EReal.coe_inv]
  rw [Finset.sum_congr rfl fun k _ => e k, coe_total, ← Finset.sum_mul, mul_inv_cancel₀ hpos.ne', EReal.coe_one]

/-- The exponential of a difference of reals is a positive real. -/
theorem exp_real {x y : EReal} (hx : IsReal x) (hy : IsReal y) : ∃ r : ℝ, 0 < r ∧ Ideal.exp (x - y) = r := by
  obtain ⟨a, rfl⟩ := hx
  obtain ⟨c, rfl⟩ := hy
  exact ⟨Real.exp (a - c), Real.exp_pos _, by rw [← EReal.coe_sub]; rfl⟩

/-- Each row of the softmax of finite scores has sum one. -/
theorem total_softmax {x : Scores} (hx : FinC ⟨S8x1024x1024, .f32⟩ x) (b : Fin 8) (q : Fin 1024) :
    total (ratio (expo x)) (ix2 b q) = 1 := by
  have ht : IsReal (top x (ix2 b q)) := isReal_top hx b q
  choose g hg e using fun k : Fin 1024 => exp_real (hx (ix3 b q k)) ht
  rw [total_apply]
  have e' : ∀ k : Fin 1024, ratio (expo x) (ix3 b q k) = Ideal.div (g k : EReal) (∑ j, (g j : EReal)) := fun k => by
    rw [ratio_apply, total_apply, expo_apply, e]
    refine congrArg _ (Finset.sum_congr rfl fun j _ => ?_)
    rw [expo_apply, e]
  rw [Finset.sum_congr rfl fun k _ => e' k]
  exact sum_div (n := 1023) g hg

/-- What the reference computes from finite scores and the values. -/
theorem finish_eq {x : Scores} (hx : FinC ⟨S8x1024x1024, .f32⟩ x) (w : Scores) (b : Fin 8) (q v : Fin 1024) :
    finish x w (ix3 b q v) = ∑ d : Fin 1024, w (ix3 b v d) := by
  rw [finish_apply, total_softmax hx, one_mul, total_apply]

/-! ## The equation -/

/-- Summing the product over its columns is the same as contracting with the column sums, for finite numbers. -/
theorem sum_prod {x : Scores} {w : (⟨S1024x1024, .f32⟩ : BufTy).Contents (Elt Ideal)} (hx : FinC ⟨S8x1024x1024, .f32⟩ x)
    (hw : FinC ⟨S1024x1024, .f32⟩ w) (b : Fin 8) (v : Fin 1024) :
    ∑ d : Fin 1024, prod x w (ix3 b v d) = ∑ f : Fin 1024, x (ix3 b v f) * ∑ d : Fin 1024, w (ix2 d f) := by
  choose g hg using hx
  choose u hu using hw
  rw [Finset.sum_congr rfl fun d _ => prod_apply x w b v d]
  have l : ∀ d : Fin 1024, ∑ f : Fin 1024, x (ix3 b v f) * w (ix2 d f)
      = ((∑ f : Fin 1024, g (ix3 b v f) * u (ix2 d f) : ℝ) : EReal) := fun d => by
    rw [← coe_total]
    exact Finset.sum_congr rfl fun f _ => by rw [hg, hu, EReal.coe_mul]
  have r : ∀ f : Fin 1024, x (ix3 b v f) * ∑ d : Fin 1024, w (ix2 d f)
      = ((g (ix3 b v f) * ∑ d : Fin 1024, u (ix2 d f) : ℝ) : EReal) := fun f => by
    rw [EReal.coe_mul, ← coe_total, hg]
    exact congrArg _ (Finset.sum_congr rfl fun d _ => by rw [hu])
  rw [Finset.sum_congr rfl fun d _ => l d, Finset.sum_congr rfl fun f _ => r f, coe_total, coe_total, Finset.sum_comm]
  exact congrArg _ (Finset.sum_congr rfl fun f _ => by rw [Finset.mul_sum])

end Cert.ReferenceIdeal.Line

end
-- ==== Proof.Reference.lean ====
/-
  The reference's runs: the arguments end unchanged whatever they hold, and from finite arguments the result is the kernel's.
-/
module

public import proofs.«01_k».proof.Proof.Keep
public import proofs.«01_k».proof.Proof.Parts
public import proofs.«01_k».proof.Proof.Run
public import proofs.«01_k».proof.Proof.Softmax

@[expose] public section

noncomputable section

namespace Cert.ReferenceIdeal.Line

open Idealize.ShloMosaic Idealize.SL.Sem Idealize.ShloMosaic.StableHlo Cert.ReferenceIdeal

/-- What a run of the reference leaves in its arguments: what the launch had there. -/
def ArgsKept (m m' : (ℓ : Loc nD τ sig) → Buf (Elt Ideal) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)

/-- The six arguments are the first six buffers. -/
theorem argsKept {m m' : (ℓ : Loc nD τ sig) → Buf (Elt Ideal) ℓ} {v : Vals}
    (hv : ∀ r : Ref sig .tc, r.idx.val < 6 → v (Proc.devRef .tc r) = launchContents m 0 (Proc.devRef .tc r))
    (hm : ∀ (d : Dev nD) (b : Ref sig .tc), m' ((d.tc : Thread nD τ).loc b) = v (Proc.devRef .tc b)) (c : Dev nD) : ArgsKept m m' c := by
  obtain rfl : c = 0 := Subsingleton.elim _ _
  have h (r : Ref sig .tc) (hr : r.idx.val < 6) : m' (((0 : Dev nD).tc : Thread nD τ).loc r) = m (((0 : Dev nD).tc : Thread nD τ).loc r) :=
    (hm 0 r).trans (hv r hr)
  exact ⟨h _ (by decide), h _ (by decide), h _ (by decide), h _ (by decide), h _ (by decide), h _ (by decide)⟩

/-- Every run of the reference leaves its arguments as they were and no semaphore raised. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c, ArgsKept m r.2.mem c) ∧ r.2.sem = fun _ => 0 :=
  θ_run_mono (run_seg m ρ (P := Kept (launchContents m 0)) (fun _ _ => rfl) (main_kept _)) fun r h => by
    obtain ⟨v, hv, hm⟩ := h
    exact ⟨argsKept hv hm, sem_eq_zero_of_no_sems rfl _⟩

/-- The whole line from finite arguments. -/
theorem main_done {V₀ : Vals} (h0 : FinAt V₀ main_arg0) (h2 : FinAt V₀ main_arg2) (h3 : FinAt V₀ main_arg3) (h5 : FinAt V₀ main_arg5) :
    ∃ V : Vals, (∀ r : Ref sig .tc, r.idx.val < 6 → V (Proc.devRef .tc r) = V₀ (Proc.devRef .tc r)) ∧
      V (Proc.devRef .tc main_v2) = prod (V₀ (Proc.devRef .tc main_arg0)) (V₀ (Proc.devRef .tc main_arg4)) ∧
      Seg (main (F := Ideal) 0) (fun v => v = V₀) (Done V) := by
  obtain ⟨V, hV, hp, hs⟩ := (parts h0 h2 h3 h5 V₀).1
  obtain ⟨-, s1, s2, s3, s4, s5, s6, s7, s8, s9, s10, s11, s12⟩ := parts h0 h2 h3 h5 V
  refine ⟨V, hV, hp, ?_⟩
  unfold main
  exact Seg.bind hs (Seg.bind s1 (Seg.bind s2 (Seg.bind s3 (Seg.bind s4 (Seg.bind s5 (Seg.bind s6 (Seg.bind s7 (Seg.bind s8
    (Seg.bind s9 (Seg.bind s10 (Seg.bind s11 (Seg.bind s12 (last 0)))))))))))))

/-- Row `v` of batch `b` of `x`, contracted with the column sums of `w`. -/
def contraction (x : Scores) (w : (⟨S1024x1024, .f32⟩ : BufTy).Contents (Elt Ideal)) (b : Fin 8) (v : Fin 1024) : EReal :=
  ∑ f : Fin 1024, x (ix3 b v f) * ∑ d : Fin 1024, w (ix2 d f)

/-- From finite arguments every run of the reference leaves the contraction of `x` with the column sums of the weights. -/
theorem value (m : (ℓ : Loc nD τ sig) → Buf (Elt Ideal) ℓ) (ρ : Dev nD → PrngReg)
    (h0 : FinAt (launchContents m 0) main_arg0) (h2 : FinAt (launchContents m 0) main_arg2) (h3 : FinAt (launchContents m 0) main_arg3)
    (h4 : FinAt (launchContents m 0) main_arg4) (h5 : FinAt (launchContents m 0) main_arg5) :
    θ_run (defs (F := Ideal)) (onTc (τ := τ) (main (F := Ideal))) ⟨m, fun _ => 0, ρ⟩ fun r => ∀ c : Dev nD,
      (∃ y : Scores, r.2.mem ((c.tc : Thread nD τ).loc main_v541) = y ∧ ∀ (b : Fin 8) (q v : Fin 1024),
        y (ix3 b q v) = contraction (m ((c.tc : Thread nD τ).loc main_arg0)) (m ((c.tc : Thread nD τ).loc main_arg4)) b v)
      ∧ ArgsKept m r.2.mem c := by
  obtain ⟨V, hV, hp, hs⟩ := main_done h0 h2 h3 h5
  refine θ_run_mono (run_seg m ρ (P := fun v => v = launchContents m 0) rfl hs) fun r h c => ?_
  obtain ⟨v, ⟨hb, x, hx, hv⟩, hm⟩ := h
  obtain rfl : c = 0 := Subsingleton.elim _ _
  refine ⟨⟨_, (hm 0 main_v541).trans hv, fun b q w => ?_⟩, argsKept (fun r hr => (hb r (by omega)).trans (hV r hr)) hm 0⟩
  rw [hp, finish_eq hx]
  exact sum_prod h0 h4 b w

end Cert.ReferenceIdeal.Line

end
-- ==== Proof.lean ====
/-
  The claim: the programs' facts, the frames of the kernel and of the reference, and that the kernel and the reference, from the
  same finite arguments, leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.Pre
public import proofs.«01_k».proof.Proof.Reference
public import Idealize.ShloMosaic.Adequacy
public import Idealize.ShloMosaic.Init

@[expose] public section

noncomputable section

namespace Cert.Proof

open Idealize.ShloMosaic Idealize.SL.Sem Cert.Kernel

open Cert.ReferenceIdeal.Line in
/-- Contents equal to finite contents are finite. -/
theorem finC_of_eq {T : BufTy} {c c' : T.Contents (Elt Ideal)} (e : c' = c) (h : FinC T c) : FinC T c' := e ▸ h

/-- The kernel and the reference leave the same result, from the same finite arguments. -/
theorem algebraic : Cert.algebraic_KernelIdeal_ReferenceIdeal_pre_finite_inputs := by
  intro m g m' g' hpre hargs
  have hfin := Cert.Pre_finite_inputs.isReal_of_fn _ _ _ _ _ _ (hpre 0)
  obtain ⟨e0, -, e2, e3, e4, e5⟩ := hargs 0
  refine ⟨fun c => (Cert.KernelIdeal.Gen.dats m 0 c).arrAt 2 Cert.KernelIdeal.cfg0.N, Cert.KernelIdeal.Value.run_blocks m g, ?_⟩
  refine θ_run_mono (Cert.ReferenceIdeal.Line.value m' g' (finC_of_eq e0 hfin.1)
    (finC_of_eq e2 hfin.2.1) (finC_of_eq e3 hfin.2.2.1)
    (finC_of_eq e4 hfin.2.2.2.1) (finC_of_eq e5 hfin.2.2.2.2)) fun r h c => ?_
  obtain ⟨⟨y, hy, hv⟩, hk⟩ := h c
  refine ⟨?_, hk⟩
  obtain rfl : c = 0 := Subsingleton.elim _ _
  refine hy.trans (Eq.trans (funext fun i => ?_) (Cert.KernelIdeal.Result.final2 m 0).symm)
  rw [e0, e4] at hv
  exact (congrArg y (eq_ix3 i)).trans (hv (i 0) (i 1) (i 2))

/-- Everything claimed of the programs. -/
theorem claim : Cert.Claim :=
  ⟨Cert.Kernel.Gen.facts, Cert.KernelIdeal.Gen.facts, Cert.ReferenceIdeal.Gen.facts, Cert.Pre_finite_inputs.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Line.frame m ρ, fun m ρ _ => Cert.ReferenceIdeal.Line.frame m ρ, trivial, algebraic⟩

end Cert.Proof

end
